-- ==== Defs.lean ====
def Pre_Codes [hPre_src_in_range : Cert.Pre_src_in_range.Facts] (m : (ℓ : Loc Cert.Codes.nD Cert.Codes.τ Cert.Codes.sig) → Buf (Elt Bits) ℓ) : Prop :=
  ∀ c : Dev Cert.Codes.nD,
    (Cert.Pre_src_in_range.fn (F := Bits) (m ((c.tc : Thread Cert.Codes.nD Cert.Codes.τ).loc Cert.Codes.main_arg0)) (m ((c.tc : Thread Cert.Codes.nD Cert.Codes.τ).loc Cert.Codes.main_arg1)) (m ((c.tc : Thread Cert.Codes.nD Cert.Codes.τ).loc Cert.Codes.main_arg2)) (m ((c.tc : Thread Cert.Codes.nD Cert.Codes.τ).loc Cert.Codes.main_arg3))) = (fun _ => 1#1)

def Pre_CodesIdeal [hPre_src_in_range : Cert.Pre_src_in_range.Facts] (m : (ℓ : Loc Cert.CodesIdeal.nD Cert.CodesIdeal.τ Cert.CodesIdeal.sig) → Buf (Elt Ideal) ℓ) : Prop :=
  ∀ c : Dev Cert.CodesIdeal.nD,
    (Cert.Pre_src_in_range.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_src_in_range [hPre_src_in_range : Cert.Pre_src_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_src_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Scales [hPre_scales_src_in_range : Cert.Pre_scales_src_in_range.Facts] (m : (ℓ : Loc Cert.Scales.nD Cert.Scales.τ Cert.Scales.sig) → Buf (Elt Bits) ℓ) : Prop :=
  ∀ c : Dev Cert.Scales.nD,
    (Cert.Pre_scales_src_in_range.fn (F := Bits) (m ((c.tc : Thread Cert.Scales.nD Cert.Scales.τ).loc Cert.Scales.main_arg0)) (m ((c.tc : Thread Cert.Scales.nD Cert.Scales.τ).loc Cert.Scales.main_arg1)) (m ((c.tc : Thread Cert.Scales.nD Cert.Scales.τ).loc Cert.Scales.main_arg2))) = (fun _ => 1#1)

def Pre_ScalesIdeal [hPre_scales_src_in_range : Cert.Pre_scales_src_in_range.Facts] (m : (ℓ : Loc Cert.ScalesIdeal.nD Cert.ScalesIdeal.τ Cert.ScalesIdeal.sig) → Buf (Elt Ideal) ℓ) : Prop :=
  ∀ c : Dev Cert.ScalesIdeal.nD,
    (Cert.Pre_scales_src_in_range.fn (F := Ideal) (m ((c.tc : Thread Cert.ScalesIdeal.nD Cert.ScalesIdeal.τ).loc Cert.ScalesIdeal.main_arg0)) (m ((c.tc : Thread Cert.ScalesIdeal.nD Cert.ScalesIdeal.τ).loc Cert.ScalesIdeal.main_arg1)) (m ((c.tc : Thread Cert.ScalesIdeal.nD Cert.ScalesIdeal.τ).loc Cert.ScalesIdeal.main_arg2))) = (fun _ => 1#1)

def Pre_ScalesReferenceIdeal (m : (ℓ : Loc Cert.ScalesReferenceIdeal.nD Cert.ScalesReferenceIdeal.τ Cert.ScalesReferenceIdeal.sig) → Buf (Elt Ideal) ℓ) : Prop :=
  True

def Pre_ScalesReferenceIdeal_scales_src_in_range [hPre_scales_src_in_range : Cert.Pre_scales_src_in_range.Facts] (m : (ℓ : Loc Cert.ScalesReferenceIdeal.nD Cert.ScalesReferenceIdeal.τ Cert.ScalesReferenceIdeal.sig) → Buf (Elt Ideal) ℓ) : Prop :=
  ∀ c : Dev Cert.ScalesReferenceIdeal.nD,
    (Cert.Pre_scales_src_in_range.fn (F := Ideal) (m ((c.tc : Thread Cert.ScalesReferenceIdeal.nD Cert.ScalesReferenceIdeal.τ).loc Cert.ScalesReferenceIdeal.main_arg0)) (m ((c.tc : Thread Cert.ScalesReferenceIdeal.nD Cert.ScalesReferenceIdeal.τ).loc Cert.ScalesReferenceIdeal.main_arg1)) (m ((c.tc : Thread Cert.ScalesReferenceIdeal.nD Cert.ScalesReferenceIdeal.τ).loc Cert.ScalesReferenceIdeal.main_arg2))) = (fun _ => 1#1)

def quiescent_Codes [hCodes : Cert.Codes.Facts] [hPre_src_in_range : Cert.Pre_src_in_range.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1)
      ∧ r.2.mem ((c.tc : Thread Cert.Codes.nD Cert.Codes.τ).loc Cert.Codes.main_arg2) = m ((c.tc : Thread Cert.Codes.nD Cert.Codes.τ).loc Cert.Codes.main_arg2)
      ∧ r.2.mem ((c.tc : Thread Cert.Codes.nD Cert.Codes.τ).loc Cert.Codes.main_arg3) = m ((c.tc : Thread Cert.Codes.nD Cert.Codes.τ).loc Cert.Codes.main_arg3))
      ∧ r.2.sem = fun _ => 0)

def quiescent_CodesIdeal [hCodesIdeal : Cert.CodesIdeal.Facts] [hPre_src_in_range : Cert.Pre_src_in_range.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
      ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_src_in_range [hReferenceIdeal : Cert.ReferenceIdeal.Facts] [hPre_src_in_range : Cert.Pre_src_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_src_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Scales [hScales : Cert.Scales.Facts] [hPre_scales_src_in_range : Cert.Pre_scales_src_in_range.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0)
      ∧ r.2.mem ((c.tc : Thread Cert.Scales.nD Cert.Scales.τ).loc Cert.Scales.main_arg1) = m ((c.tc : Thread Cert.Scales.nD Cert.Scales.τ).loc Cert.Scales.main_arg1)
      ∧ r.2.mem ((c.tc : Thread Cert.Scales.nD Cert.Scales.τ).loc Cert.Scales.main_arg2) = m ((c.tc : Thread Cert.Scales.nD Cert.Scales.τ).loc Cert.Scales.main_arg2))
      ∧ r.2.sem = fun _ => 0)

def quiescent_ScalesIdeal [hScalesIdeal : Cert.ScalesIdeal.Facts] [hPre_scales_src_in_range : Cert.Pre_scales_src_in_range.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
      ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2))
      ∧ r.2.sem = fun _ => 0)

def quiescent_ScalesReferenceIdeal [hScalesReferenceIdeal : Cert.ScalesReferenceIdeal.Facts] : Prop :=
  ∀ (m : (ℓ : Loc Cert.ScalesReferenceIdeal.nD Cert.ScalesReferenceIdeal.τ Cert.ScalesReferenceIdeal.sig) → Buf (Elt Ideal) ℓ) (g : Dev Cert.ScalesReferenceIdeal.nD → PrngReg), Pre_ScalesReferenceIdeal m →
    θ_run (Cert.ScalesReferenceIdeal.defs (F := Ideal)) (onTc (τ := Cert.ScalesReferenceIdeal.τ) (Cert.ScalesReferenceIdeal.main (F := Ideal))) ⟨m, fun _ => 0, g⟩ (fun r => (∀ c : Dev Cert.ScalesReferenceIdeal.nD,
      r.2.mem ((c.tc : Thread Cert.ScalesReferenceIdeal.nD Cert.ScalesReferenceIdeal.τ).loc Cert.ScalesReferenceIdeal.main_arg0) = m ((c.tc : Thread Cert.ScalesReferenceIdeal.nD Cert.ScalesReferenceIdeal.τ).loc Cert.ScalesReferenceIdeal.main_arg0)
      ∧ r.2.mem ((c.tc : Thread Cert.ScalesReferenceIdeal.nD Cert.ScalesReferenceIdeal.τ).loc Cert.ScalesReferenceIdeal.main_arg1) = m ((c.tc : Thread Cert.ScalesReferenceIdeal.nD Cert.ScalesReferenceIdeal.τ).loc Cert.ScalesReferenceIdeal.main_arg1)
      ∧ r.2.mem ((c.tc : Thread Cert.ScalesReferenceIdeal.nD Cert.ScalesReferenceIdeal.τ).loc Cert.ScalesReferenceIdeal.main_arg2) = m ((c.tc : Thread Cert.ScalesReferenceIdeal.nD Cert.ScalesReferenceIdeal.τ).loc Cert.ScalesReferenceIdeal.main_arg2))
      ∧ r.2.sem = fun _ => 0)

def quiescent_ScalesReferenceIdeal_pre_scales_src_in_range [hScalesReferenceIdeal : Cert.ScalesReferenceIdeal.Facts] [hPre_scales_src_in_range : Cert.Pre_scales_src_in_range.Facts] : Prop :=
  ∀ (m : (ℓ : Loc Cert.ScalesReferenceIdeal.nD Cert.ScalesReferenceIdeal.τ Cert.ScalesReferenceIdeal.sig) → Buf (Elt Ideal) ℓ) (g : Dev Cert.ScalesReferenceIdeal.nD → PrngReg), Pre_ScalesReferenceIdeal_scales_src_in_range m →
    θ_run (Cert.ScalesReferenceIdeal.defs (F := Ideal)) (onTc (τ := Cert.ScalesReferenceIdeal.τ) (Cert.ScalesReferenceIdeal.main (F := Ideal))) ⟨m, fun _ => 0, g⟩ (fun r => (∀ c : Dev Cert.ScalesReferenceIdeal.nD,
      r.2.mem ((c.tc : Thread Cert.ScalesReferenceIdeal.nD Cert.ScalesReferenceIdeal.τ).loc Cert.ScalesReferenceIdeal.main_arg0) = m ((c.tc : Thread Cert.ScalesReferenceIdeal.nD Cert.ScalesReferenceIdeal.τ).loc Cert.ScalesReferenceIdeal.main_arg0)
      ∧ r.2.mem ((c.tc : Thread Cert.ScalesReferenceIdeal.nD Cert.ScalesReferenceIdeal.τ).loc Cert.ScalesReferenceIdeal.main_arg1) = m ((c.tc : Thread Cert.ScalesReferenceIdeal.nD Cert.ScalesReferenceIdeal.τ).loc Cert.ScalesReferenceIdeal.main_arg1)
      ∧ r.2.mem ((c.tc : Thread Cert.ScalesReferenceIdeal.nD Cert.ScalesReferenceIdeal.τ).loc Cert.ScalesReferenceIdeal.main_arg2) = m ((c.tc : Thread Cert.ScalesReferenceIdeal.nD Cert.ScalesReferenceIdeal.τ).loc Cert.ScalesReferenceIdeal.main_arg2))
      ∧ r.2.sem = fun _ => 0)

def preserves_Codes_CodesIdeal : Prop :=
  True

def algebraic_CodesIdeal_ReferenceIdeal [hCodesIdeal : Cert.CodesIdeal.Facts] [hReferenceIdeal : Cert.ReferenceIdeal.Facts] [hPre_src_in_range : Cert.Pre_src_in_range.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_CodesIdeal m →
    (∀ c : Dev Cert.CodesIdeal.nD,
      m' ((c.tc : Thread Cert.ReferenceIdeal.nD Cert.ReferenceIdeal.τ).loc Cert.ReferenceIdeal.main_arg0) = m ((c.tc : Thread Cert.CodesIdeal.nD Cert.CodesIdeal.τ).loc Cert.CodesIdeal.main_arg0)
      ∧ m' ((c.tc : Thread Cert.ReferenceIdeal.nD Cert.ReferenceIdeal.τ).loc Cert.ReferenceIdeal.main_arg1) = m ((c.tc : Thread Cert.CodesIdeal.nD Cert.CodesIdeal.τ).loc Cert.CodesIdeal.main_arg1)
      ∧ m' ((c.tc : Thread Cert.ReferenceIdeal.nD Cert.ReferenceIdeal.τ).loc Cert.ReferenceIdeal.main_arg2) = m ((c.tc : Thread Cert.CodesIdeal.nD Cert.CodesIdeal.τ).loc Cert.CodesIdeal.main_arg2)
      ∧ m' ((c.tc : Thread Cert.ReferenceIdeal.nD Cert.ReferenceIdeal.τ).loc Cert.ReferenceIdeal.main_arg3) = m ((c.tc : Thread Cert.CodesIdeal.nD Cert.CodesIdeal.τ).loc Cert.CodesIdeal.main_arg3)) →
    ∃ (v0 : (c : Dev Cert.CodesIdeal.nD) → Buf (Elt Ideal) ((c.tc : Thread Cert.CodesIdeal.nD Cert.CodesIdeal.τ).loc Cert.CodesIdeal.main_v0)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          r.2.mem ((c.tc : Thread Cert.CodesIdeal.nD Cert.CodesIdeal.τ).loc Cert.CodesIdeal.main_v0) = v0 c
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
          ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
          ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Scales_ScalesIdeal : Prop :=
  True

def algebraic_ScalesIdeal_ScalesReferenceIdeal [hScalesIdeal : Cert.ScalesIdeal.Facts] [hScalesReferenceIdeal : Cert.ScalesReferenceIdeal.Facts] [hPre_scales_src_in_range : Cert.Pre_scales_src_in_range.Facts] : Prop :=
  ∀ (m : (ℓ : Loc Cert.ScalesIdeal.nD Cert.ScalesIdeal.τ Cert.ScalesIdeal.sig) → Buf (Elt Ideal) ℓ) (g : Dev Cert.ScalesIdeal.nD → PrngReg)
    (m' : (ℓ : Loc Cert.ScalesReferenceIdeal.nD Cert.ScalesReferenceIdeal.τ Cert.ScalesReferenceIdeal.sig) → Buf (Elt Ideal) ℓ) (g' : Dev Cert.ScalesReferenceIdeal.nD → PrngReg), Pre_ScalesIdeal m →
    (∀ c : Dev Cert.ScalesIdeal.nD,
      m' ((c.tc : Thread Cert.ScalesReferenceIdeal.nD Cert.ScalesReferenceIdeal.τ).loc Cert.ScalesReferenceIdeal.main_arg0) = m ((c.tc : Thread Cert.ScalesIdeal.nD Cert.ScalesIdeal.τ).loc Cert.ScalesIdeal.main_arg0)
      ∧ m' ((c.tc : Thread Cert.ScalesReferenceIdeal.nD Cert.ScalesReferenceIdeal.τ).loc Cert.ScalesReferenceIdeal.main_arg1) = m ((c.tc : Thread Cert.ScalesIdeal.nD Cert.ScalesIdeal.τ).loc Cert.ScalesIdeal.main_arg1)
      ∧ m' ((c.tc : Thread Cert.ScalesReferenceIdeal.nD Cert.ScalesReferenceIdeal.τ).loc Cert.ScalesReferenceIdeal.main_arg2) = m ((c.tc : Thread Cert.ScalesIdeal.nD Cert.ScalesIdeal.τ).loc Cert.ScalesIdeal.main_arg2)) →
    ∃ (v0 : (c : Dev Cert.ScalesIdeal.nD) → Buf (Elt Ideal) ((c.tc : Thread Cert.ScalesIdeal.nD Cert.ScalesIdeal.τ).loc Cert.ScalesIdeal.main_v0)),
      θ_run (Cert.ScalesIdeal.defs (F := Ideal)) (onTc (τ := Cert.ScalesIdeal.τ) (Cert.ScalesIdeal.main (F := Ideal))) ⟨m, fun _ => 0, g⟩ (fun r => ∀ c : Dev Cert.ScalesIdeal.nD,
          r.2.mem ((c.tc : Thread Cert.ScalesIdeal.nD Cert.ScalesIdeal.τ).loc Cert.ScalesIdeal.main_v0) = v0 c
          ∧ r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
          ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
          ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2))
      ∧ θ_run (Cert.ScalesReferenceIdeal.defs (F := Ideal)) (onTc (τ := Cert.ScalesReferenceIdeal.τ) (Cert.ScalesReferenceIdeal.main (F := Ideal))) ⟨m', fun _ => 0, g'⟩ (fun r => ∀ c : Dev Cert.ScalesReferenceIdeal.nD,
          r.2.mem ((c.tc : Thread Cert.ScalesReferenceIdeal.nD Cert.ScalesReferenceIdeal.τ).loc Cert.ScalesReferenceIdeal.main_v4) = v0 c
          ∧ r.2.mem ((c.tc : Thread Cert.ScalesReferenceIdeal.nD Cert.ScalesReferenceIdeal.τ).loc Cert.ScalesReferenceIdeal.main_arg0) = m' ((c.tc : Thread Cert.ScalesReferenceIdeal.nD Cert.ScalesReferenceIdeal.τ).loc Cert.ScalesReferenceIdeal.main_arg0)
          ∧ r.2.mem ((c.tc : Thread Cert.ScalesReferenceIdeal.nD Cert.ScalesReferenceIdeal.τ).loc Cert.ScalesReferenceIdeal.main_arg1) = m' ((c.tc : Thread Cert.ScalesReferenceIdeal.nD Cert.ScalesReferenceIdeal.τ).loc Cert.ScalesReferenceIdeal.main_arg1)
          ∧ r.2.mem ((c.tc : Thread Cert.ScalesReferenceIdeal.nD Cert.ScalesReferenceIdeal.τ).loc Cert.ScalesReferenceIdeal.main_arg2) = m' ((c.tc : Thread Cert.ScalesReferenceIdeal.nD Cert.ScalesReferenceIdeal.τ).loc Cert.ScalesReferenceIdeal.main_arg2))

def Claim : Prop :=
  ∃ (hCodes : Cert.Codes.Facts) (hCodesIdeal : Cert.CodesIdeal.Facts) (hReferenceIdeal : Cert.ReferenceIdeal.Facts) (hScales : Cert.Scales.Facts) (hScalesIdeal : Cert.ScalesIdeal.Facts) (hScalesReferenceIdeal : Cert.ScalesReferenceIdeal.Facts) (hPre_src_in_range : Cert.Pre_src_in_range.Facts) (hPre_scales_src_in_range : Cert.Pre_scales_src_in_range.Facts),
    quiescent_Codes (hCodes := hCodes) (hPre_src_in_range := hPre_src_in_range)
    ∧ quiescent_CodesIdeal (hCodesIdeal := hCodesIdeal) (hPre_src_in_range := hPre_src_in_range)
    ∧ quiescent_ReferenceIdeal (hReferenceIdeal := hReferenceIdeal)
    ∧ quiescent_ReferenceIdeal_pre_src_in_range (hReferenceIdeal := hReferenceIdeal) (hPre_src_in_range := hPre_src_in_range)
    ∧ quiescent_Scales (hScales := hScales) (hPre_scales_src_in_range := hPre_scales_src_in_range)
    ∧ quiescent_ScalesIdeal (hScalesIdeal := hScalesIdeal) (hPre_scales_src_in_range := hPre_scales_src_in_range)
    ∧ quiescent_ScalesReferenceIdeal (hScalesReferenceIdeal := hScalesReferenceIdeal)
    ∧ quiescent_ScalesReferenceIdeal_pre_scales_src_in_range (hScalesReferenceIdeal := hScalesReferenceIdeal) (hPre_scales_src_in_range := hPre_scales_src_in_range)
    ∧ preserves_Codes_CodesIdeal
    ∧ algebraic_CodesIdeal_ReferenceIdeal (hCodesIdeal := hCodesIdeal) (hReferenceIdeal := hReferenceIdeal) (hPre_src_in_range := hPre_src_in_range)
    ∧ preserves_Scales_ScalesIdeal
    ∧ algebraic_ScalesIdeal_ScalesReferenceIdeal (hScalesIdeal := hScalesIdeal) (hScalesReferenceIdeal := hScalesReferenceIdeal) (hPre_scales_src_in_range := hPre_scales_src_in_range)
-- ==== Pre_scales_src_in_range.lean ====
abbrev S15360 : Shape := ⟨1, ![15360]⟩
abbrev S1920x512 : Shape := ⟨2, ![1920, 512]⟩
abbrev S120x128 : Shape := ⟨2, ![120, 128]⟩
abbrev S_ : Shape := ⟨0, ![]⟩

class Facts : Prop where
  bcast_S_S15360 : S_.BroadcastsInDim S15360 (![] : Fin 0 → Fin S15360.rank)

variable [Facts]

def fn {F : FTy → Type} [FloatOps F] (main_arg0 : IVec S15360 32) (main_arg1 : FVec F S1920x512 .f32) (main_arg2 : FVec F S120x128 .f32) : IVec S15360 1 :=
  let main_c : IVec S_ 32 := constantI S_ 32 0#32
  let main_v0 : IVec S15360 32 := broadcastInDim S15360 ![] bcast_S_S15360 main_c
  let main_v1 : IVec S15360 1 := cmpi .sge main_arg0 main_v0
  let main_c_0 : IVec S_ 32 := constantI S_ 32 1920#32
  let main_v2 : IVec S15360 32 := broadcastInDim S15360 ![] bcast_S_S15360 main_c_0
  let main_v3 : IVec S15360 1 := cmpi .slt main_arg0 main_v2
  let main_v4 : IVec S15360 1 := andi main_v1 main_v3
  main_v4
-- ==== Pre_src_in_range.lean ====
abbrev S15360 : Shape := ⟨1, ![15360]⟩
abbrev S1920x7168 : Shape := ⟨2, ![1920, 7168]⟩
abbrev S120x128 : Shape := ⟨2, ![120, 128]⟩
abbrev S15360x448 : Shape := ⟨2, ![15360, 448]⟩
abbrev S_ : Shape := ⟨0, ![]⟩

class Facts : Prop where
  bcast_S_S15360 : S_.BroadcastsInDim S15360 (![] : Fin 0 → Fin S15360.rank)

variable [Facts]

def fn {F : FTy → Type} [FloatOps F] (main_arg0 : IVec S15360 32) (main_arg1 : FVec F S1920x7168 .bf16) (main_arg2 : FVec F S120x128 .f32) (main_arg3 : FVec F S15360x448 .fp8e4m3) : IVec S15360 1 :=
  let main_c : IVec S_ 32 := constantI S_ 32 0#32
  let main_v0 : IVec S15360 32 := broadcastInDim S15360 ![] bcast_S_S15360 main_c
  let main_v1 : IVec S15360 1 := cmpi .sge main_arg0 main_v0
  let main_c_0 : IVec S_ 32 := constantI S_ 32 1920#32
  let main_v2 : IVec S15360 32 := broadcastInDim S15360 ![] bcast_S_S15360 main_c_0
  let main_v3 : IVec S15360 1 := cmpi .slt main_arg0 main_v2
  let main_v4 : IVec S15360 1 := andi main_v1 main_v3
  main_v4
-- ==== Codes.lean ====
abbrev S15360 : Shape := ⟨1, ![15360]⟩
abbrev S1920x7168 : Shape := ⟨2, ![1920, 7168]⟩
abbrev S120x128 : Shape := ⟨2, ![120, 128]⟩
abbrev S15360x448 : Shape := ⟨2, ![15360, 448]⟩
abbrev S15360x3584 : Shape := ⟨2, ![15360, 3584]⟩
abbrev S1920x1024 : Shape := ⟨2, ![1920, 1024]⟩
abbrev S128x128 : Shape := ⟨2, ![128, 128]⟩
abbrev S128x512 : Shape := ⟨2, ![128, 512]⟩
abbrev S15360x128 : Shape := ⟨2, ![15360, 128]⟩
abbrev S1024x1024 : Shape := ⟨2, ![1024, 1024]⟩
abbrev S2x128x128 : Shape := ⟨3, ![2, 128, 128]⟩
abbrev S1024x128 : Shape := ⟨2, ![1024, 128]⟩
abbrev S1x128x128 : Shape := ⟨3, ![1, 128, 128]⟩
abbrev S128x1024 : Shape := ⟨2, ![128, 1024]⟩
abbrev S1024x256 : Shape := ⟨2, ![1024, 256]⟩
abbrev S128x256 : Shape := ⟨2, ![128, 256]⟩
abbrev S1x128 : Shape := ⟨2, ![1, 128]⟩
abbrev S8x128 : Shape := ⟨2, ![8, 128]⟩
abbrev S1 : Shape := ⟨1, ![1]⟩
abbrev S64x128 : Shape := ⟨2, ![64, 128]⟩
abbrev S8x8x128 : Shape := ⟨3, ![8, 8, 128]⟩
abbrev S32x128 : Shape := ⟨2, ![32, 128]⟩

abbrev nBuf : Space → Nat
  | .hbm => 4
  | .vmem => 11
  | .smem => 1
  | _ => 0

abbrev bufTy : (tb : Table) → Fin (tcTables nBuf tb) → BufTy
  | .hbm, ⟨0, _⟩ => ⟨S1920x7168, .bf16⟩
  | .hbm, ⟨1, _⟩ => ⟨S120x128, .f32⟩
  | .hbm, ⟨2, _⟩ => ⟨S15360x448, .fp8e4m3⟩
  | .hbm, ⟨3, _⟩ => ⟨S15360x3584, .i8⟩
  | .local _ .vmem, ⟨0, _⟩ => ⟨S1920x1024, .bf16⟩
  | .local _ .vmem, ⟨1, _⟩ => ⟨S1920x1024, .bf16⟩
  | .local _ .vmem, ⟨2, _⟩ => ⟨S120x128, .f32⟩
  | .local _ .vmem, ⟨3, _⟩ => ⟨S128x128, .fp8e4m3⟩
  | .local _ .vmem, ⟨4, _⟩ => ⟨S128x128, .fp8e4m3⟩
  | .local _ .vmem, ⟨5, _⟩ => ⟨S128x512, .i8⟩
  | .local _ .vmem, ⟨6, _⟩ => ⟨S128x512, .i8⟩
  | .local _ .vmem, ⟨7, _⟩ => ⟨S15360x128, .f32⟩
  | .local _ .vmem, ⟨8, _⟩ => ⟨S1024x1024, .bf16⟩
  | .local _ .vmem, ⟨9, _⟩ => ⟨S2x128x128, .fp8e4m3⟩
  | .local _ .vmem, ⟨10, _⟩ => ⟨S128x128, .f32⟩
  | .local _ .smem, ⟨0, _⟩ => ⟨S15360, .i32⟩
  | _, _ => ⟨S1920x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![7, 120], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t1_loop : Scf.Loop 32 :=
  let c0_i32_1288 : BitVec 32 := 0#32
  let c15_i32_1289 : BitVec 32 := 15#32
  let v3236 : BitVec 32 := Scalar.addi c0_i32_1288 c15_i32_1289
  let c1_i32_1290 : BitVec 32 := 1#32
  ⟨c0_i32_1288, v3236, c1_i32_1290⟩
def k0_off1 (k0_t1 : Fin k0_t1_loop.trips) : Fin 2 → Nat :=
  let c0_i32_1288 : BitVec 32 := 0#32
  let c1_i32_1290 : BitVec 32 := 1#32
  let arg11 : BitVec 32 := Scf.iv c0_i32_1288 c1_i32_1290 k0_t1
  let c128_i32_1292 : BitVec 32 := 128#32
  let v3237 : BitVec 32 := Scalar.muli arg11 c128_i32_1292
  let v3238 : Index := Scalar.indexCast v3237
  let c0_1293 : Index := 0#32
  ![v3238.toNat, 0]
def k0_off2 (k0_t1 : Fin k0_t1_loop.trips) (c0_i32_1298 : BitVec 32) (c0_i32_1299 : BitVec 32) : Fin 2 → Nat :=
  let c0_i32_1288 : BitVec 32 := 0#32
  let c1_i32_1290 : BitVec 32 := 1#32
  let arg11 : BitVec 32 := Scf.iv c0_i32_1288 c1_i32_1290 k0_t1
  let c128_i32_1292 : BitVec 32 := 128#32
  let v3237 : BitVec 32 := Scalar.muli arg11 c128_i32_1292
  let c8_i32_1297 : BitVec 32 := 8#32
  let v3243 : BitVec 32 := Scalar.muli v3237 c8_i32_1297
  let v3244 : BitVec 32 := Scalar.addi v3243 c0_i32_1298
  let v3245 : BitVec 32 := Scalar.addi v3244 c0_i32_1299
  let v3246 : Index := Scalar.indexCast v3245
  let c0_1300 : Index := 0#32
  ![v3246.toNat, 0]
def k0_off3 (i : grid0.Coords) : Fin 2 → Nat :=
  let arg1 : BitVec 32 := BitVec.ofNat 32 (i 1).val
  let v8 : Index := Scalar.indexCast arg1
  let c0 : Index := 0#32
  ![v8.toNat, 0]
def k0_off4 (i : grid0.Coords) : Fin 3 → Nat :=
  let arg0 : BitVec 32 := BitVec.ofNat 32 (i 0).val
  let c2_i32_11 : BitVec 32 := 2#32
  let c0_i32_12 : BitVec 32 := 0#32
  let v41 : BitVec 1 := Scalar.cmpi .eq c2_i32_11 c0_i32_12
  let c1_i32_13 : BitVec 32 := 1#32
  let v42 : BitVec 32 := Scalar.select v41 c1_i32_13 c2_i32_11
  let v43 : BitVec 32 := Scalar.remsi arg0 v42
  let c0_i32_15 : BitVec 32 := 0#32
  let v45 : BitVec 1 := Scalar.cmpi .slt v43 c0_i32_15
  let c0_i32_16 : BitVec 32 := 0#32
  let v46 : BitVec 1 := Scalar.cmpi .slt v42 c0_i32_16
  let v47 : BitVec 1 := Scalar.xori v45 v46
  let c0_i32_14 : BitVec 32 := 0#32
  let v44 : BitVec 1 := Scalar.cmpi .ne v43 c0_i32_14
  let v48 : BitVec 1 := Scalar.andi v47 v44
  let v49 : BitVec 32 := Scalar.addi v43 v42
  let v50 : BitVec 32 := Scalar.select v48 v49 v43
  let v51 : Index := Scalar.indexCast v50
  let c0_17 : Index := 0#32
  let c0_18 : Index := 0#32
  ![v51.toNat, 0, 0]
def k0_off5 (i : grid0.Coords) : Fin 1 → Nat :=
  let arg1 : BitVec 32 := BitVec.ofNat 32 (i 1).val
  let c128_i32_26 : BitVec 32 := 128#32
  let v68 : BitVec 32 := Scalar.muli arg1 c128_i32_26
  let c0_i32_27 : BitVec 32 := 0#32
  let v69 : BitVec 32 := Scalar.addi v68 c0_i32_27
  let v70 : Index := Scalar.indexCast v69
  ![v70.toNat]
def k0_mult1 (v71 : BitVec 32) : BitVec 32 :=
  let c8_i32 : BitVec 32 := 8#32
  let v72 : BitVec 32 := Scalar.muli v71 c8_i32
  v72

def k0_off6 (v71 : BitVec 32) : Fin 2 → Nat :=
  let c8_i32 : BitVec 32 := 8#32
  let v72 : BitVec 32 := Scalar.muli v71 c8_i32
  let v73 : BitVec 32 := v72
  let v74 : Index := Scalar.indexCast v73
  let c0_28 : Index := 0#32
  ![v74.toNat, 0]

def k0_chk1 (v71 : BitVec 32) : Prop :=
  (8 ∣ (k0_mult1 v71).toNat) ∧
  (∀ a, (k0_off6 v71) a + S8x128.size a ≤ S15360x128.size a)
theorem k0_mult1_dvd : ∀ (v71 : BitVec 32) (k0_hw1 : k0_chk1 v71), 8 ∣ (k0_mult1 v71).toNat := fun v71 k0_hw1 => k0_hw1.1
theorem k0_off6_inb : ∀ (v71 : BitVec 32) (k0_hw1 : k0_chk1 v71), ∀ a, (k0_off6 v71) a + S8x128.size a ≤ S15360x128.size a := fun v71 k0_hw1 => k0_hw1.2

def k0_off7 (i : grid0.Coords) : Fin 1 → Nat :=
  let arg1 : BitVec 32 := BitVec.ofNat 32 (i 1).val
  let c128_i32_34 : BitVec 32 := 128#32
  let v85 : BitVec 32 := Scalar.muli arg1 c128_i32_34
  let c4_i32 : BitVec 32 := 4#32
  let v86 : BitVec 32 := Scalar.addi v85 c4_i32
  let v87 : Index := Scalar.indexCast v86
  ![v87.toNat]
def k0_mult2 (v88 : BitVec 32) : BitVec 32 :=
  let c8_i32_35 : BitVec 32 := 8#32
  let v89 : BitVec 32 := Scalar.muli v88 c8_i32_35
  v89

def k0_off8 (v88 : BitVec 32) : Fin 2 → Nat :=
  let c8_i32_35 : BitVec 32 := 8#32
  let v89 : BitVec 32 := Scalar.muli v88 c8_i32_35
  let v90 : BitVec 32 := v89
  let v91 : Index := Scalar.indexCast v90
  let c0_36 : Index := 0#32
  ![v91.toNat, 0]

def k0_chk2 (v88 : BitVec 32) : Prop :=
  (8 ∣ (k0_mult2 v88).toNat) ∧
  (∀ a, (k0_off8 v88) a + S8x128.size a ≤ S15360x128.size a)
theorem k0_mult2_dvd : ∀ (v88 : BitVec 32) (k0_hw2 : k0_chk2 v88), 8 ∣ (k0_mult2 v88).toNat := fun v88 k0_hw2 => k0_hw2.1
theorem k0_off8_inb : ∀ (v88 : BitVec 32) (k0_hw2 : k0_chk2 v88), ∀ a, (k0_off8 v88) a + S8x128.size a ≤ S15360x128.size a := fun v88 k0_hw2 => k0_hw2.2

def k0_off9 (i : grid0.Coords) : Fin 1 → Nat :=
  let arg1 : BitVec 32 := BitVec.ofNat 32 (i 1).val
  let c128_i32_41 : BitVec 32 := 128#32
  let v102 : BitVec 32 := Scalar.muli arg1 c128_i32_41
  let c8_i32_42 : BitVec 32 := 8#32
  let v103 : BitVec 32 := Scalar.addi v102 c8_i32_42
  let v104 : Index := Scalar.indexCast v103
  ![v104.toNat]
def k0_mult3 (v105 : BitVec 32) : BitVec 32 :=
  let c8_i32_43 : BitVec 32 := 8#32
  let v106 : BitVec 32 := Scalar.muli v105 c8_i32_43
  v106

def k0_off10 (v105 : BitVec 32) : Fin 2 → Nat :=
  let c8_i32_43 : BitVec 32 := 8#32
  let v106 : BitVec 32 := Scalar.muli v105 c8_i32_43
  let v107 : BitVec 32 := v106
  let v108 : Index := Scalar.indexCast v107
  let c0_44 : Index := 0#32
  ![v108.toNat, 0]

def k0_chk3 (v105 : BitVec 32) : Prop :=
  (8 ∣ (k0_mult3 v105).toNat) ∧
  (∀ a, (k0_off10 v105) a + S8x128.size a ≤ S15360x128.size a)
theorem k0_mult3_dvd : ∀ (v105 : BitVec 32) (k0_hw3 : k0_chk3 v105), 8 ∣ (k0_mult3 v105).toNat := fun v105 k0_hw3 => k0_hw3.1
theorem k0_off10_inb : ∀ (v105 : BitVec 32) (k0_hw3 : k0_chk3 v105), ∀ a, (k0_off10 v105) a + S8x128.size a ≤ S15360x128.size a := fun v105 k0_hw3 => k0_hw3.2

def k0_off11 (i : grid0.Coords) : Fin 1 → Nat :=
  let arg1 : BitVec 32 := BitVec.ofNat 32 (i 1).val
  let c128_i32_49 : BitVec 32 := 128#32
  let v119 : BitVec 32 := Scalar.muli arg1 c128_i32_49
  let c12_i32 : BitVec 32 := 12#32
  let v120 : BitVec 32 := Scalar.addi v119 c12_i32
  let v121 : Index := Scalar.indexCast v120
  ![v121.toNat]
def k0_mult4 (v122 : BitVec 32) : BitVec 32 :=
  let c8_i32_50 : BitVec 32 := 8#32
  let v123 : BitVec 32 := Scalar.muli v122 c8_i32_50
  v123

def k0_off12 (v122 : BitVec 32) : Fin 2 → Nat :=
  let c8_i32_50 : BitVec 32 := 8#32
  let v123 : BitVec 32 := Scalar.muli v122 c8_i32_50
  let v124 : BitVec 32 := v123
  let v125 : Index := Scalar.indexCast v124
  let c0_51 : Index := 0#32
  ![v125.toNat, 0]

def k0_chk4 (v122 : BitVec 32) : Prop :=
  (8 ∣ (k0_mult4 v122).toNat) ∧
  (∀ a, (k0_off12 v122) a + S8x128.size a ≤ S15360x128.size a)
theorem k0_mult4_dvd : ∀ (v122 : BitVec 32) (k0_hw4 : k0_chk4 v122), 8 ∣ (k0_mult4 v122).toNat := fun v122 k0_hw4 => k0_hw4.1
theorem k0_off12_inb : ∀ (v122 : BitVec 32) (k0_hw4 : k0_chk4 v122), ∀ a, (k0_off12 v122) a + S8x128.size a ≤ S15360x128.size a := fun v122 k0_hw4 => k0_hw4.2

def k0_off13 (i : grid0.Coords) : Fin 1 → Nat :=
  let arg1 : BitVec 32 := BitVec.ofNat 32 (i 1).val
  let c128_i32_56 : BitVec 32 := 128#32
  let v136 : BitVec 32 := Scalar.muli arg1 c128_i32_56
  let c16_i32 : BitVec 32 := 16#32
  let v137 : BitVec 32 := Scalar.addi v136 c16_i32
  let v138 : Index := Scalar.indexCast v137
  ![v138.toNat]
def k0_mult5 (v139 : BitVec 32) : BitVec 32 :=
  let c8_i32_57 : BitVec 32 := 8#32
  let v140 : BitVec 32 := Scalar.muli v139 c8_i32_57
  v140

def k0_off14 (v139 : BitVec 32) : Fin 2 → Nat :=
  let c8_i32_57 : BitVec 32 := 8#32
  let v140 : BitVec 32 := Scalar.muli v139 c8_i32_57
  let v141 : BitVec 32 := v140
  let v142 : Index := Scalar.indexCast v141
  let c0_58 : Index := 0#32
  ![v142.toNat, 0]

def k0_chk5 (v139 : BitVec 32) : Prop :=
  (8 ∣ (k0_mult5 v139).toNat) ∧
  (∀ a, (k0_off14 v139) a + S8x128.size a ≤ S15360x128.size a)
theorem k0_mult5_dvd : ∀ (v139 : BitVec 32) (k0_hw5 : k0_chk5 v139), 8 ∣ (k0_mult5 v139).toNat := fun v139 k0_hw5 => k0_hw5.1
theorem k0_off14_inb : ∀ (v139 : BitVec 32) (k0_hw5 : k0_chk5 v139), ∀ a, (k0_off14 v139) a + S8x128.size a ≤ S15360x128.size a := fun v139 k0_hw5 => k0_hw5.2

def k0_off15 (i : grid0.Coords) : Fin 1 → Nat :=
  let arg1 : BitVec 32 := BitVec.ofNat 32 (i 1).val
  let c128_i32_63 : BitVec 32 := 128#32
  let v153 : BitVec 32 := Scalar.muli arg1 c128_i32_63
  let c20_i32 : BitVec 32 := 20#32
  let v154 : BitVec 32 := Scalar.addi v153 c20_i32
  let v155 : Index := Scalar.indexCast v154
  ![v155.toNat]
def k0_mult6 (v156 : BitVec 32) : BitVec 32 :=
  let c8_i32_64 : BitVec 32 := 8#32
  let v157 : BitVec 32 := Scalar.muli v156 c8_i32_64
  v157

def k0_off16 (v156 : BitVec 32) : Fin 2 → Nat :=
  let c8_i32_64 : BitVec 32 := 8#32
  let v157 : BitVec 32 := Scalar.muli v156 c8_i32_64
  let v158 : BitVec 32 := v157
  let v159 : Index := Scalar.indexCast v158
  let c0_65 : Index := 0#32
  ![v159.toNat, 0]

def k0_chk6 (v156 : BitVec 32) : Prop :=
  (8 ∣ (k0_mult6 v156).toNat) ∧
  (∀ a, (k0_off16 v156) a + S8x128.size a ≤ S15360x128.size a)
theorem k0_mult6_dvd : ∀ (v156 : BitVec 32) (k0_hw6 : k0_chk6 v156), 8 ∣ (k0_mult6 v156).toNat := fun v156 k0_hw6 => k0_hw6.1
theorem k0_off16_inb : ∀ (v156 : BitVec 32) (k0_hw6 : k0_chk6 v156), ∀ a, (k0_off16 v156) a + S8x128.size a ≤ S15360x128.size a := fun v156 k0_hw6 => k0_hw6.2

def k0_off17 (i : grid0.Coords) : Fin 1 → Nat :=
  let arg1 : BitVec 32 := BitVec.ofNat 32 (i 1).val
  let c128_i32_70 : BitVec 32 := 128#32
  let v170 : BitVec 32 := Scalar.muli arg1 c128_i32_70
  let c24_i32 : BitVec 32 := 24#32
  let v171 : BitVec 32 := Scalar.addi v170 c24_i32
  let v172 : Index := Scalar.indexCast v171
  ![v172.toNat]
def k0_mult7 (v173 : BitVec 32) : BitVec 32 :=
  let c8_i32_71 : BitVec 32 := 8#32
  let v174 : BitVec 32 := Scalar.muli v173 c8_i32_71
  v174

def k0_off18 (v173 : BitVec 32) : Fin 2 → Nat :=
  let c8_i32_71 : BitVec 32 := 8#32
  let v174 : BitVec 32 := Scalar.muli v173 c8_i32_71
  let v175 : BitVec 32 := v174
  let v176 : Index := Scalar.indexCast v175
  let c0_72 : Index := 0#32
  ![v176.toNat, 0]

def k0_chk7 (v173 : BitVec 32) : Prop :=
  (8 ∣ (k0_mult7 v173).toNat) ∧
  (∀ a, (k0_off18 v173) a + S8x128.size a ≤ S15360x128.size a)
theorem k0_mult7_dvd : ∀ (v173 : BitVec 32) (k0_hw7 : k0_chk7 v173), 8 ∣ (k0_mult7 v173).toNat := fun v173 k0_hw7 => k0_hw7.1
theorem k0_off18_inb : ∀ (v173 : BitVec 32) (k0_hw7 : k0_chk7 v173), ∀ a, (k0_off18 v173) a + S8x128.size a ≤ S15360x128.size a := fun v173 k0_hw7 => k0_hw7.2

def k0_off19 (i : grid0.Coords) : Fin 1 → Nat :=
  let arg1 : BitVec 32 := BitVec.ofNat 32 (i 1).val
  let c128_i32_77 : BitVec 32 := 128#32
  let v187 : BitVec 32 := Scalar.muli arg1 c128_i32_77
  let c28_i32 : BitVec 32 := 28#32
  let v188 : BitVec 32 := Scalar.addi v187 c28_i32
  let v189 : Index := Scalar.indexCast v188
  ![v189.toNat]
def k0_mult8 (v190 : BitVec 32) : BitVec 32 :=
  let c8_i32_78 : BitVec 32 := 8#32
  let v191 : BitVec 32 := Scalar.muli v190 c8_i32_78
  v191

def k0_off20 (v190 : BitVec 32) : Fin 2 → Nat :=
  let c8_i32_78 : BitVec 32 := 8#32
  let v191 : BitVec 32 := Scalar.muli v190 c8_i32_78
  let v192 : BitVec 32 := v191
  let v193 : Index := Scalar.indexCast v192
  let c0_79 : Index := 0#32
  ![v193.toNat, 0]

def k0_chk8 (v190 : BitVec 32) : Prop :=
  (8 ∣ (k0_mult8 v190).toNat) ∧
  (∀ a, (k0_off20 v190) a + S8x128.size a ≤ S15360x128.size a)
theorem k0_mult8_dvd : ∀ (v190 : BitVec 32) (k0_hw8 : k0_chk8 v190), 8 ∣ (k0_mult8 v190).toNat := fun v190 k0_hw8 => k0_hw8.1
theorem k0_off20_inb : ∀ (v190 : BitVec 32) (k0_hw8 : k0_chk8 v190), ∀ a, (k0_off20 v190) a + S8x128.size a ≤ S15360x128.size a := fun v190 k0_hw8 => k0_hw8.2

def k0_off21 (i : grid0.Coords) : Fin 1 → Nat :=
  let arg1 : BitVec 32 := BitVec.ofNat 32 (i 1).val
  let c128_i32_96 : BitVec 32 := 128#32
  let v245 : BitVec 32 := Scalar.muli arg1 c128_i32_96
  let c1_i32_97 : BitVec 32 := 1#32
  let v246 : BitVec 32 := Scalar.addi v245 c1_i32_97
  let v247 : Index := Scalar.indexCast v246
  ![v247.toNat]
def k0_mult9 (v248 : BitVec 32) : BitVec 32 :=
  let c8_i32_98 : BitVec 32 := 8#32
  let v249 : BitVec 32 := Scalar.muli v248 c8_i32_98
  v249

def k0_off22 (v248 : BitVec 32) : Fin 2 → Nat :=
  let c8_i32_98 : BitVec 32 := 8#32
  let v249 : BitVec 32 := Scalar.muli v248 c8_i32_98
  let v250 : BitVec 32 := v249
  let v251 : Index := Scalar.indexCast v250
  let c0_99 : Index := 0#32
  ![v251.toNat, 0]

def k0_chk9 (v248 : BitVec 32) : Prop :=
  (8 ∣ (k0_mult9 v248).toNat) ∧
  (∀ a, (k0_off22 v248) a + S8x128.size a ≤ S15360x128.size a)
theorem k0_mult9_dvd : ∀ (v248 : BitVec 32) (k0_hw9 : k0_chk9 v248), 8 ∣ (k0_mult9 v248).toNat := fun v248 k0_hw9 => k0_hw9.1
theorem k0_off22_inb : ∀ (v248 : BitVec 32) (k0_hw9 : k0_chk9 v248), ∀ a, (k0_off22 v248) a + S8x128.size a ≤ S15360x128.size a := fun v248 k0_hw9 => k0_hw9.2

def k0_off23 (i : grid0.Coords) : Fin 1 → Nat :=
  let arg1 : BitVec 32 := BitVec.ofNat 32 (i 1).val
  let c128_i32_104 : BitVec 32 := 128#32
  let v262 : BitVec 32 := Scalar.muli arg1 c128_i32_104
  let c5_i32 : BitVec 32 := 5#32
  let v263 : BitVec 32 := Scalar.addi v262 c5_i32
  let v264 : Index := Scalar.indexCast v263
  ![v264.toNat]
def k0_mult10 (v265 : BitVec 32) : BitVec 32 :=
  let c8_i32_105 : BitVec 32 := 8#32
  let v266 : BitVec 32 := Scalar.muli v265 c8_i32_105
  v266

def k0_off24 (v265 : BitVec 32) : Fin 2 → Nat :=
  let c8_i32_105 : BitVec 32 := 8#32
  let v266 : BitVec 32 := Scalar.muli v265 c8_i32_105
  let v267 : BitVec 32 := v266
  let v268 : Index := Scalar.indexCast v267
  let c0_106 : Index := 0#32
  ![v268.toNat, 0]

def k0_chk10 (v265 : BitVec 32) : Prop :=
  (8 ∣ (k0_mult10 v265).toNat) ∧
  (∀ a, (k0_off24 v265) a + S8x128.size a ≤ S15360x128.size a)
theorem k0_mult10_dvd : ∀ (v265 : BitVec 32) (k0_hw10 : k0_chk10 v265), 8 ∣ (k0_mult10 v265).toNat := fun v265 k0_hw10 => k0_hw10.1
theorem k0_off24_inb : ∀ (v265 : BitVec 32) (k0_hw10 : k0_chk10 v265), ∀ a, (k0_off24 v265) a + S8x128.size a ≤ S15360x128.size a := fun v265 k0_hw10 => k0_hw10.2

def k0_off25 (i : grid0.Coords) : Fin 1 → Nat :=
  let arg1 : BitVec 32 := BitVec.ofNat 32 (i 1).val
  let c128_i32_111 : BitVec 32 := 128#32
  let v279 : BitVec 32 := Scalar.muli arg1 c128_i32_111
  let c9_i32 : BitVec 32 := 9#32
  let v280 : BitVec 32 := Scalar.addi v279 c9_i32
  let v281 : Index := Scalar.indexCast v280
  ![v281.toNat]
def k0_mult11 (v282 : BitVec 32) : BitVec 32 :=
  let c8_i32_112 : BitVec 32 := 8#32
  let v283 : BitVec 32 := Scalar.muli v282 c8_i32_112
  v283

def k0_off26 (v282 : BitVec 32) : Fin 2 → Nat :=
  let c8_i32_112 : BitVec 32 := 8#32
  let v283 : BitVec 32 := Scalar.muli v282 c8_i32_112
  let v284 : BitVec 32 := v283
  let v285 : Index := Scalar.indexCast v284
  let c0_113 : Index := 0#32
  ![v285.toNat, 0]

def k0_chk11 (v282 : BitVec 32) : Prop :=
  (8 ∣ (k0_mult11 v282).toNat) ∧
  (∀ a, (k0_off26 v282) a + S8x128.size a ≤ S15360x128.size a)
theorem k0_mult11_dvd : ∀ (v282 : BitVec 32) (k0_hw11 : k0_chk11 v282), 8 ∣ (k0_mult11 v282).toNat := fun v282 k0_hw11 => k0_hw11.1
theorem k0_off26_inb : ∀ (v282 : BitVec 32) (k0_hw11 : k0_chk11 v282), ∀ a, (k0_off26 v282) a + S8x128.size a ≤ S15360x128.size a := fun v282 k0_hw11 => k0_hw11.2

def k0_off27 (i : grid0.Coords) : Fin 1 → Nat :=
  let arg1 : BitVec 32 := BitVec.ofNat 32 (i 1).val
  let c128_i32_118 : BitVec 32 := 128#32
  let v296 : BitVec 32 := Scalar.muli arg1 c128_i32_118
  let c13_i32 : BitVec 32 := 13#32
  let v297 : BitVec 32 := Scalar.addi v296 c13_i32
  let v298 : Index := Scalar.indexCast v297
  ![v298.toNat]
def k0_mult12 (v299 : BitVec 32) : BitVec 32 :=
  let c8_i32_119 : BitVec 32 := 8#32
  let v300 : BitVec 32 := Scalar.muli v299 c8_i32_119
  v300

def k0_off28 (v299 : BitVec 32) : Fin 2 → Nat :=
  let c8_i32_119 : BitVec 32 := 8#32
  let v300 : BitVec 32 := Scalar.muli v299 c8_i32_119
  let v301 : BitVec 32 := v300
  let v302 : Index := Scalar.indexCast v301
  let c0_120 : Index := 0#32
  ![v302.toNat, 0]

def k0_chk12 (v299 : BitVec 32) : Prop :=
  (8 ∣ (k0_mult12 v299).toNat) ∧
  (∀ a, (k0_off28 v299) a + S8x128.size a ≤ S15360x128.size a)
theorem k0_mult12_dvd : ∀ (v299 : BitVec 32) (k0_hw12 : k0_chk12 v299), 8 ∣ (k0_mult12 v299).toNat := fun v299 k0_hw12 => k0_hw12.1
theorem k0_off28_inb : ∀ (v299 : BitVec 32) (k0_hw12 : k0_chk12 v299), ∀ a, (k0_off28 v299) a + S8x128.size a ≤ S15360x128.size a := fun v299 k0_hw12 => k0_hw12.2

def k0_off29 (i : grid0.Coords) : Fin 1 → Nat :=
  let arg1 : BitVec 32 := BitVec.ofNat 32 (i 1).val
  let c128_i32_125 : BitVec 32 := 128#32
  let v313 : BitVec 32 := Scalar.muli arg1 c128_i32_125
  let c17_i32 : BitVec 32 := 17#32
  let v314 : BitVec 32 := Scalar.addi v313 c17_i32
  let v315 : Index := Scalar.indexCast v314
  ![v315.toNat]
def k0_mult13 (v316 : BitVec 32) : BitVec 32 :=
  let c8_i32_126 : BitVec 32 := 8#32
  let v317 : BitVec 32 := Scalar.muli v316 c8_i32_126
  v317

def k0_off30 (v316 : BitVec 32) : Fin 2 → Nat :=
  let c8_i32_126 : BitVec 32 := 8#32
  let v317 : BitVec 32 := Scalar.muli v316 c8_i32_126
  let v318 : BitVec 32 := v317
  let v319 : Index := Scalar.indexCast v318
  let c0_127 : Index := 0#32
  ![v319.toNat, 0]

def k0_chk13 (v316 : BitVec 32) : Prop :=
  (8 ∣ (k0_mult13 v316).toNat) ∧
  (∀ a, (k0_off30 v316) a + S8x128.size a ≤ S15360x128.size a)
theorem k0_mult13_dvd : ∀ (v316 : BitVec 32) (k0_hw13 : k0_chk13 v316), 8 ∣ (k0_mult13 v316).toNat := fun v316 k0_hw13 => k0_hw13.1
theorem k0_off30_inb : ∀ (v316 : BitVec 32) (k0_hw13 : k0_chk13 v316), ∀ a, (k0_off30 v316) a + S8x128.size a ≤ S15360x128.size a := fun v316 k0_hw13 => k0_hw13.2

def k0_off31 (i : grid0.Coords) : Fin 1 → Nat :=
  let arg1 : BitVec 32 := BitVec.ofNat 32 (i 1).val
  let c128_i32_132 : BitVec 32 := 128#32
  let v330 : BitVec 32 := Scalar.muli arg1 c128_i32_132
  let c21_i32 : BitVec 32 := 21#32
  let v331 : BitVec 32 := Scalar.addi v330 c21_i32
  let v332 : Index := Scalar.indexCast v331
  ![v332.toNat]
def k0_mult14 (v333 : BitVec 32) : BitVec 32 :=
  let c8_i32_133 : BitVec 32 := 8#32
  let v334 : BitVec 32 := Scalar.muli v333 c8_i32_133
  v334

def k0_off32 (v333 : BitVec 32) : Fin 2 → Nat :=
  let c8_i32_133 : BitVec 32 := 8#32
  let v334 : BitVec 32 := Scalar.muli v333 c8_i32_133
  let v335 : BitVec 32 := v334
  let v336 : Index := Scalar.indexCast v335
  let c0_134 : Index := 0#32
  ![v336.toNat, 0]

def k0_chk14 (v333 : BitVec 32) : Prop :=
  (8 ∣ (k0_mult14 v333).toNat) ∧
  (∀ a, (k0_off32 v333) a + S8x128.size a ≤ S15360x128.size a)
theorem k0_mult14_dvd : ∀ (v333 : BitVec 32) (k0_hw14 : k0_chk14 v333), 8 ∣ (k0_mult14 v333).toNat := fun v333 k0_hw14 => k0_hw14.1
theorem k0_off32_inb : ∀ (v333 : BitVec 32) (k0_hw14 : k0_chk14 v333), ∀ a, (k0_off32 v333) a + S8x128.size a ≤ S15360x128.size a := fun v333 k0_hw14 => k0_hw14.2

def k0_off33 (i : grid0.Coords) : Fin 1 → Nat :=
  let arg1 : BitVec 32 := BitVec.ofNat 32 (i 1).val
  let c128_i32_139 : BitVec 32 := 128#32
  let v347 : BitVec 32 := Scalar.muli arg1 c128_i32_139
  let c25_i32 : BitVec 32 := 25#32
  let v348 : BitVec 32 := Scalar.addi v347 c25_i32
  let v349 : Index := Scalar.indexCast v348
  ![v349.toNat]
def k0_mult15 (v350 : BitVec 32) : BitVec 32 :=
  let c8_i32_140 : BitVec 32 := 8#32
  let v351 : BitVec 32 := Scalar.muli v350 c8_i32_140
  v351

def k0_off34 (v350 : BitVec 32) : Fin 2 → Nat :=
  let c8_i32_140 : BitVec 32 := 8#32
  let v351 : BitVec 32 := Scalar.muli v350 c8_i32_140
  let v352 : BitVec 32 := v351
  let v353 : Index := Scalar.indexCast v352
  let c0_141 : Index := 0#32
  ![v353.toNat, 0]

def k0_chk15 (v350 : BitVec 32) : Prop :=
  (8 ∣ (k0_mult15 v350).toNat) ∧
  (∀ a, (k0_off34 v350) a + S8x128.size a ≤ S15360x128.size a)
theorem k0_mult15_dvd : ∀ (v350 : BitVec 32) (k0_hw15 : k0_chk15 v350), 8 ∣ (k0_mult15 v350).toNat := fun v350 k0_hw15 => k0_hw15.1
theorem k0_off34_inb : ∀ (v350 : BitVec 32) (k0_hw15 : k0_chk15 v350), ∀ a, (k0_off34 v350) a + S8x128.size a ≤ S15360x128.size a := fun v350 k0_hw15 => k0_hw15.2

def k0_off35 (i : grid0.Coords) : Fin 1 → Nat :=
  let arg1 : BitVec 32 := BitVec.ofNat 32 (i 1).val
  let c128_i32_146 : BitVec 32 := 128#32
  let v364 : BitVec 32 := Scalar.muli arg1 c128_i32_146
  let c29_i32 : BitVec 32 := 29#32
  let v365 : BitVec 32 := Scalar.addi v364 c29_i32
  let v366 : Index := Scalar.indexCast v365
  ![v366.toNat]
def k0_mult16 (v367 : BitVec 32) : BitVec 32 :=
  let c8_i32_147 : BitVec 32 := 8#32
  let v368 : BitVec 32 := Scalar.muli v367 c8_i32_147
  v368

def k0_off36 (v367 : BitVec 32) : Fin 2 → Nat :=
  let c8_i32_147 : BitVec 32 := 8#32
  let v368 : BitVec 32 := Scalar.muli v367 c8_i32_147
  let v369 : BitVec 32 := v368
  let v370 : Index := Scalar.indexCast v369
  let c0_148 : Index := 0#32
  ![v370.toNat, 0]

def k0_chk16 (v367 : BitVec 32) : Prop :=
  (8 ∣ (k0_mult16 v367).toNat) ∧
  (∀ a, (k0_off36 v367) a + S8x128.size a ≤ S15360x128.size a)
theorem k0_mult16_dvd : ∀ (v367 : BitVec 32) (k0_hw16 : k0_chk16 v367), 8 ∣ (k0_mult16 v367).toNat := fun v367 k0_hw16 => k0_hw16.1
theorem k0_off36_inb : ∀ (v367 : BitVec 32) (k0_hw16 : k0_chk16 v367), ∀ a, (k0_off36 v367) a + S8x128.size a ≤ S15360x128.size a := fun v367 k0_hw16 => k0_hw16.2

def k0_off37 (i : grid0.Coords) : Fin 1 → Nat :=
  let arg1 : BitVec 32 := BitVec.ofNat 32 (i 1).val
  let c128_i32_165 : BitVec 32 := 128#32
  let v422 : BitVec 32 := Scalar.muli arg1 c128_i32_165
  let c2_i32_166 : BitVec 32 := 2#32
  let v423 : BitVec 32 := Scalar.addi v422 c2_i32_166
  let v424 : Index := Scalar.indexCast v423
  ![v424.toNat]
def k0_mult17 (v425 : BitVec 32) : BitVec 32 :=
  let c8_i32_167 : BitVec 32 := 8#32
  let v426 : BitVec 32 := Scalar.muli v425 c8_i32_167
  v426

def k0_off38 (v425 : BitVec 32) : Fin 2 → Nat :=
  let c8_i32_167 : BitVec 32 := 8#32
  let v426 : BitVec 32 := Scalar.muli v425 c8_i32_167
  let v427 : BitVec 32 := v426
  let v428 : Index := Scalar.indexCast v427
  let c0_168 : Index := 0#32
  ![v428.toNat, 0]

def k0_chk17 (v425 : BitVec 32) : Prop :=
  (8 ∣ (k0_mult17 v425).toNat) ∧
  (∀ a, (k0_off38 v425) a + S8x128.size a ≤ S15360x128.size a)
theorem k0_mult17_dvd : ∀ (v425 : BitVec 32) (k0_hw17 : k0_chk17 v425), 8 ∣ (k0_mult17 v425).toNat := fun v425 k0_hw17 => k0_hw17.1
theorem k0_off38_inb : ∀ (v425 : BitVec 32) (k0_hw17 : k0_chk17 v425), ∀ a, (k0_off38 v425) a + S8x128.size a ≤ S15360x128.size a := fun v425 k0_hw17 => k0_hw17.2

def k0_off39 (i : grid0.Coords) : Fin 1 → Nat :=
  let arg1 : BitVec 32 := BitVec.ofNat 32 (i 1).val
  let c128_i32_173 : BitVec 32 := 128#32
  let v439 : BitVec 32 := Scalar.muli arg1 c128_i32_173
  let c6_i32 : BitVec 32 := 6#32
  let v440 : BitVec 32 := Scalar.addi v439 c6_i32
  let v441 : Index := Scalar.indexCast v440
  ![v441.toNat]
def k0_mult18 (v442 : BitVec 32) : BitVec 32 :=
  let c8_i32_174 : BitVec 32 := 8#32
  let v443 : BitVec 32 := Scalar.muli v442 c8_i32_174
  v443

def k0_off40 (v442 : BitVec 32) : Fin 2 → Nat :=
  let c8_i32_174 : BitVec 32 := 8#32
  let v443 : BitVec 32 := Scalar.muli v442 c8_i32_174
  let v444 : BitVec 32 := v443
  let v445 : Index := Scalar.indexCast v444
  let c0_175 : Index := 0#32
  ![v445.toNat, 0]

def k0_chk18 (v442 : BitVec 32) : Prop :=
  (8 ∣ (k0_mult18 v442).toNat) ∧
  (∀ a, (k0_off40 v442) a + S8x128.size a ≤ S15360x128.size a)
theorem k0_mult18_dvd : ∀ (v442 : BitVec 32) (k0_hw18 : k0_chk18 v442), 8 ∣ (k0_mult18 v442).toNat := fun v442 k0_hw18 => k0_hw18.1
theorem k0_off40_inb : ∀ (v442 : BitVec 32) (k0_hw18 : k0_chk18 v442), ∀ a, (k0_off40 v442) a + S8x128.size a ≤ S15360x128.size a := fun v442 k0_hw18 => k0_hw18.2

def k0_off41 (i : grid0.Coords) : Fin 1 → Nat :=
  let arg1 : BitVec 32 := BitVec.ofNat 32 (i 1).val
  let c128_i32_180 : BitVec 32 := 128#32
  let v456 : BitVec 32 := Scalar.muli arg1 c128_i32_180
  let c10_i32 : BitVec 32 := 10#32
  let v457 : BitVec 32 := Scalar.addi v456 c10_i32
  let v458 : Index := Scalar.indexCast v457
  ![v458.toNat]
def k0_mult19 (v459 : BitVec 32) : BitVec 32 :=
  let c8_i32_181 : BitVec 32 := 8#32
  let v460 : BitVec 32 := Scalar.muli v459 c8_i32_181
  v460

def k0_off42 (v459 : BitVec 32) : Fin 2 → Nat :=
  let c8_i32_181 : BitVec 32 := 8#32
  let v460 : BitVec 32 := Scalar.muli v459 c8_i32_181
  let v461 : BitVec 32 := v460
  let v462 : Index := Scalar.indexCast v461
  let c0_182 : Index := 0#32
  ![v462.toNat, 0]

def k0_chk19 (v459 : BitVec 32) : Prop :=
  (8 ∣ (k0_mult19 v459).toNat) ∧
  (∀ a, (k0_off42 v459) a + S8x128.size a ≤ S15360x128.size a)
theorem k0_mult19_dvd : ∀ (v459 : BitVec 32) (k0_hw19 : k0_chk19 v459), 8 ∣ (k0_mult19 v459).toNat := fun v459 k0_hw19 => k0_hw19.1
theorem k0_off42_inb : ∀ (v459 : BitVec 32) (k0_hw19 : k0_chk19 v459), ∀ a, (k0_off42 v459) a + S8x128.size a ≤ S15360x128.size a := fun v459 k0_hw19 => k0_hw19.2

def k0_off43 (i : grid0.Coords) : Fin 1 → Nat :=
  let arg1 : BitVec 32 := BitVec.ofNat 32 (i 1).val
  let c128_i32_187 : BitVec 32 := 128#32
  let v473 : BitVec 32 := Scalar.muli arg1 c128_i32_187
  let c14_i32 : BitVec 32 := 14#32
  let v474 : BitVec 32 := Scalar.addi v473 c14_i32
  let v475 : Index := Scalar.indexCast v474
  ![v475.toNat]
def k0_mult20 (v476 : BitVec 32) : BitVec 32 :=
  let c8_i32_188 : BitVec 32 := 8#32
  let v477 : BitVec 32 := Scalar.muli v476 c8_i32_188
  v477

def k0_off44 (v476 : BitVec 32) : Fin 2 → Nat :=
  let c8_i32_188 : BitVec 32 := 8#32
  let v477 : BitVec 32 := Scalar.muli v476 c8_i32_188
  let v478 : BitVec 32 := v477
  let v479 : Index := Scalar.indexCast v478
  let c0_189 : Index := 0#32
  ![v479.toNat, 0]

def k0_chk20 (v476 : BitVec 32) : Prop :=
  (8 ∣ (k0_mult20 v476).toNat) ∧
  (∀ a, (k0_off44 v476) a + S8x128.size a ≤ S15360x128.size a)
theorem k0_mult20_dvd : ∀ (v476 : BitVec 32) (k0_hw20 : k0_chk20 v476), 8 ∣ (k0_mult20 v476).toNat := fun v476 k0_hw20 => k0_hw20.1
theorem k0_off44_inb : ∀ (v476 : BitVec 32) (k0_hw20 : k0_chk20 v476), ∀ a, (k0_off44 v476) a + S8x128.size a ≤ S15360x128.size a := fun v476 k0_hw20 => k0_hw20.2

def k0_off45 (i : grid0.Coords) : Fin 1 → Nat :=
  let arg1 : BitVec 32 := BitVec.ofNat 32 (i 1).val
  let c128_i32_194 : BitVec 32 := 128#32
  let v490 : BitVec 32 := Scalar.muli arg1 c128_i32_194
  let c18_i32 : BitVec 32 := 18#32
  let v491 : BitVec 32 := Scalar.addi v490 c18_i32
  let v492 : Index := Scalar.indexCast v491
  ![v492.toNat]
def k0_mult21 (v493 : BitVec 32) : BitVec 32 :=
  let c8_i32_195 : BitVec 32 := 8#32
  let v494 : BitVec 32 := Scalar.muli v493 c8_i32_195
  v494

def k0_off46 (v493 : BitVec 32) : Fin 2 → Nat :=
  let c8_i32_195 : BitVec 32 := 8#32
  let v494 : BitVec 32 := Scalar.muli v493 c8_i32_195
  let v495 : BitVec 32 := v494
  let v496 : Index := Scalar.indexCast v495
  let c0_196 : Index := 0#32
  ![v496.toNat, 0]

def k0_chk21 (v493 : BitVec 32) : Prop :=
  (8 ∣ (k0_mult21 v493).toNat) ∧
  (∀ a, (k0_off46 v493) a + S8x128.size a ≤ S15360x128.size a)
theorem k0_mult21_dvd : ∀ (v493 : BitVec 32) (k0_hw21 : k0_chk21 v493), 8 ∣ (k0_mult21 v493).toNat := fun v493 k0_hw21 => k0_hw21.1
theorem k0_off46_inb : ∀ (v493 : BitVec 32) (k0_hw21 : k0_chk21 v493), ∀ a, (k0_off46 v493) a + S8x128.size a ≤ S15360x128.size a := fun v493 k0_hw21 => k0_hw21.2

def k0_off47 (i : grid0.Coords) : Fin 1 → Nat :=
  let arg1 : BitVec 32 := BitVec.ofNat 32 (i 1).val
  let c128_i32_201 : BitVec 32 := 128#32
  let v507 : BitVec 32 := Scalar.muli arg1 c128_i32_201
  let c22_i32 : BitVec 32 := 22#32
  let v508 : BitVec 32 := Scalar.addi v507 c22_i32
  let v509 : Index := Scalar.indexCast v508
  ![v509.toNat]
def k0_mult22 (v510 : BitVec 32) : BitVec 32 :=
  let c8_i32_202 : BitVec 32 := 8#32
  let v511 : BitVec 32 := Scalar.muli v510 c8_i32_202
  v511

def k0_off48 (v510 : BitVec 32) : Fin 2 → Nat :=
  let c8_i32_202 : BitVec 32 := 8#32
  let v511 : BitVec 32 := Scalar.muli v510 c8_i32_202
  let v512 : BitVec 32 := v511
  let v513 : Index := Scalar.indexCast v512
  let c0_203 : Index := 0#32
  ![v513.toNat, 0]

def k0_chk22 (v510 : BitVec 32) : Prop :=
  (8 ∣ (k0_mult22 v510).toNat) ∧
  (∀ a, (k0_off48 v510) a + S8x128.size a ≤ S15360x128.size a)
theorem k0_mult22_dvd : ∀ (v510 : BitVec 32) (k0_hw22 : k0_chk22 v510), 8 ∣ (k0_mult22 v510).toNat := fun v510 k0_hw22 => k0_hw22.1
theorem k0_off48_inb : ∀ (v510 : BitVec 32) (k0_hw22 : k0_chk22 v510), ∀ a, (k0_off48 v510) a + S8x128.size a ≤ S15360x128.size a := fun v510 k0_hw22 => k0_hw22.2

def k0_off49 (i : grid0.Coords) : Fin 1 → Nat :=
  let arg1 : BitVec 32 := BitVec.ofNat 32 (i 1).val
  let c128_i32_208 : BitVec 32 := 128#32
  let v524 : BitVec 32 := Scalar.muli arg1 c128_i32_208
  let c26_i32 : BitVec 32 := 26#32
  let v525 : BitVec 32 := Scalar.addi v524 c26_i32
  let v526 : Index := Scalar.indexCast v525
  ![v526.toNat]
def k0_mult23 (v527 : BitVec 32) : BitVec 32 :=
  let c8_i32_209 : BitVec 32 := 8#32
  let v528 : BitVec 32 := Scalar.muli v527 c8_i32_209
  v528

def k0_off50 (v527 : BitVec 32) : Fin 2 → Nat :=
  let c8_i32_209 : BitVec 32 := 8#32
  let v528 : BitVec 32 := Scalar.muli v527 c8_i32_209
  let v529 : BitVec 32 := v528
  let v530 : Index := Scalar.indexCast v529
  let c0_210 : Index := 0#32
  ![v530.toNat, 0]

def k0_chk23 (v527 : BitVec 32) : Prop :=
  (8 ∣ (k0_mult23 v527).toNat) ∧
  (∀ a, (k0_off50 v527) a + S8x128.size a ≤ S15360x128.size a)
theorem k0_mult23_dvd : ∀ (v527 : BitVec 32) (k0_hw23 : k0_chk23 v527), 8 ∣ (k0_mult23 v527).toNat := fun v527 k0_hw23 => k0_hw23.1
theorem k0_off50_inb : ∀ (v527 : BitVec 32) (k0_hw23 : k0_chk23 v527), ∀ a, (k0_off50 v527) a + S8x128.size a ≤ S15360x128.size a := fun v527 k0_hw23 => k0_hw23.2

def k0_off51 (i : grid0.Coords) : Fin 1 → Nat :=
  let arg1 : BitVec 32 := BitVec.ofNat 32 (i 1).val
  let c128_i32_215 : BitVec 32 := 128#32
  let v541 : BitVec 32 := Scalar.muli arg1 c128_i32_215
  let c30_i32 : BitVec 32 := 30#32
  let v542 : BitVec 32 := Scalar.addi v541 c30_i32
  let v543 : Index := Scalar.indexCast v542
  ![v543.toNat]
def k0_mult24 (v544 : BitVec 32) : BitVec 32 :=
  let c8_i32_216 : BitVec 32 := 8#32
  let v545 : BitVec 32 := Scalar.muli v544 c8_i32_216
  v545

def k0_off52 (v544 : BitVec 32) : Fin 2 → Nat :=
  let c8_i32_216 : BitVec 32 := 8#32
  let v545 : BitVec 32 := Scalar.muli v544 c8_i32_216
  let v546 : BitVec 32 := v545
  let v547 : Index := Scalar.indexCast v546
  let c0_217 : Index := 0#32
  ![v547.toNat, 0]

def k0_chk24 (v544 : BitVec 32) : Prop :=
  (8 ∣ (k0_mult24 v544).toNat) ∧
  (∀ a, (k0_off52 v544) a + S8x128.size a ≤ S15360x128.size a)
theorem k0_mult24_dvd : ∀ (v544 : BitVec 32) (k0_hw24 : k0_chk24 v544), 8 ∣ (k0_mult24 v544).toNat := fun v544 k0_hw24 => k0_hw24.1
theorem k0_off52_inb : ∀ (v544 : BitVec 32) (k0_hw24 : k0_chk24 v544), ∀ a, (k0_off52 v544) a + S8x128.size a ≤ S15360x128.size a := fun v544 k0_hw24 => k0_hw24.2

def k0_off53 (i : grid0.Coords) : Fin 1 → Nat :=
  let arg1 : BitVec 32 := BitVec.ofNat 32 (i 1).val
  let c128_i32_234 : BitVec 32 := 128#32
  let v599 : BitVec 32 := Scalar.muli arg1 c128_i32_234
  let c3_i32 : BitVec 32 := 3#32
  let v600 : BitVec 32 := Scalar.addi v599 c3_i32
  let v601 : Index := Scalar.indexCast v600
  ![v601.toNat]
def k0_mult25 (v602 : BitVec 32) : BitVec 32 :=
  let c8_i32_235 : BitVec 32 := 8#32
  let v603 : BitVec 32 := Scalar.muli v602 c8_i32_235
  v603

def k0_off54 (v602 : BitVec 32) : Fin 2 → Nat :=
  let c8_i32_235 : BitVec 32 := 8#32
  let v603 : BitVec 32 := Scalar.muli v602 c8_i32_235
  let v604 : BitVec 32 := v603
  let v605 : Index := Scalar.indexCast v604
  let c0_236 : Index := 0#32
  ![v605.toNat, 0]

def k0_chk25 (v602 : BitVec 32) : Prop :=
  (8 ∣ (k0_mult25 v602).toNat) ∧
  (∀ a, (k0_off54 v602) a + S8x128.size a ≤ S15360x128.size a)
theorem k0_mult25_dvd : ∀ (v602 : BitVec 32) (k0_hw25 : k0_chk25 v602), 8 ∣ (k0_mult25 v602).toNat := fun v602 k0_hw25 => k0_hw25.1
theorem k0_off54_inb : ∀ (v602 : BitVec 32) (k0_hw25 : k0_chk25 v602), ∀ a, (k0_off54 v602) a + S8x128.size a ≤ S15360x128.size a := fun v602 k0_hw25 => k0_hw25.2

def k0_off55 (i : grid0.Coords) : Fin 1 → Nat :=
  let arg1 : BitVec 32 := BitVec.ofNat 32 (i 1).val
  let c128_i32_241 : BitVec 32 := 128#32
  let v616 : BitVec 32 := Scalar.muli arg1 c128_i32_241
  let c7_i32 : BitVec 32 := 7#32
  let v617 : BitVec 32 := Scalar.addi v616 c7_i32
  let v618 : Index := Scalar.indexCast v617
  ![v618.toNat]
def k0_mult26 (v619 : BitVec 32) : BitVec 32 :=
  let c8_i32_242 : BitVec 32 := 8#32
  let v620 : BitVec 32 := Scalar.muli v619 c8_i32_242
  v620

def k0_off56 (v619 : BitVec 32) : Fin 2 → Nat :=
  let c8_i32_242 : BitVec 32 := 8#32
  let v620 : BitVec 32 := Scalar.muli v619 c8_i32_242
  let v621 : BitVec 32 := v620
  let v622 : Index := Scalar.indexCast v621
  let c0_243 : Index := 0#32
  ![v622.toNat, 0]

def k0_chk26 (v619 : BitVec 32) : Prop :=
  (8 ∣ (k0_mult26 v619).toNat) ∧
  (∀ a, (k0_off56 v619) a + S8x128.size a ≤ S15360x128.size a)
theorem k0_mult26_dvd : ∀ (v619 : BitVec 32) (k0_hw26 : k0_chk26 v619), 8 ∣ (k0_mult26 v619).toNat := fun v619 k0_hw26 => k0_hw26.1
theorem k0_off56_inb : ∀ (v619 : BitVec 32) (k0_hw26 : k0_chk26 v619), ∀ a, (k0_off56 v619) a + S8x128.size a ≤ S15360x128.size a := fun v619 k0_hw26 => k0_hw26.2

def k0_off57 (i : grid0.Coords) : Fin 1 → Nat :=
  let arg1 : BitVec 32 := BitVec.ofNat 32 (i 1).val
  let c128_i32_248 : BitVec 32 := 128#32
  let v633 : BitVec 32 := Scalar.muli arg1 c128_i32_248
  let c11_i32 : BitVec 32 := 11#32
  let v634 : BitVec 32 := Scalar.addi v633 c11_i32
  let v635 : Index := Scalar.indexCast v634
  ![v635.toNat]
def k0_mult27 (v636 : BitVec 32) : BitVec 32 :=
  let c8_i32_249 : BitVec 32 := 8#32
  let v637 : BitVec 32 := Scalar.muli v636 c8_i32_249
  v637

def k0_off58 (v636 : BitVec 32) : Fin 2 → Nat :=
  let c8_i32_249 : BitVec 32 := 8#32
  let v637 : BitVec 32 := Scalar.muli v636 c8_i32_249
  let v638 : BitVec 32 := v637
  let v639 : Index := Scalar.indexCast v638
  let c0_250 : Index := 0#32
  ![v639.toNat, 0]

def k0_chk27 (v636 : BitVec 32) : Prop :=
  (8 ∣ (k0_mult27 v636).toNat) ∧
  (∀ a, (k0_off58 v636) a + S8x128.size a ≤ S15360x128.size a)
theorem k0_mult27_dvd : ∀ (v636 : BitVec 32) (k0_hw27 : k0_chk27 v636), 8 ∣ (k0_mult27 v636).toNat := fun v636 k0_hw27 => k0_hw27.1
theorem k0_off58_inb : ∀ (v636 : BitVec 32) (k0_hw27 : k0_chk27 v636), ∀ a, (k0_off58 v636) a + S8x128.size a ≤ S15360x128.size a := fun v636 k0_hw27 => k0_hw27.2

def k0_off59 (i : grid0.Coords) : Fin 1 → Nat :=
  let arg1 : BitVec 32 := BitVec.ofNat 32 (i 1).val
  let c128_i32_255 : BitVec 32 := 128#32
  let v650 : BitVec 32 := Scalar.muli arg1 c128_i32_255
  let c15_i32 : BitVec 32 := 15#32
  let v651 : BitVec 32 := Scalar.addi v650 c15_i32
  let v652 : Index := Scalar.indexCast v651
  ![v652.toNat]
def k0_mult28 (v653 : BitVec 32) : BitVec 32 :=
  let c8_i32_256 : BitVec 32 := 8#32
  let v654 : BitVec 32 := Scalar.muli v653 c8_i32_256
  v654

def k0_off60 (v653 : BitVec 32) : Fin 2 → Nat :=
  let c8_i32_256 : BitVec 32 := 8#32
  let v654 : BitVec 32 := Scalar.muli v653 c8_i32_256
  let v655 : BitVec 32 := v654
  let v656 : Index := Scalar.indexCast v655
  let c0_257 : Index := 0#32
  ![v656.toNat, 0]

def k0_chk28 (v653 : BitVec 32) : Prop :=
  (8 ∣ (k0_mult28 v653).toNat) ∧
  (∀ a, (k0_off60 v653) a + S8x128.size a ≤ S15360x128.size a)
theorem k0_mult28_dvd : ∀ (v653 : BitVec 32) (k0_hw28 : k0_chk28 v653), 8 ∣ (k0_mult28 v653).toNat := fun v653 k0_hw28 => k0_hw28.1
theorem k0_off60_inb : ∀ (v653 : BitVec 32) (k0_hw28 : k0_chk28 v653), ∀ a, (k0_off60 v653) a + S8x128.size a ≤ S15360x128.size a := fun v653 k0_hw28 => k0_hw28.2

def k0_off61 (i : grid0.Coords) : Fin 1 → Nat :=
  let arg1 : BitVec 32 := BitVec.ofNat 32 (i 1).val
  let c128_i32_262 : BitVec 32 := 128#32
  let v667 : BitVec 32 := Scalar.muli arg1 c128_i32_262
  let c19_i32 : BitVec 32 := 19#32
  let v668 : BitVec 32 := Scalar.addi v667 c19_i32
  let v669 : Index := Scalar.indexCast v668
  ![v669.toNat]
def k0_mult29 (v670 : BitVec 32) : BitVec 32 :=
  let c8_i32_263 : BitVec 32 := 8#32
  let v671 : BitVec 32 := Scalar.muli v670 c8_i32_263
  v671

def k0_off62 (v670 : BitVec 32) : Fin 2 → Nat :=
  let c8_i32_263 : BitVec 32 := 8#32
  let v671 : BitVec 32 := Scalar.muli v670 c8_i32_263
  let v672 : BitVec 32 := v671
  let v673 : Index := Scalar.indexCast v672
  let c0_264 : Index := 0#32
  ![v673.toNat, 0]

def k0_chk29 (v670 : BitVec 32) : Prop :=
  (8 ∣ (k0_mult29 v670).toNat) ∧
  (∀ a, (k0_off62 v670) a + S8x128.size a ≤ S15360x128.size a)
theorem k0_mult29_dvd : ∀ (v670 : BitVec 32) (k0_hw29 : k0_chk29 v670), 8 ∣ (k0_mult29 v670).toNat := fun v670 k0_hw29 => k0_hw29.1
theorem k0_off62_inb : ∀ (v670 : BitVec 32) (k0_hw29 : k0_chk29 v670), ∀ a, (k0_off62 v670) a + S8x128.size a ≤ S15360x128.size a := fun v670 k0_hw29 => k0_hw29.2

def k0_off63 (i : grid0.Coords) : Fin 1 → Nat :=
  let arg1 : BitVec 32 := BitVec.ofNat 32 (i 1).val
  let c128_i32_269 : BitVec 32 := 128#32
  let v684 : BitVec 32 := Scalar.muli arg1 c128_i32_269
  let c23_i32 : BitVec 32 := 23#32
  let v685 : BitVec 32 := Scalar.addi v684 c23_i32
  let v686 : Index := Scalar.indexCast v685
  ![v686.toNat]
def k0_mult30 (v687 : BitVec 32) : BitVec 32 :=
  let c8_i32_270 : BitVec 32 := 8#32
  let v688 : BitVec 32 := Scalar.muli v687 c8_i32_270
  v688

def k0_off64 (v687 : BitVec 32) : Fin 2 → Nat :=
  let c8_i32_270 : BitVec 32 := 8#32
  let v688 : BitVec 32 := Scalar.muli v687 c8_i32_270
  let v689 : BitVec 32 := v688
  let v690 : Index := Scalar.indexCast v689
  let c0_271 : Index := 0#32
  ![v690.toNat, 0]

def k0_chk30 (v687 : BitVec 32) : Prop :=
  (8 ∣ (k0_mult30 v687).toNat) ∧
  (∀ a, (k0_off64 v687) a + S8x128.size a ≤ S15360x128.size a)
theorem k0_mult30_dvd : ∀ (v687 : BitVec 32) (k0_hw30 : k0_chk30 v687), 8 ∣ (k0_mult30 v687).toNat := fun v687 k0_hw30 => k0_hw30.1
theorem k0_off64_inb : ∀ (v687 : BitVec 32) (k0_hw30 : k0_chk30 v687), ∀ a, (k0_off64 v687) a + S8x128.size a ≤ S15360x128.size a := fun v687 k0_hw30 => k0_hw30.2

def k0_off65 (i : grid0.Coords) : Fin 1 → Nat :=
  let arg1 : BitVec 32 := BitVec.ofNat 32 (i 1).val
  let c128_i32_276 : BitVec 32 := 128#32
  let v701 : BitVec 32 := Scalar.muli arg1 c128_i32_276
  let c27_i32 : BitVec 32 := 27#32
  let v702 : BitVec 32 := Scalar.addi v701 c27_i32
  let v703 : Index := Scalar.indexCast v702
  ![v703.toNat]
def k0_mult31 (v704 : BitVec 32) : BitVec 32 :=
  let c8_i32_277 : BitVec 32 := 8#32
  let v705 : BitVec 32 := Scalar.muli v704 c8_i32_277
  v705

def k0_off66 (v704 : BitVec 32) : Fin 2 → Nat :=
  let c8_i32_277 : BitVec 32 := 8#32
  let v705 : BitVec 32 := Scalar.muli v704 c8_i32_277
  let v706 : BitVec 32 := v705
  let v707 : Index := Scalar.indexCast v706
  let c0_278 : Index := 0#32
  ![v707.toNat, 0]

def k0_chk31 (v704 : BitVec 32) : Prop :=
  (8 ∣ (k0_mult31 v704).toNat) ∧
  (∀ a, (k0_off66 v704) a + S8x128.size a ≤ S15360x128.size a)
theorem k0_mult31_dvd : ∀ (v704 : BitVec 32) (k0_hw31 : k0_chk31 v704), 8 ∣ (k0_mult31 v704).toNat := fun v704 k0_hw31 => k0_hw31.1
theorem k0_off66_inb : ∀ (v704 : BitVec 32) (k0_hw31 : k0_chk31 v704), ∀ a, (k0_off66 v704) a + S8x128.size a ≤ S15360x128.size a := fun v704 k0_hw31 => k0_hw31.2

def k0_off67 (i : grid0.Coords) : Fin 1 → Nat :=
  let arg1 : BitVec 32 := BitVec.ofNat 32 (i 1).val
  let c128_i32_283 : BitVec 32 := 128#32
  let v718 : BitVec 32 := Scalar.muli arg1 c128_i32_283
  let c31_i32 : BitVec 32 := 31#32
  let v719 : BitVec 32 := Scalar.addi v718 c31_i32
  let v720 : Index := Scalar.indexCast v719
  ![v720.toNat]
def k0_mult32 (v721 : BitVec 32) : BitVec 32 :=
  let c8_i32_284 : BitVec 32 := 8#32
  let v722 : BitVec 32 := Scalar.muli v721 c8_i32_284
  v722

def k0_off68 (v721 : BitVec 32) : Fin 2 → Nat :=
  let c8_i32_284 : BitVec 32 := 8#32
  let v722 : BitVec 32 := Scalar.muli v721 c8_i32_284
  let v723 : BitVec 32 := v722
  let v724 : Index := Scalar.indexCast v723
  let c0_285 : Index := 0#32
  ![v724.toNat, 0]

def k0_chk32 (v721 : BitVec 32) : Prop :=
  (8 ∣ (k0_mult32 v721).toNat) ∧
  (∀ a, (k0_off68 v721) a + S8x128.size a ≤ S15360x128.size a)
theorem k0_mult32_dvd : ∀ (v721 : BitVec 32) (k0_hw32 : k0_chk32 v721), 8 ∣ (k0_mult32 v721).toNat := fun v721 k0_hw32 => k0_hw32.1
theorem k0_off68_inb : ∀ (v721 : BitVec 32) (k0_hw32 : k0_chk32 v721), ∀ a, (k0_off68 v721) a + S8x128.size a ≤ S15360x128.size a := fun v721 k0_hw32 => k0_hw32.2

def k0_off69 (i : grid0.Coords) : Fin 1 → Nat :=
  let arg1 : BitVec 32 := BitVec.ofNat 32 (i 1).val
  let c128_i32_338 : BitVec 32 := 128#32
  let v860 : BitVec 32 := Scalar.muli arg1 c128_i32_338
  let c32_i32 : BitVec 32 := 32#32
  let v861 : BitVec 32 := Scalar.addi v860 c32_i32
  let v862 : Index := Scalar.indexCast v861
  ![v862.toNat]
def k0_mult33 (v863 : BitVec 32) : BitVec 32 :=
  let c8_i32_339 : BitVec 32 := 8#32
  let v864 : BitVec 32 := Scalar.muli v863 c8_i32_339
  v864

def k0_off70 (v863 : BitVec 32) : Fin 2 → Nat :=
  let c8_i32_339 : BitVec 32 := 8#32
  let v864 : BitVec 32 := Scalar.muli v863 c8_i32_339
  let v865 : BitVec 32 := v864
  let v866 : Index := Scalar.indexCast v865
  let c0_340 : Index := 0#32
  ![v866.toNat, 0]

def k0_chk33 (v863 : BitVec 32) : Prop :=
  (8 ∣ (k0_mult33 v863).toNat) ∧
  (∀ a, (k0_off70 v863) a + S8x128.size a ≤ S15360x128.size a)
theorem k0_mult33_dvd : ∀ (v863 : BitVec 32) (k0_hw33 : k0_chk33 v863), 8 ∣ (k0_mult33 v863).toNat := fun v863 k0_hw33 => k0_hw33.1
theorem k0_off70_inb : ∀ (v863 : BitVec 32) (k0_hw33 : k0_chk33 v863), ∀ a, (k0_off70 v863) a + S8x128.size a ≤ S15360x128.size a := fun v863 k0_hw33 => k0_hw33.2

def k0_off71 (i : grid0.Coords) : Fin 1 → Nat :=
  let arg1 : BitVec 32 := BitVec.ofNat 32 (i 1).val
  let c128_i32_345 : BitVec 32 := 128#32
  let v877 : BitVec 32 := Scalar.muli arg1 c128_i32_345
  let c36_i32 : BitVec 32 := 36#32
  let v878 : BitVec 32 := Scalar.addi v877 c36_i32
  let v879 : Index := Scalar.indexCast v878
  ![v879.toNat]
def k0_mult34 (v880 : BitVec 32) : BitVec 32 :=
  let c8_i32_346 : BitVec 32 := 8#32
  let v881 : BitVec 32 := Scalar.muli v880 c8_i32_346
  v881

def k0_off72 (v880 : BitVec 32) : Fin 2 → Nat :=
  let c8_i32_346 : BitVec 32 := 8#32
  let v881 : BitVec 32 := Scalar.muli v880 c8_i32_346
  let v882 : BitVec 32 := v881
  let v883 : Index := Scalar.indexCast v882
  let c0_347 : Index := 0#32
  ![v883.toNat, 0]

def k0_chk34 (v880 : BitVec 32) : Prop :=
  (8 ∣ (k0_mult34 v880).toNat) ∧
  (∀ a, (k0_off72 v880) a + S8x128.size a ≤ S15360x128.size a)
theorem k0_mult34_dvd : ∀ (v880 : BitVec 32) (k0_hw34 : k0_chk34 v880), 8 ∣ (k0_mult34 v880).toNat := fun v880 k0_hw34 => k0_hw34.1
theorem k0_off72_inb : ∀ (v880 : BitVec 32) (k0_hw34 : k0_chk34 v880), ∀ a, (k0_off72 v880) a + S8x128.size a ≤ S15360x128.size a := fun v880 k0_hw34 => k0_hw34.2

def k0_off73 (i : grid0.Coords) : Fin 1 → Nat :=
  let arg1 : BitVec 32 := BitVec.ofNat 32 (i 1).val
  let c128_i32_352 : BitVec 32 := 128#32
  let v894 : BitVec 32 := Scalar.muli arg1 c128_i32_352
  let c40_i32 : BitVec 32 := 40#32
  let v895 : BitVec 32 := Scalar.addi v894 c40_i32
  let v896 : Index := Scalar.indexCast v895
  ![v896.toNat]
def k0_mult35 (v897 : BitVec 32) : BitVec 32 :=
  let c8_i32_353 : BitVec 32 := 8#32
  let v898 : BitVec 32 := Scalar.muli v897 c8_i32_353
  v898

def k0_off74 (v897 : BitVec 32) : Fin 2 → Nat :=
  let c8_i32_353 : BitVec 32 := 8#32
  let v898 : BitVec 32 := Scalar.muli v897 c8_i32_353
  let v899 : BitVec 32 := v898
  let v900 : Index := Scalar.indexCast v899
  let c0_354 : Index := 0#32
  ![v900.toNat, 0]

def k0_chk35 (v897 : BitVec 32) : Prop :=
  (8 ∣ (k0_mult35 v897).toNat) ∧
  (∀ a, (k0_off74 v897) a + S8x128.size a ≤ S15360x128.size a)
theorem k0_mult35_dvd : ∀ (v897 : BitVec 32) (k0_hw35 : k0_chk35 v897), 8 ∣ (k0_mult35 v897).toNat := fun v897 k0_hw35 => k0_hw35.1
theorem k0_off74_inb : ∀ (v897 : BitVec 32) (k0_hw35 : k0_chk35 v897), ∀ a, (k0_off74 v897) a + S8x128.size a ≤ S15360x128.size a := fun v897 k0_hw35 => k0_hw35.2

def k0_off75 (i : grid0.Coords) : Fin 1 → Nat :=
  let arg1 : BitVec 32 := BitVec.ofNat 32 (i 1).val
  let c128_i32_359 : BitVec 32 := 128#32
  let v911 : BitVec 32 := Scalar.muli arg1 c128_i32_359
  let c44_i32 : BitVec 32 := 44#32
  let v912 : BitVec 32 := Scalar.addi v911 c44_i32
  let v913 : Index := Scalar.indexCast v912
  ![v913.toNat]
def k0_mult36 (v914 : BitVec 32) : BitVec 32 :=
  let c8_i32_360 : BitVec 32 := 8#32
  let v915 : BitVec 32 := Scalar.muli v914 c8_i32_360
  v915

def k0_off76 (v914 : BitVec 32) : Fin 2 → Nat :=
  let c8_i32_360 : BitVec 32 := 8#32
  let v915 : BitVec 32 := Scalar.muli v914 c8_i32_360
  let v916 : BitVec 32 := v915
  let v917 : Index := Scalar.indexCast v916
  let c0_361 : Index := 0#32
  ![v917.toNat, 0]

def k0_chk36 (v914 : BitVec 32) : Prop :=
  (8 ∣ (k0_mult36 v914).toNat) ∧
  (∀ a, (k0_off76 v914) a + S8x128.size a ≤ S15360x128.size a)
theorem k0_mult36_dvd : ∀ (v914 : BitVec 32) (k0_hw36 : k0_chk36 v914), 8 ∣ (k0_mult36 v914).toNat := fun v914 k0_hw36 => k0_hw36.1
theorem k0_off76_inb : ∀ (v914 : BitVec 32) (k0_hw36 : k0_chk36 v914), ∀ a, (k0_off76 v914) a + S8x128.size a ≤ S15360x128.size a := fun v914 k0_hw36 => k0_hw36.2

def k0_off77 (i : grid0.Coords) : Fin 1 → Nat :=
  let arg1 : BitVec 32 := BitVec.ofNat 32 (i 1).val
  let c128_i32_366 : BitVec 32 := 128#32
  let v928 : BitVec 32 := Scalar.muli arg1 c128_i32_366
  let c48_i32 : BitVec 32 := 48#32
  let v929 : BitVec 32 := Scalar.addi v928 c48_i32
  let v930 : Index := Scalar.indexCast v929
  ![v930.toNat]
def k0_mult37 (v931 : BitVec 32) : BitVec 32 :=
  let c8_i32_367 : BitVec 32 := 8#32
  let v932 : BitVec 32 := Scalar.muli v931 c8_i32_367
  v932

def k0_off78 (v931 : BitVec 32) : Fin 2 → Nat :=
  let c8_i32_367 : BitVec 32 := 8#32
  let v932 : BitVec 32 := Scalar.muli v931 c8_i32_367
  let v933 : BitVec 32 := v932
  let v934 : Index := Scalar.indexCast v933
  let c0_368 : Index := 0#32
  ![v934.toNat, 0]

def k0_chk37 (v931 : BitVec 32) : Prop :=
  (8 ∣ (k0_mult37 v931).toNat) ∧
  (∀ a, (k0_off78 v931) a + S8x128.size a ≤ S15360x128.size a)
theorem k0_mult37_dvd : ∀ (v931 : BitVec 32) (k0_hw37 : k0_chk37 v931), 8 ∣ (k0_mult37 v931).toNat := fun v931 k0_hw37 => k0_hw37.1
theorem k0_off78_inb : ∀ (v931 : BitVec 32) (k0_hw37 : k0_chk37 v931), ∀ a, (k0_off78 v931) a + S8x128.size a ≤ S15360x128.size a := fun v931 k0_hw37 => k0_hw37.2

def k0_off79 (i : grid0.Coords) : Fin 1 → Nat :=
  let arg1 : BitVec 32 := BitVec.ofNat 32 (i 1).val
  let c128_i32_373 : BitVec 32 := 128#32
  let v945 : BitVec 32 := Scalar.muli arg1 c128_i32_373
  let c52_i32 : BitVec 32 := 52#32
  let v946 : BitVec 32 := Scalar.addi v945 c52_i32
  let v947 : Index := Scalar.indexCast v946
  ![v947.toNat]
def k0_mult38 (v948 : BitVec 32) : BitVec 32 :=
  let c8_i32_374 : BitVec 32 := 8#32
  let v949 : BitVec 32 := Scalar.muli v948 c8_i32_374
  v949

def k0_off80 (v948 : BitVec 32) : Fin 2 → Nat :=
  let c8_i32_374 : BitVec 32 := 8#32
  let v949 : BitVec 32 := Scalar.muli v948 c8_i32_374
  let v950 : BitVec 32 := v949
  let v951 : Index := Scalar.indexCast v950
  let c0_375 : Index := 0#32
  ![v951.toNat, 0]

def k0_chk38 (v948 : BitVec 32) : Prop :=
  (8 ∣ (k0_mult38 v948).toNat) ∧
  (∀ a, (k0_off80 v948) a + S8x128.size a ≤ S15360x128.size a)
theorem k0_mult38_dvd : ∀ (v948 : BitVec 32) (k0_hw38 : k0_chk38 v948), 8 ∣ (k0_mult38 v948).toNat := fun v948 k0_hw38 => k0_hw38.1
theorem k0_off80_inb : ∀ (v948 : BitVec 32) (k0_hw38 : k0_chk38 v948), ∀ a, (k0_off80 v948) a + S8x128.size a ≤ S15360x128.size a := fun v948 k0_hw38 => k0_hw38.2

def k0_off81 (i : grid0.Coords) : Fin 1 → Nat :=
  let arg1 : BitVec 32 := BitVec.ofNat 32 (i 1).val
  let c128_i32_380 : BitVec 32 := 128#32
  let v962 : BitVec 32 := Scalar.muli arg1 c128_i32_380
  let c56_i32 : BitVec 32 := 56#32
  let v963 : BitVec 32 := Scalar.addi v962 c56_i32
  let v964 : Index := Scalar.indexCast v963
  ![v964.toNat]
def k0_mult39 (v965 : BitVec 32) : BitVec 32 :=
  let c8_i32_381 : BitVec 32 := 8#32
  let v966 : BitVec 32 := Scalar.muli v965 c8_i32_381
  v966

def k0_off82 (v965 : BitVec 32) : Fin 2 → Nat :=
  let c8_i32_381 : BitVec 32 := 8#32
  let v966 : BitVec 32 := Scalar.muli v965 c8_i32_381
  let v967 : BitVec 32 := v966
  let v968 : Index := Scalar.indexCast v967
  let c0_382 : Index := 0#32
  ![v968.toNat, 0]

def k0_chk39 (v965 : BitVec 32) : Prop :=
  (8 ∣ (k0_mult39 v965).toNat) ∧
  (∀ a, (k0_off82 v965) a + S8x128.size a ≤ S15360x128.size a)
theorem k0_mult39_dvd : ∀ (v965 : BitVec 32) (k0_hw39 : k0_chk39 v965), 8 ∣ (k0_mult39 v965).toNat := fun v965 k0_hw39 => k0_hw39.1
theorem k0_off82_inb : ∀ (v965 : BitVec 32) (k0_hw39 : k0_chk39 v965), ∀ a, (k0_off82 v965) a + S8x128.size a ≤ S15360x128.size a := fun v965 k0_hw39 => k0_hw39.2

def k0_off83 (i : grid0.Coords) : Fin 1 → Nat :=
  let arg1 : BitVec 32 := BitVec.ofNat 32 (i 1).val
  let c128_i32_387 : BitVec 32 := 128#32
  let v979 : BitVec 32 := Scalar.muli arg1 c128_i32_387
  let c60_i32 : BitVec 32 := 60#32
  let v980 : BitVec 32 := Scalar.addi v979 c60_i32
  let v981 : Index := Scalar.indexCast v980
  ![v981.toNat]
def k0_mult40 (v982 : BitVec 32) : BitVec 32 :=
  let c8_i32_388 : BitVec 32 := 8#32
  let v983 : BitVec 32 := Scalar.muli v982 c8_i32_388
  v983

def k0_off84 (v982 : BitVec 32) : Fin 2 → Nat :=
  let c8_i32_388 : BitVec 32 := 8#32
  let v983 : BitVec 32 := Scalar.muli v982 c8_i32_388
  let v984 : BitVec 32 := v983
  let v985 : Index := Scalar.indexCast v984
  let c0_389 : Index := 0#32
  ![v985.toNat, 0]

def k0_chk40 (v982 : BitVec 32) : Prop :=
  (8 ∣ (k0_mult40 v982).toNat) ∧
  (∀ a, (k0_off84 v982) a + S8x128.size a ≤ S15360x128.size a)
theorem k0_mult40_dvd : ∀ (v982 : BitVec 32) (k0_hw40 : k0_chk40 v982), 8 ∣ (k0_mult40 v982).toNat := fun v982 k0_hw40 => k0_hw40.1
theorem k0_off84_inb : ∀ (v982 : BitVec 32) (k0_hw40 : k0_chk40 v982), ∀ a, (k0_off84 v982) a + S8x128.size a ≤ S15360x128.size a := fun v982 k0_hw40 => k0_hw40.2

def k0_off85 (i : grid0.Coords) : Fin 1 → Nat :=
  let arg1 : BitVec 32 := BitVec.ofNat 32 (i 1).val
  let c128_i32_406 : BitVec 32 := 128#32
  let v1037 : BitVec 32 := Scalar.muli arg1 c128_i32_406
  let c33_i32 : BitVec 32 := 33#32
  let v1038 : BitVec 32 := Scalar.addi v1037 c33_i32
  let v1039 : Index := Scalar.indexCast v1038
  ![v1039.toNat]
def k0_mult41 (v1040 : BitVec 32) : BitVec 32 :=
  let c8_i32_407 : BitVec 32 := 8#32
  let v1041 : BitVec 32 := Scalar.muli v1040 c8_i32_407
  v1041

def k0_off86 (v1040 : BitVec 32) : Fin 2 → Nat :=
  let c8_i32_407 : BitVec 32 := 8#32
  let v1041 : BitVec 32 := Scalar.muli v1040 c8_i32_407
  let v1042 : BitVec 32 := v1041
  let v1043 : Index := Scalar.indexCast v1042
  let c0_408 : Index := 0#32
  ![v1043.toNat, 0]

def k0_chk41 (v1040 : BitVec 32) : Prop :=
  (8 ∣ (k0_mult41 v1040).toNat) ∧
  (∀ a, (k0_off86 v1040) a + S8x128.size a ≤ S15360x128.size a)
theorem k0_mult41_dvd : ∀ (v1040 : BitVec 32) (k0_hw41 : k0_chk41 v1040), 8 ∣ (k0_mult41 v1040).toNat := fun v1040 k0_hw41 => k0_hw41.1
theorem k0_off86_inb : ∀ (v1040 : BitVec 32) (k0_hw41 : k0_chk41 v1040), ∀ a, (k0_off86 v1040) a + S8x128.size a ≤ S15360x128.size a := fun v1040 k0_hw41 => k0_hw41.2

def k0_off87 (i : grid0.Coords) : Fin 1 → Nat :=
  let arg1 : BitVec 32 := BitVec.ofNat 32 (i 1).val
  let c128_i32_413 : BitVec 32 := 128#32
  let v1054 : BitVec 32 := Scalar.muli arg1 c128_i32_413
  let c37_i32 : BitVec 32 := 37#32
  let v1055 : BitVec 32 := Scalar.addi v1054 c37_i32
  let v1056 : Index := Scalar.indexCast v1055
  ![v1056.toNat]
def k0_mult42 (v1057 : BitVec 32) : BitVec 32 :=
  let c8_i32_414 : BitVec 32 := 8#32
  let v1058 : BitVec 32 := Scalar.muli v1057 c8_i32_414
  v1058

def k0_off88 (v1057 : BitVec 32) : Fin 2 → Nat :=
  let c8_i32_414 : BitVec 32 := 8#32
  let v1058 : BitVec 32 := Scalar.muli v1057 c8_i32_414
  let v1059 : BitVec 32 := v1058
  let v1060 : Index := Scalar.indexCast v1059
  let c0_415 : Index := 0#32
  ![v1060.toNat, 0]

def k0_chk42 (v1057 : BitVec 32) : Prop :=
  (8 ∣ (k0_mult42 v1057).toNat) ∧
  (∀ a, (k0_off88 v1057) a + S8x128.size a ≤ S15360x128.size a)
theorem k0_mult42_dvd : ∀ (v1057 : BitVec 32) (k0_hw42 : k0_chk42 v1057), 8 ∣ (k0_mult42 v1057).toNat := fun v1057 k0_hw42 => k0_hw42.1
theorem k0_off88_inb : ∀ (v1057 : BitVec 32) (k0_hw42 : k0_chk42 v1057), ∀ a, (k0_off88 v1057) a + S8x128.size a ≤ S15360x128.size a := fun v1057 k0_hw42 => k0_hw42.2

def k0_off89 (i : grid0.Coords) : Fin 1 → Nat :=
  let arg1 : BitVec 32 := BitVec.ofNat 32 (i 1).val
  let c128_i32_420 : BitVec 32 := 128#32
  let v1071 : BitVec 32 := Scalar.muli arg1 c128_i32_420
  let c41_i32 : BitVec 32 := 41#32
  let v1072 : BitVec 32 := Scalar.addi v1071 c41_i32
  let v1073 : Index := Scalar.indexCast v1072
  ![v1073.toNat]
def k0_mult43 (v1074 : BitVec 32) : BitVec 32 :=
  let c8_i32_421 : BitVec 32 := 8#32
  let v1075 : BitVec 32 := Scalar.muli v1074 c8_i32_421
  v1075

def k0_off90 (v1074 : BitVec 32) : Fin 2 → Nat :=
  let c8_i32_421 : BitVec 32 := 8#32
  let v1075 : BitVec 32 := Scalar.muli v1074 c8_i32_421
  let v1076 : BitVec 32 := v1075
  let v1077 : Index := Scalar.indexCast v1076
  let c0_422 : Index := 0#32
  ![v1077.toNat, 0]

def k0_chk43 (v1074 : BitVec 32) : Prop :=
  (8 ∣ (k0_mult43 v1074).toNat) ∧
  (∀ a, (k0_off90 v1074) a + S8x128.size a ≤ S15360x128.size a)
theorem k0_mult43_dvd : ∀ (v1074 : BitVec 32) (k0_hw43 : k0_chk43 v1074), 8 ∣ (k0_mult43 v1074).toNat := fun v1074 k0_hw43 => k0_hw43.1
theorem k0_off90_inb : ∀ (v1074 : BitVec 32) (k0_hw43 : k0_chk43 v1074), ∀ a, (k0_off90 v1074) a + S8x128.size a ≤ S15360x128.size a := fun v1074 k0_hw43 => k0_hw43.2

def k0_off91 (i : grid0.Coords) : Fin 1 → Nat :=
  let arg1 : BitVec 32 := BitVec.ofNat 32 (i 1).val
  let c128_i32_427 : BitVec 32 := 128#32
  let v1088 : BitVec 32 := Scalar.muli arg1 c128_i32_427
  let c45_i32 : BitVec 32 := 45#32
  let v1089 : BitVec 32 := Scalar.addi v1088 c45_i32
  let v1090 : Index := Scalar.indexCast v1089
  ![v1090.toNat]
def k0_mult44 (v1091 : BitVec 32) : BitVec 32 :=
  let c8_i32_428 : BitVec 32 := 8#32
  let v1092 : BitVec 32 := Scalar.muli v1091 c8_i32_428
  v1092

def k0_off92 (v1091 : BitVec 32) : Fin 2 → Nat :=
  let c8_i32_428 : BitVec 32 := 8#32
  let v1092 : BitVec 32 := Scalar.muli v1091 c8_i32_428
  let v1093 : BitVec 32 := v1092
  let v1094 : Index := Scalar.indexCast v1093
  let c0_429 : Index := 0#32
  ![v1094.toNat, 0]

def k0_chk44 (v1091 : BitVec 32) : Prop :=
  (8 ∣ (k0_mult44 v1091).toNat) ∧
  (∀ a, (k0_off92 v1091) a + S8x128.size a ≤ S15360x128.size a)
theorem k0_mult44_dvd : ∀ (v1091 : BitVec 32) (k0_hw44 : k0_chk44 v1091), 8 ∣ (k0_mult44 v1091).toNat := fun v1091 k0_hw44 => k0_hw44.1
theorem k0_off92_inb : ∀ (v1091 : BitVec 32) (k0_hw44 : k0_chk44 v1091), ∀ a, (k0_off92 v1091) a + S8x128.size a ≤ S15360x128.size a := fun v1091 k0_hw44 => k0_hw44.2

def k0_off93 (i : grid0.Coords) : Fin 1 → Nat :=
  let arg1 : BitVec 32 := BitVec.ofNat 32 (i 1).val
  let c128_i32_434 : BitVec 32 := 128#32
  let v1105 : BitVec 32 := Scalar.muli arg1 c128_i32_434
  let c49_i32 : BitVec 32 := 49#32
  let v1106 : BitVec 32 := Scalar.addi v1105 c49_i32
  let v1107 : Index := Scalar.indexCast v1106
  ![v1107.toNat]
def k0_mult45 (v1108 : BitVec 32) : BitVec 32 :=
  let c8_i32_435 : BitVec 32 := 8#32
  let v1109 : BitVec 32 := Scalar.muli v1108 c8_i32_435
  v1109

def k0_off94 (v1108 : BitVec 32) : Fin 2 → Nat :=
  let c8_i32_435 : BitVec 32 := 8#32
  let v1109 : BitVec 32 := Scalar.muli v1108 c8_i32_435
  let v1110 : BitVec 32 := v1109
  let v1111 : Index := Scalar.indexCast v1110
  let c0_436 : Index := 0#32
  ![v1111.toNat, 0]

def k0_chk45 (v1108 : BitVec 32) : Prop :=
  (8 ∣ (k0_mult45 v1108).toNat) ∧
  (∀ a, (k0_off94 v1108) a + S8x128.size a ≤ S15360x128.size a)
theorem k0_mult45_dvd : ∀ (v1108 : BitVec 32) (k0_hw45 : k0_chk45 v1108), 8 ∣ (k0_mult45 v1108).toNat := fun v1108 k0_hw45 => k0_hw45.1
theorem k0_off94_inb : ∀ (v1108 : BitVec 32) (k0_hw45 : k0_chk45 v1108), ∀ a, (k0_off94 v1108) a + S8x128.size a ≤ S15360x128.size a := fun v1108 k0_hw45 => k0_hw45.2

def k0_off95 (i : grid0.Coords) : Fin 1 → Nat :=
  let arg1 : BitVec 32 := BitVec.ofNat 32 (i 1).val
  let c128_i32_441 : BitVec 32 := 128#32
  let v1122 : BitVec 32 := Scalar.muli arg1 c128_i32_441
  let c53_i32 : BitVec 32 := 53#32
  let v1123 : BitVec 32 := Scalar.addi v1122 c53_i32
  let v1124 : Index := Scalar.indexCast v1123
  ![v1124.toNat]
def k0_mult46 (v1125 : BitVec 32) : BitVec 32 :=
  let c8_i32_442 : BitVec 32 := 8#32
  let v1126 : BitVec 32 := Scalar.muli v1125 c8_i32_442
  v1126

def k0_off96 (v1125 : BitVec 32) : Fin 2 → Nat :=
  let c8_i32_442 : BitVec 32 := 8#32
  let v1126 : BitVec 32 := Scalar.muli v1125 c8_i32_442
  let v1127 : BitVec 32 := v1126
  let v1128 : Index := Scalar.indexCast v1127
  let c0_443 : Index := 0#32
  ![v1128.toNat, 0]

def k0_chk46 (v1125 : BitVec 32) : Prop :=
  (8 ∣ (k0_mult46 v1125).toNat) ∧
  (∀ a, (k0_off96 v1125) a + S8x128.size a ≤ S15360x128.size a)
theorem k0_mult46_dvd : ∀ (v1125 : BitVec 32) (k0_hw46 : k0_chk46 v1125), 8 ∣ (k0_mult46 v1125).toNat := fun v1125 k0_hw46 => k0_hw46.1
theorem k0_off96_inb : ∀ (v1125 : BitVec 32) (k0_hw46 : k0_chk46 v1125), ∀ a, (k0_off96 v1125) a + S8x128.size a ≤ S15360x128.size a := fun v1125 k0_hw46 => k0_hw46.2

def k0_off97 (i : grid0.Coords) : Fin 1 → Nat :=
  let arg1 : BitVec 32 := BitVec.ofNat 32 (i 1).val
  let c128_i32_448 : BitVec 32 := 128#32
  let v1139 : BitVec 32 := Scalar.muli arg1 c128_i32_448
  let c57_i32 : BitVec 32 := 57#32
  let v1140 : BitVec 32 := Scalar.addi v1139 c57_i32
  let v1141 : Index := Scalar.indexCast v1140
  ![v1141.toNat]
def k0_mult47 (v1142 : BitVec 32) : BitVec 32 :=
  let c8_i32_449 : BitVec 32 := 8#32
  let v1143 : BitVec 32 := Scalar.muli v1142 c8_i32_449
  v1143

def k0_off98 (v1142 : BitVec 32) : Fin 2 → Nat :=
  let c8_i32_449 : BitVec 32 := 8#32
  let v1143 : BitVec 32 := Scalar.muli v1142 c8_i32_449
  let v1144 : BitVec 32 := v1143
  let v1145 : Index := Scalar.indexCast v1144
  let c0_450 : Index := 0#32
  ![v1145.toNat, 0]

def k0_chk47 (v1142 : BitVec 32) : Prop :=
  (8 ∣ (k0_mult47 v1142).toNat) ∧
  (∀ a, (k0_off98 v1142) a + S8x128.size a ≤ S15360x128.size a)
theorem k0_mult47_dvd : ∀ (v1142 : BitVec 32) (k0_hw47 : k0_chk47 v1142), 8 ∣ (k0_mult47 v1142).toNat := fun v1142 k0_hw47 => k0_hw47.1
theorem k0_off98_inb : ∀ (v1142 : BitVec 32) (k0_hw47 : k0_chk47 v1142), ∀ a, (k0_off98 v1142) a + S8x128.size a ≤ S15360x128.size a := fun v1142 k0_hw47 => k0_hw47.2

def k0_off99 (i : grid0.Coords) : Fin 1 → Nat :=
  let arg1 : BitVec 32 := BitVec.ofNat 32 (i 1).val
  let c128_i32_455 : BitVec 32 := 128#32
  let v1156 : BitVec 32 := Scalar.muli arg1 c128_i32_455
  let c61_i32 : BitVec 32 := 61#32
  let v1157 : BitVec 32 := Scalar.addi v1156 c61_i32
  let v1158 : Index := Scalar.indexCast v1157
  ![v1158.toNat]
def k0_mult48 (v1159 : BitVec 32) : BitVec 32 :=
  let c8_i32_456 : BitVec 32 := 8#32
  let v1160 : BitVec 32 := Scalar.muli v1159 c8_i32_456
  v1160

def k0_off100 (v1159 : BitVec 32) : Fin 2 → Nat :=
  let c8_i32_456 : BitVec 32 := 8#32
  let v1160 : BitVec 32 := Scalar.muli v1159 c8_i32_456
  let v1161 : BitVec 32 := v1160
  let v1162 : Index := Scalar.indexCast v1161
  let c0_457 : Index := 0#32
  ![v1162.toNat, 0]

def k0_chk48 (v1159 : BitVec 32) : Prop :=
  (8 ∣ (k0_mult48 v1159).toNat) ∧
  (∀ a, (k0_off100 v1159) a + S8x128.size a ≤ S15360x128.size a)
theorem k0_mult48_dvd : ∀ (v1159 : BitVec 32) (k0_hw48 : k0_chk48 v1159), 8 ∣ (k0_mult48 v1159).toNat := fun v1159 k0_hw48 => k0_hw48.1
theorem k0_off100_inb : ∀ (v1159 : BitVec 32) (k0_hw48 : k0_chk48 v1159), ∀ a, (k0_off100 v1159) a + S8x128.size a ≤ S15360x128.size a := fun v1159 k0_hw48 => k0_hw48.2

def k0_off101 (i : grid0.Coords) : Fin 1 → Nat :=
  let arg1 : BitVec 32 := BitVec.ofNat 32 (i 1).val
  let c128_i32_474 : BitVec 32 := 128#32
  let v1214 : BitVec 32 := Scalar.muli arg1 c128_i32_474
  let c34_i32 : BitVec 32 := 34#32
  let v1215 : BitVec 32 := Scalar.addi v1214 c34_i32
  let v1216 : Index := Scalar.indexCast v1215
  ![v1216.toNat]
def k0_mult49 (v1217 : BitVec 32) : BitVec 32 :=
  let c8_i32_475 : BitVec 32 := 8#32
  let v1218 : BitVec 32 := Scalar.muli v1217 c8_i32_475
  v1218

def k0_off102 (v1217 : BitVec 32) : Fin 2 → Nat :=
  let c8_i32_475 : BitVec 32 := 8#32
  let v1218 : BitVec 32 := Scalar.muli v1217 c8_i32_475
  let v1219 : BitVec 32 := v1218
  let v1220 : Index := Scalar.indexCast v1219
  let c0_476 : Index := 0#32
  ![v1220.toNat, 0]

def k0_chk49 (v1217 : BitVec 32) : Prop :=
  (8 ∣ (k0_mult49 v1217).toNat) ∧
  (∀ a, (k0_off102 v1217) a + S8x128.size a ≤ S15360x128.size a)
theorem k0_mult49_dvd : ∀ (v1217 : BitVec 32) (k0_hw49 : k0_chk49 v1217), 8 ∣ (k0_mult49 v1217).toNat := fun v1217 k0_hw49 => k0_hw49.1
theorem k0_off102_inb : ∀ (v1217 : BitVec 32) (k0_hw49 : k0_chk49 v1217), ∀ a, (k0_off102 v1217) a + S8x128.size a ≤ S15360x128.size a := fun v1217 k0_hw49 => k0_hw49.2

def k0_off103 (i : grid0.Coords) : Fin 1 → Nat :=
  let arg1 : BitVec 32 := BitVec.ofNat 32 (i 1).val
  let c128_i32_481 : BitVec 32 := 128#32
  let v1231 : BitVec 32 := Scalar.muli arg1 c128_i32_481
  let c38_i32 : BitVec 32 := 38#32
  let v1232 : BitVec 32 := Scalar.addi v1231 c38_i32
  let v1233 : Index := Scalar.indexCast v1232
  ![v1233.toNat]
def k0_mult50 (v1234 : BitVec 32) : BitVec 32 :=
  let c8_i32_482 : BitVec 32 := 8#32
  let v1235 : BitVec 32 := Scalar.muli v1234 c8_i32_482
  v1235

def k0_off104 (v1234 : BitVec 32) : Fin 2 → Nat :=
  let c8_i32_482 : BitVec 32 := 8#32
  let v1235 : BitVec 32 := Scalar.muli v1234 c8_i32_482
  let v1236 : BitVec 32 := v1235
  let v1237 : Index := Scalar.indexCast v1236
  let c0_483 : Index := 0#32
  ![v1237.toNat, 0]

def k0_chk50 (v1234 : BitVec 32) : Prop :=
  (8 ∣ (k0_mult50 v1234).toNat) ∧
  (∀ a, (k0_off104 v1234) a + S8x128.size a ≤ S15360x128.size a)
theorem k0_mult50_dvd : ∀ (v1234 : BitVec 32) (k0_hw50 : k0_chk50 v1234), 8 ∣ (k0_mult50 v1234).toNat := fun v1234 k0_hw50 => k0_hw50.1
theorem k0_off104_inb : ∀ (v1234 : BitVec 32) (k0_hw50 : k0_chk50 v1234), ∀ a, (k0_off104 v1234) a + S8x128.size a ≤ S15360x128.size a := fun v1234 k0_hw50 => k0_hw50.2

def k0_off105 (i : grid0.Coords) : Fin 1 → Nat :=
  let arg1 : BitVec 32 := BitVec.ofNat 32 (i 1).val
  let c128_i32_488 : BitVec 32 := 128#32
  let v1248 : BitVec 32 := Scalar.muli arg1 c128_i32_488
  let c42_i32 : BitVec 32 := 42#32
  let v1249 : BitVec 32 := Scalar.addi v1248 c42_i32
  let v1250 : Index := Scalar.indexCast v1249
  ![v1250.toNat]
def k0_mult51 (v1251 : BitVec 32) : BitVec 32 :=
  let c8_i32_489 : BitVec 32 := 8#32
  let v1252 : BitVec 32 := Scalar.muli v1251 c8_i32_489
  v1252

def k0_off106 (v1251 : BitVec 32) : Fin 2 → Nat :=
  let c8_i32_489 : BitVec 32 := 8#32
  let v1252 : BitVec 32 := Scalar.muli v1251 c8_i32_489
  let v1253 : BitVec 32 := v1252
  let v1254 : Index := Scalar.indexCast v1253
  let c0_490 : Index := 0#32
  ![v1254.toNat, 0]

def k0_chk51 (v1251 : BitVec 32) : Prop :=
  (8 ∣ (k0_mult51 v1251).toNat) ∧
  (∀ a, (k0_off106 v1251) a + S8x128.size a ≤ S15360x128.size a)
theorem k0_mult51_dvd : ∀ (v1251 : BitVec 32) (k0_hw51 : k0_chk51 v1251), 8 ∣ (k0_mult51 v1251).toNat := fun v1251 k0_hw51 => k0_hw51.1
theorem k0_off106_inb : ∀ (v1251 : BitVec 32) (k0_hw51 : k0_chk51 v1251), ∀ a, (k0_off106 v1251) a + S8x128.size a ≤ S15360x128.size a := fun v1251 k0_hw51 => k0_hw51.2

def k0_off107 (i : grid0.Coords) : Fin 1 → Nat :=
  let arg1 : BitVec 32 := BitVec.ofNat 32 (i 1).val
  let c128_i32_495 : BitVec 32 := 128#32
  let v1265 : BitVec 32 := Scalar.muli arg1 c128_i32_495
  let c46_i32 : BitVec 32 := 46#32
  let v1266 : BitVec 32 := Scalar.addi v1265 c46_i32
  let v1267 : Index := Scalar.indexCast v1266
  ![v1267.toNat]
def k0_mult52 (v1268 : BitVec 32) : BitVec 32 :=
  let c8_i32_496 : BitVec 32 := 8#32
  let v1269 : BitVec 32 := Scalar.muli v1268 c8_i32_496
  v1269

def k0_off108 (v1268 : BitVec 32) : Fin 2 → Nat :=
  let c8_i32_496 : BitVec 32 := 8#32
  let v1269 : BitVec 32 := Scalar.muli v1268 c8_i32_496
  let v1270 : BitVec 32 := v1269
  let v1271 : Index := Scalar.indexCast v1270
  let c0_497 : Index := 0#32
  ![v1271.toNat, 0]

def k0_chk52 (v1268 : BitVec 32) : Prop :=
  (8 ∣ (k0_mult52 v1268).toNat) ∧
  (∀ a, (k0_off108 v1268) a + S8x128.size a ≤ S15360x128.size a)
theorem k0_mult52_dvd : ∀ (v1268 : BitVec 32) (k0_hw52 : k0_chk52 v1268), 8 ∣ (k0_mult52 v1268).toNat := fun v1268 k0_hw52 => k0_hw52.1
theorem k0_off108_inb : ∀ (v1268 : BitVec 32) (k0_hw52 : k0_chk52 v1268), ∀ a, (k0_off108 v1268) a + S8x128.size a ≤ S15360x128.size a := fun v1268 k0_hw52 => k0_hw52.2

def k0_off109 (i : grid0.Coords) : Fin 1 → Nat :=
  let arg1 : BitVec 32 := BitVec.ofNat 32 (i 1).val
  let c128_i32_502 : BitVec 32 := 128#32
  let v1282 : BitVec 32 := Scalar.muli arg1 c128_i32_502
  let c50_i32 : BitVec 32 := 50#32
  let v1283 : BitVec 32 := Scalar.addi v1282 c50_i32
  let v1284 : Index := Scalar.indexCast v1283
  ![v1284.toNat]
def k0_mult53 (v1285 : BitVec 32) : BitVec 32 :=
  let c8_i32_503 : BitVec 32 := 8#32
  let v1286 : BitVec 32 := Scalar.muli v1285 c8_i32_503
  v1286

def k0_off110 (v1285 : BitVec 32) : Fin 2 → Nat :=
  let c8_i32_503 : BitVec 32 := 8#32
  let v1286 : BitVec 32 := Scalar.muli v1285 c8_i32_503
  let v1287 : BitVec 32 := v1286
  let v1288 : Index := Scalar.indexCast v1287
  let c0_504 : Index := 0#32
  ![v1288.toNat, 0]

def k0_chk53 (v1285 : BitVec 32) : Prop :=
  (8 ∣ (k0_mult53 v1285).toNat) ∧
  (∀ a, (k0_off110 v1285) a + S8x128.size a ≤ S15360x128.size a)
theorem k0_mult53_dvd : ∀ (v1285 : BitVec 32) (k0_hw53 : k0_chk53 v1285), 8 ∣ (k0_mult53 v1285).toNat := fun v1285 k0_hw53 => k0_hw53.1
theorem k0_off110_inb : ∀ (v1285 : BitVec 32) (k0_hw53 : k0_chk53 v1285), ∀ a, (k0_off110 v1285) a + S8x128.size a ≤ S15360x128.size a := fun v1285 k0_hw53 => k0_hw53.2

def k0_off111 (i : grid0.Coords) : Fin 1 → Nat :=
  let arg1 : BitVec 32 := BitVec.ofNat 32 (i 1).val
  let c128_i32_509 : BitVec 32 := 128#32
  let v1299 : BitVec 32 := Scalar.muli arg1 c128_i32_509
  let c54_i32 : BitVec 32 := 54#32
  let v1300 : BitVec 32 := Scalar.addi v1299 c54_i32
  let v1301 : Index := Scalar.indexCast v1300
  ![v1301.toNat]
def k0_mult54 (v1302 : BitVec 32) : BitVec 32 :=
  let c8_i32_510 : BitVec 32 := 8#32
  let v1303 : BitVec 32 := Scalar.muli v1302 c8_i32_510
  v1303

def k0_off112 (v1302 : BitVec 32) : Fin 2 → Nat :=
  let c8_i32_510 : BitVec 32 := 8#32
  let v1303 : BitVec 32 := Scalar.muli v1302 c8_i32_510
  let v1304 : BitVec 32 := v1303
  let v1305 : Index := Scalar.indexCast v1304
  let c0_511 : Index := 0#32
  ![v1305.toNat, 0]

def k0_chk54 (v1302 : BitVec 32) : Prop :=
  (8 ∣ (k0_mult54 v1302).toNat) ∧
  (∀ a, (k0_off112 v1302) a + S8x128.size a ≤ S15360x128.size a)
theorem k0_mult54_dvd : ∀ (v1302 : BitVec 32) (k0_hw54 : k0_chk54 v1302), 8 ∣ (k0_mult54 v1302).toNat := fun v1302 k0_hw54 => k0_hw54.1
theorem k0_off112_inb : ∀ (v1302 : BitVec 32) (k0_hw54 : k0_chk54 v1302), ∀ a, (k0_off112 v1302) a + S8x128.size a ≤ S15360x128.size a := fun v1302 k0_hw54 => k0_hw54.2

def k0_off113 (i : grid0.Coords) : Fin 1 → Nat :=
  let arg1 : BitVec 32 := BitVec.ofNat 32 (i 1).val
  let c128_i32_516 : BitVec 32 := 128#32
  let v1316 : BitVec 32 := Scalar.muli arg1 c128_i32_516
  let c58_i32 : BitVec 32 := 58#32
  let v1317 : BitVec 32 := Scalar.addi v1316 c58_i32
  let v1318 : Index := Scalar.indexCast v1317
  ![v1318.toNat]
def k0_mult55 (v1319 : BitVec 32) : BitVec 32 :=
  let c8_i32_517 : BitVec 32 := 8#32
  let v1320 : BitVec 32 := Scalar.muli v1319 c8_i32_517
  v1320

def k0_off114 (v1319 : BitVec 32) : Fin 2 → Nat :=
  let c8_i32_517 : BitVec 32 := 8#32
  let v1320 : BitVec 32 := Scalar.muli v1319 c8_i32_517
  let v1321 : BitVec 32 := v1320
  let v1322 : Index := Scalar.indexCast v1321
  let c0_518 : Index := 0#32
  ![v1322.toNat, 0]

def k0_chk55 (v1319 : BitVec 32) : Prop :=
  (8 ∣ (k0_mult55 v1319).toNat) ∧
  (∀ a, (k0_off114 v1319) a + S8x128.size a ≤ S15360x128.size a)
theorem k0_mult55_dvd : ∀ (v1319 : BitVec 32) (k0_hw55 : k0_chk55 v1319), 8 ∣ (k0_mult55 v1319).toNat := fun v1319 k0_hw55 => k0_hw55.1
theorem k0_off114_inb : ∀ (v1319 : BitVec 32) (k0_hw55 : k0_chk55 v1319), ∀ a, (k0_off114 v1319) a + S8x128.size a ≤ S15360x128.size a := fun v1319 k0_hw55 => k0_hw55.2

def k0_off115 (i : grid0.Coords) : Fin 1 → Nat :=
  let arg1 : BitVec 32 := BitVec.ofNat 32 (i 1).val
  let c128_i32_523 : BitVec 32 := 128#32
  let v1333 : BitVec 32 := Scalar.muli arg1 c128_i32_523
  let c62_i32 : BitVec 32 := 62#32
  let v1334 : BitVec 32 := Scalar.addi v1333 c62_i32
  let v1335 : Index := Scalar.indexCast v1334
  ![v1335.toNat]
def k0_mult56 (v1336 : BitVec 32) : BitVec 32 :=
  let c8_i32_524 : BitVec 32 := 8#32
  let v1337 : BitVec 32 := Scalar.muli v1336 c8_i32_524
  v1337

def k0_off116 (v1336 : BitVec 32) : Fin 2 → Nat :=
  let c8_i32_524 : BitVec 32 := 8#32
  let v1337 : BitVec 32 := Scalar.muli v1336 c8_i32_524
  let v1338 : BitVec 32 := v1337
  let v1339 : Index := Scalar.indexCast v1338
  let c0_525 : Index := 0#32
  ![v1339.toNat, 0]

def k0_chk56 (v1336 : BitVec 32) : Prop :=
  (8 ∣ (k0_mult56 v1336).toNat) ∧
  (∀ a, (k0_off116 v1336) a + S8x128.size a ≤ S15360x128.size a)
theorem k0_mult56_dvd : ∀ (v1336 : BitVec 32) (k0_hw56 : k0_chk56 v1336), 8 ∣ (k0_mult56 v1336).toNat := fun v1336 k0_hw56 => k0_hw56.1
theorem k0_off116_inb : ∀ (v1336 : BitVec 32) (k0_hw56 : k0_chk56 v1336), ∀ a, (k0_off116 v1336) a + S8x128.size a ≤ S15360x128.size a := fun v1336 k0_hw56 => k0_hw56.2

def k0_off117 (i : grid0.Coords) : Fin 1 → Nat :=
  let arg1 : BitVec 32 := BitVec.ofNat 32 (i 1).val
  let c128_i32_542 : BitVec 32 := 128#32
  let v1391 : BitVec 32 := Scalar.muli arg1 c128_i32_542
  let c35_i32 : BitVec 32 := 35#32
  let v1392 : BitVec 32 := Scalar.addi v1391 c35_i32
  let v1393 : Index := Scalar.indexCast v1392
  ![v1393.toNat]
def k0_mult57 (v1394 : BitVec 32) : BitVec 32 :=
  let c8_i32_543 : BitVec 32 := 8#32
  let v1395 : BitVec 32 := Scalar.muli v1394 c8_i32_543
  v1395

def k0_off118 (v1394 : BitVec 32) : Fin 2 → Nat :=
  let c8_i32_543 : BitVec 32 := 8#32
  let v1395 : BitVec 32 := Scalar.muli v1394 c8_i32_543
  let v1396 : BitVec 32 := v1395
  let v1397 : Index := Scalar.indexCast v1396
  let c0_544 : Index := 0#32
  ![v1397.toNat, 0]

def k0_chk57 (v1394 : BitVec 32) : Prop :=
  (8 ∣ (k0_mult57 v1394).toNat) ∧
  (∀ a, (k0_off118 v1394) a + S8x128.size a ≤ S15360x128.size a)
theorem k0_mult57_dvd : ∀ (v1394 : BitVec 32) (k0_hw57 : k0_chk57 v1394), 8 ∣ (k0_mult57 v1394).toNat := fun v1394 k0_hw57 => k0_hw57.1
theorem k0_off118_inb : ∀ (v1394 : BitVec 32) (k0_hw57 : k0_chk57 v1394), ∀ a, (k0_off118 v1394) a + S8x128.size a ≤ S15360x128.size a := fun v1394 k0_hw57 => k0_hw57.2

def k0_off119 (i : grid0.Coords) : Fin 1 → Nat :=
  let arg1 : BitVec 32 := BitVec.ofNat 32 (i 1).val
  let c128_i32_549 : BitVec 32 := 128#32
  let v1408 : BitVec 32 := Scalar.muli arg1 c128_i32_549
  let c39_i32 : BitVec 32 := 39#32
  let v1409 : BitVec 32 := Scalar.addi v1408 c39_i32
  let v1410 : Index := Scalar.indexCast v1409
  ![v1410.toNat]
def k0_mult58 (v1411 : BitVec 32) : BitVec 32 :=
  let c8_i32_550 : BitVec 32 := 8#32
  let v1412 : BitVec 32 := Scalar.muli v1411 c8_i32_550
  v1412

def k0_off120 (v1411 : BitVec 32) : Fin 2 → Nat :=
  let c8_i32_550 : BitVec 32 := 8#32
  let v1412 : BitVec 32 := Scalar.muli v1411 c8_i32_550
  let v1413 : BitVec 32 := v1412
  let v1414 : Index := Scalar.indexCast v1413
  let c0_551 : Index := 0#32
  ![v1414.toNat, 0]

def k0_chk58 (v1411 : BitVec 32) : Prop :=
  (8 ∣ (k0_mult58 v1411).toNat) ∧
  (∀ a, (k0_off120 v1411) a + S8x128.size a ≤ S15360x128.size a)
theorem k0_mult58_dvd : ∀ (v1411 : BitVec 32) (k0_hw58 : k0_chk58 v1411), 8 ∣ (k0_mult58 v1411).toNat := fun v1411 k0_hw58 => k0_hw58.1
theorem k0_off120_inb : ∀ (v1411 : BitVec 32) (k0_hw58 : k0_chk58 v1411), ∀ a, (k0_off120 v1411) a + S8x128.size a ≤ S15360x128.size a := fun v1411 k0_hw58 => k0_hw58.2

def k0_off121 (i : grid0.Coords) : Fin 1 → Nat :=
  let arg1 : BitVec 32 := BitVec.ofNat 32 (i 1).val
  let c128_i32_556 : BitVec 32 := 128#32
  let v1425 : BitVec 32 := Scalar.muli arg1 c128_i32_556
  let c43_i32 : BitVec 32 := 43#32
  let v1426 : BitVec 32 := Scalar.addi v1425 c43_i32
  let v1427 : Index := Scalar.indexCast v1426
  ![v1427.toNat]
def k0_mult59 (v1428 : BitVec 32) : BitVec 32 :=
  let c8_i32_557 : BitVec 32 := 8#32
  let v1429 : BitVec 32 := Scalar.muli v1428 c8_i32_557
  v1429

def k0_off122 (v1428 : BitVec 32) : Fin 2 → Nat :=
  let c8_i32_557 : BitVec 32 := 8#32
  let v1429 : BitVec 32 := Scalar.muli v1428 c8_i32_557
  let v1430 : BitVec 32 := v1429
  let v1431 : Index := Scalar.indexCast v1430
  let c0_558 : Index := 0#32
  ![v1431.toNat, 0]

def k0_chk59 (v1428 : BitVec 32) : Prop :=
  (8 ∣ (k0_mult59 v1428).toNat) ∧
  (∀ a, (k0_off122 v1428) a + S8x128.size a ≤ S15360x128.size a)
theorem k0_mult59_dvd : ∀ (v1428 : BitVec 32) (k0_hw59 : k0_chk59 v1428), 8 ∣ (k0_mult59 v1428).toNat := fun v1428 k0_hw59 => k0_hw59.1
theorem k0_off122_inb : ∀ (v1428 : BitVec 32) (k0_hw59 : k0_chk59 v1428), ∀ a, (k0_off122 v1428) a + S8x128.size a ≤ S15360x128.size a := fun v1428 k0_hw59 => k0_hw59.2

def k0_off123 (i : grid0.Coords) : Fin 1 → Nat :=
  let arg1 : BitVec 32 := BitVec.ofNat 32 (i 1).val
  let c128_i32_563 : BitVec 32 := 128#32
  let v1442 : BitVec 32 := Scalar.muli arg1 c128_i32_563
  let c47_i32 : BitVec 32 := 47#32
  let v1443 : BitVec 32 := Scalar.addi v1442 c47_i32
  let v1444 : Index := Scalar.indexCast v1443
  ![v1444.toNat]
def k0_mult60 (v1445 : BitVec 32) : BitVec 32 :=
  let c8_i32_564 : BitVec 32 := 8#32
  let v1446 : BitVec 32 := Scalar.muli v1445 c8_i32_564
  v1446

def k0_off124 (v1445 : BitVec 32) : Fin 2 → Nat :=
  let c8_i32_564 : BitVec 32 := 8#32
  let v1446 : BitVec 32 := Scalar.muli v1445 c8_i32_564
  let v1447 : BitVec 32 := v1446
  let v1448 : Index := Scalar.indexCast v1447
  let c0_565 : Index := 0#32
  ![v1448.toNat, 0]

def k0_chk60 (v1445 : BitVec 32) : Prop :=
  (8 ∣ (k0_mult60 v1445).toNat) ∧
  (∀ a, (k0_off124 v1445) a + S8x128.size a ≤ S15360x128.size a)
theorem k0_mult60_dvd : ∀ (v1445 : BitVec 32) (k0_hw60 : k0_chk60 v1445), 8 ∣ (k0_mult60 v1445).toNat := fun v1445 k0_hw60 => k0_hw60.1
theorem k0_off124_inb : ∀ (v1445 : BitVec 32) (k0_hw60 : k0_chk60 v1445), ∀ a, (k0_off124 v1445) a + S8x128.size a ≤ S15360x128.size a := fun v1445 k0_hw60 => k0_hw60.2

def k0_off125 (i : grid0.Coords) : Fin 1 → Nat :=
  let arg1 : BitVec 32 := BitVec.ofNat 32 (i 1).val
  let c128_i32_570 : BitVec 32 := 128#32
  let v1459 : BitVec 32 := Scalar.muli arg1 c128_i32_570
  let c51_i32 : BitVec 32 := 51#32
  let v1460 : BitVec 32 := Scalar.addi v1459 c51_i32
  let v1461 : Index := Scalar.indexCast v1460
  ![v1461.toNat]
def k0_mult61 (v1462 : BitVec 32) : BitVec 32 :=
  let c8_i32_571 : BitVec 32 := 8#32
  let v1463 : BitVec 32 := Scalar.muli v1462 c8_i32_571
  v1463

def k0_off126 (v1462 : BitVec 32) : Fin 2 → Nat :=
  let c8_i32_571 : BitVec 32 := 8#32
  let v1463 : BitVec 32 := Scalar.muli v1462 c8_i32_571
  let v1464 : BitVec 32 := v1463
  let v1465 : Index := Scalar.indexCast v1464
  let c0_572 : Index := 0#32
  ![v1465.toNat, 0]

def k0_chk61 (v1462 : BitVec 32) : Prop :=
  (8 ∣ (k0_mult61 v1462).toNat) ∧
  (∀ a, (k0_off126 v1462) a + S8x128.size a ≤ S15360x128.size a)
theorem k0_mult61_dvd : ∀ (v1462 : BitVec 32) (k0_hw61 : k0_chk61 v1462), 8 ∣ (k0_mult61 v1462).toNat := fun v1462 k0_hw61 => k0_hw61.1
theorem k0_off126_inb : ∀ (v1462 : BitVec 32) (k0_hw61 : k0_chk61 v1462), ∀ a, (k0_off126 v1462) a + S8x128.size a ≤ S15360x128.size a := fun v1462 k0_hw61 => k0_hw61.2

def k0_off127 (i : grid0.Coords) : Fin 1 → Nat :=
  let arg1 : BitVec 32 := BitVec.ofNat 32 (i 1).val
  let c128_i32_577 : BitVec 32 := 128#32
  let v1476 : BitVec 32 := Scalar.muli arg1 c128_i32_577
  let c55_i32 : BitVec 32 := 55#32
  let v1477 : BitVec 32 := Scalar.addi v1476 c55_i32
  let v1478 : Index := Scalar.indexCast v1477
  ![v1478.toNat]
def k0_mult62 (v1479 : BitVec 32) : BitVec 32 :=
  let c8_i32_578 : BitVec 32 := 8#32
  let v1480 : BitVec 32 := Scalar.muli v1479 c8_i32_578
  v1480

def k0_off128 (v1479 : BitVec 32) : Fin 2 → Nat :=
  let c8_i32_578 : BitVec 32 := 8#32
  let v1480 : BitVec 32 := Scalar.muli v1479 c8_i32_578
  let v1481 : BitVec 32 := v1480
  let v1482 : Index := Scalar.indexCast v1481
  let c0_579 : Index := 0#32
  ![v1482.toNat, 0]

def k0_chk62 (v1479 : BitVec 32) : Prop :=
  (8 ∣ (k0_mult62 v1479).toNat) ∧
  (∀ a, (k0_off128 v1479) a + S8x128.size a ≤ S15360x128.size a)
theorem k0_mult62_dvd : ∀ (v1479 : BitVec 32) (k0_hw62 : k0_chk62 v1479), 8 ∣ (k0_mult62 v1479).toNat := fun v1479 k0_hw62 => k0_hw62.1
theorem k0_off128_inb : ∀ (v1479 : BitVec 32) (k0_hw62 : k0_chk62 v1479), ∀ a, (k0_off128 v1479) a + S8x128.size a ≤ S15360x128.size a := fun v1479 k0_hw62 => k0_hw62.2

def k0_off129 (i : grid0.Coords) : Fin 1 → Nat :=
  let arg1 : BitVec 32 := BitVec.ofNat 32 (i 1).val
  let c128_i32_584 : BitVec 32 := 128#32
  let v1493 : BitVec 32 := Scalar.muli arg1 c128_i32_584
  let c59_i32 : BitVec 32 := 59#32
  let v1494 : BitVec 32 := Scalar.addi v1493 c59_i32
  let v1495 : Index := Scalar.indexCast v1494
  ![v1495.toNat]
def k0_mult63 (v1496 : BitVec 32) : BitVec 32 :=
  let c8_i32_585 : BitVec 32 := 8#32
  let v1497 : BitVec 32 := Scalar.muli v1496 c8_i32_585
  v1497

def k0_off130 (v1496 : BitVec 32) : Fin 2 → Nat :=
  let c8_i32_585 : BitVec 32 := 8#32
  let v1497 : BitVec 32 := Scalar.muli v1496 c8_i32_585
  let v1498 : BitVec 32 := v1497
  let v1499 : Index := Scalar.indexCast v1498
  let c0_586 : Index := 0#32
  ![v1499.toNat, 0]

def k0_chk63 (v1496 : BitVec 32) : Prop :=
  (8 ∣ (k0_mult63 v1496).toNat) ∧
  (∀ a, (k0_off130 v1496) a + S8x128.size a ≤ S15360x128.size a)
theorem k0_mult63_dvd : ∀ (v1496 : BitVec 32) (k0_hw63 : k0_chk63 v1496), 8 ∣ (k0_mult63 v1496).toNat := fun v1496 k0_hw63 => k0_hw63.1
theorem k0_off130_inb : ∀ (v1496 : BitVec 32) (k0_hw63 : k0_chk63 v1496), ∀ a, (k0_off130 v1496) a + S8x128.size a ≤ S15360x128.size a := fun v1496 k0_hw63 => k0_hw63.2

def k0_off131 (i : grid0.Coords) : Fin 1 → Nat :=
  let arg1 : BitVec 32 := BitVec.ofNat 32 (i 1).val
  let c128_i32_591 : BitVec 32 := 128#32
  let v1510 : BitVec 32 := Scalar.muli arg1 c128_i32_591
  let c63_i32 : BitVec 32 := 63#32
  let v1511 : BitVec 32 := Scalar.addi v1510 c63_i32
  let v1512 : Index := Scalar.indexCast v1511
  ![v1512.toNat]
def k0_mult64 (v1513 : BitVec 32) : BitVec 32 :=
  let c8_i32_592 : BitVec 32 := 8#32
  let v1514 : BitVec 32 := Scalar.muli v1513 c8_i32_592
  v1514

def k0_off132 (v1513 : BitVec 32) : Fin 2 → Nat :=
  let c8_i32_592 : BitVec 32 := 8#32
  let v1514 : BitVec 32 := Scalar.muli v1513 c8_i32_592
  let v1515 : BitVec 32 := v1514
  let v1516 : Index := Scalar.indexCast v1515
  let c0_593 : Index := 0#32
  ![v1516.toNat, 0]

def k0_chk64 (v1513 : BitVec 32) : Prop :=
  (8 ∣ (k0_mult64 v1513).toNat) ∧
  (∀ a, (k0_off132 v1513) a + S8x128.size a ≤ S15360x128.size a)
theorem k0_mult64_dvd : ∀ (v1513 : BitVec 32) (k0_hw64 : k0_chk64 v1513), 8 ∣ (k0_mult64 v1513).toNat := fun v1513 k0_hw64 => k0_hw64.1
theorem k0_off132_inb : ∀ (v1513 : BitVec 32) (k0_hw64 : k0_chk64 v1513), ∀ a, (k0_off132 v1513) a + S8x128.size a ≤ S15360x128.size a := fun v1513 k0_hw64 => k0_hw64.2

def k0_off133 (i : grid0.Coords) : Fin 1 → Nat :=
  let arg1 : BitVec 32 := BitVec.ofNat 32 (i 1).val
  let c128_i32_654 : BitVec 32 := 128#32
  let v1652 : BitVec 32 := Scalar.muli arg1 c128_i32_654
  let c64_i32 : BitVec 32 := 64#32
  let v1653 : BitVec 32 := Scalar.addi v1652 c64_i32
  let v1654 : Index := Scalar.indexCast v1653
  ![v1654.toNat]
def k0_mult65 (v1655 : BitVec 32) : BitVec 32 :=
  let c8_i32_655 : BitVec 32 := 8#32
  let v1656 : BitVec 32 := Scalar.muli v1655 c8_i32_655
  v1656

def k0_off134 (v1655 : BitVec 32) : Fin 2 → Nat :=
  let c8_i32_655 : BitVec 32 := 8#32
  let v1656 : BitVec 32 := Scalar.muli v1655 c8_i32_655
  let v1657 : BitVec 32 := v1656
  let v1658 : Index := Scalar.indexCast v1657
  let c0_656 : Index := 0#32
  ![v1658.toNat, 0]

def k0_chk65 (v1655 : BitVec 32) : Prop :=
  (8 ∣ (k0_mult65 v1655).toNat) ∧
  (∀ a, (k0_off134 v1655) a + S8x128.size a ≤ S15360x128.size a)
theorem k0_mult65_dvd : ∀ (v1655 : BitVec 32) (k0_hw65 : k0_chk65 v1655), 8 ∣ (k0_mult65 v1655).toNat := fun v1655 k0_hw65 => k0_hw65.1
theorem k0_off134_inb : ∀ (v1655 : BitVec 32) (k0_hw65 : k0_chk65 v1655), ∀ a, (k0_off134 v1655) a + S8x128.size a ≤ S15360x128.size a := fun v1655 k0_hw65 => k0_hw65.2

def k0_off135 (i : grid0.Coords) : Fin 1 → Nat :=
  let arg1 : BitVec 32 := BitVec.ofNat 32 (i 1).val
  let c128_i32_661 : BitVec 32 := 128#32
  let v1669 : BitVec 32 := Scalar.muli arg1 c128_i32_661
  let c68_i32 : BitVec 32 := 68#32
  let v1670 : BitVec 32 := Scalar.addi v1669 c68_i32
  let v1671 : Index := Scalar.indexCast v1670
  ![v1671.toNat]
def k0_mult66 (v1672 : BitVec 32) : BitVec 32 :=
  let c8_i32_662 : BitVec 32 := 8#32
  let v1673 : BitVec 32 := Scalar.muli v1672 c8_i32_662
  v1673

def k0_off136 (v1672 : BitVec 32) : Fin 2 → Nat :=
  let c8_i32_662 : BitVec 32 := 8#32
  let v1673 : BitVec 32 := Scalar.muli v1672 c8_i32_662
  let v1674 : BitVec 32 := v1673
  let v1675 : Index := Scalar.indexCast v1674
  let c0_663 : Index := 0#32
  ![v1675.toNat, 0]

def k0_chk66 (v1672 : BitVec 32) : Prop :=
  (8 ∣ (k0_mult66 v1672).toNat) ∧
  (∀ a, (k0_off136 v1672) a + S8x128.size a ≤ S15360x128.size a)
theorem k0_mult66_dvd : ∀ (v1672 : BitVec 32) (k0_hw66 : k0_chk66 v1672), 8 ∣ (k0_mult66 v1672).toNat := fun v1672 k0_hw66 => k0_hw66.1
theorem k0_off136_inb : ∀ (v1672 : BitVec 32) (k0_hw66 : k0_chk66 v1672), ∀ a, (k0_off136 v1672) a + S8x128.size a ≤ S15360x128.size a := fun v1672 k0_hw66 => k0_hw66.2

def k0_off137 (i : grid0.Coords) : Fin 1 → Nat :=
  let arg1 : BitVec 32 := BitVec.ofNat 32 (i 1).val
  let c128_i32_668 : BitVec 32 := 128#32
  let v1686 : BitVec 32 := Scalar.muli arg1 c128_i32_668
  let c72_i32 : BitVec 32 := 72#32
  let v1687 : BitVec 32 := Scalar.addi v1686 c72_i32
  let v1688 : Index := Scalar.indexCast v1687
  ![v1688.toNat]
def k0_mult67 (v1689 : BitVec 32) : BitVec 32 :=
  let c8_i32_669 : BitVec 32 := 8#32
  let v1690 : BitVec 32 := Scalar.muli v1689 c8_i32_669
  v1690

def k0_off138 (v1689 : BitVec 32) : Fin 2 → Nat :=
  let c8_i32_669 : BitVec 32 := 8#32
  let v1690 : BitVec 32 := Scalar.muli v1689 c8_i32_669
  let v1691 : BitVec 32 := v1690
  let v1692 : Index := Scalar.indexCast v1691
  let c0_670 : Index := 0#32
  ![v1692.toNat, 0]

def k0_chk67 (v1689 : BitVec 32) : Prop :=
  (8 ∣ (k0_mult67 v1689).toNat) ∧
  (∀ a, (k0_off138 v1689) a + S8x128.size a ≤ S15360x128.size a)
theorem k0_mult67_dvd : ∀ (v1689 : BitVec 32) (k0_hw67 : k0_chk67 v1689), 8 ∣ (k0_mult67 v1689).toNat := fun v1689 k0_hw67 => k0_hw67.1
theorem k0_off138_inb : ∀ (v1689 : BitVec 32) (k0_hw67 : k0_chk67 v1689), ∀ a, (k0_off138 v1689) a + S8x128.size a ≤ S15360x128.size a := fun v1689 k0_hw67 => k0_hw67.2

def k0_off139 (i : grid0.Coords) : Fin 1 → Nat :=
  let arg1 : BitVec 32 := BitVec.ofNat 32 (i 1).val
  let c128_i32_675 : BitVec 32 := 128#32
  let v1703 : BitVec 32 := Scalar.muli arg1 c128_i32_675
  let c76_i32 : BitVec 32 := 76#32
  let v1704 : BitVec 32 := Scalar.addi v1703 c76_i32
  let v1705 : Index := Scalar.indexCast v1704
  ![v1705.toNat]
def k0_mult68 (v1706 : BitVec 32) : BitVec 32 :=
  let c8_i32_676 : BitVec 32 := 8#32
  let v1707 : BitVec 32 := Scalar.muli v1706 c8_i32_676
  v1707

def k0_off140 (v1706 : BitVec 32) : Fin 2 → Nat :=
  let c8_i32_676 : BitVec 32 := 8#32
  let v1707 : BitVec 32 := Scalar.muli v1706 c8_i32_676
  let v1708 : BitVec 32 := v1707
  let v1709 : Index := Scalar.indexCast v1708
  let c0_677 : Index := 0#32
  ![v1709.toNat, 0]

def k0_chk68 (v1706 : BitVec 32) : Prop :=
  (8 ∣ (k0_mult68 v1706).toNat) ∧
  (∀ a, (k0_off140 v1706) a + S8x128.size a ≤ S15360x128.size a)
theorem k0_mult68_dvd : ∀ (v1706 : BitVec 32) (k0_hw68 : k0_chk68 v1706), 8 ∣ (k0_mult68 v1706).toNat := fun v1706 k0_hw68 => k0_hw68.1
theorem k0_off140_inb : ∀ (v1706 : BitVec 32) (k0_hw68 : k0_chk68 v1706), ∀ a, (k0_off140 v1706) a + S8x128.size a ≤ S15360x128.size a := fun v1706 k0_hw68 => k0_hw68.2

def k0_off141 (i : grid0.Coords) : Fin 1 → Nat :=
  let arg1 : BitVec 32 := BitVec.ofNat 32 (i 1).val
  let c128_i32_682 : BitVec 32 := 128#32
  let v1720 : BitVec 32 := Scalar.muli arg1 c128_i32_682
  let c80_i32 : BitVec 32 := 80#32
  let v1721 : BitVec 32 := Scalar.addi v1720 c80_i32
  let v1722 : Index := Scalar.indexCast v1721
  ![v1722.toNat]
def k0_mult69 (v1723 : BitVec 32) : BitVec 32 :=
  let c8_i32_683 : BitVec 32 := 8#32
  let v1724 : BitVec 32 := Scalar.muli v1723 c8_i32_683
  v1724

def k0_off142 (v1723 : BitVec 32) : Fin 2 → Nat :=
  let c8_i32_683 : BitVec 32 := 8#32
  let v1724 : BitVec 32 := Scalar.muli v1723 c8_i32_683
  let v1725 : BitVec 32 := v1724
  let v1726 : Index := Scalar.indexCast v1725
  let c0_684 : Index := 0#32
  ![v1726.toNat, 0]

def k0_chk69 (v1723 : BitVec 32) : Prop :=
  (8 ∣ (k0_mult69 v1723).toNat) ∧
  (∀ a, (k0_off142 v1723) a + S8x128.size a ≤ S15360x128.size a)
theorem k0_mult69_dvd : ∀ (v1723 : BitVec 32) (k0_hw69 : k0_chk69 v1723), 8 ∣ (k0_mult69 v1723).toNat := fun v1723 k0_hw69 => k0_hw69.1
theorem k0_off142_inb : ∀ (v1723 : BitVec 32) (k0_hw69 : k0_chk69 v1723), ∀ a, (k0_off142 v1723) a + S8x128.size a ≤ S15360x128.size a := fun v1723 k0_hw69 => k0_hw69.2

def k0_off143 (i : grid0.Coords) : Fin 1 → Nat :=
  let arg1 : BitVec 32 := BitVec.ofNat 32 (i 1).val
  let c128_i32_689 : BitVec 32 := 128#32
  let v1737 : BitVec 32 := Scalar.muli arg1 c128_i32_689
  let c84_i32 : BitVec 32 := 84#32
  let v1738 : BitVec 32 := Scalar.addi v1737 c84_i32
  let v1739 : Index := Scalar.indexCast v1738
  ![v1739.toNat]
def k0_mult70 (v1740 : BitVec 32) : BitVec 32 :=
  let c8_i32_690 : BitVec 32 := 8#32
  let v1741 : BitVec 32 := Scalar.muli v1740 c8_i32_690
  v1741

def k0_off144 (v1740 : BitVec 32) : Fin 2 → Nat :=
  let c8_i32_690 : BitVec 32 := 8#32
  let v1741 : BitVec 32 := Scalar.muli v1740 c8_i32_690
  let v1742 : BitVec 32 := v1741
  let v1743 : Index := Scalar.indexCast v1742
  let c0_691 : Index := 0#32
  ![v1743.toNat, 0]

def k0_chk70 (v1740 : BitVec 32) : Prop :=
  (8 ∣ (k0_mult70 v1740).toNat) ∧
  (∀ a, (k0_off144 v1740) a + S8x128.size a ≤ S15360x128.size a)
theorem k0_mult70_dvd : ∀ (v1740 : BitVec 32) (k0_hw70 : k0_chk70 v1740), 8 ∣ (k0_mult70 v1740).toNat := fun v1740 k0_hw70 => k0_hw70.1
theorem k0_off144_inb : ∀ (v1740 : BitVec 32) (k0_hw70 : k0_chk70 v1740), ∀ a, (k0_off144 v1740) a + S8x128.size a ≤ S15360x128.size a := fun v1740 k0_hw70 => k0_hw70.2

def k0_off145 (i : grid0.Coords) : Fin 1 → Nat :=
  let arg1 : BitVec 32 := BitVec.ofNat 32 (i 1).val
  let c128_i32_696 : BitVec 32 := 128#32
  let v1754 : BitVec 32 := Scalar.muli arg1 c128_i32_696
  let c88_i32 : BitVec 32 := 88#32
  let v1755 : BitVec 32 := Scalar.addi v1754 c88_i32
  let v1756 : Index := Scalar.indexCast v1755
  ![v1756.toNat]
def k0_mult71 (v1757 : BitVec 32) : BitVec 32 :=
  let c8_i32_697 : BitVec 32 := 8#32
  let v1758 : BitVec 32 := Scalar.muli v1757 c8_i32_697
  v1758

def k0_off146 (v1757 : BitVec 32) : Fin 2 → Nat :=
  let c8_i32_697 : BitVec 32 := 8#32
  let v1758 : BitVec 32 := Scalar.muli v1757 c8_i32_697
  let v1759 : BitVec 32 := v1758
  let v1760 : Index := Scalar.indexCast v1759
  let c0_698 : Index := 0#32
  ![v1760.toNat, 0]

def k0_chk71 (v1757 : BitVec 32) : Prop :=
  (8 ∣ (k0_mult71 v1757).toNat) ∧
  (∀ a, (k0_off146 v1757) a + S8x128.size a ≤ S15360x128.size a)
theorem k0_mult71_dvd : ∀ (v1757 : BitVec 32) (k0_hw71 : k0_chk71 v1757), 8 ∣ (k0_mult71 v1757).toNat := fun v1757 k0_hw71 => k0_hw71.1
theorem k0_off146_inb : ∀ (v1757 : BitVec 32) (k0_hw71 : k0_chk71 v1757), ∀ a, (k0_off146 v1757) a + S8x128.size a ≤ S15360x128.size a := fun v1757 k0_hw71 => k0_hw71.2

def k0_off147 (i : grid0.Coords) : Fin 1 → Nat :=
  let arg1 : BitVec 32 := BitVec.ofNat 32 (i 1).val
  let c128_i32_703 : BitVec 32 := 128#32
  let v1771 : BitVec 32 := Scalar.muli arg1 c128_i32_703
  let c92_i32 : BitVec 32 := 92#32
  let v1772 : BitVec 32 := Scalar.addi v1771 c92_i32
  let v1773 : Index := Scalar.indexCast v1772
  ![v1773.toNat]
def k0_mult72 (v1774 : BitVec 32) : BitVec 32 :=
  let c8_i32_704 : BitVec 32 := 8#32
  let v1775 : BitVec 32 := Scalar.muli v1774 c8_i32_704
  v1775

def k0_off148 (v1774 : BitVec 32) : Fin 2 → Nat :=
  let c8_i32_704 : BitVec 32 := 8#32
  let v1775 : BitVec 32 := Scalar.muli v1774 c8_i32_704
  let v1776 : BitVec 32 := v1775
  let v1777 : Index := Scalar.indexCast v1776
  let c0_705 : Index := 0#32
  ![v1777.toNat, 0]

def k0_chk72 (v1774 : BitVec 32) : Prop :=
  (8 ∣ (k0_mult72 v1774).toNat) ∧
  (∀ a, (k0_off148 v1774) a + S8x128.size a ≤ S15360x128.size a)
theorem k0_mult72_dvd : ∀ (v1774 : BitVec 32) (k0_hw72 : k0_chk72 v1774), 8 ∣ (k0_mult72 v1774).toNat := fun v1774 k0_hw72 => k0_hw72.1
theorem k0_off148_inb : ∀ (v1774 : BitVec 32) (k0_hw72 : k0_chk72 v1774), ∀ a, (k0_off148 v1774) a + S8x128.size a ≤ S15360x128.size a := fun v1774 k0_hw72 => k0_hw72.2

def k0_off149 (i : grid0.Coords) : Fin 1 → Nat :=
  let arg1 : BitVec 32 := BitVec.ofNat 32 (i 1).val
  let c128_i32_722 : BitVec 32 := 128#32
  let v1829 : BitVec 32 := Scalar.muli arg1 c128_i32_722
  let c65_i32 : BitVec 32 := 65#32
  let v1830 : BitVec 32 := Scalar.addi v1829 c65_i32
  let v1831 : Index := Scalar.indexCast v1830
  ![v1831.toNat]
def k0_mult73 (v1832 : BitVec 32) : BitVec 32 :=
  let c8_i32_723 : BitVec 32 := 8#32
  let v1833 : BitVec 32 := Scalar.muli v1832 c8_i32_723
  v1833

def k0_off150 (v1832 : BitVec 32) : Fin 2 → Nat :=
  let c8_i32_723 : BitVec 32 := 8#32
  let v1833 : BitVec 32 := Scalar.muli v1832 c8_i32_723
  let v1834 : BitVec 32 := v1833
  let v1835 : Index := Scalar.indexCast v1834
  let c0_724 : Index := 0#32
  ![v1835.toNat, 0]

def k0_chk73 (v1832 : BitVec 32) : Prop :=
  (8 ∣ (k0_mult73 v1832).toNat) ∧
  (∀ a, (k0_off150 v1832) a + S8x128.size a ≤ S15360x128.size a)
theorem k0_mult73_dvd : ∀ (v1832 : BitVec 32) (k0_hw73 : k0_chk73 v1832), 8 ∣ (k0_mult73 v1832).toNat := fun v1832 k0_hw73 => k0_hw73.1
theorem k0_off150_inb : ∀ (v1832 : BitVec 32) (k0_hw73 : k0_chk73 v1832), ∀ a, (k0_off150 v1832) a + S8x128.size a ≤ S15360x128.size a := fun v1832 k0_hw73 => k0_hw73.2

def k0_off151 (i : grid0.Coords) : Fin 1 → Nat :=
  let arg1 : BitVec 32 := BitVec.ofNat 32 (i 1).val
  let c128_i32_729 : BitVec 32 := 128#32
  let v1846 : BitVec 32 := Scalar.muli arg1 c128_i32_729
  let c69_i32 : BitVec 32 := 69#32
  let v1847 : BitVec 32 := Scalar.addi v1846 c69_i32
  let v1848 : Index := Scalar.indexCast v1847
  ![v1848.toNat]
def k0_mult74 (v1849 : BitVec 32) : BitVec 32 :=
  let c8_i32_730 : BitVec 32 := 8#32
  let v1850 : BitVec 32 := Scalar.muli v1849 c8_i32_730
  v1850

def k0_off152 (v1849 : BitVec 32) : Fin 2 → Nat :=
  let c8_i32_730 : BitVec 32 := 8#32
  let v1850 : BitVec 32 := Scalar.muli v1849 c8_i32_730
  let v1851 : BitVec 32 := v1850
  let v1852 : Index := Scalar.indexCast v1851
  let c0_731 : Index := 0#32
  ![v1852.toNat, 0]

def k0_chk74 (v1849 : BitVec 32) : Prop :=
  (8 ∣ (k0_mult74 v1849).toNat) ∧
  (∀ a, (k0_off152 v1849) a + S8x128.size a ≤ S15360x128.size a)
theorem k0_mult74_dvd : ∀ (v1849 : BitVec 32) (k0_hw74 : k0_chk74 v1849), 8 ∣ (k0_mult74 v1849).toNat := fun v1849 k0_hw74 => k0_hw74.1
theorem k0_off152_inb : ∀ (v1849 : BitVec 32) (k0_hw74 : k0_chk74 v1849), ∀ a, (k0_off152 v1849) a + S8x128.size a ≤ S15360x128.size a := fun v1849 k0_hw74 => k0_hw74.2

def k0_off153 (i : grid0.Coords) : Fin 1 → Nat :=
  let arg1 : BitVec 32 := BitVec.ofNat 32 (i 1).val
  let c128_i32_736 : BitVec 32 := 128#32
  let v1863 : BitVec 32 := Scalar.muli arg1 c128_i32_736
  let c73_i32 : BitVec 32 := 73#32
  let v1864 : BitVec 32 := Scalar.addi v1863 c73_i32
  let v1865 : Index := Scalar.indexCast v1864
  ![v1865.toNat]
def k0_mult75 (v1866 : BitVec 32) : BitVec 32 :=
  let c8_i32_737 : BitVec 32 := 8#32
  let v1867 : BitVec 32 := Scalar.muli v1866 c8_i32_737
  v1867

def k0_off154 (v1866 : BitVec 32) : Fin 2 → Nat :=
  let c8_i32_737 : BitVec 32 := 8#32
  let v1867 : BitVec 32 := Scalar.muli v1866 c8_i32_737
  let v1868 : BitVec 32 := v1867
  let v1869 : Index := Scalar.indexCast v1868
  let c0_738 : Index := 0#32
  ![v1869.toNat, 0]

def k0_chk75 (v1866 : BitVec 32) : Prop :=
  (8 ∣ (k0_mult75 v1866).toNat) ∧
  (∀ a, (k0_off154 v1866) a + S8x128.size a ≤ S15360x128.size a)
theorem k0_mult75_dvd : ∀ (v1866 : BitVec 32) (k0_hw75 : k0_chk75 v1866), 8 ∣ (k0_mult75 v1866).toNat := fun v1866 k0_hw75 => k0_hw75.1
theorem k0_off154_inb : ∀ (v1866 : BitVec 32) (k0_hw75 : k0_chk75 v1866), ∀ a, (k0_off154 v1866) a + S8x128.size a ≤ S15360x128.size a := fun v1866 k0_hw75 => k0_hw75.2

def k0_off155 (i : grid0.Coords) : Fin 1 → Nat :=
  let arg1 : BitVec 32 := BitVec.ofNat 32 (i 1).val
  let c128_i32_743 : BitVec 32 := 128#32
  let v1880 : BitVec 32 := Scalar.muli arg1 c128_i32_743
  let c77_i32 : BitVec 32 := 77#32
  let v1881 : BitVec 32 := Scalar.addi v1880 c77_i32
  let v1882 : Index := Scalar.indexCast v1881
  ![v1882.toNat]
def k0_mult76 (v1883 : BitVec 32) : BitVec 32 :=
  let c8_i32_744 : BitVec 32 := 8#32
  let v1884 : BitVec 32 := Scalar.muli v1883 c8_i32_744
  v1884

def k0_off156 (v1883 : BitVec 32) : Fin 2 → Nat :=
  let c8_i32_744 : BitVec 32 := 8#32
  let v1884 : BitVec 32 := Scalar.muli v1883 c8_i32_744
  let v1885 : BitVec 32 := v1884
  let v1886 : Index := Scalar.indexCast v1885
  let c0_745 : Index := 0#32
  ![v1886.toNat, 0]

def k0_chk76 (v1883 : BitVec 32) : Prop :=
  (8 ∣ (k0_mult76 v1883).toNat) ∧
  (∀ a, (k0_off156 v1883) a + S8x128.size a ≤ S15360x128.size a)
theorem k0_mult76_dvd : ∀ (v1883 : BitVec 32) (k0_hw76 : k0_chk76 v1883), 8 ∣ (k0_mult76 v1883).toNat := fun v1883 k0_hw76 => k0_hw76.1
theorem k0_off156_inb : ∀ (v1883 : BitVec 32) (k0_hw76 : k0_chk76 v1883), ∀ a, (k0_off156 v1883) a + S8x128.size a ≤ S15360x128.size a := fun v1883 k0_hw76 => k0_hw76.2

def k0_off157 (i : grid0.Coords) : Fin 1 → Nat :=
  let arg1 : BitVec 32 := BitVec.ofNat 32 (i 1).val
  let c128_i32_750 : BitVec 32 := 128#32
  let v1897 : BitVec 32 := Scalar.muli arg1 c128_i32_750
  let c81_i32 : BitVec 32 := 81#32
  let v1898 : BitVec 32 := Scalar.addi v1897 c81_i32
  let v1899 : Index := Scalar.indexCast v1898
  ![v1899.toNat]
def k0_mult77 (v1900 : BitVec 32) : BitVec 32 :=
  let c8_i32_751 : BitVec 32 := 8#32
  let v1901 : BitVec 32 := Scalar.muli v1900 c8_i32_751
  v1901

def k0_off158 (v1900 : BitVec 32) : Fin 2 → Nat :=
  let c8_i32_751 : BitVec 32 := 8#32
  let v1901 : BitVec 32 := Scalar.muli v1900 c8_i32_751
  let v1902 : BitVec 32 := v1901
  let v1903 : Index := Scalar.indexCast v1902
  let c0_752 : Index := 0#32
  ![v1903.toNat, 0]

def k0_chk77 (v1900 : BitVec 32) : Prop :=
  (8 ∣ (k0_mult77 v1900).toNat) ∧
  (∀ a, (k0_off158 v1900) a + S8x128.size a ≤ S15360x128.size a)
theorem k0_mult77_dvd : ∀ (v1900 : BitVec 32) (k0_hw77 : k0_chk77 v1900), 8 ∣ (k0_mult77 v1900).toNat := fun v1900 k0_hw77 => k0_hw77.1
theorem k0_off158_inb : ∀ (v1900 : BitVec 32) (k0_hw77 : k0_chk77 v1900), ∀ a, (k0_off158 v1900) a + S8x128.size a ≤ S15360x128.size a := fun v1900 k0_hw77 => k0_hw77.2

def k0_off159 (i : grid0.Coords) : Fin 1 → Nat :=
  let arg1 : BitVec 32 := BitVec.ofNat 32 (i 1).val
  let c128_i32_757 : BitVec 32 := 128#32
  let v1914 : BitVec 32 := Scalar.muli arg1 c128_i32_757
  let c85_i32 : BitVec 32 := 85#32
  let v1915 : BitVec 32 := Scalar.addi v1914 c85_i32
  let v1916 : Index := Scalar.indexCast v1915
  ![v1916.toNat]
def k0_mult78 (v1917 : BitVec 32) : BitVec 32 :=
  let c8_i32_758 : BitVec 32 := 8#32
  let v1918 : BitVec 32 := Scalar.muli v1917 c8_i32_758
  v1918

def k0_off160 (v1917 : BitVec 32) : Fin 2 → Nat :=
  let c8_i32_758 : BitVec 32 := 8#32
  let v1918 : BitVec 32 := Scalar.muli v1917 c8_i32_758
  let v1919 : BitVec 32 := v1918
  let v1920 : Index := Scalar.indexCast v1919
  let c0_759 : Index := 0#32
  ![v1920.toNat, 0]

def k0_chk78 (v1917 : BitVec 32) : Prop :=
  (8 ∣ (k0_mult78 v1917).toNat) ∧
  (∀ a, (k0_off160 v1917) a + S8x128.size a ≤ S15360x128.size a)
theorem k0_mult78_dvd : ∀ (v1917 : BitVec 32) (k0_hw78 : k0_chk78 v1917), 8 ∣ (k0_mult78 v1917).toNat := fun v1917 k0_hw78 => k0_hw78.1
theorem k0_off160_inb : ∀ (v1917 : BitVec 32) (k0_hw78 : k0_chk78 v1917), ∀ a, (k0_off160 v1917) a + S8x128.size a ≤ S15360x128.size a := fun v1917 k0_hw78 => k0_hw78.2

def k0_off161 (i : grid0.Coords) : Fin 1 → Nat :=
  let arg1 : BitVec 32 := BitVec.ofNat 32 (i 1).val
  let c128_i32_764 : BitVec 32 := 128#32
  let v1931 : BitVec 32 := Scalar.muli arg1 c128_i32_764
  let c89_i32 : BitVec 32 := 89#32
  let v1932 : BitVec 32 := Scalar.addi v1931 c89_i32
  let v1933 : Index := Scalar.indexCast v1932
  ![v1933.toNat]
def k0_mult79 (v1934 : BitVec 32) : BitVec 32 :=
  let c8_i32_765 : BitVec 32 := 8#32
  let v1935 : BitVec 32 := Scalar.muli v1934 c8_i32_765
  v1935

def k0_off162 (v1934 : BitVec 32) : Fin 2 → Nat :=
  let c8_i32_765 : BitVec 32 := 8#32
  let v1935 : BitVec 32 := Scalar.muli v1934 c8_i32_765
  let v1936 : BitVec 32 := v1935
  let v1937 : Index := Scalar.indexCast v1936
  let c0_766 : Index := 0#32
  ![v1937.toNat, 0]

def k0_chk79 (v1934 : BitVec 32) : Prop :=
  (8 ∣ (k0_mult79 v1934).toNat) ∧
  (∀ a, (k0_off162 v1934) a + S8x128.size a ≤ S15360x128.size a)
theorem k0_mult79_dvd : ∀ (v1934 : BitVec 32) (k0_hw79 : k0_chk79 v1934), 8 ∣ (k0_mult79 v1934).toNat := fun v1934 k0_hw79 => k0_hw79.1
theorem k0_off162_inb : ∀ (v1934 : BitVec 32) (k0_hw79 : k0_chk79 v1934), ∀ a, (k0_off162 v1934) a + S8x128.size a ≤ S15360x128.size a := fun v1934 k0_hw79 => k0_hw79.2

def k0_off163 (i : grid0.Coords) : Fin 1 → Nat :=
  let arg1 : BitVec 32 := BitVec.ofNat 32 (i 1).val
  let c128_i32_771 : BitVec 32 := 128#32
  let v1948 : BitVec 32 := Scalar.muli arg1 c128_i32_771
  let c93_i32 : BitVec 32 := 93#32
  let v1949 : BitVec 32 := Scalar.addi v1948 c93_i32
  let v1950 : Index := Scalar.indexCast v1949
  ![v1950.toNat]
def k0_mult80 (v1951 : BitVec 32) : BitVec 32 :=
  let c8_i32_772 : BitVec 32 := 8#32
  let v1952 : BitVec 32 := Scalar.muli v1951 c8_i32_772
  v1952

def k0_off164 (v1951 : BitVec 32) : Fin 2 → Nat :=
  let c8_i32_772 : BitVec 32 := 8#32
  let v1952 : BitVec 32 := Scalar.muli v1951 c8_i32_772
  let v1953 : BitVec 32 := v1952
  let v1954 : Index := Scalar.indexCast v1953
  let c0_773 : Index := 0#32
  ![v1954.toNat, 0]

def k0_chk80 (v1951 : BitVec 32) : Prop :=
  (8 ∣ (k0_mult80 v1951).toNat) ∧
  (∀ a, (k0_off164 v1951) a + S8x128.size a ≤ S15360x128.size a)
theorem k0_mult80_dvd : ∀ (v1951 : BitVec 32) (k0_hw80 : k0_chk80 v1951), 8 ∣ (k0_mult80 v1951).toNat := fun v1951 k0_hw80 => k0_hw80.1
theorem k0_off164_inb : ∀ (v1951 : BitVec 32) (k0_hw80 : k0_chk80 v1951), ∀ a, (k0_off164 v1951) a + S8x128.size a ≤ S15360x128.size a := fun v1951 k0_hw80 => k0_hw80.2

def k0_off165 (i : grid0.Coords) : Fin 1 → Nat :=
  let arg1 : BitVec 32 := BitVec.ofNat 32 (i 1).val
  let c128_i32_790 : BitVec 32 := 128#32
  let v2006 : BitVec 32 := Scalar.muli arg1 c128_i32_790
  let c66_i32 : BitVec 32 := 66#32
  let v2007 : BitVec 32 := Scalar.addi v2006 c66_i32
  let v2008 : Index := Scalar.indexCast v2007
  ![v2008.toNat]
def k0_mult81 (v2009 : BitVec 32) : BitVec 32 :=
  let c8_i32_791 : BitVec 32 := 8#32
  let v2010 : BitVec 32 := Scalar.muli v2009 c8_i32_791
  v2010

def k0_off166 (v2009 : BitVec 32) : Fin 2 → Nat :=
  let c8_i32_791 : BitVec 32 := 8#32
  let v2010 : BitVec 32 := Scalar.muli v2009 c8_i32_791
  let v2011 : BitVec 32 := v2010
  let v2012 : Index := Scalar.indexCast v2011
  let c0_792 : Index := 0#32
  ![v2012.toNat, 0]

def k0_chk81 (v2009 : BitVec 32) : Prop :=
  (8 ∣ (k0_mult81 v2009).toNat) ∧
  (∀ a, (k0_off166 v2009) a + S8x128.size a ≤ S15360x128.size a)
theorem k0_mult81_dvd : ∀ (v2009 : BitVec 32) (k0_hw81 : k0_chk81 v2009), 8 ∣ (k0_mult81 v2009).toNat := fun v2009 k0_hw81 => k0_hw81.1
theorem k0_off166_inb : ∀ (v2009 : BitVec 32) (k0_hw81 : k0_chk81 v2009), ∀ a, (k0_off166 v2009) a + S8x128.size a ≤ S15360x128.size a := fun v2009 k0_hw81 => k0_hw81.2

def k0_off167 (i : grid0.Coords) : Fin 1 → Nat :=
  let arg1 : BitVec 32 := BitVec.ofNat 32 (i 1).val
  let c128_i32_797 : BitVec 32 := 128#32
  let v2023 : BitVec 32 := Scalar.muli arg1 c128_i32_797
  let c70_i32 : BitVec 32 := 70#32
  let v2024 : BitVec 32 := Scalar.addi v2023 c70_i32
  let v2025 : Index := Scalar.indexCast v2024
  ![v2025.toNat]
def k0_mult82 (v2026 : BitVec 32) : BitVec 32 :=
  let c8_i32_798 : BitVec 32 := 8#32
  let v2027 : BitVec 32 := Scalar.muli v2026 c8_i32_798
  v2027

def k0_off168 (v2026 : BitVec 32) : Fin 2 → Nat :=
  let c8_i32_798 : BitVec 32 := 8#32
  let v2027 : BitVec 32 := Scalar.muli v2026 c8_i32_798
  let v2028 : BitVec 32 := v2027
  let v2029 : Index := Scalar.indexCast v2028
  let c0_799 : Index := 0#32
  ![v2029.toNat, 0]

def k0_chk82 (v2026 : BitVec 32) : Prop :=
  (8 ∣ (k0_mult82 v2026).toNat) ∧
  (∀ a, (k0_off168 v2026) a + S8x128.size a ≤ S15360x128.size a)
theorem k0_mult82_dvd : ∀ (v2026 : BitVec 32) (k0_hw82 : k0_chk82 v2026), 8 ∣ (k0_mult82 v2026).toNat := fun v2026 k0_hw82 => k0_hw82.1
theorem k0_off168_inb : ∀ (v2026 : BitVec 32) (k0_hw82 : k0_chk82 v2026), ∀ a, (k0_off168 v2026) a + S8x128.size a ≤ S15360x128.size a := fun v2026 k0_hw82 => k0_hw82.2

def k0_off169 (i : grid0.Coords) : Fin 1 → Nat :=
  let arg1 : BitVec 32 := BitVec.ofNat 32 (i 1).val
  let c128_i32_804 : BitVec 32 := 128#32
  let v2040 : BitVec 32 := Scalar.muli arg1 c128_i32_804
  let c74_i32 : BitVec 32 := 74#32
  let v2041 : BitVec 32 := Scalar.addi v2040 c74_i32
  let v2042 : Index := Scalar.indexCast v2041
  ![v2042.toNat]
def k0_mult83 (v2043 : BitVec 32) : BitVec 32 :=
  let c8_i32_805 : BitVec 32 := 8#32
  let v2044 : BitVec 32 := Scalar.muli v2043 c8_i32_805
  v2044

def k0_off170 (v2043 : BitVec 32) : Fin 2 → Nat :=
  let c8_i32_805 : BitVec 32 := 8#32
  let v2044 : BitVec 32 := Scalar.muli v2043 c8_i32_805
  let v2045 : BitVec 32 := v2044
  let v2046 : Index := Scalar.indexCast v2045
  let c0_806 : Index := 0#32
  ![v2046.toNat, 0]

def k0_chk83 (v2043 : BitVec 32) : Prop :=
  (8 ∣ (k0_mult83 v2043).toNat) ∧
  (∀ a, (k0_off170 v2043) a + S8x128.size a ≤ S15360x128.size a)
theorem k0_mult83_dvd : ∀ (v2043 : BitVec 32) (k0_hw83 : k0_chk83 v2043), 8 ∣ (k0_mult83 v2043).toNat := fun v2043 k0_hw83 => k0_hw83.1
theorem k0_off170_inb : ∀ (v2043 : BitVec 32) (k0_hw83 : k0_chk83 v2043), ∀ a, (k0_off170 v2043) a + S8x128.size a ≤ S15360x128.size a := fun v2043 k0_hw83 => k0_hw83.2

def k0_off171 (i : grid0.Coords) : Fin 1 → Nat :=
  let arg1 : BitVec 32 := BitVec.ofNat 32 (i 1).val
  let c128_i32_811 : BitVec 32 := 128#32
  let v2057 : BitVec 32 := Scalar.muli arg1 c128_i32_811
  let c78_i32 : BitVec 32 := 78#32
  let v2058 : BitVec 32 := Scalar.addi v2057 c78_i32
  let v2059 : Index := Scalar.indexCast v2058
  ![v2059.toNat]
def k0_mult84 (v2060 : BitVec 32) : BitVec 32 :=
  let c8_i32_812 : BitVec 32 := 8#32
  let v2061 : BitVec 32 := Scalar.muli v2060 c8_i32_812
  v2061

def k0_off172 (v2060 : BitVec 32) : Fin 2 → Nat :=
  let c8_i32_812 : BitVec 32 := 8#32
  let v2061 : BitVec 32 := Scalar.muli v2060 c8_i32_812
  let v2062 : BitVec 32 := v2061
  let v2063 : Index := Scalar.indexCast v2062
  let c0_813 : Index := 0#32
  ![v2063.toNat, 0]

def k0_chk84 (v2060 : BitVec 32) : Prop :=
  (8 ∣ (k0_mult84 v2060).toNat) ∧
  (∀ a, (k0_off172 v2060) a + S8x128.size a ≤ S15360x128.size a)
theorem k0_mult84_dvd : ∀ (v2060 : BitVec 32) (k0_hw84 : k0_chk84 v2060), 8 ∣ (k0_mult84 v2060).toNat := fun v2060 k0_hw84 => k0_hw84.1
theorem k0_off172_inb : ∀ (v2060 : BitVec 32) (k0_hw84 : k0_chk84 v2060), ∀ a, (k0_off172 v2060) a + S8x128.size a ≤ S15360x128.size a := fun v2060 k0_hw84 => k0_hw84.2

def k0_off173 (i : grid0.Coords) : Fin 1 → Nat :=
  let arg1 : BitVec 32 := BitVec.ofNat 32 (i 1).val
  let c128_i32_818 : BitVec 32 := 128#32
  let v2074 : BitVec 32 := Scalar.muli arg1 c128_i32_818
  let c82_i32 : BitVec 32 := 82#32
  let v2075 : BitVec 32 := Scalar.addi v2074 c82_i32
  let v2076 : Index := Scalar.indexCast v2075
  ![v2076.toNat]
def k0_mult85 (v2077 : BitVec 32) : BitVec 32 :=
  let c8_i32_819 : BitVec 32 := 8#32
  let v2078 : BitVec 32 := Scalar.muli v2077 c8_i32_819
  v2078

def k0_off174 (v2077 : BitVec 32) : Fin 2 → Nat :=
  let c8_i32_819 : BitVec 32 := 8#32
  let v2078 : BitVec 32 := Scalar.muli v2077 c8_i32_819
  let v2079 : BitVec 32 := v2078
  let v2080 : Index := Scalar.indexCast v2079
  let c0_820 : Index := 0#32
  ![v2080.toNat, 0]

def k0_chk85 (v2077 : BitVec 32) : Prop :=
  (8 ∣ (k0_mult85 v2077).toNat) ∧
  (∀ a, (k0_off174 v2077) a + S8x128.size a ≤ S15360x128.size a)
theorem k0_mult85_dvd : ∀ (v2077 : BitVec 32) (k0_hw85 : k0_chk85 v2077), 8 ∣ (k0_mult85 v2077).toNat := fun v2077 k0_hw85 => k0_hw85.1
theorem k0_off174_inb : ∀ (v2077 : BitVec 32) (k0_hw85 : k0_chk85 v2077), ∀ a, (k0_off174 v2077) a + S8x128.size a ≤ S15360x128.size a := fun v2077 k0_hw85 => k0_hw85.2

def k0_off175 (i : grid0.Coords) : Fin 1 → Nat :=
  let arg1 : BitVec 32 := BitVec.ofNat 32 (i 1).val
  let c128_i32_825 : BitVec 32 := 128#32
  let v2091 : BitVec 32 := Scalar.muli arg1 c128_i32_825
  let c86_i32 : BitVec 32 := 86#32
  let v2092 : BitVec 32 := Scalar.addi v2091 c86_i32
  let v2093 : Index := Scalar.indexCast v2092
  ![v2093.toNat]
def k0_mult86 (v2094 : BitVec 32) : BitVec 32 :=
  let c8_i32_826 : BitVec 32 := 8#32
  let v2095 : BitVec 32 := Scalar.muli v2094 c8_i32_826
  v2095

def k0_off176 (v2094 : BitVec 32) : Fin 2 → Nat :=
  let c8_i32_826 : BitVec 32 := 8#32
  let v2095 : BitVec 32 := Scalar.muli v2094 c8_i32_826
  let v2096 : BitVec 32 := v2095
  let v2097 : Index := Scalar.indexCast v2096
  let c0_827 : Index := 0#32
  ![v2097.toNat, 0]

def k0_chk86 (v2094 : BitVec 32) : Prop :=
  (8 ∣ (k0_mult86 v2094).toNat) ∧
  (∀ a, (k0_off176 v2094) a + S8x128.size a ≤ S15360x128.size a)
theorem k0_mult86_dvd : ∀ (v2094 : BitVec 32) (k0_hw86 : k0_chk86 v2094), 8 ∣ (k0_mult86 v2094).toNat := fun v2094 k0_hw86 => k0_hw86.1
theorem k0_off176_inb : ∀ (v2094 : BitVec 32) (k0_hw86 : k0_chk86 v2094), ∀ a, (k0_off176 v2094) a + S8x128.size a ≤ S15360x128.size a := fun v2094 k0_hw86 => k0_hw86.2

def k0_off177 (i : grid0.Coords) : Fin 1 → Nat :=
  let arg1 : BitVec 32 := BitVec.ofNat 32 (i 1).val
  let c128_i32_832 : BitVec 32 := 128#32
  let v2108 : BitVec 32 := Scalar.muli arg1 c128_i32_832
  let c90_i32 : BitVec 32 := 90#32
  let v2109 : BitVec 32 := Scalar.addi v2108 c90_i32
  let v2110 : Index := Scalar.indexCast v2109
  ![v2110.toNat]
def k0_mult87 (v2111 : BitVec 32) : BitVec 32 :=
  let c8_i32_833 : BitVec 32 := 8#32
  let v2112 : BitVec 32 := Scalar.muli v2111 c8_i32_833
  v2112

def k0_off178 (v2111 : BitVec 32) : Fin 2 → Nat :=
  let c8_i32_833 : BitVec 32 := 8#32
  let v2112 : BitVec 32 := Scalar.muli v2111 c8_i32_833
  let v2113 : BitVec 32 := v2112
  let v2114 : Index := Scalar.indexCast v2113
  let c0_834 : Index := 0#32
  ![v2114.toNat, 0]

def k0_chk87 (v2111 : BitVec 32) : Prop :=
  (8 ∣ (k0_mult87 v2111).toNat) ∧
  (∀ a, (k0_off178 v2111) a + S8x128.size a ≤ S15360x128.size a)
theorem k0_mult87_dvd : ∀ (v2111 : BitVec 32) (k0_hw87 : k0_chk87 v2111), 8 ∣ (k0_mult87 v2111).toNat := fun v2111 k0_hw87 => k0_hw87.1
theorem k0_off178_inb : ∀ (v2111 : BitVec 32) (k0_hw87 : k0_chk87 v2111), ∀ a, (k0_off178 v2111) a + S8x128.size a ≤ S15360x128.size a := fun v2111 k0_hw87 => k0_hw87.2

def k0_off179 (i : grid0.Coords) : Fin 1 → Nat :=
  let arg1 : BitVec 32 := BitVec.ofNat 32 (i 1).val
  let c128_i32_839 : BitVec 32 := 128#32
  let v2125 : BitVec 32 := Scalar.muli arg1 c128_i32_839
  let c94_i32 : BitVec 32 := 94#32
  let v2126 : BitVec 32 := Scalar.addi v2125 c94_i32
  let v2127 : Index := Scalar.indexCast v2126
  ![v2127.toNat]
def k0_mult88 (v2128 : BitVec 32) : BitVec 32 :=
  let c8_i32_840 : BitVec 32 := 8#32
  let v2129 : BitVec 32 := Scalar.muli v2128 c8_i32_840
  v2129

def k0_off180 (v2128 : BitVec 32) : Fin 2 → Nat :=
  let c8_i32_840 : BitVec 32 := 8#32
  let v2129 : BitVec 32 := Scalar.muli v2128 c8_i32_840
  let v2130 : BitVec 32 := v2129
  let v2131 : Index := Scalar.indexCast v2130
  let c0_841 : Index := 0#32
  ![v2131.toNat, 0]

def k0_chk88 (v2128 : BitVec 32) : Prop :=
  (8 ∣ (k0_mult88 v2128).toNat) ∧
  (∀ a, (k0_off180 v2128) a + S8x128.size a ≤ S15360x128.size a)
theorem k0_mult88_dvd : ∀ (v2128 : BitVec 32) (k0_hw88 : k0_chk88 v2128), 8 ∣ (k0_mult88 v2128).toNat := fun v2128 k0_hw88 => k0_hw88.1
theorem k0_off180_inb : ∀ (v2128 : BitVec 32) (k0_hw88 : k0_chk88 v2128), ∀ a, (k0_off180 v2128) a + S8x128.size a ≤ S15360x128.size a := fun v2128 k0_hw88 => k0_hw88.2

def k0_off181 (i : grid0.Coords) : Fin 1 → Nat :=
  let arg1 : BitVec 32 := BitVec.ofNat 32 (i 1).val
  let c128_i32_858 : BitVec 32 := 128#32
  let v2183 : BitVec 32 := Scalar.muli arg1 c128_i32_858
  let c67_i32 : BitVec 32 := 67#32
  let v2184 : BitVec 32 := Scalar.addi v2183 c67_i32
  let v2185 : Index := Scalar.indexCast v2184
  ![v2185.toNat]
def k0_mult89 (v2186 : BitVec 32) : BitVec 32 :=
  let c8_i32_859 : BitVec 32 := 8#32
  let v2187 : BitVec 32 := Scalar.muli v2186 c8_i32_859
  v2187

def k0_off182 (v2186 : BitVec 32) : Fin 2 → Nat :=
  let c8_i32_859 : BitVec 32 := 8#32
  let v2187 : BitVec 32 := Scalar.muli v2186 c8_i32_859
  let v2188 : BitVec 32 := v2187
  let v2189 : Index := Scalar.indexCast v2188
  let c0_860 : Index := 0#32
  ![v2189.toNat, 0]

def k0_chk89 (v2186 : BitVec 32) : Prop :=
  (8 ∣ (k0_mult89 v2186).toNat) ∧
  (∀ a, (k0_off182 v2186) a + S8x128.size a ≤ S15360x128.size a)
theorem k0_mult89_dvd : ∀ (v2186 : BitVec 32) (k0_hw89 : k0_chk89 v2186), 8 ∣ (k0_mult89 v2186).toNat := fun v2186 k0_hw89 => k0_hw89.1
theorem k0_off182_inb : ∀ (v2186 : BitVec 32) (k0_hw89 : k0_chk89 v2186), ∀ a, (k0_off182 v2186) a + S8x128.size a ≤ S15360x128.size a := fun v2186 k0_hw89 => k0_hw89.2

def k0_off183 (i : grid0.Coords) : Fin 1 → Nat :=
  let arg1 : BitVec 32 := BitVec.ofNat 32 (i 1).val
  let c128_i32_865 : BitVec 32 := 128#32
  let v2200 : BitVec 32 := Scalar.muli arg1 c128_i32_865
  let c71_i32 : BitVec 32 := 71#32
  let v2201 : BitVec 32 := Scalar.addi v2200 c71_i32
  let v2202 : Index := Scalar.indexCast v2201
  ![v2202.toNat]
def k0_mult90 (v2203 : BitVec 32) : BitVec 32 :=
  let c8_i32_866 : BitVec 32 := 8#32
  let v2204 : BitVec 32 := Scalar.muli v2203 c8_i32_866
  v2204

def k0_off184 (v2203 : BitVec 32) : Fin 2 → Nat :=
  let c8_i32_866 : BitVec 32 := 8#32
  let v2204 : BitVec 32 := Scalar.muli v2203 c8_i32_866
  let v2205 : BitVec 32 := v2204
  let v2206 : Index := Scalar.indexCast v2205
  let c0_867 : Index := 0#32
  ![v2206.toNat, 0]

def k0_chk90 (v2203 : BitVec 32) : Prop :=
  (8 ∣ (k0_mult90 v2203).toNat) ∧
  (∀ a, (k0_off184 v2203) a + S8x128.size a ≤ S15360x128.size a)
theorem k0_mult90_dvd : ∀ (v2203 : BitVec 32) (k0_hw90 : k0_chk90 v2203), 8 ∣ (k0_mult90 v2203).toNat := fun v2203 k0_hw90 => k0_hw90.1
theorem k0_off184_inb : ∀ (v2203 : BitVec 32) (k0_hw90 : k0_chk90 v2203), ∀ a, (k0_off184 v2203) a + S8x128.size a ≤ S15360x128.size a := fun v2203 k0_hw90 => k0_hw90.2

def k0_off185 (i : grid0.Coords) : Fin 1 → Nat :=
  let arg1 : BitVec 32 := BitVec.ofNat 32 (i 1).val
  let c128_i32_872 : BitVec 32 := 128#32
  let v2217 : BitVec 32 := Scalar.muli arg1 c128_i32_872
  let c75_i32 : BitVec 32 := 75#32
  let v2218 : BitVec 32 := Scalar.addi v2217 c75_i32
  let v2219 : Index := Scalar.indexCast v2218
  ![v2219.toNat]
def k0_mult91 (v2220 : BitVec 32) : BitVec 32 :=
  let c8_i32_873 : BitVec 32 := 8#32
  let v2221 : BitVec 32 := Scalar.muli v2220 c8_i32_873
  v2221

def k0_off186 (v2220 : BitVec 32) : Fin 2 → Nat :=
  let c8_i32_873 : BitVec 32 := 8#32
  let v2221 : BitVec 32 := Scalar.muli v2220 c8_i32_873
  let v2222 : BitVec 32 := v2221
  let v2223 : Index := Scalar.indexCast v2222
  let c0_874 : Index := 0#32
  ![v2223.toNat, 0]

def k0_chk91 (v2220 : BitVec 32) : Prop :=
  (8 ∣ (k0_mult91 v2220).toNat) ∧
  (∀ a, (k0_off186 v2220) a + S8x128.size a ≤ S15360x128.size a)
theorem k0_mult91_dvd : ∀ (v2220 : BitVec 32) (k0_hw91 : k0_chk91 v2220), 8 ∣ (k0_mult91 v2220).toNat := fun v2220 k0_hw91 => k0_hw91.1
theorem k0_off186_inb : ∀ (v2220 : BitVec 32) (k0_hw91 : k0_chk91 v2220), ∀ a, (k0_off186 v2220) a + S8x128.size a ≤ S15360x128.size a := fun v2220 k0_hw91 => k0_hw91.2

def k0_off187 (i : grid0.Coords) : Fin 1 → Nat :=
  let arg1 : BitVec 32 := BitVec.ofNat 32 (i 1).val
  let c128_i32_879 : BitVec 32 := 128#32
  let v2234 : BitVec 32 := Scalar.muli arg1 c128_i32_879
  let c79_i32 : BitVec 32 := 79#32
  let v2235 : BitVec 32 := Scalar.addi v2234 c79_i32
  let v2236 : Index := Scalar.indexCast v2235
  ![v2236.toNat]
def k0_mult92 (v2237 : BitVec 32) : BitVec 32 :=
  let c8_i32_880 : BitVec 32 := 8#32
  let v2238 : BitVec 32 := Scalar.muli v2237 c8_i32_880
  v2238

def k0_off188 (v2237 : BitVec 32) : Fin 2 → Nat :=
  let c8_i32_880 : BitVec 32 := 8#32
  let v2238 : BitVec 32 := Scalar.muli v2237 c8_i32_880
  let v2239 : BitVec 32 := v2238
  let v2240 : Index := Scalar.indexCast v2239
  let c0_881 : Index := 0#32
  ![v2240.toNat, 0]

def k0_chk92 (v2237 : BitVec 32) : Prop :=
  (8 ∣ (k0_mult92 v2237).toNat) ∧
  (∀ a, (k0_off188 v2237) a + S8x128.size a ≤ S15360x128.size a)
theorem k0_mult92_dvd : ∀ (v2237 : BitVec 32) (k0_hw92 : k0_chk92 v2237), 8 ∣ (k0_mult92 v2237).toNat := fun v2237 k0_hw92 => k0_hw92.1
theorem k0_off188_inb : ∀ (v2237 : BitVec 32) (k0_hw92 : k0_chk92 v2237), ∀ a, (k0_off188 v2237) a + S8x128.size a ≤ S15360x128.size a := fun v2237 k0_hw92 => k0_hw92.2

def k0_off189 (i : grid0.Coords) : Fin 1 → Nat :=
  let arg1 : BitVec 32 := BitVec.ofNat 32 (i 1).val
  let c128_i32_886 : BitVec 32 := 128#32
  let v2251 : BitVec 32 := Scalar.muli arg1 c128_i32_886
  let c83_i32 : BitVec 32 := 83#32
  let v2252 : BitVec 32 := Scalar.addi v2251 c83_i32
  let v2253 : Index := Scalar.indexCast v2252
  ![v2253.toNat]
def k0_mult93 (v2254 : BitVec 32) : BitVec 32 :=
  let c8_i32_887 : BitVec 32 := 8#32
  let v2255 : BitVec 32 := Scalar.muli v2254 c8_i32_887
  v2255

def k0_off190 (v2254 : BitVec 32) : Fin 2 → Nat :=
  let c8_i32_887 : BitVec 32 := 8#32
  let v2255 : BitVec 32 := Scalar.muli v2254 c8_i32_887
  let v2256 : BitVec 32 := v2255
  let v2257 : Index := Scalar.indexCast v2256
  let c0_888 : Index := 0#32
  ![v2257.toNat, 0]

def k0_chk93 (v2254 : BitVec 32) : Prop :=
  (8 ∣ (k0_mult93 v2254).toNat) ∧
  (∀ a, (k0_off190 v2254) a + S8x128.size a ≤ S15360x128.size a)
theorem k0_mult93_dvd : ∀ (v2254 : BitVec 32) (k0_hw93 : k0_chk93 v2254), 8 ∣ (k0_mult93 v2254).toNat := fun v2254 k0_hw93 => k0_hw93.1
theorem k0_off190_inb : ∀ (v2254 : BitVec 32) (k0_hw93 : k0_chk93 v2254), ∀ a, (k0_off190 v2254) a + S8x128.size a ≤ S15360x128.size a := fun v2254 k0_hw93 => k0_hw93.2

def k0_off191 (i : grid0.Coords) : Fin 1 → Nat :=
  let arg1 : BitVec 32 := BitVec.ofNat 32 (i 1).val
  let c128_i32_893 : BitVec 32 := 128#32
  let v2268 : BitVec 32 := Scalar.muli arg1 c128_i32_893
  let c87_i32 : BitVec 32 := 87#32
  let v2269 : BitVec 32 := Scalar.addi v2268 c87_i32
  let v2270 : Index := Scalar.indexCast v2269
  ![v2270.toNat]
def k0_mult94 (v2271 : BitVec 32) : BitVec 32 :=
  let c8_i32_894 : BitVec 32 := 8#32
  let v2272 : BitVec 32 := Scalar.muli v2271 c8_i32_894
  v2272

def k0_off192 (v2271 : BitVec 32) : Fin 2 → Nat :=
  let c8_i32_894 : BitVec 32 := 8#32
  let v2272 : BitVec 32 := Scalar.muli v2271 c8_i32_894
  let v2273 : BitVec 32 := v2272
  let v2274 : Index := Scalar.indexCast v2273
  let c0_895 : Index := 0#32
  ![v2274.toNat, 0]

def k0_chk94 (v2271 : BitVec 32) : Prop :=
  (8 ∣ (k0_mult94 v2271).toNat) ∧
  (∀ a, (k0_off192 v2271) a + S8x128.size a ≤ S15360x128.size a)
theorem k0_mult94_dvd : ∀ (v2271 : BitVec 32) (k0_hw94 : k0_chk94 v2271), 8 ∣ (k0_mult94 v2271).toNat := fun v2271 k0_hw94 => k0_hw94.1
theorem k0_off192_inb : ∀ (v2271 : BitVec 32) (k0_hw94 : k0_chk94 v2271), ∀ a, (k0_off192 v2271) a + S8x128.size a ≤ S15360x128.size a := fun v2271 k0_hw94 => k0_hw94.2

def k0_off193 (i : grid0.Coords) : Fin 1 → Nat :=
  let arg1 : BitVec 32 := BitVec.ofNat 32 (i 1).val
  let c128_i32_900 : BitVec 32 := 128#32
  let v2285 : BitVec 32 := Scalar.muli arg1 c128_i32_900
  let c91_i32 : BitVec 32 := 91#32
  let v2286 : BitVec 32 := Scalar.addi v2285 c91_i32
  let v2287 : Index := Scalar.indexCast v2286
  ![v2287.toNat]
def k0_mult95 (v2288 : BitVec 32) : BitVec 32 :=
  let c8_i32_901 : BitVec 32 := 8#32
  let v2289 : BitVec 32 := Scalar.muli v2288 c8_i32_901
  v2289

def k0_off194 (v2288 : BitVec 32) : Fin 2 → Nat :=
  let c8_i32_901 : BitVec 32 := 8#32
  let v2289 : BitVec 32 := Scalar.muli v2288 c8_i32_901
  let v2290 : BitVec 32 := v2289
  let v2291 : Index := Scalar.indexCast v2290
  let c0_902 : Index := 0#32
  ![v2291.toNat, 0]

def k0_chk95 (v2288 : BitVec 32) : Prop :=
  (8 ∣ (k0_mult95 v2288).toNat) ∧
  (∀ a, (k0_off194 v2288) a + S8x128.size a ≤ S15360x128.size a)
theorem k0_mult95_dvd : ∀ (v2288 : BitVec 32) (k0_hw95 : k0_chk95 v2288), 8 ∣ (k0_mult95 v2288).toNat := fun v2288 k0_hw95 => k0_hw95.1
theorem k0_off194_inb : ∀ (v2288 : BitVec 32) (k0_hw95 : k0_chk95 v2288), ∀ a, (k0_off194 v2288) a + S8x128.size a ≤ S15360x128.size a := fun v2288 k0_hw95 => k0_hw95.2

def k0_off195 (i : grid0.Coords) : Fin 1 → Nat :=
  let arg1 : BitVec 32 := BitVec.ofNat 32 (i 1).val
  let c128_i32_907 : BitVec 32 := 128#32
  let v2302 : BitVec 32 := Scalar.muli arg1 c128_i32_907
  let c95_i32 : BitVec 32 := 95#32
  let v2303 : BitVec 32 := Scalar.addi v2302 c95_i32
  let v2304 : Index := Scalar.indexCast v2303
  ![v2304.toNat]
def k0_mult96 (v2305 : BitVec 32) : BitVec 32 :=
  let c8_i32_908 : BitVec 32 := 8#32
  let v2306 : BitVec 32 := Scalar.muli v2305 c8_i32_908
  v2306

def k0_off196 (v2305 : BitVec 32) : Fin 2 → Nat :=
  let c8_i32_908 : BitVec 32 := 8#32
  let v2306 : BitVec 32 := Scalar.muli v2305 c8_i32_908
  let v2307 : BitVec 32 := v2306
  let v2308 : Index := Scalar.indexCast v2307
  let c0_909 : Index := 0#32
  ![v2308.toNat, 0]

def k0_chk96 (v2305 : BitVec 32) : Prop :=
  (8 ∣ (k0_mult96 v2305).toNat) ∧
  (∀ a, (k0_off196 v2305) a + S8x128.size a ≤ S15360x128.size a)
theorem k0_mult96_dvd : ∀ (v2305 : BitVec 32) (k0_hw96 : k0_chk96 v2305), 8 ∣ (k0_mult96 v2305).toNat := fun v2305 k0_hw96 => k0_hw96.1
theorem k0_off196_inb : ∀ (v2305 : BitVec 32) (k0_hw96 : k0_chk96 v2305), ∀ a, (k0_off196 v2305) a + S8x128.size a ≤ S15360x128.size a := fun v2305 k0_hw96 => k0_hw96.2

def k0_off197 (i : grid0.Coords) : Fin 1 → Nat :=
  let arg1 : BitVec 32 := BitVec.ofNat 32 (i 1).val
  let c128_i32_970 : BitVec 32 := 128#32
  let v2444 : BitVec 32 := Scalar.muli arg1 c128_i32_970
  let c96_i32 : BitVec 32 := 96#32
  let v2445 : BitVec 32 := Scalar.addi v2444 c96_i32
  let v2446 : Index := Scalar.indexCast v2445
  ![v2446.toNat]
def k0_mult97 (v2447 : BitVec 32) : BitVec 32 :=
  let c8_i32_971 : BitVec 32 := 8#32
  let v2448 : BitVec 32 := Scalar.muli v2447 c8_i32_971
  v2448

def k0_off198 (v2447 : BitVec 32) : Fin 2 → Nat :=
  let c8_i32_971 : BitVec 32 := 8#32
  let v2448 : BitVec 32 := Scalar.muli v2447 c8_i32_971
  let v2449 : BitVec 32 := v2448
  let v2450 : Index := Scalar.indexCast v2449
  let c0_972 : Index := 0#32
  ![v2450.toNat, 0]

def k0_chk97 (v2447 : BitVec 32) : Prop :=
  (8 ∣ (k0_mult97 v2447).toNat) ∧
  (∀ a, (k0_off198 v2447) a + S8x128.size a ≤ S15360x128.size a)
theorem k0_mult97_dvd : ∀ (v2447 : BitVec 32) (k0_hw97 : k0_chk97 v2447), 8 ∣ (k0_mult97 v2447).toNat := fun v2447 k0_hw97 => k0_hw97.1
theorem k0_off198_inb : ∀ (v2447 : BitVec 32) (k0_hw97 : k0_chk97 v2447), ∀ a, (k0_off198 v2447) a + S8x128.size a ≤ S15360x128.size a := fun v2447 k0_hw97 => k0_hw97.2

def k0_off199 (i : grid0.Coords) : Fin 1 → Nat :=
  let arg1 : BitVec 32 := BitVec.ofNat 32 (i 1).val
  let c128_i32_977 : BitVec 32 := 128#32
  let v2461 : BitVec 32 := Scalar.muli arg1 c128_i32_977
  let c100_i32 : BitVec 32 := 100#32
  let v2462 : BitVec 32 := Scalar.addi v2461 c100_i32
  let v2463 : Index := Scalar.indexCast v2462
  ![v2463.toNat]
def k0_mult98 (v2464 : BitVec 32) : BitVec 32 :=
  let c8_i32_978 : BitVec 32 := 8#32
  let v2465 : BitVec 32 := Scalar.muli v2464 c8_i32_978
  v2465

def k0_off200 (v2464 : BitVec 32) : Fin 2 → Nat :=
  let c8_i32_978 : BitVec 32 := 8#32
  let v2465 : BitVec 32 := Scalar.muli v2464 c8_i32_978
  let v2466 : BitVec 32 := v2465
  let v2467 : Index := Scalar.indexCast v2466
  let c0_979 : Index := 0#32
  ![v2467.toNat, 0]

def k0_chk98 (v2464 : BitVec 32) : Prop :=
  (8 ∣ (k0_mult98 v2464).toNat) ∧
  (∀ a, (k0_off200 v2464) a + S8x128.size a ≤ S15360x128.size a)
theorem k0_mult98_dvd : ∀ (v2464 : BitVec 32) (k0_hw98 : k0_chk98 v2464), 8 ∣ (k0_mult98 v2464).toNat := fun v2464 k0_hw98 => k0_hw98.1
theorem k0_off200_inb : ∀ (v2464 : BitVec 32) (k0_hw98 : k0_chk98 v2464), ∀ a, (k0_off200 v2464) a + S8x128.size a ≤ S15360x128.size a := fun v2464 k0_hw98 => k0_hw98.2

def k0_off201 (i : grid0.Coords) : Fin 1 → Nat :=
  let arg1 : BitVec 32 := BitVec.ofNat 32 (i 1).val
  let c128_i32_984 : BitVec 32 := 128#32
  let v2478 : BitVec 32 := Scalar.muli arg1 c128_i32_984
  let c104_i32 : BitVec 32 := 104#32
  let v2479 : BitVec 32 := Scalar.addi v2478 c104_i32
  let v2480 : Index := Scalar.indexCast v2479
  ![v2480.toNat]
def k0_mult99 (v2481 : BitVec 32) : BitVec 32 :=
  let c8_i32_985 : BitVec 32 := 8#32
  let v2482 : BitVec 32 := Scalar.muli v2481 c8_i32_985
  v2482

def k0_off202 (v2481 : BitVec 32) : Fin 2 → Nat :=
  let c8_i32_985 : BitVec 32 := 8#32
  let v2482 : BitVec 32 := Scalar.muli v2481 c8_i32_985
  let v2483 : BitVec 32 := v2482
  let v2484 : Index := Scalar.indexCast v2483
  let c0_986 : Index := 0#32
  ![v2484.toNat, 0]

def k0_chk99 (v2481 : BitVec 32) : Prop :=
  (8 ∣ (k0_mult99 v2481).toNat) ∧
  (∀ a, (k0_off202 v2481) a + S8x128.size a ≤ S15360x128.size a)
theorem k0_mult99_dvd : ∀ (v2481 : BitVec 32) (k0_hw99 : k0_chk99 v2481), 8 ∣ (k0_mult99 v2481).toNat := fun v2481 k0_hw99 => k0_hw99.1
theorem k0_off202_inb : ∀ (v2481 : BitVec 32) (k0_hw99 : k0_chk99 v2481), ∀ a, (k0_off202 v2481) a + S8x128.size a ≤ S15360x128.size a := fun v2481 k0_hw99 => k0_hw99.2

def k0_off203 (i : grid0.Coords) : Fin 1 → Nat :=
  let arg1 : BitVec 32 := BitVec.ofNat 32 (i 1).val
  let c128_i32_991 : BitVec 32 := 128#32
  let v2495 : BitVec 32 := Scalar.muli arg1 c128_i32_991
  let c108_i32 : BitVec 32 := 108#32
  let v2496 : BitVec 32 := Scalar.addi v2495 c108_i32
  let v2497 : Index := Scalar.indexCast v2496
  ![v2497.toNat]
def k0_mult100 (v2498 : BitVec 32) : BitVec 32 :=
  let c8_i32_992 : BitVec 32 := 8#32
  let v2499 : BitVec 32 := Scalar.muli v2498 c8_i32_992
  v2499

def k0_off204 (v2498 : BitVec 32) : Fin 2 → Nat :=
  let c8_i32_992 : BitVec 32 := 8#32
  let v2499 : BitVec 32 := Scalar.muli v2498 c8_i32_992
  let v2500 : BitVec 32 := v2499
  let v2501 : Index := Scalar.indexCast v2500
  let c0_993 : Index := 0#32
  ![v2501.toNat, 0]

def k0_chk100 (v2498 : BitVec 32) : Prop :=
  (8 ∣ (k0_mult100 v2498).toNat) ∧
  (∀ a, (k0_off204 v2498) a + S8x128.size a ≤ S15360x128.size a)
theorem k0_mult100_dvd : ∀ (v2498 : BitVec 32) (k0_hw100 : k0_chk100 v2498), 8 ∣ (k0_mult100 v2498).toNat := fun v2498 k0_hw100 => k0_hw100.1
theorem k0_off204_inb : ∀ (v2498 : BitVec 32) (k0_hw100 : k0_chk100 v2498), ∀ a, (k0_off204 v2498) a + S8x128.size a ≤ S15360x128.size a := fun v2498 k0_hw100 => k0_hw100.2

def k0_off205 (i : grid0.Coords) : Fin 1 → Nat :=
  let arg1 : BitVec 32 := BitVec.ofNat 32 (i 1).val
  let c128_i32_998 : BitVec 32 := 128#32
  let v2512 : BitVec 32 := Scalar.muli arg1 c128_i32_998
  let c112_i32 : BitVec 32 := 112#32
  let v2513 : BitVec 32 := Scalar.addi v2512 c112_i32
  let v2514 : Index := Scalar.indexCast v2513
  ![v2514.toNat]
def k0_mult101 (v2515 : BitVec 32) : BitVec 32 :=
  let c8_i32_999 : BitVec 32 := 8#32
  let v2516 : BitVec 32 := Scalar.muli v2515 c8_i32_999
  v2516

def k0_off206 (v2515 : BitVec 32) : Fin 2 → Nat :=
  let c8_i32_999 : BitVec 32 := 8#32
  let v2516 : BitVec 32 := Scalar.muli v2515 c8_i32_999
  let v2517 : BitVec 32 := v2516
  let v2518 : Index := Scalar.indexCast v2517
  let c0_1000 : Index := 0#32
  ![v2518.toNat, 0]

def k0_chk101 (v2515 : BitVec 32) : Prop :=
  (8 ∣ (k0_mult101 v2515).toNat) ∧
  (∀ a, (k0_off206 v2515) a + S8x128.size a ≤ S15360x128.size a)
theorem k0_mult101_dvd : ∀ (v2515 : BitVec 32) (k0_hw101 : k0_chk101 v2515), 8 ∣ (k0_mult101 v2515).toNat := fun v2515 k0_hw101 => k0_hw101.1
theorem k0_off206_inb : ∀ (v2515 : BitVec 32) (k0_hw101 : k0_chk101 v2515), ∀ a, (k0_off206 v2515) a + S8x128.size a ≤ S15360x128.size a := fun v2515 k0_hw101 => k0_hw101.2

def k0_off207 (i : grid0.Coords) : Fin 1 → Nat :=
  let arg1 : BitVec 32 := BitVec.ofNat 32 (i 1).val
  let c128_i32_1005 : BitVec 32 := 128#32
  let v2529 : BitVec 32 := Scalar.muli arg1 c128_i32_1005
  let c116_i32 : BitVec 32 := 116#32
  let v2530 : BitVec 32 := Scalar.addi v2529 c116_i32
  let v2531 : Index := Scalar.indexCast v2530
  ![v2531.toNat]
def k0_mult102 (v2532 : BitVec 32) : BitVec 32 :=
  let c8_i32_1006 : BitVec 32 := 8#32
  let v2533 : BitVec 32 := Scalar.muli v2532 c8_i32_1006
  v2533

def k0_off208 (v2532 : BitVec 32) : Fin 2 → Nat :=
  let c8_i32_1006 : BitVec 32 := 8#32
  let v2533 : BitVec 32 := Scalar.muli v2532 c8_i32_1006
  let v2534 : BitVec 32 := v2533
  let v2535 : Index := Scalar.indexCast v2534
  let c0_1007 : Index := 0#32
  ![v2535.toNat, 0]

def k0_chk102 (v2532 : BitVec 32) : Prop :=
  (8 ∣ (k0_mult102 v2532).toNat) ∧
  (∀ a, (k0_off208 v2532) a + S8x128.size a ≤ S15360x128.size a)
theorem k0_mult102_dvd : ∀ (v2532 : BitVec 32) (k0_hw102 : k0_chk102 v2532), 8 ∣ (k0_mult102 v2532).toNat := fun v2532 k0_hw102 => k0_hw102.1
theorem k0_off208_inb : ∀ (v2532 : BitVec 32) (k0_hw102 : k0_chk102 v2532), ∀ a, (k0_off208 v2532) a + S8x128.size a ≤ S15360x128.size a := fun v2532 k0_hw102 => k0_hw102.2

def k0_off209 (i : grid0.Coords) : Fin 1 → Nat :=
  let arg1 : BitVec 32 := BitVec.ofNat 32 (i 1).val
  let c128_i32_1012 : BitVec 32 := 128#32
  let v2546 : BitVec 32 := Scalar.muli arg1 c128_i32_1012
  let c120_i32 : BitVec 32 := 120#32
  let v2547 : BitVec 32 := Scalar.addi v2546 c120_i32
  let v2548 : Index := Scalar.indexCast v2547
  ![v2548.toNat]
def k0_mult103 (v2549 : BitVec 32) : BitVec 32 :=
  let c8_i32_1013 : BitVec 32 := 8#32
  let v2550 : BitVec 32 := Scalar.muli v2549 c8_i32_1013
  v2550

def k0_off210 (v2549 : BitVec 32) : Fin 2 → Nat :=
  let c8_i32_1013 : BitVec 32 := 8#32
  let v2550 : BitVec 32 := Scalar.muli v2549 c8_i32_1013
  let v2551 : BitVec 32 := v2550
  let v2552 : Index := Scalar.indexCast v2551
  let c0_1014 : Index := 0#32
  ![v2552.toNat, 0]

def k0_chk103 (v2549 : BitVec 32) : Prop :=
  (8 ∣ (k0_mult103 v2549).toNat) ∧
  (∀ a, (k0_off210 v2549) a + S8x128.size a ≤ S15360x128.size a)
theorem k0_mult103_dvd : ∀ (v2549 : BitVec 32) (k0_hw103 : k0_chk103 v2549), 8 ∣ (k0_mult103 v2549).toNat := fun v2549 k0_hw103 => k0_hw103.1
theorem k0_off210_inb : ∀ (v2549 : BitVec 32) (k0_hw103 : k0_chk103 v2549), ∀ a, (k0_off210 v2549) a + S8x128.size a ≤ S15360x128.size a := fun v2549 k0_hw103 => k0_hw103.2

def k0_off211 (i : grid0.Coords) : Fin 1 → Nat :=
  let arg1 : BitVec 32 := BitVec.ofNat 32 (i 1).val
  let c128_i32_1019 : BitVec 32 := 128#32
  let v2563 : BitVec 32 := Scalar.muli arg1 c128_i32_1019
  let c124_i32 : BitVec 32 := 124#32
  let v2564 : BitVec 32 := Scalar.addi v2563 c124_i32
  let v2565 : Index := Scalar.indexCast v2564
  ![v2565.toNat]
def k0_mult104 (v2566 : BitVec 32) : BitVec 32 :=
  let c8_i32_1020 : BitVec 32 := 8#32
  let v2567 : BitVec 32 := Scalar.muli v2566 c8_i32_1020
  v2567

def k0_off212 (v2566 : BitVec 32) : Fin 2 → Nat :=
  let c8_i32_1020 : BitVec 32 := 8#32
  let v2567 : BitVec 32 := Scalar.muli v2566 c8_i32_1020
  let v2568 : BitVec 32 := v2567
  let v2569 : Index := Scalar.indexCast v2568
  let c0_1021 : Index := 0#32
  ![v2569.toNat, 0]

def k0_chk104 (v2566 : BitVec 32) : Prop :=
  (8 ∣ (k0_mult104 v2566).toNat) ∧
  (∀ a, (k0_off212 v2566) a + S8x128.size a ≤ S15360x128.size a)
theorem k0_mult104_dvd : ∀ (v2566 : BitVec 32) (k0_hw104 : k0_chk104 v2566), 8 ∣ (k0_mult104 v2566).toNat := fun v2566 k0_hw104 => k0_hw104.1
theorem k0_off212_inb : ∀ (v2566 : BitVec 32) (k0_hw104 : k0_chk104 v2566), ∀ a, (k0_off212 v2566) a + S8x128.size a ≤ S15360x128.size a := fun v2566 k0_hw104 => k0_hw104.2

def k0_off213 (i : grid0.Coords) : Fin 1 → Nat :=
  let arg1 : BitVec 32 := BitVec.ofNat 32 (i 1).val
  let c128_i32_1038 : BitVec 32 := 128#32
  let v2621 : BitVec 32 := Scalar.muli arg1 c128_i32_1038
  let c97_i32 : BitVec 32 := 97#32
  let v2622 : BitVec 32 := Scalar.addi v2621 c97_i32
  let v2623 : Index := Scalar.indexCast v2622
  ![v2623.toNat]
def k0_mult105 (v2624 : BitVec 32) : BitVec 32 :=
  let c8_i32_1039 : BitVec 32 := 8#32
  let v2625 : BitVec 32 := Scalar.muli v2624 c8_i32_1039
  v2625

def k0_off214 (v2624 : BitVec 32) : Fin 2 → Nat :=
  let c8_i32_1039 : BitVec 32 := 8#32
  let v2625 : BitVec 32 := Scalar.muli v2624 c8_i32_1039
  let v2626 : BitVec 32 := v2625
  let v2627 : Index := Scalar.indexCast v2626
  let c0_1040 : Index := 0#32
  ![v2627.toNat, 0]

def k0_chk105 (v2624 : BitVec 32) : Prop :=
  (8 ∣ (k0_mult105 v2624).toNat) ∧
  (∀ a, (k0_off214 v2624) a + S8x128.size a ≤ S15360x128.size a)
theorem k0_mult105_dvd : ∀ (v2624 : BitVec 32) (k0_hw105 : k0_chk105 v2624), 8 ∣ (k0_mult105 v2624).toNat := fun v2624 k0_hw105 => k0_hw105.1
theorem k0_off214_inb : ∀ (v2624 : BitVec 32) (k0_hw105 : k0_chk105 v2624), ∀ a, (k0_off214 v2624) a + S8x128.size a ≤ S15360x128.size a := fun v2624 k0_hw105 => k0_hw105.2

def k0_off215 (i : grid0.Coords) : Fin 1 → Nat :=
  let arg1 : BitVec 32 := BitVec.ofNat 32 (i 1).val
  let c128_i32_1045 : BitVec 32 := 128#32
  let v2638 : BitVec 32 := Scalar.muli arg1 c128_i32_1045
  let c101_i32 : BitVec 32 := 101#32
  let v2639 : BitVec 32 := Scalar.addi v2638 c101_i32
  let v2640 : Index := Scalar.indexCast v2639
  ![v2640.toNat]
def k0_mult106 (v2641 : BitVec 32) : BitVec 32 :=
  let c8_i32_1046 : BitVec 32 := 8#32
  let v2642 : BitVec 32 := Scalar.muli v2641 c8_i32_1046
  v2642

def k0_off216 (v2641 : BitVec 32) : Fin 2 → Nat :=
  let c8_i32_1046 : BitVec 32 := 8#32
  let v2642 : BitVec 32 := Scalar.muli v2641 c8_i32_1046
  let v2643 : BitVec 32 := v2642
  let v2644 : Index := Scalar.indexCast v2643
  let c0_1047 : Index := 0#32
  ![v2644.toNat, 0]

def k0_chk106 (v2641 : BitVec 32) : Prop :=
  (8 ∣ (k0_mult106 v2641).toNat) ∧
  (∀ a, (k0_off216 v2641) a + S8x128.size a ≤ S15360x128.size a)
theorem k0_mult106_dvd : ∀ (v2641 : BitVec 32) (k0_hw106 : k0_chk106 v2641), 8 ∣ (k0_mult106 v2641).toNat := fun v2641 k0_hw106 => k0_hw106.1
theorem k0_off216_inb : ∀ (v2641 : BitVec 32) (k0_hw106 : k0_chk106 v2641), ∀ a, (k0_off216 v2641) a + S8x128.size a ≤ S15360x128.size a := fun v2641 k0_hw106 => k0_hw106.2

def k0_off217 (i : grid0.Coords) : Fin 1 → Nat :=
  let arg1 : BitVec 32 := BitVec.ofNat 32 (i 1).val
  let c128_i32_1052 : BitVec 32 := 128#32
  let v2655 : BitVec 32 := Scalar.muli arg1 c128_i32_1052
  let c105_i32 : BitVec 32 := 105#32
  let v2656 : BitVec 32 := Scalar.addi v2655 c105_i32
  let v2657 : Index := Scalar.indexCast v2656
  ![v2657.toNat]
def k0_mult107 (v2658 : BitVec 32) : BitVec 32 :=
  let c8_i32_1053 : BitVec 32 := 8#32
  let v2659 : BitVec 32 := Scalar.muli v2658 c8_i32_1053
  v2659

def k0_off218 (v2658 : BitVec 32) : Fin 2 → Nat :=
  let c8_i32_1053 : BitVec 32 := 8#32
  let v2659 : BitVec 32 := Scalar.muli v2658 c8_i32_1053
  let v2660 : BitVec 32 := v2659
  let v2661 : Index := Scalar.indexCast v2660
  let c0_1054 : Index := 0#32
  ![v2661.toNat, 0]

def k0_chk107 (v2658 : BitVec 32) : Prop :=
  (8 ∣ (k0_mult107 v2658).toNat) ∧
  (∀ a, (k0_off218 v2658) a + S8x128.size a ≤ S15360x128.size a)
theorem k0_mult107_dvd : ∀ (v2658 : BitVec 32) (k0_hw107 : k0_chk107 v2658), 8 ∣ (k0_mult107 v2658).toNat := fun v2658 k0_hw107 => k0_hw107.1
theorem k0_off218_inb : ∀ (v2658 : BitVec 32) (k0_hw107 : k0_chk107 v2658), ∀ a, (k0_off218 v2658) a + S8x128.size a ≤ S15360x128.size a := fun v2658 k0_hw107 => k0_hw107.2

def k0_off219 (i : grid0.Coords) : Fin 1 → Nat :=
  let arg1 : BitVec 32 := BitVec.ofNat 32 (i 1).val
  let c128_i32_1059 : BitVec 32 := 128#32
  let v2672 : BitVec 32 := Scalar.muli arg1 c128_i32_1059
  let c109_i32 : BitVec 32 := 109#32
  let v2673 : BitVec 32 := Scalar.addi v2672 c109_i32
  let v2674 : Index := Scalar.indexCast v2673
  ![v2674.toNat]
def k0_mult108 (v2675 : BitVec 32) : BitVec 32 :=
  let c8_i32_1060 : BitVec 32 := 8#32
  let v2676 : BitVec 32 := Scalar.muli v2675 c8_i32_1060
  v2676

def k0_off220 (v2675 : BitVec 32) : Fin 2 → Nat :=
  let c8_i32_1060 : BitVec 32 := 8#32
  let v2676 : BitVec 32 := Scalar.muli v2675 c8_i32_1060
  let v2677 : BitVec 32 := v2676
  let v2678 : Index := Scalar.indexCast v2677
  let c0_1061 : Index := 0#32
  ![v2678.toNat, 0]

def k0_chk108 (v2675 : BitVec 32) : Prop :=
  (8 ∣ (k0_mult108 v2675).toNat) ∧
  (∀ a, (k0_off220 v2675) a + S8x128.size a ≤ S15360x128.size a)
theorem k0_mult108_dvd : ∀ (v2675 : BitVec 32) (k0_hw108 : k0_chk108 v2675), 8 ∣ (k0_mult108 v2675).toNat := fun v2675 k0_hw108 => k0_hw108.1
theorem k0_off220_inb : ∀ (v2675 : BitVec 32) (k0_hw108 : k0_chk108 v2675), ∀ a, (k0_off220 v2675) a + S8x128.size a ≤ S15360x128.size a := fun v2675 k0_hw108 => k0_hw108.2

def k0_off221 (i : grid0.Coords) : Fin 1 → Nat :=
  let arg1 : BitVec 32 := BitVec.ofNat 32 (i 1).val
  let c128_i32_1066 : BitVec 32 := 128#32
  let v2689 : BitVec 32 := Scalar.muli arg1 c128_i32_1066
  let c113_i32 : BitVec 32 := 113#32
  let v2690 : BitVec 32 := Scalar.addi v2689 c113_i32
  let v2691 : Index := Scalar.indexCast v2690
  ![v2691.toNat]
def k0_mult109 (v2692 : BitVec 32) : BitVec 32 :=
  let c8_i32_1067 : BitVec 32 := 8#32
  let v2693 : BitVec 32 := Scalar.muli v2692 c8_i32_1067
  v2693

def k0_off222 (v2692 : BitVec 32) : Fin 2 → Nat :=
  let c8_i32_1067 : BitVec 32 := 8#32
  let v2693 : BitVec 32 := Scalar.muli v2692 c8_i32_1067
  let v2694 : BitVec 32 := v2693
  let v2695 : Index := Scalar.indexCast v2694
  let c0_1068 : Index := 0#32
  ![v2695.toNat, 0]

def k0_chk109 (v2692 : BitVec 32) : Prop :=
  (8 ∣ (k0_mult109 v2692).toNat) ∧
  (∀ a, (k0_off222 v2692) a + S8x128.size a ≤ S15360x128.size a)
theorem k0_mult109_dvd : ∀ (v2692 : BitVec 32) (k0_hw109 : k0_chk109 v2692), 8 ∣ (k0_mult109 v2692).toNat := fun v2692 k0_hw109 => k0_hw109.1
theorem k0_off222_inb : ∀ (v2692 : BitVec 32) (k0_hw109 : k0_chk109 v2692), ∀ a, (k0_off222 v2692) a + S8x128.size a ≤ S15360x128.size a := fun v2692 k0_hw109 => k0_hw109.2

def k0_off223 (i : grid0.Coords) : Fin 1 → Nat :=
  let arg1 : BitVec 32 := BitVec.ofNat 32 (i 1).val
  let c128_i32_1073 : BitVec 32 := 128#32
  let v2706 : BitVec 32 := Scalar.muli arg1 c128_i32_1073
  let c117_i32 : BitVec 32 := 117#32
  let v2707 : BitVec 32 := Scalar.addi v2706 c117_i32
  let v2708 : Index := Scalar.indexCast v2707
  ![v2708.toNat]
def k0_mult110 (v2709 : BitVec 32) : BitVec 32 :=
  let c8_i32_1074 : BitVec 32 := 8#32
  let v2710 : BitVec 32 := Scalar.muli v2709 c8_i32_1074
  v2710

def k0_off224 (v2709 : BitVec 32) : Fin 2 → Nat :=
  let c8_i32_1074 : BitVec 32 := 8#32
  let v2710 : BitVec 32 := Scalar.muli v2709 c8_i32_1074
  let v2711 : BitVec 32 := v2710
  let v2712 : Index := Scalar.indexCast v2711
  let c0_1075 : Index := 0#32
  ![v2712.toNat, 0]

def k0_chk110 (v2709 : BitVec 32) : Prop :=
  (8 ∣ (k0_mult110 v2709).toNat) ∧
  (∀ a, (k0_off224 v2709) a + S8x128.size a ≤ S15360x128.size a)
theorem k0_mult110_dvd : ∀ (v2709 : BitVec 32) (k0_hw110 : k0_chk110 v2709), 8 ∣ (k0_mult110 v2709).toNat := fun v2709 k0_hw110 => k0_hw110.1
theorem k0_off224_inb : ∀ (v2709 : BitVec 32) (k0_hw110 : k0_chk110 v2709), ∀ a, (k0_off224 v2709) a + S8x128.size a ≤ S15360x128.size a := fun v2709 k0_hw110 => k0_hw110.2

def k0_off225 (i : grid0.Coords) : Fin 1 → Nat :=
  let arg1 : BitVec 32 := BitVec.ofNat 32 (i 1).val
  let c128_i32_1080 : BitVec 32 := 128#32
  let v2723 : BitVec 32 := Scalar.muli arg1 c128_i32_1080
  let c121_i32 : BitVec 32 := 121#32
  let v2724 : BitVec 32 := Scalar.addi v2723 c121_i32
  let v2725 : Index := Scalar.indexCast v2724
  ![v2725.toNat]
def k0_mult111 (v2726 : BitVec 32) : BitVec 32 :=
  let c8_i32_1081 : BitVec 32 := 8#32
  let v2727 : BitVec 32 := Scalar.muli v2726 c8_i32_1081
  v2727

def k0_off226 (v2726 : BitVec 32) : Fin 2 → Nat :=
  let c8_i32_1081 : BitVec 32 := 8#32
  let v2727 : BitVec 32 := Scalar.muli v2726 c8_i32_1081
  let v2728 : BitVec 32 := v2727
  let v2729 : Index := Scalar.indexCast v2728
  let c0_1082 : Index := 0#32
  ![v2729.toNat, 0]

def k0_chk111 (v2726 : BitVec 32) : Prop :=
  (8 ∣ (k0_mult111 v2726).toNat) ∧
  (∀ a, (k0_off226 v2726) a + S8x128.size a ≤ S15360x128.size a)
theorem k0_mult111_dvd : ∀ (v2726 : BitVec 32) (k0_hw111 : k0_chk111 v2726), 8 ∣ (k0_mult111 v2726).toNat := fun v2726 k0_hw111 => k0_hw111.1
theorem k0_off226_inb : ∀ (v2726 : BitVec 32) (k0_hw111 : k0_chk111 v2726), ∀ a, (k0_off226 v2726) a + S8x128.size a ≤ S15360x128.size a := fun v2726 k0_hw111 => k0_hw111.2

def k0_off227 (i : grid0.Coords) : Fin 1 → Nat :=
  let arg1 : BitVec 32 := BitVec.ofNat 32 (i 1).val
  let c128_i32_1087 : BitVec 32 := 128#32
  let v2740 : BitVec 32 := Scalar.muli arg1 c128_i32_1087
  let c125_i32 : BitVec 32 := 125#32
  let v2741 : BitVec 32 := Scalar.addi v2740 c125_i32
  let v2742 : Index := Scalar.indexCast v2741
  ![v2742.toNat]
def k0_mult112 (v2743 : BitVec 32) : BitVec 32 :=
  let c8_i32_1088 : BitVec 32 := 8#32
  let v2744 : BitVec 32 := Scalar.muli v2743 c8_i32_1088
  v2744

def k0_off228 (v2743 : BitVec 32) : Fin 2 → Nat :=
  let c8_i32_1088 : BitVec 32 := 8#32
  let v2744 : BitVec 32 := Scalar.muli v2743 c8_i32_1088
  let v2745 : BitVec 32 := v2744
  let v2746 : Index := Scalar.indexCast v2745
  let c0_1089 : Index := 0#32
  ![v2746.toNat, 0]

def k0_chk112 (v2743 : BitVec 32) : Prop :=
  (8 ∣ (k0_mult112 v2743).toNat) ∧
  (∀ a, (k0_off228 v2743) a + S8x128.size a ≤ S15360x128.size a)
theorem k0_mult112_dvd : ∀ (v2743 : BitVec 32) (k0_hw112 : k0_chk112 v2743), 8 ∣ (k0_mult112 v2743).toNat := fun v2743 k0_hw112 => k0_hw112.1
theorem k0_off228_inb : ∀ (v2743 : BitVec 32) (k0_hw112 : k0_chk112 v2743), ∀ a, (k0_off228 v2743) a + S8x128.size a ≤ S15360x128.size a := fun v2743 k0_hw112 => k0_hw112.2

def k0_off229 (i : grid0.Coords) : Fin 1 → Nat :=
  let arg1 : BitVec 32 := BitVec.ofNat 32 (i 1).val
  let c128_i32_1106 : BitVec 32 := 128#32
  let v2798 : BitVec 32 := Scalar.muli arg1 c128_i32_1106
  let c98_i32 : BitVec 32 := 98#32
  let v2799 : BitVec 32 := Scalar.addi v2798 c98_i32
  let v2800 : Index := Scalar.indexCast v2799
  ![v2800.toNat]
def k0_mult113 (v2801 : BitVec 32) : BitVec 32 :=
  let c8_i32_1107 : BitVec 32 := 8#32
  let v2802 : BitVec 32 := Scalar.muli v2801 c8_i32_1107
  v2802

def k0_off230 (v2801 : BitVec 32) : Fin 2 → Nat :=
  let c8_i32_1107 : BitVec 32 := 8#32
  let v2802 : BitVec 32 := Scalar.muli v2801 c8_i32_1107
  let v2803 : BitVec 32 := v2802
  let v2804 : Index := Scalar.indexCast v2803
  let c0_1108 : Index := 0#32
  ![v2804.toNat, 0]

def k0_chk113 (v2801 : BitVec 32) : Prop :=
  (8 ∣ (k0_mult113 v2801).toNat) ∧
  (∀ a, (k0_off230 v2801) a + S8x128.size a ≤ S15360x128.size a)
theorem k0_mult113_dvd : ∀ (v2801 : BitVec 32) (k0_hw113 : k0_chk113 v2801), 8 ∣ (k0_mult113 v2801).toNat := fun v2801 k0_hw113 => k0_hw113.1
theorem k0_off230_inb : ∀ (v2801 : BitVec 32) (k0_hw113 : k0_chk113 v2801), ∀ a, (k0_off230 v2801) a + S8x128.size a ≤ S15360x128.size a := fun v2801 k0_hw113 => k0_hw113.2

def k0_off231 (i : grid0.Coords) : Fin 1 → Nat :=
  let arg1 : BitVec 32 := BitVec.ofNat 32 (i 1).val
  let c128_i32_1113 : BitVec 32 := 128#32
  let v2815 : BitVec 32 := Scalar.muli arg1 c128_i32_1113
  let c102_i32 : BitVec 32 := 102#32
  let v2816 : BitVec 32 := Scalar.addi v2815 c102_i32
  let v2817 : Index := Scalar.indexCast v2816
  ![v2817.toNat]
def k0_mult114 (v2818 : BitVec 32) : BitVec 32 :=
  let c8_i32_1114 : BitVec 32 := 8#32
  let v2819 : BitVec 32 := Scalar.muli v2818 c8_i32_1114
  v2819

def k0_off232 (v2818 : BitVec 32) : Fin 2 → Nat :=
  let c8_i32_1114 : BitVec 32 := 8#32
  let v2819 : BitVec 32 := Scalar.muli v2818 c8_i32_1114
  let v2820 : BitVec 32 := v2819
  let v2821 : Index := Scalar.indexCast v2820
  let c0_1115 : Index := 0#32
  ![v2821.toNat, 0]

def k0_chk114 (v2818 : BitVec 32) : Prop :=
  (8 ∣ (k0_mult114 v2818).toNat) ∧
  (∀ a, (k0_off232 v2818) a + S8x128.size a ≤ S15360x128.size a)
theorem k0_mult114_dvd : ∀ (v2818 : BitVec 32) (k0_hw114 : k0_chk114 v2818), 8 ∣ (k0_mult114 v2818).toNat := fun v2818 k0_hw114 => k0_hw114.1
theorem k0_off232_inb : ∀ (v2818 : BitVec 32) (k0_hw114 : k0_chk114 v2818), ∀ a, (k0_off232 v2818) a + S8x128.size a ≤ S15360x128.size a := fun v2818 k0_hw114 => k0_hw114.2

def k0_off233 (i : grid0.Coords) : Fin 1 → Nat :=
  let arg1 : BitVec 32 := BitVec.ofNat 32 (i 1).val
  let c128_i32_1120 : BitVec 32 := 128#32
  let v2832 : BitVec 32 := Scalar.muli arg1 c128_i32_1120
  let c106_i32 : BitVec 32 := 106#32
  let v2833 : BitVec 32 := Scalar.addi v2832 c106_i32
  let v2834 : Index := Scalar.indexCast v2833
  ![v2834.toNat]
def k0_mult115 (v2835 : BitVec 32) : BitVec 32 :=
  let c8_i32_1121 : BitVec 32 := 8#32
  let v2836 : BitVec 32 := Scalar.muli v2835 c8_i32_1121
  v2836

def k0_off234 (v2835 : BitVec 32) : Fin 2 → Nat :=
  let c8_i32_1121 : BitVec 32 := 8#32
  let v2836 : BitVec 32 := Scalar.muli v2835 c8_i32_1121
  let v2837 : BitVec 32 := v2836
  let v2838 : Index := Scalar.indexCast v2837
  let c0_1122 : Index := 0#32
  ![v2838.toNat, 0]

def k0_chk115 (v2835 : BitVec 32) : Prop :=
  (8 ∣ (k0_mult115 v2835).toNat) ∧
  (∀ a, (k0_off234 v2835) a + S8x128.size a ≤ S15360x128.size a)
theorem k0_mult115_dvd : ∀ (v2835 : BitVec 32) (k0_hw115 : k0_chk115 v2835), 8 ∣ (k0_mult115 v2835).toNat := fun v2835 k0_hw115 => k0_hw115.1
theorem k0_off234_inb : ∀ (v2835 : BitVec 32) (k0_hw115 : k0_chk115 v2835), ∀ a, (k0_off234 v2835) a + S8x128.size a ≤ S15360x128.size a := fun v2835 k0_hw115 => k0_hw115.2

def k0_off235 (i : grid0.Coords) : Fin 1 → Nat :=
  let arg1 : BitVec 32 := BitVec.ofNat 32 (i 1).val
  let c128_i32_1127 : BitVec 32 := 128#32
  let v2849 : BitVec 32 := Scalar.muli arg1 c128_i32_1127
  let c110_i32 : BitVec 32 := 110#32
  let v2850 : BitVec 32 := Scalar.addi v2849 c110_i32
  let v2851 : Index := Scalar.indexCast v2850
  ![v2851.toNat]
def k0_mult116 (v2852 : BitVec 32) : BitVec 32 :=
  let c8_i32_1128 : BitVec 32 := 8#32
  let v2853 : BitVec 32 := Scalar.muli v2852 c8_i32_1128
  v2853

def k0_off236 (v2852 : BitVec 32) : Fin 2 → Nat :=
  let c8_i32_1128 : BitVec 32 := 8#32
  let v2853 : BitVec 32 := Scalar.muli v2852 c8_i32_1128
  let v2854 : BitVec 32 := v2853
  let v2855 : Index := Scalar.indexCast v2854
  let c0_1129 : Index := 0#32
  ![v2855.toNat, 0]

def k0_chk116 (v2852 : BitVec 32) : Prop :=
  (8 ∣ (k0_mult116 v2852).toNat) ∧
  (∀ a, (k0_off236 v2852) a + S8x128.size a ≤ S15360x128.size a)
theorem k0_mult116_dvd : ∀ (v2852 : BitVec 32) (k0_hw116 : k0_chk116 v2852), 8 ∣ (k0_mult116 v2852).toNat := fun v2852 k0_hw116 => k0_hw116.1
theorem k0_off236_inb : ∀ (v2852 : BitVec 32) (k0_hw116 : k0_chk116 v2852), ∀ a, (k0_off236 v2852) a + S8x128.size a ≤ S15360x128.size a := fun v2852 k0_hw116 => k0_hw116.2

def k0_off237 (i : grid0.Coords) : Fin 1 → Nat :=
  let arg1 : BitVec 32 := BitVec.ofNat 32 (i 1).val
  let c128_i32_1134 : BitVec 32 := 128#32
  let v2866 : BitVec 32 := Scalar.muli arg1 c128_i32_1134
  let c114_i32 : BitVec 32 := 114#32
  let v2867 : BitVec 32 := Scalar.addi v2866 c114_i32
  let v2868 : Index := Scalar.indexCast v2867
  ![v2868.toNat]
def k0_mult117 (v2869 : BitVec 32) : BitVec 32 :=
  let c8_i32_1135 : BitVec 32 := 8#32
  let v2870 : BitVec 32 := Scalar.muli v2869 c8_i32_1135
  v2870

def k0_off238 (v2869 : BitVec 32) : Fin 2 → Nat :=
  let c8_i32_1135 : BitVec 32 := 8#32
  let v2870 : BitVec 32 := Scalar.muli v2869 c8_i32_1135
  let v2871 : BitVec 32 := v2870
  let v2872 : Index := Scalar.indexCast v2871
  let c0_1136 : Index := 0#32
  ![v2872.toNat, 0]

def k0_chk117 (v2869 : BitVec 32) : Prop :=
  (8 ∣ (k0_mult117 v2869).toNat) ∧
  (∀ a, (k0_off238 v2869) a + S8x128.size a ≤ S15360x128.size a)
theorem k0_mult117_dvd : ∀ (v2869 : BitVec 32) (k0_hw117 : k0_chk117 v2869), 8 ∣ (k0_mult117 v2869).toNat := fun v2869 k0_hw117 => k0_hw117.1
theorem k0_off238_inb : ∀ (v2869 : BitVec 32) (k0_hw117 : k0_chk117 v2869), ∀ a, (k0_off238 v2869) a + S8x128.size a ≤ S15360x128.size a := fun v2869 k0_hw117 => k0_hw117.2

def k0_off239 (i : grid0.Coords) : Fin 1 → Nat :=
  let arg1 : BitVec 32 := BitVec.ofNat 32 (i 1).val
  let c128_i32_1141 : BitVec 32 := 128#32
  let v2883 : BitVec 32 := Scalar.muli arg1 c128_i32_1141
  let c118_i32 : BitVec 32 := 118#32
  let v2884 : BitVec 32 := Scalar.addi v2883 c118_i32
  let v2885 : Index := Scalar.indexCast v2884
  ![v2885.toNat]
def k0_mult118 (v2886 : BitVec 32) : BitVec 32 :=
  let c8_i32_1142 : BitVec 32 := 8#32
  let v2887 : BitVec 32 := Scalar.muli v2886 c8_i32_1142
  v2887

def k0_off240 (v2886 : BitVec 32) : Fin 2 → Nat :=
  let c8_i32_1142 : BitVec 32 := 8#32
  let v2887 : BitVec 32 := Scalar.muli v2886 c8_i32_1142
  let v2888 : BitVec 32 := v2887
  let v2889 : Index := Scalar.indexCast v2888
  let c0_1143 : Index := 0#32
  ![v2889.toNat, 0]

def k0_chk118 (v2886 : BitVec 32) : Prop :=
  (8 ∣ (k0_mult118 v2886).toNat) ∧
  (∀ a, (k0_off240 v2886) a + S8x128.size a ≤ S15360x128.size a)
theorem k0_mult118_dvd : ∀ (v2886 : BitVec 32) (k0_hw118 : k0_chk118 v2886), 8 ∣ (k0_mult118 v2886).toNat := fun v2886 k0_hw118 => k0_hw118.1
theorem k0_off240_inb : ∀ (v2886 : BitVec 32) (k0_hw118 : k0_chk118 v2886), ∀ a, (k0_off240 v2886) a + S8x128.size a ≤ S15360x128.size a := fun v2886 k0_hw118 => k0_hw118.2

def k0_off241 (i : grid0.Coords) : Fin 1 → Nat :=
  let arg1 : BitVec 32 := BitVec.ofNat 32 (i 1).val
  let c128_i32_1148 : BitVec 32 := 128#32
  let v2900 : BitVec 32 := Scalar.muli arg1 c128_i32_1148
  let c122_i32 : BitVec 32 := 122#32
  let v2901 : BitVec 32 := Scalar.addi v2900 c122_i32
  let v2902 : Index := Scalar.indexCast v2901
  ![v2902.toNat]
def k0_mult119 (v2903 : BitVec 32) : BitVec 32 :=
  let c8_i32_1149 : BitVec 32 := 8#32
  let v2904 : BitVec 32 := Scalar.muli v2903 c8_i32_1149
  v2904

def k0_off242 (v2903 : BitVec 32) : Fin 2 → Nat :=
  let c8_i32_1149 : BitVec 32 := 8#32
  let v2904 : BitVec 32 := Scalar.muli v2903 c8_i32_1149
  let v2905 : BitVec 32 := v2904
  let v2906 : Index := Scalar.indexCast v2905
  let c0_1150 : Index := 0#32
  ![v2906.toNat, 0]

def k0_chk119 (v2903 : BitVec 32) : Prop :=
  (8 ∣ (k0_mult119 v2903).toNat) ∧
  (∀ a, (k0_off242 v2903) a + S8x128.size a ≤ S15360x128.size a)
theorem k0_mult119_dvd : ∀ (v2903 : BitVec 32) (k0_hw119 : k0_chk119 v2903), 8 ∣ (k0_mult119 v2903).toNat := fun v2903 k0_hw119 => k0_hw119.1
theorem k0_off242_inb : ∀ (v2903 : BitVec 32) (k0_hw119 : k0_chk119 v2903), ∀ a, (k0_off242 v2903) a + S8x128.size a ≤ S15360x128.size a := fun v2903 k0_hw119 => k0_hw119.2

def k0_off243 (i : grid0.Coords) : Fin 1 → Nat :=
  let arg1 : BitVec 32 := BitVec.ofNat 32 (i 1).val
  let c128_i32_1155 : BitVec 32 := 128#32
  let v2917 : BitVec 32 := Scalar.muli arg1 c128_i32_1155
  let c126_i32_1156 : BitVec 32 := 126#32
  let v2918 : BitVec 32 := Scalar.addi v2917 c126_i32_1156
  let v2919 : Index := Scalar.indexCast v2918
  ![v2919.toNat]
def k0_mult120 (v2920 : BitVec 32) : BitVec 32 :=
  let c8_i32_1157 : BitVec 32 := 8#32
  let v2921 : BitVec 32 := Scalar.muli v2920 c8_i32_1157
  v2921

def k0_off244 (v2920 : BitVec 32) : Fin 2 → Nat :=
  let c8_i32_1157 : BitVec 32 := 8#32
  let v2921 : BitVec 32 := Scalar.muli v2920 c8_i32_1157
  let v2922 : BitVec 32 := v2921
  let v2923 : Index := Scalar.indexCast v2922
  let c0_1158 : Index := 0#32
  ![v2923.toNat, 0]

def k0_chk120 (v2920 : BitVec 32) : Prop :=
  (8 ∣ (k0_mult120 v2920).toNat) ∧
  (∀ a, (k0_off244 v2920) a + S8x128.size a ≤ S15360x128.size a)
theorem k0_mult120_dvd : ∀ (v2920 : BitVec 32) (k0_hw120 : k0_chk120 v2920), 8 ∣ (k0_mult120 v2920).toNat := fun v2920 k0_hw120 => k0_hw120.1
theorem k0_off244_inb : ∀ (v2920 : BitVec 32) (k0_hw120 : k0_chk120 v2920), ∀ a, (k0_off244 v2920) a + S8x128.size a ≤ S15360x128.size a := fun v2920 k0_hw120 => k0_hw120.2

def k0_off245 (i : grid0.Coords) : Fin 1 → Nat :=
  let arg1 : BitVec 32 := BitVec.ofNat 32 (i 1).val
  let c128_i32_1175 : BitVec 32 := 128#32
  let v2975 : BitVec 32 := Scalar.muli arg1 c128_i32_1175
  let c99_i32 : BitVec 32 := 99#32
  let v2976 : BitVec 32 := Scalar.addi v2975 c99_i32
  let v2977 : Index := Scalar.indexCast v2976
  ![v2977.toNat]
def k0_mult121 (v2978 : BitVec 32) : BitVec 32 :=
  let c8_i32_1176 : BitVec 32 := 8#32
  let v2979 : BitVec 32 := Scalar.muli v2978 c8_i32_1176
  v2979

def k0_off246 (v2978 : BitVec 32) : Fin 2 → Nat :=
  let c8_i32_1176 : BitVec 32 := 8#32
  let v2979 : BitVec 32 := Scalar.muli v2978 c8_i32_1176
  let v2980 : BitVec 32 := v2979
  let v2981 : Index := Scalar.indexCast v2980
  let c0_1177 : Index := 0#32
  ![v2981.toNat, 0]

def k0_chk121 (v2978 : BitVec 32) : Prop :=
  (8 ∣ (k0_mult121 v2978).toNat) ∧
  (∀ a, (k0_off246 v2978) a + S8x128.size a ≤ S15360x128.size a)
theorem k0_mult121_dvd : ∀ (v2978 : BitVec 32) (k0_hw121 : k0_chk121 v2978), 8 ∣ (k0_mult121 v2978).toNat := fun v2978 k0_hw121 => k0_hw121.1
theorem k0_off246_inb : ∀ (v2978 : BitVec 32) (k0_hw121 : k0_chk121 v2978), ∀ a, (k0_off246 v2978) a + S8x128.size a ≤ S15360x128.size a := fun v2978 k0_hw121 => k0_hw121.2

def k0_off247 (i : grid0.Coords) : Fin 1 → Nat :=
  let arg1 : BitVec 32 := BitVec.ofNat 32 (i 1).val
  let c128_i32_1182 : BitVec 32 := 128#32
  let v2992 : BitVec 32 := Scalar.muli arg1 c128_i32_1182
  let c103_i32 : BitVec 32 := 103#32
  let v2993 : BitVec 32 := Scalar.addi v2992 c103_i32
  let v2994 : Index := Scalar.indexCast v2993
  ![v2994.toNat]
def k0_mult122 (v2995 : BitVec 32) : BitVec 32 :=
  let c8_i32_1183 : BitVec 32 := 8#32
  let v2996 : BitVec 32 := Scalar.muli v2995 c8_i32_1183
  v2996

def k0_off248 (v2995 : BitVec 32) : Fin 2 → Nat :=
  let c8_i32_1183 : BitVec 32 := 8#32
  let v2996 : BitVec 32 := Scalar.muli v2995 c8_i32_1183
  let v2997 : BitVec 32 := v2996
  let v2998 : Index := Scalar.indexCast v2997
  let c0_1184 : Index := 0#32
  ![v2998.toNat, 0]

def k0_chk122 (v2995 : BitVec 32) : Prop :=
  (8 ∣ (k0_mult122 v2995).toNat) ∧
  (∀ a, (k0_off248 v2995) a + S8x128.size a ≤ S15360x128.size a)
theorem k0_mult122_dvd : ∀ (v2995 : BitVec 32) (k0_hw122 : k0_chk122 v2995), 8 ∣ (k0_mult122 v2995).toNat := fun v2995 k0_hw122 => k0_hw122.1
theorem k0_off248_inb : ∀ (v2995 : BitVec 32) (k0_hw122 : k0_chk122 v2995), ∀ a, (k0_off248 v2995) a + S8x128.size a ≤ S15360x128.size a := fun v2995 k0_hw122 => k0_hw122.2

def k0_off249 (i : grid0.Coords) : Fin 1 → Nat :=
  let arg1 : BitVec 32 := BitVec.ofNat 32 (i 1).val
  let c128_i32_1189 : BitVec 32 := 128#32
  let v3009 : BitVec 32 := Scalar.muli arg1 c128_i32_1189
  let c107_i32 : BitVec 32 := 107#32
  let v3010 : BitVec 32 := Scalar.addi v3009 c107_i32
  let v3011 : Index := Scalar.indexCast v3010
  ![v3011.toNat]
def k0_mult123 (v3012 : BitVec 32) : BitVec 32 :=
  let c8_i32_1190 : BitVec 32 := 8#32
  let v3013 : BitVec 32 := Scalar.muli v3012 c8_i32_1190
  v3013

def k0_off250 (v3012 : BitVec 32) : Fin 2 → Nat :=
  let c8_i32_1190 : BitVec 32 := 8#32
  let v3013 : BitVec 32 := Scalar.muli v3012 c8_i32_1190
  let v3014 : BitVec 32 := v3013
  let v3015 : Index := Scalar.indexCast v3014
  let c0_1191 : Index := 0#32
  ![v3015.toNat, 0]

def k0_chk123 (v3012 : BitVec 32) : Prop :=
  (8 ∣ (k0_mult123 v3012).toNat) ∧
  (∀ a, (k0_off250 v3012) a + S8x128.size a ≤ S15360x128.size a)
theorem k0_mult123_dvd : ∀ (v3012 : BitVec 32) (k0_hw123 : k0_chk123 v3012), 8 ∣ (k0_mult123 v3012).toNat := fun v3012 k0_hw123 => k0_hw123.1
theorem k0_off250_inb : ∀ (v3012 : BitVec 32) (k0_hw123 : k0_chk123 v3012), ∀ a, (k0_off250 v3012) a + S8x128.size a ≤ S15360x128.size a := fun v3012 k0_hw123 => k0_hw123.2

def k0_off251 (i : grid0.Coords) : Fin 1 → Nat :=
  let arg1 : BitVec 32 := BitVec.ofNat 32 (i 1).val
  let c128_i32_1196 : BitVec 32 := 128#32
  let v3026 : BitVec 32 := Scalar.muli arg1 c128_i32_1196
  let c111_i32 : BitVec 32 := 111#32
  let v3027 : BitVec 32 := Scalar.addi v3026 c111_i32
  let v3028 : Index := Scalar.indexCast v3027
  ![v3028.toNat]
def k0_mult124 (v3029 : BitVec 32) : BitVec 32 :=
  let c8_i32_1197 : BitVec 32 := 8#32
  let v3030 : BitVec 32 := Scalar.muli v3029 c8_i32_1197
  v3030

def k0_off252 (v3029 : BitVec 32) : Fin 2 → Nat :=
  let c8_i32_1197 : BitVec 32 := 8#32
  let v3030 : BitVec 32 := Scalar.muli v3029 c8_i32_1197
  let v3031 : BitVec 32 := v3030
  let v3032 : Index := Scalar.indexCast v3031
  let c0_1198 : Index := 0#32
  ![v3032.toNat, 0]

def k0_chk124 (v3029 : BitVec 32) : Prop :=
  (8 ∣ (k0_mult124 v3029).toNat) ∧
  (∀ a, (k0_off252 v3029) a + S8x128.size a ≤ S15360x128.size a)
theorem k0_mult124_dvd : ∀ (v3029 : BitVec 32) (k0_hw124 : k0_chk124 v3029), 8 ∣ (k0_mult124 v3029).toNat := fun v3029 k0_hw124 => k0_hw124.1
theorem k0_off252_inb : ∀ (v3029 : BitVec 32) (k0_hw124 : k0_chk124 v3029), ∀ a, (k0_off252 v3029) a + S8x128.size a ≤ S15360x128.size a := fun v3029 k0_hw124 => k0_hw124.2

def k0_off253 (i : grid0.Coords) : Fin 1 → Nat :=
  let arg1 : BitVec 32 := BitVec.ofNat 32 (i 1).val
  let c128_i32_1203 : BitVec 32 := 128#32
  let v3043 : BitVec 32 := Scalar.muli arg1 c128_i32_1203
  let c115_i32 : BitVec 32 := 115#32
  let v3044 : BitVec 32 := Scalar.addi v3043 c115_i32
  let v3045 : Index := Scalar.indexCast v3044
  ![v3045.toNat]
def k0_mult125 (v3046 : BitVec 32) : BitVec 32 :=
  let c8_i32_1204 : BitVec 32 := 8#32
  let v3047 : BitVec 32 := Scalar.muli v3046 c8_i32_1204
  v3047

def k0_off254 (v3046 : BitVec 32) : Fin 2 → Nat :=
  let c8_i32_1204 : BitVec 32 := 8#32
  let v3047 : BitVec 32 := Scalar.muli v3046 c8_i32_1204
  let v3048 : BitVec 32 := v3047
  let v3049 : Index := Scalar.indexCast v3048
  let c0_1205 : Index := 0#32
  ![v3049.toNat, 0]

def k0_chk125 (v3046 : BitVec 32) : Prop :=
  (8 ∣ (k0_mult125 v3046).toNat) ∧
  (∀ a, (k0_off254 v3046) a + S8x128.size a ≤ S15360x128.size a)
theorem k0_mult125_dvd : ∀ (v3046 : BitVec 32) (k0_hw125 : k0_chk125 v3046), 8 ∣ (k0_mult125 v3046).toNat := fun v3046 k0_hw125 => k0_hw125.1
theorem k0_off254_inb : ∀ (v3046 : BitVec 32) (k0_hw125 : k0_chk125 v3046), ∀ a, (k0_off254 v3046) a + S8x128.size a ≤ S15360x128.size a := fun v3046 k0_hw125 => k0_hw125.2

def k0_off255 (i : grid0.Coords) : Fin 1 → Nat :=
  let arg1 : BitVec 32 := BitVec.ofNat 32 (i 1).val
  let c128_i32_1210 : BitVec 32 := 128#32
  let v3060 : BitVec 32 := Scalar.muli arg1 c128_i32_1210
  let c119_i32 : BitVec 32 := 119#32
  let v3061 : BitVec 32 := Scalar.addi v3060 c119_i32
  let v3062 : Index := Scalar.indexCast v3061
  ![v3062.toNat]
def k0_mult126 (v3063 : BitVec 32) : BitVec 32 :=
  let c8_i32_1211 : BitVec 32 := 8#32
  let v3064 : BitVec 32 := Scalar.muli v3063 c8_i32_1211
  v3064

def k0_off256 (v3063 : BitVec 32) : Fin 2 → Nat :=
  let c8_i32_1211 : BitVec 32 := 8#32
  let v3064 : BitVec 32 := Scalar.muli v3063 c8_i32_1211
  let v3065 : BitVec 32 := v3064
  let v3066 : Index := Scalar.indexCast v3065
  let c0_1212 : Index := 0#32
  ![v3066.toNat, 0]

def k0_chk126 (v3063 : BitVec 32) : Prop :=
  (8 ∣ (k0_mult126 v3063).toNat) ∧
  (∀ a, (k0_off256 v3063) a + S8x128.size a ≤ S15360x128.size a)
theorem k0_mult126_dvd : ∀ (v3063 : BitVec 32) (k0_hw126 : k0_chk126 v3063), 8 ∣ (k0_mult126 v3063).toNat := fun v3063 k0_hw126 => k0_hw126.1
theorem k0_off256_inb : ∀ (v3063 : BitVec 32) (k0_hw126 : k0_chk126 v3063), ∀ a, (k0_off256 v3063) a + S8x128.size a ≤ S15360x128.size a := fun v3063 k0_hw126 => k0_hw126.2

def k0_off257 (i : grid0.Coords) : Fin 1 → Nat :=
  let arg1 : BitVec 32 := BitVec.ofNat 32 (i 1).val
  let c128_i32_1217 : BitVec 32 := 128#32
  let v3077 : BitVec 32 := Scalar.muli arg1 c128_i32_1217
  let c123_i32 : BitVec 32 := 123#32
  let v3078 : BitVec 32 := Scalar.addi v3077 c123_i32
  let v3079 : Index := Scalar.indexCast v3078
  ![v3079.toNat]
def k0_mult127 (v3080 : BitVec 32) : BitVec 32 :=
  let c8_i32_1218 : BitVec 32 := 8#32
  let v3081 : BitVec 32 := Scalar.muli v3080 c8_i32_1218
  v3081

def k0_off258 (v3080 : BitVec 32) : Fin 2 → Nat :=
  let c8_i32_1218 : BitVec 32 := 8#32
  let v3081 : BitVec 32 := Scalar.muli v3080 c8_i32_1218
  let v3082 : BitVec 32 := v3081
  let v3083 : Index := Scalar.indexCast v3082
  let c0_1219 : Index := 0#32
  ![v3083.toNat, 0]

def k0_chk127 (v3080 : BitVec 32) : Prop :=
  (8 ∣ (k0_mult127 v3080).toNat) ∧
  (∀ a, (k0_off258 v3080) a + S8x128.size a ≤ S15360x128.size a)
theorem k0_mult127_dvd : ∀ (v3080 : BitVec 32) (k0_hw127 : k0_chk127 v3080), 8 ∣ (k0_mult127 v3080).toNat := fun v3080 k0_hw127 => k0_hw127.1
theorem k0_off258_inb : ∀ (v3080 : BitVec 32) (k0_hw127 : k0_chk127 v3080), ∀ a, (k0_off258 v3080) a + S8x128.size a ≤ S15360x128.size a := fun v3080 k0_hw127 => k0_hw127.2

def k0_off259 (i : grid0.Coords) : Fin 1 → Nat :=
  let arg1 : BitVec 32 := BitVec.ofNat 32 (i 1).val
  let c128_i32_1224 : BitVec 32 := 128#32
  let v3094 : BitVec 32 := Scalar.muli arg1 c128_i32_1224
  let c127_i32_1225 : BitVec 32 := 127#32
  let v3095 : BitVec 32 := Scalar.addi v3094 c127_i32_1225
  let v3096 : Index := Scalar.indexCast v3095
  ![v3096.toNat]
def k0_mult128 (v3097 : BitVec 32) : BitVec 32 :=
  let c8_i32_1226 : BitVec 32 := 8#32
  let v3098 : BitVec 32 := Scalar.muli v3097 c8_i32_1226
  v3098

def k0_off260 (v3097 : BitVec 32) : Fin 2 → Nat :=
  let c8_i32_1226 : BitVec 32 := 8#32
  let v3098 : BitVec 32 := Scalar.muli v3097 c8_i32_1226
  let v3099 : BitVec 32 := v3098
  let v3100 : Index := Scalar.indexCast v3099
  let c0_1227 : Index := 0#32
  ![v3100.toNat, 0]

def k0_chk128 (v3097 : BitVec 32) : Prop :=
  (8 ∣ (k0_mult128 v3097).toNat) ∧
  (∀ a, (k0_off260 v3097) a + S8x128.size a ≤ S15360x128.size a)
theorem k0_mult128_dvd : ∀ (v3097 : BitVec 32) (k0_hw128 : k0_chk128 v3097), 8 ∣ (k0_mult128 v3097).toNat := fun v3097 k0_hw128 => k0_hw128.1
theorem k0_off260_inb : ∀ (v3097 : BitVec 32) (k0_hw128 : k0_chk128 v3097), ∀ a, (k0_off260 v3097) a + S8x128.size a ≤ S15360x128.size a := fun v3097 k0_hw128 => k0_hw128.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1920x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S15360 : Shape := ⟨1, ![15360]⟩
abbrev S1920x7168 : Shape := ⟨2, ![1920, 7168]⟩
abbrev S120x128 : Shape := ⟨2, ![120, 128]⟩
abbrev S15360x448 : Shape := ⟨2, ![15360, 448]⟩
abbrev S15360x1 : Shape := ⟨2, ![15360, 1]⟩
abbrev S15360x7168 : Shape := ⟨2, ![15360, 7168]⟩
abbrev S15360x3584 : Shape := ⟨2, ![15360, 3584]⟩
abbrev S15360x448x16 : Shape := ⟨3, ![15360, 448, 16]⟩
abbrev S15360x448x1 : Shape := ⟨3, ![15360, 448, 1]⟩
abbrev S15360x3584x2 : Shape := ⟨3, ![15360, 3584, 2]⟩
abbrev S15360x3584x1 : Shape := ⟨3, ![15360, 3584, 1]⟩

abbrev nBuf : Space → Nat
  | .hbm => 9
  | .vmem => 4
  | .smem => 0
  | _ => 0

abbrev bufTy : (tb : Table) → Fin (tcTables nBuf tb) → BufTy
  | .hbm, ⟨0, _⟩ => ⟨S15360, .i32⟩
  | .hbm, ⟨1, _⟩ => ⟨S1920x7168, .bf16⟩
  | .hbm, ⟨2, _⟩ => ⟨S120x128, .f32⟩
  | .hbm, ⟨3, _⟩ => ⟨S15360x448, .fp8e4m3⟩
  | .hbm, ⟨4, _⟩ => ⟨S15360x1, .i32⟩
  | .hbm, ⟨5, _⟩ => ⟨S15360x7168, .bf16⟩
  | .hbm, ⟨6, _⟩ => ⟨S15360, .f32⟩
  | .hbm, ⟨7, _⟩ => ⟨S15360x1, .f32⟩
  | .hbm, ⟨8, _⟩ => ⟨S15360x3584, .i8⟩
  | .local _ .vmem, ⟨0, _⟩ => ⟨S15360x7168, .bf16⟩
  | .local _ .vmem, ⟨1, _⟩ => ⟨S15360x1, .f32⟩
  | .local _ .vmem, ⟨2, _⟩ => ⟨S15360x448, .fp8e4m3⟩
  | .local _ .vmem, ⟨3, _⟩ => ⟨S15360x3584, .i8⟩
  | _, _ => ⟨S15360, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S15360x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x448 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S15360x3584 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Scales.lean ====
abbrev S15360 : Shape := ⟨1, ![15360]⟩
abbrev S1920x512 : Shape := ⟨2, ![1920, 512]⟩
abbrev S120x128 : Shape := ⟨2, ![120, 128]⟩
abbrev S15360x448 : Shape := ⟨2, ![15360, 448]⟩
abbrev S128x448 : Shape := ⟨2, ![128, 448]⟩
abbrev S128x512 : Shape := ⟨2, ![128, 512]⟩
abbrev S1 : Shape := ⟨1, ![1]⟩
abbrev S1x512 : Shape := ⟨2, ![1, 512]⟩
abbrev S1x128 : Shape := ⟨2, ![1, 128]⟩
abbrev S128x128 : Shape := ⟨2, ![128, 128]⟩
abbrev S128x64 : Shape := ⟨2, ![128, 64]⟩

abbrev nBuf : Space → Nat
  | .hbm => 3
  | .vmem => 5
  | .smem => 1
  | _ => 0

abbrev bufTy : (tb : Table) → Fin (tcTables nBuf tb) → BufTy
  | .hbm, ⟨0, _⟩ => ⟨S1920x512, .f32⟩
  | .hbm, ⟨1, _⟩ => ⟨S120x128, .f32⟩
  | .hbm, ⟨2, _⟩ => ⟨S15360x448, .fp8e4m3⟩
  | .local _ .vmem, ⟨0, _⟩ => ⟨S1920x512, .f32⟩
  | .local _ .vmem, ⟨1, _⟩ => ⟨S120x128, .f32⟩
  | .local _ .vmem, ⟨2, _⟩ => ⟨S128x448, .fp8e4m3⟩
  | .local _ .vmem, ⟨3, _⟩ => ⟨S128x448, .fp8e4m3⟩
  | .local _ .vmem, ⟨4, _⟩ => ⟨S128x512, .f32⟩
  | .local _ .smem, ⟨0, _⟩ => ⟨S15360, .i32⟩
  | _, _ => ⟨S1920x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![120], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 2 → Nat :=
  let v4 : Index := Scalar.indexCast v3
  let c0 : Index := 0#32
  ![v4.toNat, 0]

def k0_chk1 (v3 : BitVec 32) : Prop :=
  (∀ a, (k0_off2 v3) a + S1x512.size a ≤ S1920x512.size a)
theorem k0_off2_inb : ∀ (v3 : BitVec 32) (k0_hw1 : k0_chk1 v3), ∀ a, (k0_off2 v3) a + S1x512.size a ≤ S1920x512.size a := fun v3 k0_hw1 => k0_hw1

def k0_off3 (i : grid0.Coords) : Fin 1 → Nat :=
  let arg0 : BitVec 32 := BitVec.ofNat 32 (i 0).val
  let c128_i32_2 : BitVec 32 := 128#32
  let v9 : BitVec 32 := Scalar.muli arg0 c128_i32_2
  let c1_i32 : BitVec 32 := 1#32
  let v10 : BitVec 32 := Scalar.addi v9 c1_i32
  let v11 : Index := Scalar.indexCast v10
  ![v11.toNat]
def k0_off4 (v12 : BitVec 32) : Fin 2 → Nat :=
  let v13 : Index := Scalar.indexCast v12
  let c0_3 : Index := 0#32
  ![v13.toNat, 0]

def k0_chk2 (v12 : BitVec 32) : Prop :=
  (∀ a, (k0_off4 v12) a + S1x512.size a ≤ S1920x512.size a)
theorem k0_off4_inb : ∀ (v12 : BitVec 32) (k0_hw2 : k0_chk2 v12), ∀ a, (k0_off4 v12) a + S1x512.size a ≤ S1920x512.size a := fun v12 k0_hw2 => k0_hw2

def k0_off5 (i : grid0.Coords) : Fin 1 → Nat :=
  let arg0 : BitVec 32 := BitVec.ofNat 32 (i 0).val
  let c128_i32_5 : BitVec 32 := 128#32
  let v18 : BitVec 32 := Scalar.muli arg0 c128_i32_5
  let c2_i32 : BitVec 32 := 2#32
  let v19 : BitVec 32 := Scalar.addi v18 c2_i32
  let v20 : Index := Scalar.indexCast v19
  ![v20.toNat]
def k0_off6 (v21 : BitVec 32) : Fin 2 → Nat :=
  let v22 : Index := Scalar.indexCast v21
  let c0_6 : Index := 0#32
  ![v22.toNat, 0]

def k0_chk3 (v21 : BitVec 32) : Prop :=
  (∀ a, (k0_off6 v21) a + S1x512.size a ≤ S1920x512.size a)
theorem k0_off6_inb : ∀ (v21 : BitVec 32) (k0_hw3 : k0_chk3 v21), ∀ a, (k0_off6 v21) a + S1x512.size a ≤ S1920x512.size a := fun v21 k0_hw3 => k0_hw3

def k0_off7 (i : grid0.Coords) : Fin 1 → Nat :=
  let arg0 : BitVec 32 := BitVec.ofNat 32 (i 0).val
  let c128_i32_8 : BitVec 32 := 128#32
  let v27 : BitVec 32 := Scalar.muli arg0 c128_i32_8
  let c3_i32 : BitVec 32 := 3#32
  let v28 : BitVec 32 := Scalar.addi v27 c3_i32
  let v29 : Index := Scalar.indexCast v28
  ![v29.toNat]
def k0_off8 (v30 : BitVec 32) : Fin 2 → Nat :=
  let v31 : Index := Scalar.indexCast v30
  let c0_9 : Index := 0#32
  ![v31.toNat, 0]

def k0_chk4 (v30 : BitVec 32) : Prop :=
  (∀ a, (k0_off8 v30) a + S1x512.size a ≤ S1920x512.size a)
theorem k0_off8_inb : ∀ (v30 : BitVec 32) (k0_hw4 : k0_chk4 v30), ∀ a, (k0_off8 v30) a + S1x512.size a ≤ S1920x512.size a := fun v30 k0_hw4 => k0_hw4

def k0_off9 (i : grid0.Coords) : Fin 1 → Nat :=
  let arg0 : BitVec 32 := BitVec.ofNat 32 (i 0).val
  let c128_i32_11 : BitVec 32 := 128#32
  let v36 : BitVec 32 := Scalar.muli arg0 c128_i32_11
  let c4_i32 : BitVec 32 := 4#32
  let v37 : BitVec 32 := Scalar.addi v36 c4_i32
  let v38 : Index := Scalar.indexCast v37
  ![v38.toNat]
def k0_off10 (v39 : BitVec 32) : Fin 2 → Nat :=
  let v40 : Index := Scalar.indexCast v39
  let c0_12 : Index := 0#32
  ![v40.toNat, 0]

def k0_chk5 (v39 : BitVec 32) : Prop :=
  (∀ a, (k0_off10 v39) a + S1x512.size a ≤ S1920x512.size a)
theorem k0_off10_inb : ∀ (v39 : BitVec 32) (k0_hw5 : k0_chk5 v39), ∀ a, (k0_off10 v39) a + S1x512.size a ≤ S1920x512.size a := fun v39 k0_hw5 => k0_hw5

def k0_off11 (i : grid0.Coords) : Fin 1 → Nat :=
  let arg0 : BitVec 32 := BitVec.ofNat 32 (i 0).val
  let c128_i32_14 : BitVec 32 := 128#32
  let v45 : BitVec 32 := Scalar.muli arg0 c128_i32_14
  let c5_i32 : BitVec 32 := 5#32
  let v46 : BitVec 32 := Scalar.addi v45 c5_i32
  let v47 : Index := Scalar.indexCast v46
  ![v47.toNat]
def k0_off12 (v48 : BitVec 32) : Fin 2 → Nat :=
  let v49 : Index := Scalar.indexCast v48
  let c0_15 : Index := 0#32
  ![v49.toNat, 0]

def k0_chk6 (v48 : BitVec 32) : Prop :=
  (∀ a, (k0_off12 v48) a + S1x512.size a ≤ S1920x512.size a)
theorem k0_off12_inb : ∀ (v48 : BitVec 32) (k0_hw6 : k0_chk6 v48), ∀ a, (k0_off12 v48) a + S1x512.size a ≤ S1920x512.size a := fun v48 k0_hw6 => k0_hw6

def k0_off13 (i : grid0.Coords) : Fin 1 → Nat :=
  let arg0 : BitVec 32 := BitVec.ofNat 32 (i 0).val
  let c128_i32_17 : BitVec 32 := 128#32
  let v54 : BitVec 32 := Scalar.muli arg0 c128_i32_17
  let c6_i32 : BitVec 32 := 6#32
  let v55 : BitVec 32 := Scalar.addi v54 c6_i32
  let v56 : Index := Scalar.indexCast v55
  ![v56.toNat]
def k0_off14 (v57 : BitVec 32) : Fin 2 → Nat :=
  let v58 : Index := Scalar.indexCast v57
  let c0_18 : Index := 0#32
  ![v58.toNat, 0]

def k0_chk7 (v57 : BitVec 32) : Prop :=
  (∀ a, (k0_off14 v57) a + S1x512.size a ≤ S1920x512.size a)
theorem k0_off14_inb : ∀ (v57 : BitVec 32) (k0_hw7 : k0_chk7 v57), ∀ a, (k0_off14 v57) a + S1x512.size a ≤ S1920x512.size a := fun v57 k0_hw7 => k0_hw7

def k0_off15 (i : grid0.Coords) : Fin 1 → Nat :=
  let arg0 : BitVec 32 := BitVec.ofNat 32 (i 0).val
  let c128_i32_20 : BitVec 32 := 128#32
  let v63 : BitVec 32 := Scalar.muli arg0 c128_i32_20
  let c7_i32 : BitVec 32 := 7#32
  let v64 : BitVec 32 := Scalar.addi v63 c7_i32
  let v65 : Index := Scalar.indexCast v64
  ![v65.toNat]
def k0_off16 (v66 : BitVec 32) : Fin 2 → Nat :=
  let v67 : Index := Scalar.indexCast v66
  let c0_21 : Index := 0#32
  ![v67.toNat, 0]

def k0_chk8 (v66 : BitVec 32) : Prop :=
  (∀ a, (k0_off16 v66) a + S1x512.size a ≤ S1920x512.size a)
theorem k0_off16_inb : ∀ (v66 : BitVec 32) (k0_hw8 : k0_chk8 v66), ∀ a, (k0_off16 v66) a + S1x512.size a ≤ S1920x512.size a := fun v66 k0_hw8 => k0_hw8

def k0_off17 (i : grid0.Coords) : Fin 1 → Nat :=
  let arg0 : BitVec 32 := BitVec.ofNat 32 (i 0).val
  let c128_i32_23 : BitVec 32 := 128#32
  let v72 : BitVec 32 := Scalar.muli arg0 c128_i32_23
  let c8_i32 : BitVec 32 := 8#32
  let v73 : BitVec 32 := Scalar.addi v72 c8_i32
  let v74 : Index := Scalar.indexCast v73
  ![v74.toNat]
def k0_off18 (v75 : BitVec 32) : Fin 2 → Nat :=
  let v76 : Index := Scalar.indexCast v75
  let c0_24 : Index := 0#32
  ![v76.toNat, 0]

def k0_chk9 (v75 : BitVec 32) : Prop :=
  (∀ a, (k0_off18 v75) a + S1x512.size a ≤ S1920x512.size a)
theorem k0_off18_inb : ∀ (v75 : BitVec 32) (k0_hw9 : k0_chk9 v75), ∀ a, (k0_off18 v75) a + S1x512.size a ≤ S1920x512.size a := fun v75 k0_hw9 => k0_hw9

def k0_off19 (i : grid0.Coords) : Fin 1 → Nat :=
  let arg0 : BitVec 32 := BitVec.ofNat 32 (i 0).val
  let c128_i32_26 : BitVec 32 := 128#32
  let v81 : BitVec 32 := Scalar.muli arg0 c128_i32_26
  let c9_i32 : BitVec 32 := 9#32
  let v82 : BitVec 32 := Scalar.addi v81 c9_i32
  let v83 : Index := Scalar.indexCast v82
  ![v83.toNat]
def k0_off20 (v84 : BitVec 32) : Fin 2 → Nat :=
  let v85 : Index := Scalar.indexCast v84
  let c0_27 : Index := 0#32
  ![v85.toNat, 0]

def k0_chk10 (v84 : BitVec 32) : Prop :=
  (∀ a, (k0_off20 v84) a + S1x512.size a ≤ S1920x512.size a)
theorem k0_off20_inb : ∀ (v84 : BitVec 32) (k0_hw10 : k0_chk10 v84), ∀ a, (k0_off20 v84) a + S1x512.size a ≤ S1920x512.size a := fun v84 k0_hw10 => k0_hw10

def k0_off21 (i : grid0.Coords) : Fin 1 → Nat :=
  let arg0 : BitVec 32 := BitVec.ofNat 32 (i 0).val
  let c128_i32_29 : BitVec 32 := 128#32
  let v90 : BitVec 32 := Scalar.muli arg0 c128_i32_29
  let c10_i32 : BitVec 32 := 10#32
  let v91 : BitVec 32 := Scalar.addi v90 c10_i32
  let v92 : Index := Scalar.indexCast v91
  ![v92.toNat]
def k0_off22 (v93 : BitVec 32) : Fin 2 → Nat :=
  let v94 : Index := Scalar.indexCast v93
  let c0_30 : Index := 0#32
  ![v94.toNat, 0]

def k0_chk11 (v93 : BitVec 32) : Prop :=
  (∀ a, (k0_off22 v93) a + S1x512.size a ≤ S1920x512.size a)
theorem k0_off22_inb : ∀ (v93 : BitVec 32) (k0_hw11 : k0_chk11 v93), ∀ a, (k0_off22 v93) a + S1x512.size a ≤ S1920x512.size a := fun v93 k0_hw11 => k0_hw11

def k0_off23 (i : grid0.Coords) : Fin 1 → Nat :=
  let arg0 : BitVec 32 := BitVec.ofNat 32 (i 0).val
  let c128_i32_32 : BitVec 32 := 128#32
  let v99 : BitVec 32 := Scalar.muli arg0 c128_i32_32
  let c11_i32 : BitVec 32 := 11#32
  let v100 : BitVec 32 := Scalar.addi v99 c11_i32
  let v101 : Index := Scalar.indexCast v100
  ![v101.toNat]
def k0_off24 (v102 : BitVec 32) : Fin 2 → Nat :=
  let v103 : Index := Scalar.indexCast v102
  let c0_33 : Index := 0#32
  ![v103.toNat, 0]

def k0_chk12 (v102 : BitVec 32) : Prop :=
  (∀ a, (k0_off24 v102) a + S1x512.size a ≤ S1920x512.size a)
theorem k0_off24_inb : ∀ (v102 : BitVec 32) (k0_hw12 : k0_chk12 v102), ∀ a, (k0_off24 v102) a + S1x512.size a ≤ S1920x512.size a := fun v102 k0_hw12 => k0_hw12

def k0_off25 (i : grid0.Coords) : Fin 1 → Nat :=
  let arg0 : BitVec 32 := BitVec.ofNat 32 (i 0).val
  let c128_i32_35 : BitVec 32 := 128#32
  let v108 : BitVec 32 := Scalar.muli arg0 c128_i32_35
  let c12_i32 : BitVec 32 := 12#32
  let v109 : BitVec 32 := Scalar.addi v108 c12_i32
  let v110 : Index := Scalar.indexCast v109
  ![v110.toNat]
def k0_off26 (v111 : BitVec 32) : Fin 2 → Nat :=
  let v112 : Index := Scalar.indexCast v111
  let c0_36 : Index := 0#32
  ![v112.toNat, 0]

def k0_chk13 (v111 : BitVec 32) : Prop :=
  (∀ a, (k0_off26 v111) a + S1x512.size a ≤ S1920x512.size a)
theorem k0_off26_inb : ∀ (v111 : BitVec 32) (k0_hw13 : k0_chk13 v111), ∀ a, (k0_off26 v111) a + S1x512.size a ≤ S1920x512.size a := fun v111 k0_hw13 => k0_hw13

def k0_off27 (i : grid0.Coords) : Fin 1 → Nat :=
  let arg0 : BitVec 32 := BitVec.ofNat 32 (i 0).val
  let c128_i32_38 : BitVec 32 := 128#32
  let v117 : BitVec 32 := Scalar.muli arg0 c128_i32_38
  let c13_i32 : BitVec 32 := 13#32
  let v118 : BitVec 32 := Scalar.addi v117 c13_i32
  let v119 : Index := Scalar.indexCast v118
  ![v119.toNat]
def k0_off28 (v120 : BitVec 32) : Fin 2 → Nat :=
  let v121 : Index := Scalar.indexCast v120
  let c0_39 : Index := 0#32
  ![v121.toNat, 0]

def k0_chk14 (v120 : BitVec 32) : Prop :=
  (∀ a, (k0_off28 v120) a + S1x512.size a ≤ S1920x512.size a)
theorem k0_off28_inb : ∀ (v120 : BitVec 32) (k0_hw14 : k0_chk14 v120), ∀ a, (k0_off28 v120) a + S1x512.size a ≤ S1920x512.size a := fun v120 k0_hw14 => k0_hw14

def k0_off29 (i : grid0.Coords) : Fin 1 → Nat :=
  let arg0 : BitVec 32 := BitVec.ofNat 32 (i 0).val
  let c128_i32_41 : BitVec 32 := 128#32
  let v126 : BitVec 32 := Scalar.muli arg0 c128_i32_41
  let c14_i32 : BitVec 32 := 14#32
  let v127 : BitVec 32 := Scalar.addi v126 c14_i32
  let v128 : Index := Scalar.indexCast v127
  ![v128.toNat]
def k0_off30 (v129 : BitVec 32) : Fin 2 → Nat :=
  let v130 : Index := Scalar.indexCast v129
  let c0_42 : Index := 0#32
  ![v130.toNat, 0]

def k0_chk15 (v129 : BitVec 32) : Prop :=
  (∀ a, (k0_off30 v129) a + S1x512.size a ≤ S1920x512.size a)
theorem k0_off30_inb : ∀ (v129 : BitVec 32) (k0_hw15 : k0_chk15 v129), ∀ a, (k0_off30 v129) a + S1x512.size a ≤ S1920x512.size a := fun v129 k0_hw15 => k0_hw15

def k0_off31 (i : grid0.Coords) : Fin 1 → Nat :=
  let arg0 : BitVec 32 := BitVec.ofNat 32 (i 0).val
  let c128_i32_44 : BitVec 32 := 128#32
  let v135 : BitVec 32 := Scalar.muli arg0 c128_i32_44
  let c15_i32 : BitVec 32 := 15#32
  let v136 : BitVec 32 := Scalar.addi v135 c15_i32
  let v137 : Index := Scalar.indexCast v136
  ![v137.toNat]
def k0_off32 (v138 : BitVec 32) : Fin 2 → Nat :=
  let v139 : Index := Scalar.indexCast v138
  let c0_45 : Index := 0#32
  ![v139.toNat, 0]

def k0_chk16 (v138 : BitVec 32) : Prop :=
  (∀ a, (k0_off32 v138) a + S1x512.size a ≤ S1920x512.size a)
theorem k0_off32_inb : ∀ (v138 : BitVec 32) (k0_hw16 : k0_chk16 v138), ∀ a, (k0_off32 v138) a + S1x512.size a ≤ S1920x512.size a := fun v138 k0_hw16 => k0_hw16

def k0_off33 (i : grid0.Coords) : Fin 1 → Nat :=
  let arg0 : BitVec 32 := BitVec.ofNat 32 (i 0).val
  let c128_i32_47 : BitVec 32 := 128#32
  let v144 : BitVec 32 := Scalar.muli arg0 c128_i32_47
  let c16_i32 : BitVec 32 := 16#32
  let v145 : BitVec 32 := Scalar.addi v144 c16_i32
  let v146 : Index := Scalar.indexCast v145
  ![v146.toNat]
def k0_off34 (v147 : BitVec 32) : Fin 2 → Nat :=
  let v148 : Index := Scalar.indexCast v147
  let c0_48 : Index := 0#32
  ![v148.toNat, 0]

def k0_chk17 (v147 : BitVec 32) : Prop :=
  (∀ a, (k0_off34 v147) a + S1x512.size a ≤ S1920x512.size a)
theorem k0_off34_inb : ∀ (v147 : BitVec 32) (k0_hw17 : k0_chk17 v147), ∀ a, (k0_off34 v147) a + S1x512.size a ≤ S1920x512.size a := fun v147 k0_hw17 => k0_hw17

def k0_off35 (i : grid0.Coords) : Fin 1 → Nat :=
  let arg0 : BitVec 32 := BitVec.ofNat 32 (i 0).val
  let c128_i32_50 : BitVec 32 := 128#32
  let v153 : BitVec 32 := Scalar.muli arg0 c128_i32_50
  let c17_i32 : BitVec 32 := 17#32
  let v154 : BitVec 32 := Scalar.addi v153 c17_i32
  let v155 : Index := Scalar.indexCast v154
  ![v155.toNat]
def k0_off36 (v156 : BitVec 32) : Fin 2 → Nat :=
  let v157 : Index := Scalar.indexCast v156
  let c0_51 : Index := 0#32
  ![v157.toNat, 0]

def k0_chk18 (v156 : BitVec 32) : Prop :=
  (∀ a, (k0_off36 v156) a + S1x512.size a ≤ S1920x512.size a)
theorem k0_off36_inb : ∀ (v156 : BitVec 32) (k0_hw18 : k0_chk18 v156), ∀ a, (k0_off36 v156) a + S1x512.size a ≤ S1920x512.size a := fun v156 k0_hw18 => k0_hw18

def k0_off37 (i : grid0.Coords) : Fin 1 → Nat :=
  let arg0 : BitVec 32 := BitVec.ofNat 32 (i 0).val
  let c128_i32_53 : BitVec 32 := 128#32
  let v162 : BitVec 32 := Scalar.muli arg0 c128_i32_53
  let c18_i32 : BitVec 32 := 18#32
  let v163 : BitVec 32 := Scalar.addi v162 c18_i32
  let v164 : Index := Scalar.indexCast v163
  ![v164.toNat]
def k0_off38 (v165 : BitVec 32) : Fin 2 → Nat :=
  let v166 : Index := Scalar.indexCast v165
  let c0_54 : Index := 0#32
  ![v166.toNat, 0]

def k0_chk19 (v165 : BitVec 32) : Prop :=
  (∀ a, (k0_off38 v165) a + S1x512.size a ≤ S1920x512.size a)
theorem k0_off38_inb : ∀ (v165 : BitVec 32) (k0_hw19 : k0_chk19 v165), ∀ a, (k0_off38 v165) a + S1x512.size a ≤ S1920x512.size a := fun v165 k0_hw19 => k0_hw19

def k0_off39 (i : grid0.Coords) : Fin 1 → Nat :=
  let arg0 : BitVec 32 := BitVec.ofNat 32 (i 0).val
  let c128_i32_56 : BitVec 32 := 128#32
  let v171 : BitVec 32 := Scalar.muli arg0 c128_i32_56
  let c19_i32 : BitVec 32 := 19#32
  let v172 : BitVec 32 := Scalar.addi v171 c19_i32
  let v173 : Index := Scalar.indexCast v172
  ![v173.toNat]
def k0_off40 (v174 : BitVec 32) : Fin 2 → Nat :=
  let v175 : Index := Scalar.indexCast v174
  let c0_57 : Index := 0#32
  ![v175.toNat, 0]

def k0_chk20 (v174 : BitVec 32) : Prop :=
  (∀ a, (k0_off40 v174) a + S1x512.size a ≤ S1920x512.size a)
theorem k0_off40_inb : ∀ (v174 : BitVec 32) (k0_hw20 : k0_chk20 v174), ∀ a, (k0_off40 v174) a + S1x512.size a ≤ S1920x512.size a := fun v174 k0_hw20 => k0_hw20

def k0_off41 (i : grid0.Coords) : Fin 1 → Nat :=
  let arg0 : BitVec 32 := BitVec.ofNat 32 (i 0).val
  let c128_i32_59 : BitVec 32 := 128#32
  let v180 : BitVec 32 := Scalar.muli arg0 c128_i32_59
  let c20_i32 : BitVec 32 := 20#32
  let v181 : BitVec 32 := Scalar.addi v180 c20_i32
  let v182 : Index := Scalar.indexCast v181
  ![v182.toNat]
def k0_off42 (v183 : BitVec 32) : Fin 2 → Nat :=
  let v184 : Index := Scalar.indexCast v183
  let c0_60 : Index := 0#32
  ![v184.toNat, 0]

def k0_chk21 (v183 : BitVec 32) : Prop :=
  (∀ a, (k0_off42 v183) a + S1x512.size a ≤ S1920x512.size a)
theorem k0_off42_inb : ∀ (v183 : BitVec 32) (k0_hw21 : k0_chk21 v183), ∀ a, (k0_off42 v183) a + S1x512.size a ≤ S1920x512.size a := fun v183 k0_hw21 => k0_hw21

def k0_off43 (i : grid0.Coords) : Fin 1 → Nat :=
  let arg0 : BitVec 32 := BitVec.ofNat 32 (i 0).val
  let c128_i32_62 : BitVec 32 := 128#32
  let v189 : BitVec 32 := Scalar.muli arg0 c128_i32_62
  let c21_i32 : BitVec 32 := 21#32
  let v190 : BitVec 32 := Scalar.addi v189 c21_i32
  let v191 : Index := Scalar.indexCast v190
  ![v191.toNat]
def k0_off44 (v192 : BitVec 32) : Fin 2 → Nat :=
  let v193 : Index := Scalar.indexCast v192
  let c0_63 : Index := 0#32
  ![v193.toNat, 0]

def k0_chk22 (v192 : BitVec 32) : Prop :=
  (∀ a, (k0_off44 v192) a + S1x512.size a ≤ S1920x512.size a)
theorem k0_off44_inb : ∀ (v192 : BitVec 32) (k0_hw22 : k0_chk22 v192), ∀ a, (k0_off44 v192) a + S1x512.size a ≤ S1920x512.size a := fun v192 k0_hw22 => k0_hw22

def k0_off45 (i : grid0.Coords) : Fin 1 → Nat :=
  let arg0 : BitVec 32 := BitVec.ofNat 32 (i 0).val
  let c128_i32_65 : BitVec 32 := 128#32
  let v198 : BitVec 32 := Scalar.muli arg0 c128_i32_65
  let c22_i32 : BitVec 32 := 22#32
  let v199 : BitVec 32 := Scalar.addi v198 c22_i32
  let v200 : Index := Scalar.indexCast v199
  ![v200.toNat]
def k0_off46 (v201 : BitVec 32) : Fin 2 → Nat :=
  let v202 : Index := Scalar.indexCast v201
  let c0_66 : Index := 0#32
  ![v202.toNat, 0]

def k0_chk23 (v201 : BitVec 32) : Prop :=
  (∀ a, (k0_off46 v201) a + S1x512.size a ≤ S1920x512.size a)
theorem k0_off46_inb : ∀ (v201 : BitVec 32) (k0_hw23 : k0_chk23 v201), ∀ a, (k0_off46 v201) a + S1x512.size a ≤ S1920x512.size a := fun v201 k0_hw23 => k0_hw23

def k0_off47 (i : grid0.Coords) : Fin 1 → Nat :=
  let arg0 : BitVec 32 := BitVec.ofNat 32 (i 0).val
  let c128_i32_68 : BitVec 32 := 128#32
  let v207 : BitVec 32 := Scalar.muli arg0 c128_i32_68
  let c23_i32 : BitVec 32 := 23#32
  let v208 : BitVec 32 := Scalar.addi v207 c23_i32
  let v209 : Index := Scalar.indexCast v208
  ![v209.toNat]
def k0_off48 (v210 : BitVec 32) : Fin 2 → Nat :=
  let v211 : Index := Scalar.indexCast v210
  let c0_69 : Index := 0#32
  ![v211.toNat, 0]

def k0_chk24 (v210 : BitVec 32) : Prop :=
  (∀ a, (k0_off48 v210) a + S1x512.size a ≤ S1920x512.size a)
theorem k0_off48_inb : ∀ (v210 : BitVec 32) (k0_hw24 : k0_chk24 v210), ∀ a, (k0_off48 v210) a + S1x512.size a ≤ S1920x512.size a := fun v210 k0_hw24 => k0_hw24

def k0_off49 (i : grid0.Coords) : Fin 1 → Nat :=
  let arg0 : BitVec 32 := BitVec.ofNat 32 (i 0).val
  let c128_i32_71 : BitVec 32 := 128#32
  let v216 : BitVec 32 := Scalar.muli arg0 c128_i32_71
  let c24_i32 : BitVec 32 := 24#32
  let v217 : BitVec 32 := Scalar.addi v216 c24_i32
  let v218 : Index := Scalar.indexCast v217
  ![v218.toNat]
def k0_off50 (v219 : BitVec 32) : Fin 2 → Nat :=
  let v220 : Index := Scalar.indexCast v219
  let c0_72 : Index := 0#32
  ![v220.toNat, 0]

def k0_chk25 (v219 : BitVec 32) : Prop :=
  (∀ a, (k0_off50 v219) a + S1x512.size a ≤ S1920x512.size a)
theorem k0_off50_inb : ∀ (v219 : BitVec 32) (k0_hw25 : k0_chk25 v219), ∀ a, (k0_off50 v219) a + S1x512.size a ≤ S1920x512.size a := fun v219 k0_hw25 => k0_hw25

def k0_off51 (i : grid0.Coords) : Fin 1 → Nat :=
  let arg0 : BitVec 32 := BitVec.ofNat 32 (i 0).val
  let c128_i32_74 : BitVec 32 := 128#32
  let v225 : BitVec 32 := Scalar.muli arg0 c128_i32_74
  let c25_i32 : BitVec 32 := 25#32
  let v226 : BitVec 32 := Scalar.addi v225 c25_i32
  let v227 : Index := Scalar.indexCast v226
  ![v227.toNat]
def k0_off52 (v228 : BitVec 32) : Fin 2 → Nat :=
  let v229 : Index := Scalar.indexCast v228
  let c0_75 : Index := 0#32
  ![v229.toNat, 0]

def k0_chk26 (v228 : BitVec 32) : Prop :=
  (∀ a, (k0_off52 v228) a + S1x512.size a ≤ S1920x512.size a)
theorem k0_off52_inb : ∀ (v228 : BitVec 32) (k0_hw26 : k0_chk26 v228), ∀ a, (k0_off52 v228) a + S1x512.size a ≤ S1920x512.size a := fun v228 k0_hw26 => k0_hw26

def k0_off53 (i : grid0.Coords) : Fin 1 → Nat :=
  let arg0 : BitVec 32 := BitVec.ofNat 32 (i 0).val
  let c128_i32_77 : BitVec 32 := 128#32
  let v234 : BitVec 32 := Scalar.muli arg0 c128_i32_77
  let c26_i32 : BitVec 32 := 26#32
  let v235 : BitVec 32 := Scalar.addi v234 c26_i32
  let v236 : Index := Scalar.indexCast v235
  ![v236.toNat]
def k0_off54 (v237 : BitVec 32) : Fin 2 → Nat :=
  let v238 : Index := Scalar.indexCast v237
  let c0_78 : Index := 0#32
  ![v238.toNat, 0]

def k0_chk27 (v237 : BitVec 32) : Prop :=
  (∀ a, (k0_off54 v237) a + S1x512.size a ≤ S1920x512.size a)
theorem k0_off54_inb : ∀ (v237 : BitVec 32) (k0_hw27 : k0_chk27 v237), ∀ a, (k0_off54 v237) a + S1x512.size a ≤ S1920x512.size a := fun v237 k0_hw27 => k0_hw27

def k0_off55 (i : grid0.Coords) : Fin 1 → Nat :=
  let arg0 : BitVec 32 := BitVec.ofNat 32 (i 0).val
  let c128_i32_80 : BitVec 32 := 128#32
  let v243 : BitVec 32 := Scalar.muli arg0 c128_i32_80
  let c27_i32 : BitVec 32 := 27#32
  let v244 : BitVec 32 := Scalar.addi v243 c27_i32
  let v245 : Index := Scalar.indexCast v244
  ![v245.toNat]
def k0_off56 (v246 : BitVec 32) : Fin 2 → Nat :=
  let v247 : Index := Scalar.indexCast v246
  let c0_81 : Index := 0#32
  ![v247.toNat, 0]

def k0_chk28 (v246 : BitVec 32) : Prop :=
  (∀ a, (k0_off56 v246) a + S1x512.size a ≤ S1920x512.size a)
theorem k0_off56_inb : ∀ (v246 : BitVec 32) (k0_hw28 : k0_chk28 v246), ∀ a, (k0_off56 v246) a + S1x512.size a ≤ S1920x512.size a := fun v246 k0_hw28 => k0_hw28

def k0_off57 (i : grid0.Coords) : Fin 1 → Nat :=
  let arg0 : BitVec 32 := BitVec.ofNat 32 (i 0).val
  let c128_i32_83 : BitVec 32 := 128#32
  let v252 : BitVec 32 := Scalar.muli arg0 c128_i32_83
  let c28_i32 : BitVec 32 := 28#32
  let v253 : BitVec 32 := Scalar.addi v252 c28_i32
  let v254 : Index := Scalar.indexCast v253
  ![v254.toNat]
def k0_off58 (v255 : BitVec 32) : Fin 2 → Nat :=
  let v256 : Index := Scalar.indexCast v255
  let c0_84 : Index := 0#32
  ![v256.toNat, 0]

def k0_chk29 (v255 : BitVec 32) : Prop :=
  (∀ a, (k0_off58 v255) a + S1x512.size a ≤ S1920x512.size a)
theorem k0_off58_inb : ∀ (v255 : BitVec 32) (k0_hw29 : k0_chk29 v255), ∀ a, (k0_off58 v255) a + S1x512.size a ≤ S1920x512.size a := fun v255 k0_hw29 => k0_hw29

def k0_off59 (i : grid0.Coords) : Fin 1 → Nat :=
  let arg0 : BitVec 32 := BitVec.ofNat 32 (i 0).val
  let c128_i32_86 : BitVec 32 := 128#32
  let v261 : BitVec 32 := Scalar.muli arg0 c128_i32_86
  let c29_i32 : BitVec 32 := 29#32
  let v262 : BitVec 32 := Scalar.addi v261 c29_i32
  let v263 : Index := Scalar.indexCast v262
  ![v263.toNat]
def k0_off60 (v264 : BitVec 32) : Fin 2 → Nat :=
  let v265 : Index := Scalar.indexCast v264
  let c0_87 : Index := 0#32
  ![v265.toNat, 0]

def k0_chk30 (v264 : BitVec 32) : Prop :=
  (∀ a, (k0_off60 v264) a + S1x512.size a ≤ S1920x512.size a)
theorem k0_off60_inb : ∀ (v264 : BitVec 32) (k0_hw30 : k0_chk30 v264), ∀ a, (k0_off60 v264) a + S1x512.size a ≤ S1920x512.size a := fun v264 k0_hw30 => k0_hw30

def k0_off61 (i : grid0.Coords) : Fin 1 → Nat :=
  let arg0 : BitVec 32 := BitVec.ofNat 32 (i 0).val
  let c128_i32_89 : BitVec 32 := 128#32
  let v270 : BitVec 32 := Scalar.muli arg0 c128_i32_89
  let c30_i32 : BitVec 32 := 30#32
  let v271 : BitVec 32 := Scalar.addi v270 c30_i32
  let v272 : Index := Scalar.indexCast v271
  ![v272.toNat]
def k0_off62 (v273 : BitVec 32) : Fin 2 → Nat :=
  let v274 : Index := Scalar.indexCast v273
  let c0_90 : Index := 0#32
  ![v274.toNat, 0]

def k0_chk31 (v273 : BitVec 32) : Prop :=
  (∀ a, (k0_off62 v273) a + S1x512.size a ≤ S1920x512.size a)
theorem k0_off62_inb : ∀ (v273 : BitVec 32) (k0_hw31 : k0_chk31 v273), ∀ a, (k0_off62 v273) a + S1x512.size a ≤ S1920x512.size a := fun v273 k0_hw31 => k0_hw31

def k0_off63 (i : grid0.Coords) : Fin 1 → Nat :=
  let arg0 : BitVec 32 := BitVec.ofNat 32 (i 0).val
  let c128_i32_92 : BitVec 32 := 128#32
  let v279 : BitVec 32 := Scalar.muli arg0 c128_i32_92
  let c31_i32 : BitVec 32 := 31#32
  let v280 : BitVec 32 := Scalar.addi v279 c31_i32
  let v281 : Index := Scalar.indexCast v280
  ![v281.toNat]
def k0_off64 (v282 : BitVec 32) : Fin 2 → Nat :=
  let v283 : Index := Scalar.indexCast v282
  let c0_93 : Index := 0#32
  ![v283.toNat, 0]

def k0_chk32 (v282 : BitVec 32) : Prop :=
  (∀ a, (k0_off64 v282) a + S1x512.size a ≤ S1920x512.size a)
theorem k0_off64_inb : ∀ (v282 : BitVec 32) (k0_hw32 : k0_chk32 v282), ∀ a, (k0_off64 v282) a + S1x512.size a ≤ S1920x512.size a := fun v282 k0_hw32 => k0_hw32

def k0_off65 (i : grid0.Coords) : Fin 1 → Nat :=
  let arg0 : BitVec 32 := BitVec.ofNat 32 (i 0).val
  let c128_i32_95 : BitVec 32 := 128#32
  let v288 : BitVec 32 := Scalar.muli arg0 c128_i32_95
  let c32_i32 : BitVec 32 := 32#32
  let v289 : BitVec 32 := Scalar.addi v288 c32_i32
  let v290 : Index := Scalar.indexCast v289
  ![v290.toNat]
def k0_off66 (v291 : BitVec 32) : Fin 2 → Nat :=
  let v292 : Index := Scalar.indexCast v291
  let c0_96 : Index := 0#32
  ![v292.toNat, 0]

def k0_chk33 (v291 : BitVec 32) : Prop :=
  (∀ a, (k0_off66 v291) a + S1x512.size a ≤ S1920x512.size a)
theorem k0_off66_inb : ∀ (v291 : BitVec 32) (k0_hw33 : k0_chk33 v291), ∀ a, (k0_off66 v291) a + S1x512.size a ≤ S1920x512.size a := fun v291 k0_hw33 => k0_hw33

def k0_off67 (i : grid0.Coords) : Fin 1 → Nat :=
  let arg0 : BitVec 32 := BitVec.ofNat 32 (i 0).val
  let c128_i32_98 : BitVec 32 := 128#32
  let v297 : BitVec 32 := Scalar.muli arg0 c128_i32_98
  let c33_i32 : BitVec 32 := 33#32
  let v298 : BitVec 32 := Scalar.addi v297 c33_i32
  let v299 : Index := Scalar.indexCast v298
  ![v299.toNat]
def k0_off68 (v300 : BitVec 32) : Fin 2 → Nat :=
  let v301 : Index := Scalar.indexCast v300
  let c0_99 : Index := 0#32
  ![v301.toNat, 0]

def k0_chk34 (v300 : BitVec 32) : Prop :=
  (∀ a, (k0_off68 v300) a + S1x512.size a ≤ S1920x512.size a)
theorem k0_off68_inb : ∀ (v300 : BitVec 32) (k0_hw34 : k0_chk34 v300), ∀ a, (k0_off68 v300) a + S1x512.size a ≤ S1920x512.size a := fun v300 k0_hw34 => k0_hw34

def k0_off69 (i : grid0.Coords) : Fin 1 → Nat :=
  let arg0 : BitVec 32 := BitVec.ofNat 32 (i 0).val
  let c128_i32_101 : BitVec 32 := 128#32
  let v306 : BitVec 32 := Scalar.muli arg0 c128_i32_101
  let c34_i32 : BitVec 32 := 34#32
  let v307 : BitVec 32 := Scalar.addi v306 c34_i32
  let v308 : Index := Scalar.indexCast v307
  ![v308.toNat]
def k0_off70 (v309 : BitVec 32) : Fin 2 → Nat :=
  let v310 : Index := Scalar.indexCast v309
  let c0_102 : Index := 0#32
  ![v310.toNat, 0]

def k0_chk35 (v309 : BitVec 32) : Prop :=
  (∀ a, (k0_off70 v309) a + S1x512.size a ≤ S1920x512.size a)
theorem k0_off70_inb : ∀ (v309 : BitVec 32) (k0_hw35 : k0_chk35 v309), ∀ a, (k0_off70 v309) a + S1x512.size a ≤ S1920x512.size a := fun v309 k0_hw35 => k0_hw35

def k0_off71 (i : grid0.Coords) : Fin 1 → Nat :=
  let arg0 : BitVec 32 := BitVec.ofNat 32 (i 0).val
  let c128_i32_104 : BitVec 32 := 128#32
  let v315 : BitVec 32 := Scalar.muli arg0 c128_i32_104
  let c35_i32 : BitVec 32 := 35#32
  let v316 : BitVec 32 := Scalar.addi v315 c35_i32
  let v317 : Index := Scalar.indexCast v316
  ![v317.toNat]
def k0_off72 (v318 : BitVec 32) : Fin 2 → Nat :=
  let v319 : Index := Scalar.indexCast v318
  let c0_105 : Index := 0#32
  ![v319.toNat, 0]

def k0_chk36 (v318 : BitVec 32) : Prop :=
  (∀ a, (k0_off72 v318) a + S1x512.size a ≤ S1920x512.size a)
theorem k0_off72_inb : ∀ (v318 : BitVec 32) (k0_hw36 : k0_chk36 v318), ∀ a, (k0_off72 v318) a + S1x512.size a ≤ S1920x512.size a := fun v318 k0_hw36 => k0_hw36

def k0_off73 (i : grid0.Coords) : Fin 1 → Nat :=
  let arg0 : BitVec 32 := BitVec.ofNat 32 (i 0).val
  let c128_i32_107 : BitVec 32 := 128#32
  let v324 : BitVec 32 := Scalar.muli arg0 c128_i32_107
  let c36_i32 : BitVec 32 := 36#32
  let v325 : BitVec 32 := Scalar.addi v324 c36_i32
  let v326 : Index := Scalar.indexCast v325
  ![v326.toNat]
def k0_off74 (v327 : BitVec 32) : Fin 2 → Nat :=
  let v328 : Index := Scalar.indexCast v327
  let c0_108 : Index := 0#32
  ![v328.toNat, 0]

def k0_chk37 (v327 : BitVec 32) : Prop :=
  (∀ a, (k0_off74 v327) a + S1x512.size a ≤ S1920x512.size a)
theorem k0_off74_inb : ∀ (v327 : BitVec 32) (k0_hw37 : k0_chk37 v327), ∀ a, (k0_off74 v327) a + S1x512.size a ≤ S1920x512.size a := fun v327 k0_hw37 => k0_hw37

def k0_off75 (i : grid0.Coords) : Fin 1 → Nat :=
  let arg0 : BitVec 32 := BitVec.ofNat 32 (i 0).val
  let c128_i32_110 : BitVec 32 := 128#32
  let v333 : BitVec 32 := Scalar.muli arg0 c128_i32_110
  let c37_i32 : BitVec 32 := 37#32
  let v334 : BitVec 32 := Scalar.addi v333 c37_i32
  let v335 : Index := Scalar.indexCast v334
  ![v335.toNat]
def k0_off76 (v336 : BitVec 32) : Fin 2 → Nat :=
  let v337 : Index := Scalar.indexCast v336
  let c0_111 : Index := 0#32
  ![v337.toNat, 0]

def k0_chk38 (v336 : BitVec 32) : Prop :=
  (∀ a, (k0_off76 v336) a + S1x512.size a ≤ S1920x512.size a)
theorem k0_off76_inb : ∀ (v336 : BitVec 32) (k0_hw38 : k0_chk38 v336), ∀ a, (k0_off76 v336) a + S1x512.size a ≤ S1920x512.size a := fun v336 k0_hw38 => k0_hw38

def k0_off77 (i : grid0.Coords) : Fin 1 → Nat :=
  let arg0 : BitVec 32 := BitVec.ofNat 32 (i 0).val
  let c128_i32_113 : BitVec 32 := 128#32
  let v342 : BitVec 32 := Scalar.muli arg0 c128_i32_113
  let c38_i32 : BitVec 32 := 38#32
  let v343 : BitVec 32 := Scalar.addi v342 c38_i32
  let v344 : Index := Scalar.indexCast v343
  ![v344.toNat]
def k0_off78 (v345 : BitVec 32) : Fin 2 → Nat :=
  let v346 : Index := Scalar.indexCast v345
  let c0_114 : Index := 0#32
  ![v346.toNat, 0]

def k0_chk39 (v345 : BitVec 32) : Prop :=
  (∀ a, (k0_off78 v345) a + S1x512.size a ≤ S1920x512.size a)
theorem k0_off78_inb : ∀ (v345 : BitVec 32) (k0_hw39 : k0_chk39 v345), ∀ a, (k0_off78 v345) a + S1x512.size a ≤ S1920x512.size a := fun v345 k0_hw39 => k0_hw39

def k0_off79 (i : grid0.Coords) : Fin 1 → Nat :=
  let arg0 : BitVec 32 := BitVec.ofNat 32 (i 0).val
  let c128_i32_116 : BitVec 32 := 128#32
  let v351 : BitVec 32 := Scalar.muli arg0 c128_i32_116
  let c39_i32 : BitVec 32 := 39#32
  let v352 : BitVec 32 := Scalar.addi v351 c39_i32
  let v353 : Index := Scalar.indexCast v352
  ![v353.toNat]
def k0_off80 (v354 : BitVec 32) : Fin 2 → Nat :=
  let v355 : Index := Scalar.indexCast v354
  let c0_117 : Index := 0#32
  ![v355.toNat, 0]

def k0_chk40 (v354 : BitVec 32) : Prop :=
  (∀ a, (k0_off80 v354) a + S1x512.size a ≤ S1920x512.size a)
theorem k0_off80_inb : ∀ (v354 : BitVec 32) (k0_hw40 : k0_chk40 v354), ∀ a, (k0_off80 v354) a + S1x512.size a ≤ S1920x512.size a := fun v354 k0_hw40 => k0_hw40

def k0_off81 (i : grid0.Coords) : Fin 1 → Nat :=
  let arg0 : BitVec 32 := BitVec.ofNat 32 (i 0).val
  let c128_i32_119 : BitVec 32 := 128#32
  let v360 : BitVec 32 := Scalar.muli arg0 c128_i32_119
  let c40_i32 : BitVec 32 := 40#32
  let v361 : BitVec 32 := Scalar.addi v360 c40_i32
  let v362 : Index := Scalar.indexCast v361
  ![v362.toNat]
def k0_off82 (v363 : BitVec 32) : Fin 2 → Nat :=
  let v364 : Index := Scalar.indexCast v363
  let c0_120 : Index := 0#32
  ![v364.toNat, 0]

def k0_chk41 (v363 : BitVec 32) : Prop :=
  (∀ a, (k0_off82 v363) a + S1x512.size a ≤ S1920x512.size a)
theorem k0_off82_inb : ∀ (v363 : BitVec 32) (k0_hw41 : k0_chk41 v363), ∀ a, (k0_off82 v363) a + S1x512.size a ≤ S1920x512.size a := fun v363 k0_hw41 => k0_hw41

def k0_off83 (i : grid0.Coords) : Fin 1 → Nat :=
  let arg0 : BitVec 32 := BitVec.ofNat 32 (i 0).val
  let c128_i32_122 : BitVec 32 := 128#32
  let v369 : BitVec 32 := Scalar.muli arg0 c128_i32_122
  let c41_i32 : BitVec 32 := 41#32
  let v370 : BitVec 32 := Scalar.addi v369 c41_i32
  let v371 : Index := Scalar.indexCast v370
  ![v371.toNat]
def k0_off84 (v372 : BitVec 32) : Fin 2 → Nat :=
  let v373 : Index := Scalar.indexCast v372
  let c0_123 : Index := 0#32
  ![v373.toNat, 0]

def k0_chk42 (v372 : BitVec 32) : Prop :=
  (∀ a, (k0_off84 v372) a + S1x512.size a ≤ S1920x512.size a)
theorem k0_off84_inb : ∀ (v372 : BitVec 32) (k0_hw42 : k0_chk42 v372), ∀ a, (k0_off84 v372) a + S1x512.size a ≤ S1920x512.size a := fun v372 k0_hw42 => k0_hw42

def k0_off85 (i : grid0.Coords) : Fin 1 → Nat :=
  let arg0 : BitVec 32 := BitVec.ofNat 32 (i 0).val
  let c128_i32_125 : BitVec 32 := 128#32
  let v378 : BitVec 32 := Scalar.muli arg0 c128_i32_125
  let c42_i32 : BitVec 32 := 42#32
  let v379 : BitVec 32 := Scalar.addi v378 c42_i32
  let v380 : Index := Scalar.indexCast v379
  ![v380.toNat]
def k0_off86 (v381 : BitVec 32) : Fin 2 → Nat :=
  let v382 : Index := Scalar.indexCast v381
  let c0_126 : Index := 0#32
  ![v382.toNat, 0]

def k0_chk43 (v381 : BitVec 32) : Prop :=
  (∀ a, (k0_off86 v381) a + S1x512.size a ≤ S1920x512.size a)
theorem k0_off86_inb : ∀ (v381 : BitVec 32) (k0_hw43 : k0_chk43 v381), ∀ a, (k0_off86 v381) a + S1x512.size a ≤ S1920x512.size a := fun v381 k0_hw43 => k0_hw43

def k0_off87 (i : grid0.Coords) : Fin 1 → Nat :=
  let arg0 : BitVec 32 := BitVec.ofNat 32 (i 0).val
  let c128_i32_128 : BitVec 32 := 128#32
  let v387 : BitVec 32 := Scalar.muli arg0 c128_i32_128
  let c43_i32 : BitVec 32 := 43#32
  let v388 : BitVec 32 := Scalar.addi v387 c43_i32
  let v389 : Index := Scalar.indexCast v388
  ![v389.toNat]
def k0_off88 (v390 : BitVec 32) : Fin 2 → Nat :=
  let v391 : Index := Scalar.indexCast v390
  let c0_129 : Index := 0#32
  ![v391.toNat, 0]

def k0_chk44 (v390 : BitVec 32) : Prop :=
  (∀ a, (k0_off88 v390) a + S1x512.size a ≤ S1920x512.size a)
theorem k0_off88_inb : ∀ (v390 : BitVec 32) (k0_hw44 : k0_chk44 v390), ∀ a, (k0_off88 v390) a + S1x512.size a ≤ S1920x512.size a := fun v390 k0_hw44 => k0_hw44

def k0_off89 (i : grid0.Coords) : Fin 1 → Nat :=
  let arg0 : BitVec 32 := BitVec.ofNat 32 (i 0).val
  let c128_i32_131 : BitVec 32 := 128#32
  let v396 : BitVec 32 := Scalar.muli arg0 c128_i32_131
  let c44_i32 : BitVec 32 := 44#32
  let v397 : BitVec 32 := Scalar.addi v396 c44_i32
  let v398 : Index := Scalar.indexCast v397
  ![v398.toNat]
def k0_off90 (v399 : BitVec 32) : Fin 2 → Nat :=
  let v400 : Index := Scalar.indexCast v399
  let c0_132 : Index := 0#32
  ![v400.toNat, 0]

def k0_chk45 (v399 : BitVec 32) : Prop :=
  (∀ a, (k0_off90 v399) a + S1x512.size a ≤ S1920x512.size a)
theorem k0_off90_inb : ∀ (v399 : BitVec 32) (k0_hw45 : k0_chk45 v399), ∀ a, (k0_off90 v399) a + S1x512.size a ≤ S1920x512.size a := fun v399 k0_hw45 => k0_hw45

def k0_off91 (i : grid0.Coords) : Fin 1 → Nat :=
  let arg0 : BitVec 32 := BitVec.ofNat 32 (i 0).val
  let c128_i32_134 : BitVec 32 := 128#32
  let v405 : BitVec 32 := Scalar.muli arg0 c128_i32_134
  let c45_i32 : BitVec 32 := 45#32
  let v406 : BitVec 32 := Scalar.addi v405 c45_i32
  let v407 : Index := Scalar.indexCast v406
  ![v407.toNat]
def k0_off92 (v408 : BitVec 32) : Fin 2 → Nat :=
  let v409 : Index := Scalar.indexCast v408
  let c0_135 : Index := 0#32
  ![v409.toNat, 0]

def k0_chk46 (v408 : BitVec 32) : Prop :=
  (∀ a, (k0_off92 v408) a + S1x512.size a ≤ S1920x512.size a)
theorem k0_off92_inb : ∀ (v408 : BitVec 32) (k0_hw46 : k0_chk46 v408), ∀ a, (k0_off92 v408) a + S1x512.size a ≤ S1920x512.size a := fun v408 k0_hw46 => k0_hw46

def k0_off93 (i : grid0.Coords) : Fin 1 → Nat :=
  let arg0 : BitVec 32 := BitVec.ofNat 32 (i 0).val
  let c128_i32_137 : BitVec 32 := 128#32
  let v414 : BitVec 32 := Scalar.muli arg0 c128_i32_137
  let c46_i32 : BitVec 32 := 46#32
  let v415 : BitVec 32 := Scalar.addi v414 c46_i32
  let v416 : Index := Scalar.indexCast v415
  ![v416.toNat]
def k0_off94 (v417 : BitVec 32) : Fin 2 → Nat :=
  let v418 : Index := Scalar.indexCast v417
  let c0_138 : Index := 0#32
  ![v418.toNat, 0]

def k0_chk47 (v417 : BitVec 32) : Prop :=
  (∀ a, (k0_off94 v417) a + S1x512.size a ≤ S1920x512.size a)
theorem k0_off94_inb : ∀ (v417 : BitVec 32) (k0_hw47 : k0_chk47 v417), ∀ a, (k0_off94 v417) a + S1x512.size a ≤ S1920x512.size a := fun v417 k0_hw47 => k0_hw47

def k0_off95 (i : grid0.Coords) : Fin 1 → Nat :=
  let arg0 : BitVec 32 := BitVec.ofNat 32 (i 0).val
  let c128_i32_140 : BitVec 32 := 128#32
  let v423 : BitVec 32 := Scalar.muli arg0 c128_i32_140
  let c47_i32 : BitVec 32 := 47#32
  let v424 : BitVec 32 := Scalar.addi v423 c47_i32
  let v425 : Index := Scalar.indexCast v424
  ![v425.toNat]
def k0_off96 (v426 : BitVec 32) : Fin 2 → Nat :=
  let v427 : Index := Scalar.indexCast v426
  let c0_141 : Index := 0#32
  ![v427.toNat, 0]

def k0_chk48 (v426 : BitVec 32) : Prop :=
  (∀ a, (k0_off96 v426) a + S1x512.size a ≤ S1920x512.size a)
theorem k0_off96_inb : ∀ (v426 : BitVec 32) (k0_hw48 : k0_chk48 v426), ∀ a, (k0_off96 v426) a + S1x512.size a ≤ S1920x512.size a := fun v426 k0_hw48 => k0_hw48

def k0_off97 (i : grid0.Coords) : Fin 1 → Nat :=
  let arg0 : BitVec 32 := BitVec.ofNat 32 (i 0).val
  let c128_i32_143 : BitVec 32 := 128#32
  let v432 : BitVec 32 := Scalar.muli arg0 c128_i32_143
  let c48_i32 : BitVec 32 := 48#32
  let v433 : BitVec 32 := Scalar.addi v432 c48_i32
  let v434 : Index := Scalar.indexCast v433
  ![v434.toNat]
def k0_off98 (v435 : BitVec 32) : Fin 2 → Nat :=
  let v436 : Index := Scalar.indexCast v435
  let c0_144 : Index := 0#32
  ![v436.toNat, 0]

def k0_chk49 (v435 : BitVec 32) : Prop :=
  (∀ a, (k0_off98 v435) a + S1x512.size a ≤ S1920x512.size a)
theorem k0_off98_inb : ∀ (v435 : BitVec 32) (k0_hw49 : k0_chk49 v435), ∀ a, (k0_off98 v435) a + S1x512.size a ≤ S1920x512.size a := fun v435 k0_hw49 => k0_hw49

def k0_off99 (i : grid0.Coords) : Fin 1 → Nat :=
  let arg0 : BitVec 32 := BitVec.ofNat 32 (i 0).val
  let c128_i32_146 : BitVec 32 := 128#32
  let v441 : BitVec 32 := Scalar.muli arg0 c128_i32_146
  let c49_i32 : BitVec 32 := 49#32
  let v442 : BitVec 32 := Scalar.addi v441 c49_i32
  let v443 : Index := Scalar.indexCast v442
  ![v443.toNat]
def k0_off100 (v444 : BitVec 32) : Fin 2 → Nat :=
  let v445 : Index := Scalar.indexCast v444
  let c0_147 : Index := 0#32
  ![v445.toNat, 0]

def k0_chk50 (v444 : BitVec 32) : Prop :=
  (∀ a, (k0_off100 v444) a + S1x512.size a ≤ S1920x512.size a)
theorem k0_off100_inb : ∀ (v444 : BitVec 32) (k0_hw50 : k0_chk50 v444), ∀ a, (k0_off100 v444) a + S1x512.size a ≤ S1920x512.size a := fun v444 k0_hw50 => k0_hw50

def k0_off101 (i : grid0.Coords) : Fin 1 → Nat :=
  let arg0 : BitVec 32 := BitVec.ofNat 32 (i 0).val
  let c128_i32_149 : BitVec 32 := 128#32
  let v450 : BitVec 32 := Scalar.muli arg0 c128_i32_149
  let c50_i32 : BitVec 32 := 50#32
  let v451 : BitVec 32 := Scalar.addi v450 c50_i32
  let v452 : Index := Scalar.indexCast v451
  ![v452.toNat]
def k0_off102 (v453 : BitVec 32) : Fin 2 → Nat :=
  let v454 : Index := Scalar.indexCast v453
  let c0_150 : Index := 0#32
  ![v454.toNat, 0]

def k0_chk51 (v453 : BitVec 32) : Prop :=
  (∀ a, (k0_off102 v453) a + S1x512.size a ≤ S1920x512.size a)
theorem k0_off102_inb : ∀ (v453 : BitVec 32) (k0_hw51 : k0_chk51 v453), ∀ a, (k0_off102 v453) a + S1x512.size a ≤ S1920x512.size a := fun v453 k0_hw51 => k0_hw51

def k0_off103 (i : grid0.Coords) : Fin 1 → Nat :=
  let arg0 : BitVec 32 := BitVec.ofNat 32 (i 0).val
  let c128_i32_152 : BitVec 32 := 128#32
  let v459 : BitVec 32 := Scalar.muli arg0 c128_i32_152
  let c51_i32 : BitVec 32 := 51#32
  let v460 : BitVec 32 := Scalar.addi v459 c51_i32
  let v461 : Index := Scalar.indexCast v460
  ![v461.toNat]
def k0_off104 (v462 : BitVec 32) : Fin 2 → Nat :=
  let v463 : Index := Scalar.indexCast v462
  let c0_153 : Index := 0#32
  ![v463.toNat, 0]

def k0_chk52 (v462 : BitVec 32) : Prop :=
  (∀ a, (k0_off104 v462) a + S1x512.size a ≤ S1920x512.size a)
theorem k0_off104_inb : ∀ (v462 : BitVec 32) (k0_hw52 : k0_chk52 v462), ∀ a, (k0_off104 v462) a + S1x512.size a ≤ S1920x512.size a := fun v462 k0_hw52 => k0_hw52

def k0_off105 (i : grid0.Coords) : Fin 1 → Nat :=
  let arg0 : BitVec 32 := BitVec.ofNat 32 (i 0).val
  let c128_i32_155 : BitVec 32 := 128#32
  let v468 : BitVec 32 := Scalar.muli arg0 c128_i32_155
  let c52_i32 : BitVec 32 := 52#32
  let v469 : BitVec 32 := Scalar.addi v468 c52_i32
  let v470 : Index := Scalar.indexCast v469
  ![v470.toNat]
def k0_off106 (v471 : BitVec 32) : Fin 2 → Nat :=
  let v472 : Index := Scalar.indexCast v471
  let c0_156 : Index := 0#32
  ![v472.toNat, 0]

def k0_chk53 (v471 : BitVec 32) : Prop :=
  (∀ a, (k0_off106 v471) a + S1x512.size a ≤ S1920x512.size a)
theorem k0_off106_inb : ∀ (v471 : BitVec 32) (k0_hw53 : k0_chk53 v471), ∀ a, (k0_off106 v471) a + S1x512.size a ≤ S1920x512.size a := fun v471 k0_hw53 => k0_hw53

def k0_off107 (i : grid0.Coords) : Fin 1 → Nat :=
  let arg0 : BitVec 32 := BitVec.ofNat 32 (i 0).val
  let c128_i32_158 : BitVec 32 := 128#32
  let v477 : BitVec 32 := Scalar.muli arg0 c128_i32_158
  let c53_i32 : BitVec 32 := 53#32
  let v478 : BitVec 32 := Scalar.addi v477 c53_i32
  let v479 : Index := Scalar.indexCast v478
  ![v479.toNat]
def k0_off108 (v480 : BitVec 32) : Fin 2 → Nat :=
  let v481 : Index := Scalar.indexCast v480
  let c0_159 : Index := 0#32
  ![v481.toNat, 0]

def k0_chk54 (v480 : BitVec 32) : Prop :=
  (∀ a, (k0_off108 v480) a + S1x512.size a ≤ S1920x512.size a)
theorem k0_off108_inb : ∀ (v480 : BitVec 32) (k0_hw54 : k0_chk54 v480), ∀ a, (k0_off108 v480) a + S1x512.size a ≤ S1920x512.size a := fun v480 k0_hw54 => k0_hw54

def k0_off109 (i : grid0.Coords) : Fin 1 → Nat :=
  let arg0 : BitVec 32 := BitVec.ofNat 32 (i 0).val
  let c128_i32_161 : BitVec 32 := 128#32
  let v486 : BitVec 32 := Scalar.muli arg0 c128_i32_161
  let c54_i32 : BitVec 32 := 54#32
  let v487 : BitVec 32 := Scalar.addi v486 c54_i32
  let v488 : Index := Scalar.indexCast v487
  ![v488.toNat]
def k0_off110 (v489 : BitVec 32) : Fin 2 → Nat :=
  let v490 : Index := Scalar.indexCast v489
  let c0_162 : Index := 0#32
  ![v490.toNat, 0]

def k0_chk55 (v489 : BitVec 32) : Prop :=
  (∀ a, (k0_off110 v489) a + S1x512.size a ≤ S1920x512.size a)
theorem k0_off110_inb : ∀ (v489 : BitVec 32) (k0_hw55 : k0_chk55 v489), ∀ a, (k0_off110 v489) a + S1x512.size a ≤ S1920x512.size a := fun v489 k0_hw55 => k0_hw55

def k0_off111 (i : grid0.Coords) : Fin 1 → Nat :=
  let arg0 : BitVec 32 := BitVec.ofNat 32 (i 0).val
  let c128_i32_164 : BitVec 32 := 128#32
  let v495 : BitVec 32 := Scalar.muli arg0 c128_i32_164
  let c55_i32 : BitVec 32 := 55#32
  let v496 : BitVec 32 := Scalar.addi v495 c55_i32
  let v497 : Index := Scalar.indexCast v496
  ![v497.toNat]
def k0_off112 (v498 : BitVec 32) : Fin 2 → Nat :=
  let v499 : Index := Scalar.indexCast v498
  let c0_165 : Index := 0#32
  ![v499.toNat, 0]

def k0_chk56 (v498 : BitVec 32) : Prop :=
  (∀ a, (k0_off112 v498) a + S1x512.size a ≤ S1920x512.size a)
theorem k0_off112_inb : ∀ (v498 : BitVec 32) (k0_hw56 : k0_chk56 v498), ∀ a, (k0_off112 v498) a + S1x512.size a ≤ S1920x512.size a := fun v498 k0_hw56 => k0_hw56

def k0_off113 (i : grid0.Coords) : Fin 1 → Nat :=
  let arg0 : BitVec 32 := BitVec.ofNat 32 (i 0).val
  let c128_i32_167 : BitVec 32 := 128#32
  let v504 : BitVec 32 := Scalar.muli arg0 c128_i32_167
  let c56_i32 : BitVec 32 := 56#32
  let v505 : BitVec 32 := Scalar.addi v504 c56_i32
  let v506 : Index := Scalar.indexCast v505
  ![v506.toNat]
def k0_off114 (v507 : BitVec 32) : Fin 2 → Nat :=
  let v508 : Index := Scalar.indexCast v507
  let c0_168 : Index := 0#32
  ![v508.toNat, 0]

def k0_chk57 (v507 : BitVec 32) : Prop :=
  (∀ a, (k0_off114 v507) a + S1x512.size a ≤ S1920x512.size a)
theorem k0_off114_inb : ∀ (v507 : BitVec 32) (k0_hw57 : k0_chk57 v507), ∀ a, (k0_off114 v507) a + S1x512.size a ≤ S1920x512.size a := fun v507 k0_hw57 => k0_hw57

def k0_off115 (i : grid0.Coords) : Fin 1 → Nat :=
  let arg0 : BitVec 32 := BitVec.ofNat 32 (i 0).val
  let c128_i32_170 : BitVec 32 := 128#32
  let v513 : BitVec 32 := Scalar.muli arg0 c128_i32_170
  let c57_i32 : BitVec 32 := 57#32
  let v514 : BitVec 32 := Scalar.addi v513 c57_i32
  let v515 : Index := Scalar.indexCast v514
  ![v515.toNat]
def k0_off116 (v516 : BitVec 32) : Fin 2 → Nat :=
  let v517 : Index := Scalar.indexCast v516
  let c0_171 : Index := 0#32
  ![v517.toNat, 0]

def k0_chk58 (v516 : BitVec 32) : Prop :=
  (∀ a, (k0_off116 v516) a + S1x512.size a ≤ S1920x512.size a)
theorem k0_off116_inb : ∀ (v516 : BitVec 32) (k0_hw58 : k0_chk58 v516), ∀ a, (k0_off116 v516) a + S1x512.size a ≤ S1920x512.size a := fun v516 k0_hw58 => k0_hw58

def k0_off117 (i : grid0.Coords) : Fin 1 → Nat :=
  let arg0 : BitVec 32 := BitVec.ofNat 32 (i 0).val
  let c128_i32_173 : BitVec 32 := 128#32
  let v522 : BitVec 32 := Scalar.muli arg0 c128_i32_173
  let c58_i32 : BitVec 32 := 58#32
  let v523 : BitVec 32 := Scalar.addi v522 c58_i32
  let v524 : Index := Scalar.indexCast v523
  ![v524.toNat]
def k0_off118 (v525 : BitVec 32) : Fin 2 → Nat :=
  let v526 : Index := Scalar.indexCast v525
  let c0_174 : Index := 0#32
  ![v526.toNat, 0]

def k0_chk59 (v525 : BitVec 32) : Prop :=
  (∀ a, (k0_off118 v525) a + S1x512.size a ≤ S1920x512.size a)
theorem k0_off118_inb : ∀ (v525 : BitVec 32) (k0_hw59 : k0_chk59 v525), ∀ a, (k0_off118 v525) a + S1x512.size a ≤ S1920x512.size a := fun v525 k0_hw59 => k0_hw59

def k0_off119 (i : grid0.Coords) : Fin 1 → Nat :=
  let arg0 : BitVec 32 := BitVec.ofNat 32 (i 0).val
  let c128_i32_176 : BitVec 32 := 128#32
  let v531 : BitVec 32 := Scalar.muli arg0 c128_i32_176
  let c59_i32 : BitVec 32 := 59#32
  let v532 : BitVec 32 := Scalar.addi v531 c59_i32
  let v533 : Index := Scalar.indexCast v532
  ![v533.toNat]
def k0_off120 (v534 : BitVec 32) : Fin 2 → Nat :=
  let v535 : Index := Scalar.indexCast v534
  let c0_177 : Index := 0#32
  ![v535.toNat, 0]

def k0_chk60 (v534 : BitVec 32) : Prop :=
  (∀ a, (k0_off120 v534) a + S1x512.size a ≤ S1920x512.size a)
theorem k0_off120_inb : ∀ (v534 : BitVec 32) (k0_hw60 : k0_chk60 v534), ∀ a, (k0_off120 v534) a + S1x512.size a ≤ S1920x512.size a := fun v534 k0_hw60 => k0_hw60

def k0_off121 (i : grid0.Coords) : Fin 1 → Nat :=
  let arg0 : BitVec 32 := BitVec.ofNat 32 (i 0).val
  let c128_i32_179 : BitVec 32 := 128#32
  let v540 : BitVec 32 := Scalar.muli arg0 c128_i32_179
  let c60_i32 : BitVec 32 := 60#32
  let v541 : BitVec 32 := Scalar.addi v540 c60_i32
  let v542 : Index := Scalar.indexCast v541
  ![v542.toNat]
def k0_off122 (v543 : BitVec 32) : Fin 2 → Nat :=
  let v544 : Index := Scalar.indexCast v543
  let c0_180 : Index := 0#32
  ![v544.toNat, 0]

def k0_chk61 (v543 : BitVec 32) : Prop :=
  (∀ a, (k0_off122 v543) a + S1x512.size a ≤ S1920x512.size a)
theorem k0_off122_inb : ∀ (v543 : BitVec 32) (k0_hw61 : k0_chk61 v543), ∀ a, (k0_off122 v543) a + S1x512.size a ≤ S1920x512.size a := fun v543 k0_hw61 => k0_hw61

def k0_off123 (i : grid0.Coords) : Fin 1 → Nat :=
  let arg0 : BitVec 32 := BitVec.ofNat 32 (i 0).val
  let c128_i32_182 : BitVec 32 := 128#32
  let v549 : BitVec 32 := Scalar.muli arg0 c128_i32_182
  let c61_i32 : BitVec 32 := 61#32
  let v550 : BitVec 32 := Scalar.addi v549 c61_i32
  let v551 : Index := Scalar.indexCast v550
  ![v551.toNat]
def k0_off124 (v552 : BitVec 32) : Fin 2 → Nat :=
  let v553 : Index := Scalar.indexCast v552
  let c0_183 : Index := 0#32
  ![v553.toNat, 0]

def k0_chk62 (v552 : BitVec 32) : Prop :=
  (∀ a, (k0_off124 v552) a + S1x512.size a ≤ S1920x512.size a)
theorem k0_off124_inb : ∀ (v552 : BitVec 32) (k0_hw62 : k0_chk62 v552), ∀ a, (k0_off124 v552) a + S1x512.size a ≤ S1920x512.size a := fun v552 k0_hw62 => k0_hw62

def k0_off125 (i : grid0.Coords) : Fin 1 → Nat :=
  let arg0 : BitVec 32 := BitVec.ofNat 32 (i 0).val
  let c128_i32_185 : BitVec 32 := 128#32
  let v558 : BitVec 32 := Scalar.muli arg0 c128_i32_185
  let c62_i32 : BitVec 32 := 62#32
  let v559 : BitVec 32 := Scalar.addi v558 c62_i32
  let v560 : Index := Scalar.indexCast v559
  ![v560.toNat]
def k0_off126 (v561 : BitVec 32) : Fin 2 → Nat :=
  let v562 : Index := Scalar.indexCast v561
  let c0_186 : Index := 0#32
  ![v562.toNat, 0]

def k0_chk63 (v561 : BitVec 32) : Prop :=
  (∀ a, (k0_off126 v561) a + S1x512.size a ≤ S1920x512.size a)
theorem k0_off126_inb : ∀ (v561 : BitVec 32) (k0_hw63 : k0_chk63 v561), ∀ a, (k0_off126 v561) a + S1x512.size a ≤ S1920x512.size a := fun v561 k0_hw63 => k0_hw63

def k0_off127 (i : grid0.Coords) : Fin 1 → Nat :=
  let arg0 : BitVec 32 := BitVec.ofNat 32 (i 0).val
  let c128_i32_188 : BitVec 32 := 128#32
  let v567 : BitVec 32 := Scalar.muli arg0 c128_i32_188
  let c63_i32 : BitVec 32 := 63#32
  let v568 : BitVec 32 := Scalar.addi v567 c63_i32
  let v569 : Index := Scalar.indexCast v568
  ![v569.toNat]
def k0_off128 (v570 : BitVec 32) : Fin 2 → Nat :=
  let v571 : Index := Scalar.indexCast v570
  let c0_189 : Index := 0#32
  ![v571.toNat, 0]

def k0_chk64 (v570 : BitVec 32) : Prop :=
  (∀ a, (k0_off128 v570) a + S1x512.size a ≤ S1920x512.size a)
theorem k0_off128_inb : ∀ (v570 : BitVec 32) (k0_hw64 : k0_chk64 v570), ∀ a, (k0_off128 v570) a + S1x512.size a ≤ S1920x512.size a := fun v570 k0_hw64 => k0_hw64

def k0_off129 (i : grid0.Coords) : Fin 1 → Nat :=
  let arg0 : BitVec 32 := BitVec.ofNat 32 (i 0).val
  let c128_i32_191 : BitVec 32 := 128#32
  let v576 : BitVec 32 := Scalar.muli arg0 c128_i32_191
  let c64_i32 : BitVec 32 := 64#32
  let v577 : BitVec 32 := Scalar.addi v576 c64_i32
  let v578 : Index := Scalar.indexCast v577
  ![v578.toNat]
def k0_off130 (v579 : BitVec 32) : Fin 2 → Nat :=
  let v580 : Index := Scalar.indexCast v579
  let c0_192 : Index := 0#32
  ![v580.toNat, 0]

def k0_chk65 (v579 : BitVec 32) : Prop :=
  (∀ a, (k0_off130 v579) a + S1x512.size a ≤ S1920x512.size a)
theorem k0_off130_inb : ∀ (v579 : BitVec 32) (k0_hw65 : k0_chk65 v579), ∀ a, (k0_off130 v579) a + S1x512.size a ≤ S1920x512.size a := fun v579 k0_hw65 => k0_hw65

def k0_off131 (i : grid0.Coords) : Fin 1 → Nat :=
  let arg0 : BitVec 32 := BitVec.ofNat 32 (i 0).val
  let c128_i32_194 : BitVec 32 := 128#32
  let v585 : BitVec 32 := Scalar.muli arg0 c128_i32_194
  let c65_i32 : BitVec 32 := 65#32
  let v586 : BitVec 32 := Scalar.addi v585 c65_i32
  let v587 : Index := Scalar.indexCast v586
  ![v587.toNat]
def k0_off132 (v588 : BitVec 32) : Fin 2 → Nat :=
  let v589 : Index := Scalar.indexCast v588
  let c0_195 : Index := 0#32
  ![v589.toNat, 0]

def k0_chk66 (v588 : BitVec 32) : Prop :=
  (∀ a, (k0_off132 v588) a + S1x512.size a ≤ S1920x512.size a)
theorem k0_off132_inb : ∀ (v588 : BitVec 32) (k0_hw66 : k0_chk66 v588), ∀ a, (k0_off132 v588) a + S1x512.size a ≤ S1920x512.size a := fun v588 k0_hw66 => k0_hw66

def k0_off133 (i : grid0.Coords) : Fin 1 → Nat :=
  let arg0 : BitVec 32 := BitVec.ofNat 32 (i 0).val
  let c128_i32_197 : BitVec 32 := 128#32
  let v594 : BitVec 32 := Scalar.muli arg0 c128_i32_197
  let c66_i32 : BitVec 32 := 66#32
  let v595 : BitVec 32 := Scalar.addi v594 c66_i32
  let v596 : Index := Scalar.indexCast v595
  ![v596.toNat]
def k0_off134 (v597 : BitVec 32) : Fin 2 → Nat :=
  let v598 : Index := Scalar.indexCast v597
  let c0_198 : Index := 0#32
  ![v598.toNat, 0]

def k0_chk67 (v597 : BitVec 32) : Prop :=
  (∀ a, (k0_off134 v597) a + S1x512.size a ≤ S1920x512.size a)
theorem k0_off134_inb : ∀ (v597 : BitVec 32) (k0_hw67 : k0_chk67 v597), ∀ a, (k0_off134 v597) a + S1x512.size a ≤ S1920x512.size a := fun v597 k0_hw67 => k0_hw67

def k0_off135 (i : grid0.Coords) : Fin 1 → Nat :=
  let arg0 : BitVec 32 := BitVec.ofNat 32 (i 0).val
  let c128_i32_200 : BitVec 32 := 128#32
  let v603 : BitVec 32 := Scalar.muli arg0 c128_i32_200
  let c67_i32 : BitVec 32 := 67#32
  let v604 : BitVec 32 := Scalar.addi v603 c67_i32
  let v605 : Index := Scalar.indexCast v604
  ![v605.toNat]
def k0_off136 (v606 : BitVec 32) : Fin 2 → Nat :=
  let v607 : Index := Scalar.indexCast v606
  let c0_201 : Index := 0#32
  ![v607.toNat, 0]

def k0_chk68 (v606 : BitVec 32) : Prop :=
  (∀ a, (k0_off136 v606) a + S1x512.size a ≤ S1920x512.size a)
theorem k0_off136_inb : ∀ (v606 : BitVec 32) (k0_hw68 : k0_chk68 v606), ∀ a, (k0_off136 v606) a + S1x512.size a ≤ S1920x512.size a := fun v606 k0_hw68 => k0_hw68

def k0_off137 (i : grid0.Coords) : Fin 1 → Nat :=
  let arg0 : BitVec 32 := BitVec.ofNat 32 (i 0).val
  let c128_i32_203 : BitVec 32 := 128#32
  let v612 : BitVec 32 := Scalar.muli arg0 c128_i32_203
  let c68_i32 : BitVec 32 := 68#32
  let v613 : BitVec 32 := Scalar.addi v612 c68_i32
  let v614 : Index := Scalar.indexCast v613
  ![v614.toNat]
def k0_off138 (v615 : BitVec 32) : Fin 2 → Nat :=
  let v616 : Index := Scalar.indexCast v615
  let c0_204 : Index := 0#32
  ![v616.toNat, 0]

def k0_chk69 (v615 : BitVec 32) : Prop :=
  (∀ a, (k0_off138 v615) a + S1x512.size a ≤ S1920x512.size a)
theorem k0_off138_inb : ∀ (v615 : BitVec 32) (k0_hw69 : k0_chk69 v615), ∀ a, (k0_off138 v615) a + S1x512.size a ≤ S1920x512.size a := fun v615 k0_hw69 => k0_hw69

def k0_off139 (i : grid0.Coords) : Fin 1 → Nat :=
  let arg0 : BitVec 32 := BitVec.ofNat 32 (i 0).val
  let c128_i32_206 : BitVec 32 := 128#32
  let v621 : BitVec 32 := Scalar.muli arg0 c128_i32_206
  let c69_i32 : BitVec 32 := 69#32
  let v622 : BitVec 32 := Scalar.addi v621 c69_i32
  let v623 : Index := Scalar.indexCast v622
  ![v623.toNat]
def k0_off140 (v624 : BitVec 32) : Fin 2 → Nat :=
  let v625 : Index := Scalar.indexCast v624
  let c0_207 : Index := 0#32
  ![v625.toNat, 0]

def k0_chk70 (v624 : BitVec 32) : Prop :=
  (∀ a, (k0_off140 v624) a + S1x512.size a ≤ S1920x512.size a)
theorem k0_off140_inb : ∀ (v624 : BitVec 32) (k0_hw70 : k0_chk70 v624), ∀ a, (k0_off140 v624) a + S1x512.size a ≤ S1920x512.size a := fun v624 k0_hw70 => k0_hw70

def k0_off141 (i : grid0.Coords) : Fin 1 → Nat :=
  let arg0 : BitVec 32 := BitVec.ofNat 32 (i 0).val
  let c128_i32_209 : BitVec 32 := 128#32
  let v630 : BitVec 32 := Scalar.muli arg0 c128_i32_209
  let c70_i32 : BitVec 32 := 70#32
  let v631 : BitVec 32 := Scalar.addi v630 c70_i32
  let v632 : Index := Scalar.indexCast v631
  ![v632.toNat]
def k0_off142 (v633 : BitVec 32) : Fin 2 → Nat :=
  let v634 : Index := Scalar.indexCast v633
  let c0_210 : Index := 0#32
  ![v634.toNat, 0]

def k0_chk71 (v633 : BitVec 32) : Prop :=
  (∀ a, (k0_off142 v633) a + S1x512.size a ≤ S1920x512.size a)
theorem k0_off142_inb : ∀ (v633 : BitVec 32) (k0_hw71 : k0_chk71 v633), ∀ a, (k0_off142 v633) a + S1x512.size a ≤ S1920x512.size a := fun v633 k0_hw71 => k0_hw71

def k0_off143 (i : grid0.Coords) : Fin 1 → Nat :=
  let arg0 : BitVec 32 := BitVec.ofNat 32 (i 0).val
  let c128_i32_212 : BitVec 32 := 128#32
  let v639 : BitVec 32 := Scalar.muli arg0 c128_i32_212
  let c71_i32 : BitVec 32 := 71#32
  let v640 : BitVec 32 := Scalar.addi v639 c71_i32
  let v641 : Index := Scalar.indexCast v640
  ![v641.toNat]
def k0_off144 (v642 : BitVec 32) : Fin 2 → Nat :=
  let v643 : Index := Scalar.indexCast v642
  let c0_213 : Index := 0#32
  ![v643.toNat, 0]

def k0_chk72 (v642 : BitVec 32) : Prop :=
  (∀ a, (k0_off144 v642) a + S1x512.size a ≤ S1920x512.size a)
theorem k0_off144_inb : ∀ (v642 : BitVec 32) (k0_hw72 : k0_chk72 v642), ∀ a, (k0_off144 v642) a + S1x512.size a ≤ S1920x512.size a := fun v642 k0_hw72 => k0_hw72

def k0_off145 (i : grid0.Coords) : Fin 1 → Nat :=
  let arg0 : BitVec 32 := BitVec.ofNat 32 (i 0).val
  let c128_i32_215 : BitVec 32 := 128#32
  let v648 : BitVec 32 := Scalar.muli arg0 c128_i32_215
  let c72_i32 : BitVec 32 := 72#32
  let v649 : BitVec 32 := Scalar.addi v648 c72_i32
  let v650 : Index := Scalar.indexCast v649
  ![v650.toNat]
def k0_off146 (v651 : BitVec 32) : Fin 2 → Nat :=
  let v652 : Index := Scalar.indexCast v651
  let c0_216 : Index := 0#32
  ![v652.toNat, 0]

def k0_chk73 (v651 : BitVec 32) : Prop :=
  (∀ a, (k0_off146 v651) a + S1x512.size a ≤ S1920x512.size a)
theorem k0_off146_inb : ∀ (v651 : BitVec 32) (k0_hw73 : k0_chk73 v651), ∀ a, (k0_off146 v651) a + S1x512.size a ≤ S1920x512.size a := fun v651 k0_hw73 => k0_hw73

def k0_off147 (i : grid0.Coords) : Fin 1 → Nat :=
  let arg0 : BitVec 32 := BitVec.ofNat 32 (i 0).val
  let c128_i32_218 : BitVec 32 := 128#32
  let v657 : BitVec 32 := Scalar.muli arg0 c128_i32_218
  let c73_i32 : BitVec 32 := 73#32
  let v658 : BitVec 32 := Scalar.addi v657 c73_i32
  let v659 : Index := Scalar.indexCast v658
  ![v659.toNat]
def k0_off148 (v660 : BitVec 32) : Fin 2 → Nat :=
  let v661 : Index := Scalar.indexCast v660
  let c0_219 : Index := 0#32
  ![v661.toNat, 0]

def k0_chk74 (v660 : BitVec 32) : Prop :=
  (∀ a, (k0_off148 v660) a + S1x512.size a ≤ S1920x512.size a)
theorem k0_off148_inb : ∀ (v660 : BitVec 32) (k0_hw74 : k0_chk74 v660), ∀ a, (k0_off148 v660) a + S1x512.size a ≤ S1920x512.size a := fun v660 k0_hw74 => k0_hw74

def k0_off149 (i : grid0.Coords) : Fin 1 → Nat :=
  let arg0 : BitVec 32 := BitVec.ofNat 32 (i 0).val
  let c128_i32_221 : BitVec 32 := 128#32
  let v666 : BitVec 32 := Scalar.muli arg0 c128_i32_221
  let c74_i32 : BitVec 32 := 74#32
  let v667 : BitVec 32 := Scalar.addi v666 c74_i32
  let v668 : Index := Scalar.indexCast v667
  ![v668.toNat]
def k0_off150 (v669 : BitVec 32) : Fin 2 → Nat :=
  let v670 : Index := Scalar.indexCast v669
  let c0_222 : Index := 0#32
  ![v670.toNat, 0]

def k0_chk75 (v669 : BitVec 32) : Prop :=
  (∀ a, (k0_off150 v669) a + S1x512.size a ≤ S1920x512.size a)
theorem k0_off150_inb : ∀ (v669 : BitVec 32) (k0_hw75 : k0_chk75 v669), ∀ a, (k0_off150 v669) a + S1x512.size a ≤ S1920x512.size a := fun v669 k0_hw75 => k0_hw75

def k0_off151 (i : grid0.Coords) : Fin 1 → Nat :=
  let arg0 : BitVec 32 := BitVec.ofNat 32 (i 0).val
  let c128_i32_224 : BitVec 32 := 128#32
  let v675 : BitVec 32 := Scalar.muli arg0 c128_i32_224
  let c75_i32 : BitVec 32 := 75#32
  let v676 : BitVec 32 := Scalar.addi v675 c75_i32
  let v677 : Index := Scalar.indexCast v676
  ![v677.toNat]
def k0_off152 (v678 : BitVec 32) : Fin 2 → Nat :=
  let v679 : Index := Scalar.indexCast v678
  let c0_225 : Index := 0#32
  ![v679.toNat, 0]

def k0_chk76 (v678 : BitVec 32) : Prop :=
  (∀ a, (k0_off152 v678) a + S1x512.size a ≤ S1920x512.size a)
theorem k0_off152_inb : ∀ (v678 : BitVec 32) (k0_hw76 : k0_chk76 v678), ∀ a, (k0_off152 v678) a + S1x512.size a ≤ S1920x512.size a := fun v678 k0_hw76 => k0_hw76

def k0_off153 (i : grid0.Coords) : Fin 1 → Nat :=
  let arg0 : BitVec 32 := BitVec.ofNat 32 (i 0).val
  let c128_i32_227 : BitVec 32 := 128#32
  let v684 : BitVec 32 := Scalar.muli arg0 c128_i32_227
  let c76_i32 : BitVec 32 := 76#32
  let v685 : BitVec 32 := Scalar.addi v684 c76_i32
  let v686 : Index := Scalar.indexCast v685
  ![v686.toNat]
def k0_off154 (v687 : BitVec 32) : Fin 2 → Nat :=
  let v688 : Index := Scalar.indexCast v687
  let c0_228 : Index := 0#32
  ![v688.toNat, 0]

def k0_chk77 (v687 : BitVec 32) : Prop :=
  (∀ a, (k0_off154 v687) a + S1x512.size a ≤ S1920x512.size a)
theorem k0_off154_inb : ∀ (v687 : BitVec 32) (k0_hw77 : k0_chk77 v687), ∀ a, (k0_off154 v687) a + S1x512.size a ≤ S1920x512.size a := fun v687 k0_hw77 => k0_hw77

def k0_off155 (i : grid0.Coords) : Fin 1 → Nat :=
  let arg0 : BitVec 32 := BitVec.ofNat 32 (i 0).val
  let c128_i32_230 : BitVec 32 := 128#32
  let v693 : BitVec 32 := Scalar.muli arg0 c128_i32_230
  let c77_i32 : BitVec 32 := 77#32
  let v694 : BitVec 32 := Scalar.addi v693 c77_i32
  let v695 : Index := Scalar.indexCast v694
  ![v695.toNat]
def k0_off156 (v696 : BitVec 32) : Fin 2 → Nat :=
  let v697 : Index := Scalar.indexCast v696
  let c0_231 : Index := 0#32
  ![v697.toNat, 0]

def k0_chk78 (v696 : BitVec 32) : Prop :=
  (∀ a, (k0_off156 v696) a + S1x512.size a ≤ S1920x512.size a)
theorem k0_off156_inb : ∀ (v696 : BitVec 32) (k0_hw78 : k0_chk78 v696), ∀ a, (k0_off156 v696) a + S1x512.size a ≤ S1920x512.size a := fun v696 k0_hw78 => k0_hw78

def k0_off157 (i : grid0.Coords) : Fin 1 → Nat :=
  let arg0 : BitVec 32 := BitVec.ofNat 32 (i 0).val
  let c128_i32_233 : BitVec 32 := 128#32
  let v702 : BitVec 32 := Scalar.muli arg0 c128_i32_233
  let c78_i32 : BitVec 32 := 78#32
  let v703 : BitVec 32 := Scalar.addi v702 c78_i32
  let v704 : Index := Scalar.indexCast v703
  ![v704.toNat]
def k0_off158 (v705 : BitVec 32) : Fin 2 → Nat :=
  let v706 : Index := Scalar.indexCast v705
  let c0_234 : Index := 0#32
  ![v706.toNat, 0]

def k0_chk79 (v705 : BitVec 32) : Prop :=
  (∀ a, (k0_off158 v705) a + S1x512.size a ≤ S1920x512.size a)
theorem k0_off158_inb : ∀ (v705 : BitVec 32) (k0_hw79 : k0_chk79 v705), ∀ a, (k0_off158 v705) a + S1x512.size a ≤ S1920x512.size a := fun v705 k0_hw79 => k0_hw79

def k0_off159 (i : grid0.Coords) : Fin 1 → Nat :=
  let arg0 : BitVec 32 := BitVec.ofNat 32 (i 0).val
  let c128_i32_236 : BitVec 32 := 128#32
  let v711 : BitVec 32 := Scalar.muli arg0 c128_i32_236
  let c79_i32 : BitVec 32 := 79#32
  let v712 : BitVec 32 := Scalar.addi v711 c79_i32
  let v713 : Index := Scalar.indexCast v712
  ![v713.toNat]
def k0_off160 (v714 : BitVec 32) : Fin 2 → Nat :=
  let v715 : Index := Scalar.indexCast v714
  let c0_237 : Index := 0#32
  ![v715.toNat, 0]

def k0_chk80 (v714 : BitVec 32) : Prop :=
  (∀ a, (k0_off160 v714) a + S1x512.size a ≤ S1920x512.size a)
theorem k0_off160_inb : ∀ (v714 : BitVec 32) (k0_hw80 : k0_chk80 v714), ∀ a, (k0_off160 v714) a + S1x512.size a ≤ S1920x512.size a := fun v714 k0_hw80 => k0_hw80

def k0_off161 (i : grid0.Coords) : Fin 1 → Nat :=
  let arg0 : BitVec 32 := BitVec.ofNat 32 (i 0).val
  let c128_i32_239 : BitVec 32 := 128#32
  let v720 : BitVec 32 := Scalar.muli arg0 c128_i32_239
  let c80_i32 : BitVec 32 := 80#32
  let v721 : BitVec 32 := Scalar.addi v720 c80_i32
  let v722 : Index := Scalar.indexCast v721
  ![v722.toNat]
def k0_off162 (v723 : BitVec 32) : Fin 2 → Nat :=
  let v724 : Index := Scalar.indexCast v723
  let c0_240 : Index := 0#32
  ![v724.toNat, 0]

def k0_chk81 (v723 : BitVec 32) : Prop :=
  (∀ a, (k0_off162 v723) a + S1x512.size a ≤ S1920x512.size a)
theorem k0_off162_inb : ∀ (v723 : BitVec 32) (k0_hw81 : k0_chk81 v723), ∀ a, (k0_off162 v723) a + S1x512.size a ≤ S1920x512.size a := fun v723 k0_hw81 => k0_hw81

def k0_off163 (i : grid0.Coords) : Fin 1 → Nat :=
  let arg0 : BitVec 32 := BitVec.ofNat 32 (i 0).val
  let c128_i32_242 : BitVec 32 := 128#32
  let v729 : BitVec 32 := Scalar.muli arg0 c128_i32_242
  let c81_i32 : BitVec 32 := 81#32
  let v730 : BitVec 32 := Scalar.addi v729 c81_i32
  let v731 : Index := Scalar.indexCast v730
  ![v731.toNat]
def k0_off164 (v732 : BitVec 32) : Fin 2 → Nat :=
  let v733 : Index := Scalar.indexCast v732
  let c0_243 : Index := 0#32
  ![v733.toNat, 0]

def k0_chk82 (v732 : BitVec 32) : Prop :=
  (∀ a, (k0_off164 v732) a + S1x512.size a ≤ S1920x512.size a)
theorem k0_off164_inb : ∀ (v732 : BitVec 32) (k0_hw82 : k0_chk82 v732), ∀ a, (k0_off164 v732) a + S1x512.size a ≤ S1920x512.size a := fun v732 k0_hw82 => k0_hw82

def k0_off165 (i : grid0.Coords) : Fin 1 → Nat :=
  let arg0 : BitVec 32 := BitVec.ofNat 32 (i 0).val
  let c128_i32_245 : BitVec 32 := 128#32
  let v738 : BitVec 32 := Scalar.muli arg0 c128_i32_245
  let c82_i32 : BitVec 32 := 82#32
  let v739 : BitVec 32 := Scalar.addi v738 c82_i32
  let v740 : Index := Scalar.indexCast v739
  ![v740.toNat]
def k0_off166 (v741 : BitVec 32) : Fin 2 → Nat :=
  let v742 : Index := Scalar.indexCast v741
  let c0_246 : Index := 0#32
  ![v742.toNat, 0]

def k0_chk83 (v741 : BitVec 32) : Prop :=
  (∀ a, (k0_off166 v741) a + S1x512.size a ≤ S1920x512.size a)
theorem k0_off166_inb : ∀ (v741 : BitVec 32) (k0_hw83 : k0_chk83 v741), ∀ a, (k0_off166 v741) a + S1x512.size a ≤ S1920x512.size a := fun v741 k0_hw83 => k0_hw83

def k0_off167 (i : grid0.Coords) : Fin 1 → Nat :=
  let arg0 : BitVec 32 := BitVec.ofNat 32 (i 0).val
  let c128_i32_248 : BitVec 32 := 128#32
  let v747 : BitVec 32 := Scalar.muli arg0 c128_i32_248
  let c83_i32 : BitVec 32 := 83#32
  let v748 : BitVec 32 := Scalar.addi v747 c83_i32
  let v749 : Index := Scalar.indexCast v748
  ![v749.toNat]
def k0_off168 (v750 : BitVec 32) : Fin 2 → Nat :=
  let v751 : Index := Scalar.indexCast v750
  let c0_249 : Index := 0#32
  ![v751.toNat, 0]

def k0_chk84 (v750 : BitVec 32) : Prop :=
  (∀ a, (k0_off168 v750) a + S1x512.size a ≤ S1920x512.size a)
theorem k0_off168_inb : ∀ (v750 : BitVec 32) (k0_hw84 : k0_chk84 v750), ∀ a, (k0_off168 v750) a + S1x512.size a ≤ S1920x512.size a := fun v750 k0_hw84 => k0_hw84

def k0_off169 (i : grid0.Coords) : Fin 1 → Nat :=
  let arg0 : BitVec 32 := BitVec.ofNat 32 (i 0).val
  let c128_i32_251 : BitVec 32 := 128#32
  let v756 : BitVec 32 := Scalar.muli arg0 c128_i32_251
  let c84_i32 : BitVec 32 := 84#32
  let v757 : BitVec 32 := Scalar.addi v756 c84_i32
  let v758 : Index := Scalar.indexCast v757
  ![v758.toNat]
def k0_off170 (v759 : BitVec 32) : Fin 2 → Nat :=
  let v760 : Index := Scalar.indexCast v759
  let c0_252 : Index := 0#32
  ![v760.toNat, 0]

def k0_chk85 (v759 : BitVec 32) : Prop :=
  (∀ a, (k0_off170 v759) a + S1x512.size a ≤ S1920x512.size a)
theorem k0_off170_inb : ∀ (v759 : BitVec 32) (k0_hw85 : k0_chk85 v759), ∀ a, (k0_off170 v759) a + S1x512.size a ≤ S1920x512.size a := fun v759 k0_hw85 => k0_hw85

def k0_off171 (i : grid0.Coords) : Fin 1 → Nat :=
  let arg0 : BitVec 32 := BitVec.ofNat 32 (i 0).val
  let c128_i32_254 : BitVec 32 := 128#32
  let v765 : BitVec 32 := Scalar.muli arg0 c128_i32_254
  let c85_i32 : BitVec 32 := 85#32
  let v766 : BitVec 32 := Scalar.addi v765 c85_i32
  let v767 : Index := Scalar.indexCast v766
  ![v767.toNat]
def k0_off172 (v768 : BitVec 32) : Fin 2 → Nat :=
  let v769 : Index := Scalar.indexCast v768
  let c0_255 : Index := 0#32
  ![v769.toNat, 0]

def k0_chk86 (v768 : BitVec 32) : Prop :=
  (∀ a, (k0_off172 v768) a + S1x512.size a ≤ S1920x512.size a)
theorem k0_off172_inb : ∀ (v768 : BitVec 32) (k0_hw86 : k0_chk86 v768), ∀ a, (k0_off172 v768) a + S1x512.size a ≤ S1920x512.size a := fun v768 k0_hw86 => k0_hw86

def k0_off173 (i : grid0.Coords) : Fin 1 → Nat :=
  let arg0 : BitVec 32 := BitVec.ofNat 32 (i 0).val
  let c128_i32_257 : BitVec 32 := 128#32
  let v774 : BitVec 32 := Scalar.muli arg0 c128_i32_257
  let c86_i32 : BitVec 32 := 86#32
  let v775 : BitVec 32 := Scalar.addi v774 c86_i32
  let v776 : Index := Scalar.indexCast v775
  ![v776.toNat]
def k0_off174 (v777 : BitVec 32) : Fin 2 → Nat :=
  let v778 : Index := Scalar.indexCast v777
  let c0_258 : Index := 0#32
  ![v778.toNat, 0]

def k0_chk87 (v777 : BitVec 32) : Prop :=
  (∀ a, (k0_off174 v777) a + S1x512.size a ≤ S1920x512.size a)
theorem k0_off174_inb : ∀ (v777 : BitVec 32) (k0_hw87 : k0_chk87 v777), ∀ a, (k0_off174 v777) a + S1x512.size a ≤ S1920x512.size a := fun v777 k0_hw87 => k0_hw87

def k0_off175 (i : grid0.Coords) : Fin 1 → Nat :=
  let arg0 : BitVec 32 := BitVec.ofNat 32 (i 0).val
  let c128_i32_260 : BitVec 32 := 128#32
  let v783 : BitVec 32 := Scalar.muli arg0 c128_i32_260
  let c87_i32 : BitVec 32 := 87#32
  let v784 : BitVec 32 := Scalar.addi v783 c87_i32
  let v785 : Index := Scalar.indexCast v784
  ![v785.toNat]
def k0_off176 (v786 : BitVec 32) : Fin 2 → Nat :=
  let v787 : Index := Scalar.indexCast v786
  let c0_261 : Index := 0#32
  ![v787.toNat, 0]

def k0_chk88 (v786 : BitVec 32) : Prop :=
  (∀ a, (k0_off176 v786) a + S1x512.size a ≤ S1920x512.size a)
theorem k0_off176_inb : ∀ (v786 : BitVec 32) (k0_hw88 : k0_chk88 v786), ∀ a, (k0_off176 v786) a + S1x512.size a ≤ S1920x512.size a := fun v786 k0_hw88 => k0_hw88

def k0_off177 (i : grid0.Coords) : Fin 1 → Nat :=
  let arg0 : BitVec 32 := BitVec.ofNat 32 (i 0).val
  let c128_i32_263 : BitVec 32 := 128#32
  let v792 : BitVec 32 := Scalar.muli arg0 c128_i32_263
  let c88_i32 : BitVec 32 := 88#32
  let v793 : BitVec 32 := Scalar.addi v792 c88_i32
  let v794 : Index := Scalar.indexCast v793
  ![v794.toNat]
def k0_off178 (v795 : BitVec 32) : Fin 2 → Nat :=
  let v796 : Index := Scalar.indexCast v795
  let c0_264 : Index := 0#32
  ![v796.toNat, 0]

def k0_chk89 (v795 : BitVec 32) : Prop :=
  (∀ a, (k0_off178 v795) a + S1x512.size a ≤ S1920x512.size a)
theorem k0_off178_inb : ∀ (v795 : BitVec 32) (k0_hw89 : k0_chk89 v795), ∀ a, (k0_off178 v795) a + S1x512.size a ≤ S1920x512.size a := fun v795 k0_hw89 => k0_hw89

def k0_off179 (i : grid0.Coords) : Fin 1 → Nat :=
  let arg0 : BitVec 32 := BitVec.ofNat 32 (i 0).val
  let c128_i32_266 : BitVec 32 := 128#32
  let v801 : BitVec 32 := Scalar.muli arg0 c128_i32_266
  let c89_i32 : BitVec 32 := 89#32
  let v802 : BitVec 32 := Scalar.addi v801 c89_i32
  let v803 : Index := Scalar.indexCast v802
  ![v803.toNat]
def k0_off180 (v804 : BitVec 32) : Fin 2 → Nat :=
  let v805 : Index := Scalar.indexCast v804
  let c0_267 : Index := 0#32
  ![v805.toNat, 0]

def k0_chk90 (v804 : BitVec 32) : Prop :=
  (∀ a, (k0_off180 v804) a + S1x512.size a ≤ S1920x512.size a)
theorem k0_off180_inb : ∀ (v804 : BitVec 32) (k0_hw90 : k0_chk90 v804), ∀ a, (k0_off180 v804) a + S1x512.size a ≤ S1920x512.size a := fun v804 k0_hw90 => k0_hw90

def k0_off181 (i : grid0.Coords) : Fin 1 → Nat :=
  let arg0 : BitVec 32 := BitVec.ofNat 32 (i 0).val
  let c128_i32_269 : BitVec 32 := 128#32
  let v810 : BitVec 32 := Scalar.muli arg0 c128_i32_269
  let c90_i32 : BitVec 32 := 90#32
  let v811 : BitVec 32 := Scalar.addi v810 c90_i32
  let v812 : Index := Scalar.indexCast v811
  ![v812.toNat]
def k0_off182 (v813 : BitVec 32) : Fin 2 → Nat :=
  let v814 : Index := Scalar.indexCast v813
  let c0_270 : Index := 0#32
  ![v814.toNat, 0]

def k0_chk91 (v813 : BitVec 32) : Prop :=
  (∀ a, (k0_off182 v813) a + S1x512.size a ≤ S1920x512.size a)
theorem k0_off182_inb : ∀ (v813 : BitVec 32) (k0_hw91 : k0_chk91 v813), ∀ a, (k0_off182 v813) a + S1x512.size a ≤ S1920x512.size a := fun v813 k0_hw91 => k0_hw91

def k0_off183 (i : grid0.Coords) : Fin 1 → Nat :=
  let arg0 : BitVec 32 := BitVec.ofNat 32 (i 0).val
  let c128_i32_272 : BitVec 32 := 128#32
  let v819 : BitVec 32 := Scalar.muli arg0 c128_i32_272
  let c91_i32 : BitVec 32 := 91#32
  let v820 : BitVec 32 := Scalar.addi v819 c91_i32
  let v821 : Index := Scalar.indexCast v820
  ![v821.toNat]
def k0_off184 (v822 : BitVec 32) : Fin 2 → Nat :=
  let v823 : Index := Scalar.indexCast v822
  let c0_273 : Index := 0#32
  ![v823.toNat, 0]

def k0_chk92 (v822 : BitVec 32) : Prop :=
  (∀ a, (k0_off184 v822) a + S1x512.size a ≤ S1920x512.size a)
theorem k0_off184_inb : ∀ (v822 : BitVec 32) (k0_hw92 : k0_chk92 v822), ∀ a, (k0_off184 v822) a + S1x512.size a ≤ S1920x512.size a := fun v822 k0_hw92 => k0_hw92

def k0_off185 (i : grid0.Coords) : Fin 1 → Nat :=
  let arg0 : BitVec 32 := BitVec.ofNat 32 (i 0).val
  let c128_i32_275 : BitVec 32 := 128#32
  let v828 : BitVec 32 := Scalar.muli arg0 c128_i32_275
  let c92_i32 : BitVec 32 := 92#32
  let v829 : BitVec 32 := Scalar.addi v828 c92_i32
  let v830 : Index := Scalar.indexCast v829
  ![v830.toNat]
def k0_off186 (v831 : BitVec 32) : Fin 2 → Nat :=
  let v832 : Index := Scalar.indexCast v831
  let c0_276 : Index := 0#32
  ![v832.toNat, 0]

def k0_chk93 (v831 : BitVec 32) : Prop :=
  (∀ a, (k0_off186 v831) a + S1x512.size a ≤ S1920x512.size a)
theorem k0_off186_inb : ∀ (v831 : BitVec 32) (k0_hw93 : k0_chk93 v831), ∀ a, (k0_off186 v831) a + S1x512.size a ≤ S1920x512.size a := fun v831 k0_hw93 => k0_hw93

def k0_off187 (i : grid0.Coords) : Fin 1 → Nat :=
  let arg0 : BitVec 32 := BitVec.ofNat 32 (i 0).val
  let c128_i32_278 : BitVec 32 := 128#32
  let v837 : BitVec 32 := Scalar.muli arg0 c128_i32_278
  let c93_i32 : BitVec 32 := 93#32
  let v838 : BitVec 32 := Scalar.addi v837 c93_i32
  let v839 : Index := Scalar.indexCast v838
  ![v839.toNat]
def k0_off188 (v840 : BitVec 32) : Fin 2 → Nat :=
  let v841 : Index := Scalar.indexCast v840
  let c0_279 : Index := 0#32
  ![v841.toNat, 0]

def k0_chk94 (v840 : BitVec 32) : Prop :=
  (∀ a, (k0_off188 v840) a + S1x512.size a ≤ S1920x512.size a)
theorem k0_off188_inb : ∀ (v840 : BitVec 32) (k0_hw94 : k0_chk94 v840), ∀ a, (k0_off188 v840) a + S1x512.size a ≤ S1920x512.size a := fun v840 k0_hw94 => k0_hw94

def k0_off189 (i : grid0.Coords) : Fin 1 → Nat :=
  let arg0 : BitVec 32 := BitVec.ofNat 32 (i 0).val
  let c128_i32_281 : BitVec 32 := 128#32
  let v846 : BitVec 32 := Scalar.muli arg0 c128_i32_281
  let c94_i32 : BitVec 32 := 94#32
  let v847 : BitVec 32 := Scalar.addi v846 c94_i32
  let v848 : Index := Scalar.indexCast v847
  ![v848.toNat]
def k0_off190 (v849 : BitVec 32) : Fin 2 → Nat :=
  let v850 : Index := Scalar.indexCast v849
  let c0_282 : Index := 0#32
  ![v850.toNat, 0]

def k0_chk95 (v849 : BitVec 32) : Prop :=
  (∀ a, (k0_off190 v849) a + S1x512.size a ≤ S1920x512.size a)
theorem k0_off190_inb : ∀ (v849 : BitVec 32) (k0_hw95 : k0_chk95 v849), ∀ a, (k0_off190 v849) a + S1x512.size a ≤ S1920x512.size a := fun v849 k0_hw95 => k0_hw95

def k0_off191 (i : grid0.Coords) : Fin 1 → Nat :=
  let arg0 : BitVec 32 := BitVec.ofNat 32 (i 0).val
  let c128_i32_284 : BitVec 32 := 128#32
  let v855 : BitVec 32 := Scalar.muli arg0 c128_i32_284
  let c95_i32 : BitVec 32 := 95#32
  let v856 : BitVec 32 := Scalar.addi v855 c95_i32
  let v857 : Index := Scalar.indexCast v856
  ![v857.toNat]
def k0_off192 (v858 : BitVec 32) : Fin 2 → Nat :=
  let v859 : Index := Scalar.indexCast v858
  let c0_285 : Index := 0#32
  ![v859.toNat, 0]

def k0_chk96 (v858 : BitVec 32) : Prop :=
  (∀ a, (k0_off192 v858) a + S1x512.size a ≤ S1920x512.size a)
theorem k0_off192_inb : ∀ (v858 : BitVec 32) (k0_hw96 : k0_chk96 v858), ∀ a, (k0_off192 v858) a + S1x512.size a ≤ S1920x512.size a := fun v858 k0_hw96 => k0_hw96

def k0_off193 (i : grid0.Coords) : Fin 1 → Nat :=
  let arg0 : BitVec 32 := BitVec.ofNat 32 (i 0).val
  let c128_i32_287 : BitVec 32 := 128#32
  let v864 : BitVec 32 := Scalar.muli arg0 c128_i32_287
  let c96_i32 : BitVec 32 := 96#32
  let v865 : BitVec 32 := Scalar.addi v864 c96_i32
  let v866 : Index := Scalar.indexCast v865
  ![v866.toNat]
def k0_off194 (v867 : BitVec 32) : Fin 2 → Nat :=
  let v868 : Index := Scalar.indexCast v867
  let c0_288 : Index := 0#32
  ![v868.toNat, 0]

def k0_chk97 (v867 : BitVec 32) : Prop :=
  (∀ a, (k0_off194 v867) a + S1x512.size a ≤ S1920x512.size a)
theorem k0_off194_inb : ∀ (v867 : BitVec 32) (k0_hw97 : k0_chk97 v867), ∀ a, (k0_off194 v867) a + S1x512.size a ≤ S1920x512.size a := fun v867 k0_hw97 => k0_hw97

def k0_off195 (i : grid0.Coords) : Fin 1 → Nat :=
  let arg0 : BitVec 32 := BitVec.ofNat 32 (i 0).val
  let c128_i32_290 : BitVec 32 := 128#32
  let v873 : BitVec 32 := Scalar.muli arg0 c128_i32_290
  let c97_i32 : BitVec 32 := 97#32
  let v874 : BitVec 32 := Scalar.addi v873 c97_i32
  let v875 : Index := Scalar.indexCast v874
  ![v875.toNat]
def k0_off196 (v876 : BitVec 32) : Fin 2 → Nat :=
  let v877 : Index := Scalar.indexCast v876
  let c0_291 : Index := 0#32
  ![v877.toNat, 0]

def k0_chk98 (v876 : BitVec 32) : Prop :=
  (∀ a, (k0_off196 v876) a + S1x512.size a ≤ S1920x512.size a)
theorem k0_off196_inb : ∀ (v876 : BitVec 32) (k0_hw98 : k0_chk98 v876), ∀ a, (k0_off196 v876) a + S1x512.size a ≤ S1920x512.size a := fun v876 k0_hw98 => k0_hw98

def k0_off197 (i : grid0.Coords) : Fin 1 → Nat :=
  let arg0 : BitVec 32 := BitVec.ofNat 32 (i 0).val
  let c128_i32_293 : BitVec 32 := 128#32
  let v882 : BitVec 32 := Scalar.muli arg0 c128_i32_293
  let c98_i32 : BitVec 32 := 98#32
  let v883 : BitVec 32 := Scalar.addi v882 c98_i32
  let v884 : Index := Scalar.indexCast v883
  ![v884.toNat]
def k0_off198 (v885 : BitVec 32) : Fin 2 → Nat :=
  let v886 : Index := Scalar.indexCast v885
  let c0_294 : Index := 0#32
  ![v886.toNat, 0]

def k0_chk99 (v885 : BitVec 32) : Prop :=
  (∀ a, (k0_off198 v885) a + S1x512.size a ≤ S1920x512.size a)
theorem k0_off198_inb : ∀ (v885 : BitVec 32) (k0_hw99 : k0_chk99 v885), ∀ a, (k0_off198 v885) a + S1x512.size a ≤ S1920x512.size a := fun v885 k0_hw99 => k0_hw99

def k0_off199 (i : grid0.Coords) : Fin 1 → Nat :=
  let arg0 : BitVec 32 := BitVec.ofNat 32 (i 0).val
  let c128_i32_296 : BitVec 32 := 128#32
  let v891 : BitVec 32 := Scalar.muli arg0 c128_i32_296
  let c99_i32 : BitVec 32 := 99#32
  let v892 : BitVec 32 := Scalar.addi v891 c99_i32
  let v893 : Index := Scalar.indexCast v892
  ![v893.toNat]
def k0_off200 (v894 : BitVec 32) : Fin 2 → Nat :=
  let v895 : Index := Scalar.indexCast v894
  let c0_297 : Index := 0#32
  ![v895.toNat, 0]

def k0_chk100 (v894 : BitVec 32) : Prop :=
  (∀ a, (k0_off200 v894) a + S1x512.size a ≤ S1920x512.size a)
theorem k0_off200_inb : ∀ (v894 : BitVec 32) (k0_hw100 : k0_chk100 v894), ∀ a, (k0_off200 v894) a + S1x512.size a ≤ S1920x512.size a := fun v894 k0_hw100 => k0_hw100

def k0_off201 (i : grid0.Coords) : Fin 1 → Nat :=
  let arg0 : BitVec 32 := BitVec.ofNat 32 (i 0).val
  let c128_i32_299 : BitVec 32 := 128#32
  let v900 : BitVec 32 := Scalar.muli arg0 c128_i32_299
  let c100_i32 : BitVec 32 := 100#32
  let v901 : BitVec 32 := Scalar.addi v900 c100_i32
  let v902 : Index := Scalar.indexCast v901
  ![v902.toNat]
def k0_off202 (v903 : BitVec 32) : Fin 2 → Nat :=
  let v904 : Index := Scalar.indexCast v903
  let c0_300 : Index := 0#32
  ![v904.toNat, 0]

def k0_chk101 (v903 : BitVec 32) : Prop :=
  (∀ a, (k0_off202 v903) a + S1x512.size a ≤ S1920x512.size a)
theorem k0_off202_inb : ∀ (v903 : BitVec 32) (k0_hw101 : k0_chk101 v903), ∀ a, (k0_off202 v903) a + S1x512.size a ≤ S1920x512.size a := fun v903 k0_hw101 => k0_hw101

def k0_off203 (i : grid0.Coords) : Fin 1 → Nat :=
  let arg0 : BitVec 32 := BitVec.ofNat 32 (i 0).val
  let c128_i32_302 : BitVec 32 := 128#32
  let v909 : BitVec 32 := Scalar.muli arg0 c128_i32_302
  let c101_i32 : BitVec 32 := 101#32
  let v910 : BitVec 32 := Scalar.addi v909 c101_i32
  let v911 : Index := Scalar.indexCast v910
  ![v911.toNat]
def k0_off204 (v912 : BitVec 32) : Fin 2 → Nat :=
  let v913 : Index := Scalar.indexCast v912
  let c0_303 : Index := 0#32
  ![v913.toNat, 0]

def k0_chk102 (v912 : BitVec 32) : Prop :=
  (∀ a, (k0_off204 v912) a + S1x512.size a ≤ S1920x512.size a)
theorem k0_off204_inb : ∀ (v912 : BitVec 32) (k0_hw102 : k0_chk102 v912), ∀ a, (k0_off204 v912) a + S1x512.size a ≤ S1920x512.size a := fun v912 k0_hw102 => k0_hw102

def k0_off205 (i : grid0.Coords) : Fin 1 → Nat :=
  let arg0 : BitVec 32 := BitVec.ofNat 32 (i 0).val
  let c128_i32_305 : BitVec 32 := 128#32
  let v918 : BitVec 32 := Scalar.muli arg0 c128_i32_305
  let c102_i32 : BitVec 32 := 102#32
  let v919 : BitVec 32 := Scalar.addi v918 c102_i32
  let v920 : Index := Scalar.indexCast v919
  ![v920.toNat]
def k0_off206 (v921 : BitVec 32) : Fin 2 → Nat :=
  let v922 : Index := Scalar.indexCast v921
  let c0_306 : Index := 0#32
  ![v922.toNat, 0]

def k0_chk103 (v921 : BitVec 32) : Prop :=
  (∀ a, (k0_off206 v921) a + S1x512.size a ≤ S1920x512.size a)
theorem k0_off206_inb : ∀ (v921 : BitVec 32) (k0_hw103 : k0_chk103 v921), ∀ a, (k0_off206 v921) a + S1x512.size a ≤ S1920x512.size a := fun v921 k0_hw103 => k0_hw103

def k0_off207 (i : grid0.Coords) : Fin 1 → Nat :=
  let arg0 : BitVec 32 := BitVec.ofNat 32 (i 0).val
  let c128_i32_308 : BitVec 32 := 128#32
  let v927 : BitVec 32 := Scalar.muli arg0 c128_i32_308
  let c103_i32 : BitVec 32 := 103#32
  let v928 : BitVec 32 := Scalar.addi v927 c103_i32
  let v929 : Index := Scalar.indexCast v928
  ![v929.toNat]
def k0_off208 (v930 : BitVec 32) : Fin 2 → Nat :=
  let v931 : Index := Scalar.indexCast v930
  let c0_309 : Index := 0#32
  ![v931.toNat, 0]

def k0_chk104 (v930 : BitVec 32) : Prop :=
  (∀ a, (k0_off208 v930) a + S1x512.size a ≤ S1920x512.size a)
theorem k0_off208_inb : ∀ (v930 : BitVec 32) (k0_hw104 : k0_chk104 v930), ∀ a, (k0_off208 v930) a + S1x512.size a ≤ S1920x512.size a := fun v930 k0_hw104 => k0_hw104

def k0_off209 (i : grid0.Coords) : Fin 1 → Nat :=
  let arg0 : BitVec 32 := BitVec.ofNat 32 (i 0).val
  let c128_i32_311 : BitVec 32 := 128#32
  let v936 : BitVec 32 := Scalar.muli arg0 c128_i32_311
  let c104_i32 : BitVec 32 := 104#32
  let v937 : BitVec 32 := Scalar.addi v936 c104_i32
  let v938 : Index := Scalar.indexCast v937
  ![v938.toNat]
def k0_off210 (v939 : BitVec 32) : Fin 2 → Nat :=
  let v940 : Index := Scalar.indexCast v939
  let c0_312 : Index := 0#32
  ![v940.toNat, 0]

def k0_chk105 (v939 : BitVec 32) : Prop :=
  (∀ a, (k0_off210 v939) a + S1x512.size a ≤ S1920x512.size a)
theorem k0_off210_inb : ∀ (v939 : BitVec 32) (k0_hw105 : k0_chk105 v939), ∀ a, (k0_off210 v939) a + S1x512.size a ≤ S1920x512.size a := fun v939 k0_hw105 => k0_hw105

def k0_off211 (i : grid0.Coords) : Fin 1 → Nat :=
  let arg0 : BitVec 32 := BitVec.ofNat 32 (i 0).val
  let c128_i32_314 : BitVec 32 := 128#32
  let v945 : BitVec 32 := Scalar.muli arg0 c128_i32_314
  let c105_i32 : BitVec 32 := 105#32
  let v946 : BitVec 32 := Scalar.addi v945 c105_i32
  let v947 : Index := Scalar.indexCast v946
  ![v947.toNat]
def k0_off212 (v948 : BitVec 32) : Fin 2 → Nat :=
  let v949 : Index := Scalar.indexCast v948
  let c0_315 : Index := 0#32
  ![v949.toNat, 0]

def k0_chk106 (v948 : BitVec 32) : Prop :=
  (∀ a, (k0_off212 v948) a + S1x512.size a ≤ S1920x512.size a)
theorem k0_off212_inb : ∀ (v948 : BitVec 32) (k0_hw106 : k0_chk106 v948), ∀ a, (k0_off212 v948) a + S1x512.size a ≤ S1920x512.size a := fun v948 k0_hw106 => k0_hw106

def k0_off213 (i : grid0.Coords) : Fin 1 → Nat :=
  let arg0 : BitVec 32 := BitVec.ofNat 32 (i 0).val
  let c128_i32_317 : BitVec 32 := 128#32
  let v954 : BitVec 32 := Scalar.muli arg0 c128_i32_317
  let c106_i32 : BitVec 32 := 106#32
  let v955 : BitVec 32 := Scalar.addi v954 c106_i32
  let v956 : Index := Scalar.indexCast v955
  ![v956.toNat]
def k0_off214 (v957 : BitVec 32) : Fin 2 → Nat :=
  let v958 : Index := Scalar.indexCast v957
  let c0_318 : Index := 0#32
  ![v958.toNat, 0]

def k0_chk107 (v957 : BitVec 32) : Prop :=
  (∀ a, (k0_off214 v957) a + S1x512.size a ≤ S1920x512.size a)
theorem k0_off214_inb : ∀ (v957 : BitVec 32) (k0_hw107 : k0_chk107 v957), ∀ a, (k0_off214 v957) a + S1x512.size a ≤ S1920x512.size a := fun v957 k0_hw107 => k0_hw107

def k0_off215 (i : grid0.Coords) : Fin 1 → Nat :=
  let arg0 : BitVec 32 := BitVec.ofNat 32 (i 0).val
  let c128_i32_320 : BitVec 32 := 128#32
  let v963 : BitVec 32 := Scalar.muli arg0 c128_i32_320
  let c107_i32 : BitVec 32 := 107#32
  let v964 : BitVec 32 := Scalar.addi v963 c107_i32
  let v965 : Index := Scalar.indexCast v964
  ![v965.toNat]
def k0_off216 (v966 : BitVec 32) : Fin 2 → Nat :=
  let v967 : Index := Scalar.indexCast v966
  let c0_321 : Index := 0#32
  ![v967.toNat, 0]

def k0_chk108 (v966 : BitVec 32) : Prop :=
  (∀ a, (k0_off216 v966) a + S1x512.size a ≤ S1920x512.size a)
theorem k0_off216_inb : ∀ (v966 : BitVec 32) (k0_hw108 : k0_chk108 v966), ∀ a, (k0_off216 v966) a + S1x512.size a ≤ S1920x512.size a := fun v966 k0_hw108 => k0_hw108

def k0_off217 (i : grid0.Coords) : Fin 1 → Nat :=
  let arg0 : BitVec 32 := BitVec.ofNat 32 (i 0).val
  let c128_i32_323 : BitVec 32 := 128#32
  let v972 : BitVec 32 := Scalar.muli arg0 c128_i32_323
  let c108_i32 : BitVec 32 := 108#32
  let v973 : BitVec 32 := Scalar.addi v972 c108_i32
  let v974 : Index := Scalar.indexCast v973
  ![v974.toNat]
def k0_off218 (v975 : BitVec 32) : Fin 2 → Nat :=
  let v976 : Index := Scalar.indexCast v975
  let c0_324 : Index := 0#32
  ![v976.toNat, 0]

def k0_chk109 (v975 : BitVec 32) : Prop :=
  (∀ a, (k0_off218 v975) a + S1x512.size a ≤ S1920x512.size a)
theorem k0_off218_inb : ∀ (v975 : BitVec 32) (k0_hw109 : k0_chk109 v975), ∀ a, (k0_off218 v975) a + S1x512.size a ≤ S1920x512.size a := fun v975 k0_hw109 => k0_hw109

def k0_off219 (i : grid0.Coords) : Fin 1 → Nat :=
  let arg0 : BitVec 32 := BitVec.ofNat 32 (i 0).val
  let c128_i32_326 : BitVec 32 := 128#32
  let v981 : BitVec 32 := Scalar.muli arg0 c128_i32_326
  let c109_i32 : BitVec 32 := 109#32
  let v982 : BitVec 32 := Scalar.addi v981 c109_i32
  let v983 : Index := Scalar.indexCast v982
  ![v983.toNat]
def k0_off220 (v984 : BitVec 32) : Fin 2 → Nat :=
  let v985 : Index := Scalar.indexCast v984
  let c0_327 : Index := 0#32
  ![v985.toNat, 0]

def k0_chk110 (v984 : BitVec 32) : Prop :=
  (∀ a, (k0_off220 v984) a + S1x512.size a ≤ S1920x512.size a)
theorem k0_off220_inb : ∀ (v984 : BitVec 32) (k0_hw110 : k0_chk110 v984), ∀ a, (k0_off220 v984) a + S1x512.size a ≤ S1920x512.size a := fun v984 k0_hw110 => k0_hw110

def k0_off221 (i : grid0.Coords) : Fin 1 → Nat :=
  let arg0 : BitVec 32 := BitVec.ofNat 32 (i 0).val
  let c128_i32_329 : BitVec 32 := 128#32
  let v990 : BitVec 32 := Scalar.muli arg0 c128_i32_329
  let c110_i32 : BitVec 32 := 110#32
  let v991 : BitVec 32 := Scalar.addi v990 c110_i32
  let v992 : Index := Scalar.indexCast v991
  ![v992.toNat]
def k0_off222 (v993 : BitVec 32) : Fin 2 → Nat :=
  let v994 : Index := Scalar.indexCast v993
  let c0_330 : Index := 0#32
  ![v994.toNat, 0]

def k0_chk111 (v993 : BitVec 32) : Prop :=
  (∀ a, (k0_off222 v993) a + S1x512.size a ≤ S1920x512.size a)
theorem k0_off222_inb : ∀ (v993 : BitVec 32) (k0_hw111 : k0_chk111 v993), ∀ a, (k0_off222 v993) a + S1x512.size a ≤ S1920x512.size a := fun v993 k0_hw111 => k0_hw111

def k0_off223 (i : grid0.Coords) : Fin 1 → Nat :=
  let arg0 : BitVec 32 := BitVec.ofNat 32 (i 0).val
  let c128_i32_332 : BitVec 32 := 128#32
  let v999 : BitVec 32 := Scalar.muli arg0 c128_i32_332
  let c111_i32 : BitVec 32 := 111#32
  let v1000 : BitVec 32 := Scalar.addi v999 c111_i32
  let v1001 : Index := Scalar.indexCast v1000
  ![v1001.toNat]
def k0_off224 (v1002 : BitVec 32) : Fin 2 → Nat :=
  let v1003 : Index := Scalar.indexCast v1002
  let c0_333 : Index := 0#32
  ![v1003.toNat, 0]

def k0_chk112 (v1002 : BitVec 32) : Prop :=
  (∀ a, (k0_off224 v1002) a + S1x512.size a ≤ S1920x512.size a)
theorem k0_off224_inb : ∀ (v1002 : BitVec 32) (k0_hw112 : k0_chk112 v1002), ∀ a, (k0_off224 v1002) a + S1x512.size a ≤ S1920x512.size a := fun v1002 k0_hw112 => k0_hw112

def k0_off225 (i : grid0.Coords) : Fin 1 → Nat :=
  let arg0 : BitVec 32 := BitVec.ofNat 32 (i 0).val
  let c128_i32_335 : BitVec 32 := 128#32
  let v1008 : BitVec 32 := Scalar.muli arg0 c128_i32_335
  let c112_i32 : BitVec 32 := 112#32
  let v1009 : BitVec 32 := Scalar.addi v1008 c112_i32
  let v1010 : Index := Scalar.indexCast v1009
  ![v1010.toNat]
def k0_off226 (v1011 : BitVec 32) : Fin 2 → Nat :=
  let v1012 : Index := Scalar.indexCast v1011
  let c0_336 : Index := 0#32
  ![v1012.toNat, 0]

def k0_chk113 (v1011 : BitVec 32) : Prop :=
  (∀ a, (k0_off226 v1011) a + S1x512.size a ≤ S1920x512.size a)
theorem k0_off226_inb : ∀ (v1011 : BitVec 32) (k0_hw113 : k0_chk113 v1011), ∀ a, (k0_off226 v1011) a + S1x512.size a ≤ S1920x512.size a := fun v1011 k0_hw113 => k0_hw113

def k0_off227 (i : grid0.Coords) : Fin 1 → Nat :=
  let arg0 : BitVec 32 := BitVec.ofNat 32 (i 0).val
  let c128_i32_338 : BitVec 32 := 128#32
  let v1017 : BitVec 32 := Scalar.muli arg0 c128_i32_338
  let c113_i32 : BitVec 32 := 113#32
  let v1018 : BitVec 32 := Scalar.addi v1017 c113_i32
  let v1019 : Index := Scalar.indexCast v1018
  ![v1019.toNat]
def k0_off228 (v1020 : BitVec 32) : Fin 2 → Nat :=
  let v1021 : Index := Scalar.indexCast v1020
  let c0_339 : Index := 0#32
  ![v1021.toNat, 0]

def k0_chk114 (v1020 : BitVec 32) : Prop :=
  (∀ a, (k0_off228 v1020) a + S1x512.size a ≤ S1920x512.size a)
theorem k0_off228_inb : ∀ (v1020 : BitVec 32) (k0_hw114 : k0_chk114 v1020), ∀ a, (k0_off228 v1020) a + S1x512.size a ≤ S1920x512.size a := fun v1020 k0_hw114 => k0_hw114

def k0_off229 (i : grid0.Coords) : Fin 1 → Nat :=
  let arg0 : BitVec 32 := BitVec.ofNat 32 (i 0).val
  let c128_i32_341 : BitVec 32 := 128#32
  let v1026 : BitVec 32 := Scalar.muli arg0 c128_i32_341
  let c114_i32 : BitVec 32 := 114#32
  let v1027 : BitVec 32 := Scalar.addi v1026 c114_i32
  let v1028 : Index := Scalar.indexCast v1027
  ![v1028.toNat]
def k0_off230 (v1029 : BitVec 32) : Fin 2 → Nat :=
  let v1030 : Index := Scalar.indexCast v1029
  let c0_342 : Index := 0#32
  ![v1030.toNat, 0]

def k0_chk115 (v1029 : BitVec 32) : Prop :=
  (∀ a, (k0_off230 v1029) a + S1x512.size a ≤ S1920x512.size a)
theorem k0_off230_inb : ∀ (v1029 : BitVec 32) (k0_hw115 : k0_chk115 v1029), ∀ a, (k0_off230 v1029) a + S1x512.size a ≤ S1920x512.size a := fun v1029 k0_hw115 => k0_hw115

def k0_off231 (i : grid0.Coords) : Fin 1 → Nat :=
  let arg0 : BitVec 32 := BitVec.ofNat 32 (i 0).val
  let c128_i32_344 : BitVec 32 := 128#32
  let v1035 : BitVec 32 := Scalar.muli arg0 c128_i32_344
  let c115_i32 : BitVec 32 := 115#32
  let v1036 : BitVec 32 := Scalar.addi v1035 c115_i32
  let v1037 : Index := Scalar.indexCast v1036
  ![v1037.toNat]
def k0_off232 (v1038 : BitVec 32) : Fin 2 → Nat :=
  let v1039 : Index := Scalar.indexCast v1038
  let c0_345 : Index := 0#32
  ![v1039.toNat, 0]

def k0_chk116 (v1038 : BitVec 32) : Prop :=
  (∀ a, (k0_off232 v1038) a + S1x512.size a ≤ S1920x512.size a)
theorem k0_off232_inb : ∀ (v1038 : BitVec 32) (k0_hw116 : k0_chk116 v1038), ∀ a, (k0_off232 v1038) a + S1x512.size a ≤ S1920x512.size a := fun v1038 k0_hw116 => k0_hw116

def k0_off233 (i : grid0.Coords) : Fin 1 → Nat :=
  let arg0 : BitVec 32 := BitVec.ofNat 32 (i 0).val
  let c128_i32_347 : BitVec 32 := 128#32
  let v1044 : BitVec 32 := Scalar.muli arg0 c128_i32_347
  let c116_i32 : BitVec 32 := 116#32
  let v1045 : BitVec 32 := Scalar.addi v1044 c116_i32
  let v1046 : Index := Scalar.indexCast v1045
  ![v1046.toNat]
def k0_off234 (v1047 : BitVec 32) : Fin 2 → Nat :=
  let v1048 : Index := Scalar.indexCast v1047
  let c0_348 : Index := 0#32
  ![v1048.toNat, 0]

def k0_chk117 (v1047 : BitVec 32) : Prop :=
  (∀ a, (k0_off234 v1047) a + S1x512.size a ≤ S1920x512.size a)
theorem k0_off234_inb : ∀ (v1047 : BitVec 32) (k0_hw117 : k0_chk117 v1047), ∀ a, (k0_off234 v1047) a + S1x512.size a ≤ S1920x512.size a := fun v1047 k0_hw117 => k0_hw117

def k0_off235 (i : grid0.Coords) : Fin 1 → Nat :=
  let arg0 : BitVec 32 := BitVec.ofNat 32 (i 0).val
  let c128_i32_350 : BitVec 32 := 128#32
  let v1053 : BitVec 32 := Scalar.muli arg0 c128_i32_350
  let c117_i32 : BitVec 32 := 117#32
  let v1054 : BitVec 32 := Scalar.addi v1053 c117_i32
  let v1055 : Index := Scalar.indexCast v1054
  ![v1055.toNat]
def k0_off236 (v1056 : BitVec 32) : Fin 2 → Nat :=
  let v1057 : Index := Scalar.indexCast v1056
  let c0_351 : Index := 0#32
  ![v1057.toNat, 0]

def k0_chk118 (v1056 : BitVec 32) : Prop :=
  (∀ a, (k0_off236 v1056) a + S1x512.size a ≤ S1920x512.size a)
theorem k0_off236_inb : ∀ (v1056 : BitVec 32) (k0_hw118 : k0_chk118 v1056), ∀ a, (k0_off236 v1056) a + S1x512.size a ≤ S1920x512.size a := fun v1056 k0_hw118 => k0_hw118

def k0_off237 (i : grid0.Coords) : Fin 1 → Nat :=
  let arg0 : BitVec 32 := BitVec.ofNat 32 (i 0).val
  let c128_i32_353 : BitVec 32 := 128#32
  let v1062 : BitVec 32 := Scalar.muli arg0 c128_i32_353
  let c118_i32 : BitVec 32 := 118#32
  let v1063 : BitVec 32 := Scalar.addi v1062 c118_i32
  let v1064 : Index := Scalar.indexCast v1063
  ![v1064.toNat]
def k0_off238 (v1065 : BitVec 32) : Fin 2 → Nat :=
  let v1066 : Index := Scalar.indexCast v1065
  let c0_354 : Index := 0#32
  ![v1066.toNat, 0]

def k0_chk119 (v1065 : BitVec 32) : Prop :=
  (∀ a, (k0_off238 v1065) a + S1x512.size a ≤ S1920x512.size a)
theorem k0_off238_inb : ∀ (v1065 : BitVec 32) (k0_hw119 : k0_chk119 v1065), ∀ a, (k0_off238 v1065) a + S1x512.size a ≤ S1920x512.size a := fun v1065 k0_hw119 => k0_hw119

def k0_off239 (i : grid0.Coords) : Fin 1 → Nat :=
  let arg0 : BitVec 32 := BitVec.ofNat 32 (i 0).val
  let c128_i32_356 : BitVec 32 := 128#32
  let v1071 : BitVec 32 := Scalar.muli arg0 c128_i32_356
  let c119_i32 : BitVec 32 := 119#32
  let v1072 : BitVec 32 := Scalar.addi v1071 c119_i32
  let v1073 : Index := Scalar.indexCast v1072
  ![v1073.toNat]
def k0_off240 (v1074 : BitVec 32) : Fin 2 → Nat :=
  let v1075 : Index := Scalar.indexCast v1074
  let c0_357 : Index := 0#32
  ![v1075.toNat, 0]

def k0_chk120 (v1074 : BitVec 32) : Prop :=
  (∀ a, (k0_off240 v1074) a + S1x512.size a ≤ S1920x512.size a)
theorem k0_off240_inb : ∀ (v1074 : BitVec 32) (k0_hw120 : k0_chk120 v1074), ∀ a, (k0_off240 v1074) a + S1x512.size a ≤ S1920x512.size a := fun v1074 k0_hw120 => k0_hw120

def k0_off241 (i : grid0.Coords) : Fin 1 → Nat :=
  let arg0 : BitVec 32 := BitVec.ofNat 32 (i 0).val
  let c128_i32_359 : BitVec 32 := 128#32
  let v1080 : BitVec 32 := Scalar.muli arg0 c128_i32_359
  let c120_i32 : BitVec 32 := 120#32
  let v1081 : BitVec 32 := Scalar.addi v1080 c120_i32
  let v1082 : Index := Scalar.indexCast v1081
  ![v1082.toNat]
def k0_off242 (v1083 : BitVec 32) : Fin 2 → Nat :=
  let v1084 : Index := Scalar.indexCast v1083
  let c0_360 : Index := 0#32
  ![v1084.toNat, 0]

def k0_chk121 (v1083 : BitVec 32) : Prop :=
  (∀ a, (k0_off242 v1083) a + S1x512.size a ≤ S1920x512.size a)
theorem k0_off242_inb : ∀ (v1083 : BitVec 32) (k0_hw121 : k0_chk121 v1083), ∀ a, (k0_off242 v1083) a + S1x512.size a ≤ S1920x512.size a := fun v1083 k0_hw121 => k0_hw121

def k0_off243 (i : grid0.Coords) : Fin 1 → Nat :=
  let arg0 : BitVec 32 := BitVec.ofNat 32 (i 0).val
  let c128_i32_362 : BitVec 32 := 128#32
  let v1089 : BitVec 32 := Scalar.muli arg0 c128_i32_362
  let c121_i32 : BitVec 32 := 121#32
  let v1090 : BitVec 32 := Scalar.addi v1089 c121_i32
  let v1091 : Index := Scalar.indexCast v1090
  ![v1091.toNat]
def k0_off244 (v1092 : BitVec 32) : Fin 2 → Nat :=
  let v1093 : Index := Scalar.indexCast v1092
  let c0_363 : Index := 0#32
  ![v1093.toNat, 0]

def k0_chk122 (v1092 : BitVec 32) : Prop :=
  (∀ a, (k0_off244 v1092) a + S1x512.size a ≤ S1920x512.size a)
theorem k0_off244_inb : ∀ (v1092 : BitVec 32) (k0_hw122 : k0_chk122 v1092), ∀ a, (k0_off244 v1092) a + S1x512.size a ≤ S1920x512.size a := fun v1092 k0_hw122 => k0_hw122

def k0_off245 (i : grid0.Coords) : Fin 1 → Nat :=
  let arg0 : BitVec 32 := BitVec.ofNat 32 (i 0).val
  let c128_i32_365 : BitVec 32 := 128#32
  let v1098 : BitVec 32 := Scalar.muli arg0 c128_i32_365
  let c122_i32 : BitVec 32 := 122#32
  let v1099 : BitVec 32 := Scalar.addi v1098 c122_i32
  let v1100 : Index := Scalar.indexCast v1099
  ![v1100.toNat]
def k0_off246 (v1101 : BitVec 32) : Fin 2 → Nat :=
  let v1102 : Index := Scalar.indexCast v1101
  let c0_366 : Index := 0#32
  ![v1102.toNat, 0]

def k0_chk123 (v1101 : BitVec 32) : Prop :=
  (∀ a, (k0_off246 v1101) a + S1x512.size a ≤ S1920x512.size a)
theorem k0_off246_inb : ∀ (v1101 : BitVec 32) (k0_hw123 : k0_chk123 v1101), ∀ a, (k0_off246 v1101) a + S1x512.size a ≤ S1920x512.size a := fun v1101 k0_hw123 => k0_hw123

def k0_off247 (i : grid0.Coords) : Fin 1 → Nat :=
  let arg0 : BitVec 32 := BitVec.ofNat 32 (i 0).val
  let c128_i32_368 : BitVec 32 := 128#32
  let v1107 : BitVec 32 := Scalar.muli arg0 c128_i32_368
  let c123_i32 : BitVec 32 := 123#32
  let v1108 : BitVec 32 := Scalar.addi v1107 c123_i32
  let v1109 : Index := Scalar.indexCast v1108
  ![v1109.toNat]
def k0_off248 (v1110 : BitVec 32) : Fin 2 → Nat :=
  let v1111 : Index := Scalar.indexCast v1110
  let c0_369 : Index := 0#32
  ![v1111.toNat, 0]

def k0_chk124 (v1110 : BitVec 32) : Prop :=
  (∀ a, (k0_off248 v1110) a + S1x512.size a ≤ S1920x512.size a)
theorem k0_off248_inb : ∀ (v1110 : BitVec 32) (k0_hw124 : k0_chk124 v1110), ∀ a, (k0_off248 v1110) a + S1x512.size a ≤ S1920x512.size a := fun v1110 k0_hw124 => k0_hw124

def k0_off249 (i : grid0.Coords) : Fin 1 → Nat :=
  let arg0 : BitVec 32 := BitVec.ofNat 32 (i 0).val
  let c128_i32_371 : BitVec 32 := 128#32
  let v1116 : BitVec 32 := Scalar.muli arg0 c128_i32_371
  let c124_i32 : BitVec 32 := 124#32
  let v1117 : BitVec 32 := Scalar.addi v1116 c124_i32
  let v1118 : Index := Scalar.indexCast v1117
  ![v1118.toNat]
def k0_off250 (v1119 : BitVec 32) : Fin 2 → Nat :=
  let v1120 : Index := Scalar.indexCast v1119
  let c0_372 : Index := 0#32
  ![v1120.toNat, 0]

def k0_chk125 (v1119 : BitVec 32) : Prop :=
  (∀ a, (k0_off250 v1119) a + S1x512.size a ≤ S1920x512.size a)
theorem k0_off250_inb : ∀ (v1119 : BitVec 32) (k0_hw125 : k0_chk125 v1119), ∀ a, (k0_off250 v1119) a + S1x512.size a ≤ S1920x512.size a := fun v1119 k0_hw125 => k0_hw125

def k0_off251 (i : grid0.Coords) : Fin 1 → Nat :=
  let arg0 : BitVec 32 := BitVec.ofNat 32 (i 0).val
  let c128_i32_374 : BitVec 32 := 128#32
  let v1125 : BitVec 32 := Scalar.muli arg0 c128_i32_374
  let c125_i32 : BitVec 32 := 125#32
  let v1126 : BitVec 32 := Scalar.addi v1125 c125_i32
  let v1127 : Index := Scalar.indexCast v1126
  ![v1127.toNat]
def k0_off252 (v1128 : BitVec 32) : Fin 2 → Nat :=
  let v1129 : Index := Scalar.indexCast v1128
  let c0_375 : Index := 0#32
  ![v1129.toNat, 0]

def k0_chk126 (v1128 : BitVec 32) : Prop :=
  (∀ a, (k0_off252 v1128) a + S1x512.size a ≤ S1920x512.size a)
theorem k0_off252_inb : ∀ (v1128 : BitVec 32) (k0_hw126 : k0_chk126 v1128), ∀ a, (k0_off252 v1128) a + S1x512.size a ≤ S1920x512.size a := fun v1128 k0_hw126 => k0_hw126

def k0_off253 (i : grid0.Coords) : Fin 1 → Nat :=
  let arg0 : BitVec 32 := BitVec.ofNat 32 (i 0).val
  let c128_i32_377 : BitVec 32 := 128#32
  let v1134 : BitVec 32 := Scalar.muli arg0 c128_i32_377
  let c126_i32 : BitVec 32 := 126#32
  let v1135 : BitVec 32 := Scalar.addi v1134 c126_i32
  let v1136 : Index := Scalar.indexCast v1135
  ![v1136.toNat]
def k0_off254 (v1137 : BitVec 32) : Fin 2 → Nat :=
  let v1138 : Index := Scalar.indexCast v1137
  let c0_378 : Index := 0#32
  ![v1138.toNat, 0]

def k0_chk127 (v1137 : BitVec 32) : Prop :=
  (∀ a, (k0_off254 v1137) a + S1x512.size a ≤ S1920x512.size a)
theorem k0_off254_inb : ∀ (v1137 : BitVec 32) (k0_hw127 : k0_chk127 v1137), ∀ a, (k0_off254 v1137) a + S1x512.size a ≤ S1920x512.size a := fun v1137 k0_hw127 => k0_hw127

def k0_off255 (i : grid0.Coords) : Fin 1 → Nat :=
  let arg0 : BitVec 32 := BitVec.ofNat 32 (i 0).val
  let c128_i32_380 : BitVec 32 := 128#32
  let v1143 : BitVec 32 := Scalar.muli arg0 c128_i32_380
  let c127_i32 : BitVec 32 := 127#32
  let v1144 : BitVec 32 := Scalar.addi v1143 c127_i32
  let v1145 : Index := Scalar.indexCast v1144
  ![v1145.toNat]
def k0_off256 (v1146 : BitVec 32) : Fin 2 → Nat :=
  let v1147 : Index := Scalar.indexCast v1146
  let c0_381 : Index := 0#32
  ![v1147.toNat, 0]

def k0_chk128 (v1146 : BitVec 32) : Prop :=
  (∀ a, (k0_off256 v1146) a + S1x512.size a ≤ S1920x512.size a)
theorem k0_off256_inb : ∀ (v1146 : BitVec 32) (k0_hw128 : k0_chk128 v1146), ∀ a, (k0_off256 v1146) a + S1x512.size a ≤ S1920x512.size a := fun v1146 k0_hw128 => k0_hw128

def k0_off257 (i : grid0.Coords) : Fin 2 → Nat :=
  let arg0 : BitVec 32 := BitVec.ofNat 32 (i 0).val
  let v1152 : Index := Scalar.indexCast arg0
  let c0_383 : Index := 0#32
  ![v1152.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1920x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x448 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ScalesReferenceIdeal.lean ====
abbrev S15360 : Shape := ⟨1, ![15360]⟩
abbrev S1920x512 : Shape := ⟨2, ![1920, 512]⟩
abbrev S120x128 : Shape := ⟨2, ![120, 128]⟩
abbrev S1920x448 : Shape := ⟨2, ![1920, 448]⟩
abbrev S15360x1 : Shape := ⟨2, ![15360, 1]⟩
abbrev S15360x448 : Shape := ⟨2, ![15360, 448]⟩

abbrev nBuf : Space → Nat
  | .hbm => 9
  | .vmem => 3
  | .smem => 0
  | _ => 0

abbrev bufTy : (tb : Table) → Fin (tcTables nBuf tb) → BufTy
  | .hbm, ⟨0, _⟩ => ⟨S15360, .i32⟩
  | .hbm, ⟨1, _⟩ => ⟨S1920x512, .f32⟩
  | .hbm, ⟨2, _⟩ => ⟨S120x128, .f32⟩
  | .hbm, ⟨3, _⟩ => ⟨S1920x448, .f32⟩
  | .hbm, ⟨4, _⟩ => ⟨S15360x1, .i32⟩
  | .hbm, ⟨5, _⟩ => ⟨S15360x448, .f32⟩
  | .hbm, ⟨6, _⟩ => ⟨S15360, .f32⟩
  | .hbm, ⟨7, _⟩ => ⟨S15360x1, .f32⟩
  | .hbm, ⟨8, _⟩ => ⟨S15360x448, .fp8e4m3⟩
  | .local _ .vmem, ⟨0, _⟩ => ⟨S15360x448, .f32⟩
  | .local _ .vmem, ⟨1, _⟩ => ⟨S15360x1, .f32⟩
  | .local _ .vmem, ⟨2, _⟩ => ⟨S15360x448, .fp8e4m3⟩
  | _, _ => ⟨S15360, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S15360x448 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x448 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.CodesKit.lean ====
/-
The launch facts about the codes call that its proof starts from: the arrays at the region's entry, the prefetched
table, the branch conditions in closed form, the staging memrefs, and how the frame claim follows from a run.
-/
module

public import proofs.«01_k».proof.Proof.Gen.Codes.Launch
public import proofs.«01_k».proof.Proof.Gen.Codes.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S15360 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Codes`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 840 = 0 :=
  (fun t => by
    have ht : t.val < 840 := Nat.lt_of_lt_of_eq t.isLt N_0
    have e0 : (grid0.coords t 0).val = t.val / 120 % 7 := Pipeline.Grid.coords_val t 0 (by decide) rfl
    have e1 : (grid0.coords t 1).val = t.val / 1 % 120 := Pipeline.Grid.coords_val t 1 (by decide) rfl
    simp only [cond0_0, e0, e1]
    word_cmp
   : ∀ t : Fin grid0.N, cond0_0 (grid0.coords t) ↔ t.val % 840 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 120) — by arithmetic of the point. -/
theorem hcond0_1 : ∀ t : Fin grid0.N, cond0_1 (grid0.coords t) ↔ t.val % 120 = 0 :=
  (fun t => by
    have ht : t.val < 840 := Nat.lt_of_lt_of_eq t.isLt N_0
    have e0 : (grid0.coords t 0).val = t.val / 120 % 7 := Pipeline.Grid.coords_val t 0 (by decide) rfl
    have e1 : (grid0.coords t 1).val = t.val / 1 % 120 := Pipeline.Grid.coords_val t 1 (by decide) rfl
    simp only [cond0_1, e0, e1]
    word_cmp
   : ∀ t : Fin grid0.N, cond0_1 (grid0.coords t) ↔ t.val % 120 = 0)

/-! ## The staging memrefs and the scratch operands -/

abbrev ms0_0 (hO : Ok m) (t : Fin (cfgM m hO).N) : Memref sig .tc .vmem S1920x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S120x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S128x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S128x512 .i8 := spec0_3.stage ((cfgM m hO).slots t 3)
abbrev hs0_3 (hO : Ok m) (t : Fin (cfgM m hO).N) : (ms0_3 m hO t).IsWhole := hstage0_3 (((cfgM m hO).slots t 3).cast nbuf0_3)

/-- Window 3 (result 0 (%0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_codes (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _)

/-- The scratch operands: whole scoped buffers of the kernel's own, passed beside the windows. -/
abbrev scM0_0 : Memref sig .tc .vmem S15360x128 .f32 := Memref.whole cc0_scratch0
abbrev scM0_1 : Memref sig .tc .vmem S1024x1024 .bf16 := Memref.whole cc0_scratch1
abbrev scM0_2 : Memref sig .tc .vmem S2x128x128 .fp8e4m3 := Memref.whole cc0_scratch2
abbrev scM0_3 : Memref sig .tc .vmem S128x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Codes.Gen

end
-- ==== Proof.CodesRun.lean ====
/-
The run of one grid point of the codes call after its two conditionals: from the expanded inputs held in scratch,
the reciprocals of the row scales and then the sixteen stored pieces of the output block.
-/
module

public import proofs.«01_k».proof.Proof.CodesKit

@[expose] public section

-- membership in a rectangle of production extents (`View.cover_of_tiled`): the elaborator's structural look
-- recurses once per coordinate of the long axes
set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the source table that the body loads through the rectangle at `off`. -/
abbrev srcAt (c : Dev nD) (xt0 : TbBuf0 (F := F) c tbM0_0) (off : Fin 1 → ℕ) (inb : ∀ a, off a + S1.size a ≤ S15360.size a) : BitVec 32 :=
  tbM0_0.view.readAt (Elt F) (Rect.unit (s := S15360) off S1.size inb).toLoadRect xt0 (Shape.Idx.first (numel1_S1.symm ▸ Nat.one_pos))

/-- What the first part of the body hands on: the grid coordinates and the vectors computed of the loaded row of
    scales `v9` and of the loaded block scales `v36`. -/
abbrev handed (i : grid0.Coords) (v9 : Vec F S1x128 .f32) (v36 : Vec F S128x128 .fp8e4m3) :
    Σ' (arg0 : BitVec 32) (arg1 : BitVec 32) (v12 : FVec F S128x128 .f32) (v35 : IVec S128x128 1) (v37 : FVec F S128x128 .f32), F .f32 :=
  ⟨BitVec.ofNat 32 (i 0).val, BitVec.ofNat 32 (i 1).val, k0_pay37 v9, k0_pay38 i, k0_pay39 v36, Scalar.ofBits .f32 0x00000000#32⟩

set_option maxHeartbeats 40000000 in
/-- The sixteen pieces that the body leaves in the output block, with the proof that the body runs to them: from any
    resource `R` under which the first part runs to `R'` with the expanded inputs `xs0` and the expansion matrices
    `xs2` in scratch (`hp8`), the whole body runs, `R'` and those two buffers kept. -/
noncomputable def bodyRun (c : Dev nD) (i : grid0.Coords) (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg7 : Memref sig .tc .vmem S15360x128 .f32) (harg7 : arg7.IsWhole) (arg8 : Memref sig .tc .vmem S1024x1024 .bf16) (harg8 : arg8.IsWhole) (arg9 : Memref sig .tc .vmem S2x128x128 .fp8e4m3) (harg9 : arg9.IsWhole) (arg10 : Memref sig .tc .vmem S128x128 .f32) (harg10 : arg10.IsWhole)
    (v9 : Vec F S1x128 .f32) (v36 : Vec F S128x128 .fp8e4m3) (xs0 : Vec F S15360x128 .f32) (xs2 : Vec F S2x128x128 .fp8e4m3)
    (xt0 : TbBuf0 (F := F) c tbM0_0) (hw : ∀ off inb, k0_chk1 (srcAt c xt0 off inb)) :
    { L3 : List (View.Piece (Elt F) S128x512 .i8) //
      ∀ (E : Set ℕ) (K : PUnit → sProp 𝕄) (R R' : sProp 𝕄)
        (hp8 : ∀ Q, iprop(R ∗ (iprop(R' ∗ owns (c : Thread nD τ) arg7 fullShare xs0 ∗ owns (c : Thread nD τ) arg9 fullShare xs2) -∗ Q (handed i v9 v36)))
          ⊢ wp frame (wpE (defs₀ (F := F)) Variants.none c none) E (k0_part8 (F := F) i tbM0_0 htbM0_0 arg3 harg3 arg4 harg4 arg5 harg5 arg6 harg6 arg7 harg7 arg8 harg8 arg9 harg9 arg10 harg10) Q),
        iprop(R ∗ (∃ d, owns (c : Thread nD τ) arg6 fullShare d) ∗ (∃ d, owns (c : Thread nD τ) arg10 fullShare d) ∗ tbPt0 c tbM0_0 xt0
            ∗ (iprop(R' ∗ owns (c : Thread nD τ) arg7 fullShare xs0 ∗ owns (c : Thread nD τ) arg9 fullShare xs2
                ∗ (∃ f, arg6.view.loc (c : Thread nD τ) ↦[arg6.view.set]{fullShare} arg6.view.writes (Elt F) f L3)
                ∗ (∃ d, owns (c : Thread nD τ) arg10 fullShare d) ∗ tbPt0 c tbM0_0 xt0) -∗ K ⟨⟩))
          ⊢ wp frame (wpE (defs₀ (F := F)) Variants.none c none) E (cc0_codes (F := F) i tbM0_0 htbM0_0 arg3 harg3 arg4 harg4 arg5 harg5 arg6 harg6 arg7 harg7 arg8 harg8 arg9 harg9 arg10 harg10) K } := by
  refine ⟨?L, fun E K R R' hp8 => ?run⟩
  case run =>
    simp only [cc0_codes_eq_skeleton]; unfold cc0_codes_skel
    simp only [k0_part90_eq_skeleton]; unfold k0_part90_skel
    simp only [bind_assoc]
    rw [wp_bind]
    iintro ⟨HR, H6, H10, HT0, Hk⟩
    iapply hp8
    isplitl [HR]; · iexact HR
    unfold owns
    iintro ⟨HR', ⟨%f7, %hf7, H7⟩, ⟨%f9, %hf9, H9⟩⟩
    icases H6 with ⟨%d6, %f6, -, H6⟩
    icases H10 with ⟨%d10, %f10, -, H10⟩
    obtain rfl := harg7.eq_unread hf7; obtain rfl := harg9.eq_unread hf9
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    sl_exec (disch := exact hw _ _)
    sl_step
    iapply Hk
    isplitl [HR']; · iexact HR'
    isplitl [H7]
    · iexists _; isplitr; · ipureintro; exact harg7.read_unread _
      iexact H7
    isplitl [H9]
    · iexists _; isplitr; · ipureintro; exact harg9.read_unread _
      iexact H9
    isplitl [H6]; · iexists _; iexact H6
    isplitl [H10]
    · iexists _, _; isplitr; swap; · iexact H10
      ipureintro; rfl
    iexact HT0

end Cert.Codes.Gen

end
-- ==== Proof.CodesFill.lean ====
/-
The loop that expands a group of input channels into scratch: trip `k` multiplies 128 rows of the input block by the
selection matrix and stores the eight 128-column slices of the product at the rows `8 * row + slice`.
-/
module

public import proofs.«01_k».proof.Proof.CodesKit
public import proofs.«01_k».proof.Proof.Gen.Codes.Loops
public import Idealize.ShloMosaic.Lib.ValueIdx
public import Idealize.ShloMosaic.Lib.ValueIdxCoords

@[expose] public section

-- membership in a rectangle of production extents (`View.cover_of_tiled`): the elaborator's structural look
-- recurses once per coordinate of the long axes
set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem trips_eq : k0_t1_loop.trips = 15 := by decide +kernel

theorem xTile_inb (k : Fin k0_t1_loop.trips) : ∀ a, (k0_off1 k) a + S128x1024.size a ≤ S1920x1024.size a := by
  have hk : k.val < 15 := trips_eq ▸ k.isLt
  rw [k0_off1_eq]
  intro a; fin_cases a
  · show 128 * k.val + 128 ≤ 1920; omega
  · show 0 + 1024 ≤ 1024; omega

/-- The eight slices that trip `k` stores, from the input block `x` and the selection matrix `P`: slice `r` is the
    product of the trip's rows with columns `128 r … 128 r + 127` of `P`. -/
def fillVal (x : Vec F S1920x1024 .bf16) (P : Vec F S1024x1024 .bf16) (k : Fin k0_t1_loop.trips) : Fin 8 → FVec F S128x128 .f32 :=
  let X := View.ld x (Rect.unit (s := S1920x1024) (k0_off1 k) S128x1024.size (xTile_inb k))
  let p0 := View.ld P (Rect.unit (s := S1024x1024) ![0, 0] S1024x256.size inb_S1024x1024_S1024x256_0_0)
  let p1 := View.ld P (Rect.unit (s := S1024x1024) ![0, 256] S1024x256.size inb_S1024x1024_S1024x256_0_256)
  let p2 := View.ld P (Rect.unit (s := S1024x1024) ![0, 512] S1024x256.size inb_S1024x1024_S1024x256_0_512)
  let p3 := View.ld P (Rect.unit (s := S1024x1024) ![0, 768] S1024x256.size inb_S1024x1024_S1024x256_0_768)
  ![k0_pay23 X p0, k0_pay24 X p0, k0_pay26 X p1, k0_pay28 (k0_pay27 X p1), k0_pay30 X p2, k0_pay31 X p2,
    k0_pay35 (k0_pay33 X p3), k0_pay36 (k0_pay32 X p3)]

/-- The expanded inputs: row `1024 k + 8 t + r` is row `t` of the slice `r` of trip `k`. -/
def filled (x : Vec F S1920x1024 .bf16) (P : Vec F S1024x1024 .bf16) : Vec F S15360x128 .f32 := fun y =>
  fillVal x P ⟨(y 0).val / 1024, by rw [trips_eq]; have : (y 0).val < 15360 := (y 0).isLt; omega⟩ ⟨(y 0).val % 8, Nat.mod_lt _ (by decide)⟩
    (ix2 ⟨(y 0).val % 1024 / 8, by omega⟩ (y 1))

theorem filled_at (x : Vec F S1920x1024 .bf16) (P : Vec F S1024x1024 .bf16) (k : Fin k0_t1_loop.trips) (r : Fin 8) (z : S128x128.Idx)
    (y : S15360x128.Idx) (h0 : (y 0).val = 1024 * k.val + r.val + 8 * (z 0).val) (h1 : (y 1).val = (z 1).val) :
    filled x P y = fillVal x P k r z := by
  have hz : (z 0).val < 128 := (z 0).isLt
  have hr := r.isLt
  unfold filled
  have e1 : (⟨(y 0).val / 1024, by rw [trips_eq]; have : (y 0).val < 15360 := (y 0).isLt; omega⟩ : Fin k0_t1_loop.trips) = k := Fin.ext (by show (y 0).val / 1024 = _; omega)
  have e2 : (⟨(y 0).val % 8, Nat.mod_lt _ (by decide)⟩ : Fin 8) = r := Fin.ext (by show (y 0).val % 8 = _; omega)
  have e3 : (ix2 ⟨(y 0).val % 1024 / 8, by omega⟩ (y 1) : S128x128.Idx) = z := by
    funext a; fin_cases a
    · exact Fin.ext (by show (y 0).val % 1024 / 8 = (z 0).val; omega)
    · exact Fin.ext h1
  rw [e1, e2, e3]

/-- The strided rectangle of slice `(a, b)` of trip `k`. -/
abbrev sliceRect (k : Fin k0_t1_loop.trips) (i : grid0.Coords) (h2 : k0_cond2 i = 1#1) (a : Fin 4) (b : Fin 2) : Rect S15360x128 :=
  ⟨⟨k0_off2 k (BitVec.ofNat 32 (2 * a.val)) (BitVec.ofNat 32 b.val), S128x128.size, ![8, 1], k0_off2_inb i k h2 a b⟩, spos_8_1⟩

theorem sliceRect_emb0 (k : Fin k0_t1_loop.trips) (i : grid0.Coords) (h2 : k0_cond2 i = 1#1) (a : Fin 4) (b : Fin 2) (z : S128x128.Idx) :
    (((sliceRect k i h2 a b).emb z) 0).val = 1024 * k.val + (2 * a.val + b.val) + 8 * (z 0).val := by
  show (k0_off2 k (BitVec.ofNat 32 (2 * a.val)) (BitVec.ofNat 32 b.val)) 0 + 8 * (z 0).val = _
  rw [k0_off2_eq]; show 1024 * k.val + 2 * a.val + b.val + 8 * (z 0).val = _; omega

theorem sliceRect_emb1 (k : Fin k0_t1_loop.trips) (i : grid0.Coords) (h2 : k0_cond2 i = 1#1) (a : Fin 4) (b : Fin 2) (z : S128x128.Idx) :
    (((sliceRect k i h2 a b).emb z) 1).val = (z 1).val := by
  show (k0_off2 k (BitVec.ofNat 32 (2 * a.val)) (BitVec.ofNat 32 b.val)) 1 + 1 * (z 1).val = _
  rw [k0_off2_eq]; show 0 + 1 * (z 1).val = _; omega

/-- The eight pieces of trip `k`, last stored first. -/
def tripPieces (x : Vec F S1920x1024 .bf16) (P : Vec F S1024x1024 .bf16) (k : Fin k0_t1_loop.trips) (i : grid0.Coords) (h2 : k0_cond2 i = 1#1) :
    List (View.Piece (Elt F) S15360x128 .f32) :=
  [⟨sliceRect k i h2 3 1, fillVal x P k 7⟩, ⟨sliceRect k i h2 3 0, fillVal x P k 6⟩,
   ⟨sliceRect k i h2 2 1, fillVal x P k 5⟩, ⟨sliceRect k i h2 2 0, fillVal x P k 4⟩,
   ⟨sliceRect k i h2 1 1, fillVal x P k 3⟩, ⟨sliceRect k i h2 1 0, fillVal x P k 2⟩,
   ⟨sliceRect k i h2 0 1, fillVal x P k 1⟩, ⟨sliceRect k i h2 0 0, fillVal x P k 0⟩]

/-- After trip `k`'s stores the rows below `1024 (k + 1)` hold the expanded inputs, if those below `1024 k` did. -/
theorem tripPieces_read (arg7 : Memref sig .tc .vmem S15360x128 .f32) (x : Vec F S1920x1024 .bf16) (P : Vec F S1024x1024 .bf16) (k : Fin k0_t1_loop.trips)
    (i : grid0.Coords) (h2 : k0_cond2 i = 1#1) (f : arg7.view.ty.Contents (Elt F))
    (hf : ∀ y : S15360x128.Idx, (y 0).val < 1024 * k.val → arg7.view.read (Elt F) f y = filled x P y) :
    ∀ y : S15360x128.Idx, (y 0).val < 1024 * (k.val + 1) →
      arg7.view.read (Elt F) (arg7.view.writes (Elt F) f (tripPieces x P k i h2)) y = filled x P y := by
  intro y hy
  by_cases hc : ∃ p ∈ tripPieces x P k i h2, y ∈ p.1.set
  · refine View.read_writes_apply_of_pieces (v := arg7.view) (f := f) (filled x P) (tripPieces x P k i h2) ?_ y hc
    intro p hp z
    simp only [tripPieces, List.mem_cons, List.mem_nil_iff, or_false] at hp
    rcases hp with rfl | rfl | rfl | rfl | rfl | rfl | rfl | rfl
    · exact (filled_at x P k 7 z _ (sliceRect_emb0 k i h2 3 1 z) (sliceRect_emb1 k i h2 3 1 z)).symm
    · exact (filled_at x P k 6 z _ (sliceRect_emb0 k i h2 3 0 z) (sliceRect_emb1 k i h2 3 0 z)).symm
    · exact (filled_at x P k 5 z _ (sliceRect_emb0 k i h2 2 1 z) (sliceRect_emb1 k i h2 2 1 z)).symm
    · exact (filled_at x P k 4 z _ (sliceRect_emb0 k i h2 2 0 z) (sliceRect_emb1 k i h2 2 0 z)).symm
    · exact (filled_at x P k 3 z _ (sliceRect_emb0 k i h2 1 1 z) (sliceRect_emb1 k i h2 1 1 z)).symm
    · exact (filled_at x P k 2 z _ (sliceRect_emb0 k i h2 1 0 z) (sliceRect_emb1 k i h2 1 0 z)).symm
    · exact (filled_at x P k 1 z _ (sliceRect_emb0 k i h2 0 1 z) (sliceRect_emb1 k i h2 0 1 z)).symm
    · exact (filled_at x P k 0 z _ (sliceRect_emb0 k i h2 0 0 z) (sliceRect_emb1 k i h2 0 0 z)).symm
  · rw [View.read_writes_apply_of_forall_not_mem (v := arg7.view) (f := f) y _ fun p hp h => hc ⟨p, hp, h⟩]
    by_cases hk : (y 0).val < 1024 * k.val
    · exact hf y hk
    · exfalso; apply hc
      obtain ⟨a, b, hab⟩ : ∃ (a : Fin 4) (b : Fin 2), (y 0).val % 8 = 2 * a.val + b.val :=
        ⟨⟨(y 0).val % 8 / 2, by omega⟩, ⟨(y 0).val % 2, by omega⟩, by show _ = 2 * ((y 0).val % 8 / 2) + (y 0).val % 2; omega⟩
      have key : y ∈ (sliceRect k i h2 a b).set := by
        rw [← Rect.map_emb_univ]
        refine Finset.mem_map.mpr ⟨(ix2 ⟨(y 0).val % 1024 / 8, by omega⟩ (y 1) : S128x128.Idx), Finset.mem_univ _, ?_⟩
        funext c; fin_cases c
        · exact Fin.ext ((sliceRect_emb0 ..).trans (by show 1024 * k.val + (2 * a.val + b.val) + 8 * ((y 0).val % 1024 / 8) = (y 0).val; omega))
        · exact Fin.ext (sliceRect_emb1 ..)
      have hm : ∃ w, (⟨sliceRect k i h2 a b, w⟩ : View.Piece (Elt F) S15360x128 .f32) ∈ tripPieces x P k i h2 := by
        clear key hab
        fin_cases a <;> fin_cases b
        · exact ⟨_, .tail _ (.tail _ (.tail _ (.tail _ (.tail _ (.tail _ (.tail _ (.head _)))))))⟩
        · exact ⟨_, .tail _ (.tail _ (.tail _ (.tail _ (.tail _ (.tail _ (.head _))))))⟩
        · exact ⟨_, .tail _ (.tail _ (.tail _ (.tail _ (.tail _ (.head _)))))⟩
        · exact ⟨_, .tail _ (.tail _ (.tail _ (.tail _ (.head _))))⟩
        · exact ⟨_, .tail _ (.tail _ (.tail _ (.head _)))⟩
        · exact ⟨_, .tail _ (.tail _ (.head _))⟩
        · exact ⟨_, .tail _ (.head _)⟩
        · exact ⟨_, .head _⟩
      obtain ⟨w, hw⟩ := hm
      exact ⟨_, hw, key⟩

set_option maxHeartbeats 4000000 in
/-- One trip's region, from the block `f3` and the selection matrix `f8` held whole: it writes the trip's pieces. -/
theorem trip_run (c : Dev nD) (i : grid0.Coords) (arg2 : Memref sig .tc .smem S15360 .i32) (harg2 : arg2.IsWhole) (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg7 : Memref sig .tc .vmem S15360x128 .f32) (harg7 : arg7.IsWhole) (arg8 : Memref sig .tc .vmem S1024x1024 .bf16) (harg8 : arg8.IsWhole) (arg9 : Memref sig .tc .vmem S2x128x128 .fp8e4m3) (harg9 : arg9.IsWhole) (arg10 : Memref sig .tc .vmem S128x128 .f32) (harg10 : arg10.IsWhole) (h2 : k0_cond2 i = 1#1)
    (f3 : arg3.view.ty.Contents (Elt F)) (f8 : arg8.view.ty.Contents (Elt F)) (f7 : arg7.view.ty.Contents (Elt F)) (k : Fin k0_t1_loop.trips) (acc : Unit) (E : Set ℕ) (Q : Unit → sProp 𝕄) :
    iprop((arg7.view.loc (c : Thread nD τ) ↦[arg7.view.set]{fullShare} f7) ∗ (arg3.view.loc (c : Thread nD τ) ↦[arg3.view.set]{fullShare} f3)
        ∗ (arg8.view.loc (c : Thread nD τ) ↦[arg8.view.set]{fullShare} f8)
        ∗ (iprop((arg7.view.loc (c : Thread nD τ) ↦[arg7.view.set]{fullShare} arg7.view.writes (Elt F) f7 (tripPieces (arg3.view.read (Elt F) f3) (arg8.view.read (Elt F) f8) k i h2))
            ∗ (arg3.view.loc (c : Thread nD τ) ↦[arg3.view.set]{fullShare} f3)
            ∗ (arg8.view.loc (c : Thread nD τ) ↦[arg8.view.set]{fullShare} f8)) -∗ Q ⟨⟩))
      ⊢ wp frame (wpE (defs₀ (F := F)) Variants.none c none) E (k0_t1_body (F := F) i arg2 harg2 arg3 harg3 arg4 harg4 arg5 harg5 arg6 harg6 arg7 harg7 arg8 harg8 arg9 harg9 arg10 harg10 h2 k acc) Q := by
  unfold k0_t1_body
  simp only [k0_part6_eq_skeleton, k0_part7_eq_skeleton]
  iintro ⟨H7, H3, H8, Hk⟩
  sl_exec
  sl_step
  iapply Hk
  isplitl [H7]; · iexact H7
  isplitl [H3]; · iexact H3
  iexact H8

/-- The loop's invariant: before trip `k` the rows below `1024 k` hold the expanded inputs. -/
@[sl_loop, instance_reducible] noncomputable def fillInv (c : Dev nD) (i : grid0.Coords) (arg2 : Memref sig .tc .smem S15360 .i32) (harg2 : arg2.IsWhole) (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg7 : Memref sig .tc .vmem S15360x128 .f32) (harg7 : arg7.IsWhole) (arg8 : Memref sig .tc .vmem S1024x1024 .bf16) (harg8 : arg8.IsWhole) (arg9 : Memref sig .tc .vmem S2x128x128 .fp8e4m3) (harg9 : arg9.IsWhole) (arg10 : Memref sig .tc .vmem S128x128 .f32) (harg10 : arg10.IsWhole) (h2 : k0_cond2 i = 1#1)
    (f3 : arg3.view.ty.Contents (Elt F)) (f8 : arg8.view.ty.Contents (Elt F)) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 h2 where
  inv k acc := iprop(∃ f7, ⌜∀ y : S15360x128.Idx, (y 0).val < 1024 * k → arg7.view.read (Elt F) f7 y = filled (arg3.view.read (Elt F) f3) (arg8.view.read (Elt F) f8) y⌝
    ∗ (arg7.view.loc (c : Thread nD τ) ↦[arg7.view.set]{fullShare} f7) ∗ (arg3.view.loc (c : Thread nD τ) ↦[arg3.view.set]{fullShare} f3)
    ∗ (arg8.view.loc (c : Thread nD τ) ↦[arg8.view.set]{fullShare} f8))
  step k acc := by
    iintro ⟨%f7, %hf, H7, H3, H8⟩
    iapply (trip_run c i arg2 harg2 arg3 harg3 arg4 harg4 arg5 harg5 arg6 harg6 arg7 harg7 arg8 harg8 arg9 harg9 arg10 harg10 h2 f3 f8 f7 k acc Set.univ _)
    isplitl [H7]; · iexact H7
    isplitl [H3]; · iexact H3
    isplitl [H8]; · iexact H8
    iintro ⟨H7, H3, H8⟩
    iexists _; isplitr
    · ipureintro; exact tripPieces_read arg7 _ _ k i h2 f7 hf
    isplitl [H7]; · iexact H7
    isplitl [H3]; · iexact H3
    iexact H8

end Cert.Codes.Gen

end
-- ==== Proof.CodesHead.lean ====
/-
The first part of the body of the codes call, up to its two conditionals: the constant matrices of the scratch, and
the three ways it runs (at the grid's first point, at the first point of a later group, and elsewhere).
-/
module

public import proofs.«01_k».proof.Proof.CodesRun
public import proofs.«01_k».proof.Proof.CodesFill

@[expose] public section

-- membership in a rectangle of production extents (`View.cover_of_tiled`): the elaborator's structural look
-- recurses once per coordinate of the long axes
set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A whole buffer held with contents that read `X` is owned at `X`. -/
theorem own_read {sp : Space} {s : Shape} {e : EltTy} {c : Dev nD} (m : Memref sig .tc sp s e) {f : m.view.ty.Contents (Elt F)} {X : s.Idx → Elt F e}
    (h : m.view.read (Elt F) f = X) :
    (m.view.loc (c : Thread nD τ) ↦[m.view.set]{fullShare} f : sProp 𝕄) ⊢ iprop(∃ f, ⌜m.view.read (Elt F) f = X⌝ ∗ (m.view.loc (c : Thread nD τ) ↦[m.view.set]{fullShare} f)) := by
  iintro H; iexists f; isplitr; · ipureintro; exact h
  iexact H

/-- Row numbers of a column block of the selection matrix. -/
abbrev permRows : IVec S1024x128 32 := iota .tc S1024x128 32 [0] iota_S1024x128_d0_w32

/-- The channel, before the slice's offset, that each column of a block selects. -/
abbrev permCols : IVec S1024x128 32 := k0_pay6 (iota .tc S1024x128 32 [1] iota_S1024x128_d1_w32) k0_pay4 k0_pay5 (Scalar.select (Scalar.cmpi .eq 2#32 0#32) 1#32 2#32)

/-- The eight column blocks of the selection matrix, as stored. -/
abbrev permL : List (View.Piece (Elt F) S1024x1024 .bf16) :=
  [⟨Rect.unit (s := S1024x1024) ![0, 896] S1024x128.size inb_S1024x1024_S1024x128_0_896, k0_pay15 (F := F) permRows permCols⟩,
   ⟨Rect.unit (s := S1024x1024) ![0, 768] S1024x128.size inb_S1024x1024_S1024x128_0_768, k0_pay14 (F := F) permRows permCols⟩,
   ⟨Rect.unit (s := S1024x1024) ![0, 640] S1024x128.size inb_S1024x1024_S1024x128_0_640, k0_pay13 (F := F) permRows permCols⟩,
   ⟨Rect.unit (s := S1024x1024) ![0, 512] S1024x128.size inb_S1024x1024_S1024x128_0_512, k0_pay12 (k0_pay11 (F := F) permRows permCols)⟩,
   ⟨Rect.unit (s := S1024x1024) ![0, 384] S1024x128.size inb_S1024x1024_S1024x128_0_384, k0_pay10 (F := F) permRows permCols⟩,
   ⟨Rect.unit (s := S1024x1024) ![0, 256] S1024x128.size inb_S1024x1024_S1024x128_0_256, k0_pay9 (F := F) permRows permCols⟩,
   ⟨Rect.unit (s := S1024x1024) ![0, 128] S1024x128.size inb_S1024x1024_S1024x128_0_128, k0_pay8 (F := F) permRows permCols⟩,
   ⟨Rect.unit (s := S1024x1024) ![0, 0] S1024x128.size inb_S1024x1024_S1024x128_0_0, k0_pay7 (F := F) permRows permCols 0#32⟩]

/-- The selection matrix. -/
noncomputable def permC : Vec F S1024x1024 .bf16 := View.canon permL

theorem permL_cover : ∀ y : S1024x1024.Idx, ∃ p ∈ permL (F := F), y ∈ p.1.set :=
  View.cover_of_tiledL _ S1024x128.size (by rfl)

/-- The mask of the first expansion matrix's rows and columns, as the program computes it from the column numbers. -/
abbrev expRows : IVec S128x128 32 := iota .tc S128x128 32 [0] iota_S128x128_d0_w32
abbrev expCols : IVec S128x128 32 := iota .tc S128x128 32 [1] iota_S128x128_d1_w32
abbrev expFour : BitVec 32 := Scalar.select (Scalar.cmpi .eq 4#32 0#32) 1#32 4#32

/-- The two expansion matrices, as stored. -/
abbrev expL : List (View.Piece (Elt F) S2x128x128 .fp8e4m3) :=
  [⟨Rect.unit (s := S2x128x128) ![1, 0, 0] S1x128x128.size inb_S2x128x128_S1x128x128_1_0_0, k0_pay34 (F := F) (k0_pay21 expRows expCols expFour k0_pay16 k0_pay17 k0_pay18 (Scalar.cmpi .slt expFour 0#32))⟩,
   ⟨Rect.unit (s := S2x128x128) ![0, 0, 0] S1x128x128.size inb_S2x128x128_S1x128x128_0_0_0, k0_pay20 (F := F) expRows expCols expFour k0_pay16 k0_pay17 k0_pay18 (Scalar.cmpi .slt expFour 0#32)⟩]

/-- The expansion matrices. -/
noncomputable def expC : Vec F S2x128x128 .fp8e4m3 := View.canon expL

theorem expL_cover : ∀ y : S2x128x128.Idx, ∃ p ∈ expL (F := F), y ∈ p.1.set :=
  View.cover_of_tiledL _ S1x128x128.size (by rfl)

/-- The row of scales that a point loads. -/
abbrev scaleRow (i : grid0.Coords) (x4 : Vec F S120x128 .f32) : Vec F S1x128 .f32 :=
  View.ld x4 (Rect.unit (s := S120x128) (k0_off3 i) S1x128.size (k0_off3_inb i))

/-- The block scales that a point loads: the whole block. -/
abbrev blockScales (x5 : Vec F S128x128 .fp8e4m3) : Vec F S128x128 .fp8e4m3 :=
  View.ld x5 (Rect.unit (s := S128x128) ![0, 0] S128x128.size inb_S128x128_S128x128_0_0)

set_option maxHeartbeats 40000000 in
/-- The first part of the body at the grid's first point: it stores the selection and expansion matrices and expands the
    group's inputs. -/
theorem head_first (c : Dev nD) (i : grid0.Coords) (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg7 : Memref sig .tc .vmem S15360x128 .f32) (harg7 : arg7.IsWhole) (arg8 : Memref sig .tc .vmem S1024x1024 .bf16) (harg8 : arg8.IsWhole) (arg9 : Memref sig .tc .vmem S2x128x128 .fp8e4m3) (harg9 : arg9.IsWhole) (arg10 : Memref sig .tc .vmem S128x128 .f32) (harg10 : arg10.IsWhole) (h1 : cond0_0 i) (h2 : k0_cond2 i = 1#1)
    (x3 : Vec F S1920x1024 .bf16) (x4 : Vec F S120x128 .f32) (x5 : Vec F S128x128 .fp8e4m3)  (Q : (Σ' (arg0 : BitVec 32) (arg1 : BitVec 32) (v12 : FVec F S128x128 .f32) (v35 : IVec S128x128 1) (v37 : FVec F S128x128 .f32), F .f32) → sProp 𝕄) :
    iprop((owns (c : Thread nD τ) arg3 fullShare x3 ∗ owns (c : Thread nD τ) arg4 fullShare x4 ∗ owns (c : Thread nD τ) arg5 fullShare x5 ∗ (∃ d, owns (c : Thread nD τ) arg7 fullShare d) ∗ (∃ d, owns (c : Thread nD τ) arg8 fullShare d) ∗ (∃ d, owns (c : Thread nD τ) arg9 fullShare d)) ∗ (iprop((owns (c : Thread nD τ) arg3 fullShare x3 ∗ owns (c : Thread nD τ) arg4 fullShare x4 ∗ owns (c : Thread nD τ) arg5 fullShare x5 ∗ owns (c : Thread nD τ) arg8 fullShare permC) ∗ owns (c : Thread nD τ) arg7 fullShare (filled x3 permC) ∗ owns (c : Thread nD τ) arg9 fullShare expC) -∗ Q (handed i (scaleRow i x4) (blockScales x5))))
      ⊢ wp frame (wpE (defs₀ (F := F)) Variants.none c none) Set.univ (k0_part8 (F := F) i tbM0_0 htbM0_0 arg3 harg3 arg4 harg4 arg5 harg5 arg6 harg6 arg7 harg7 arg8 harg8 arg9 harg9 arg10 harg10) Q := by
  simp only [k0_part8_eq_skeleton]; unfold k0_part8_skel
  simp only [dif_pos h1, dif_pos h2, k0_part1_eq_skeleton, k0_part2_eq_skeleton, k0_part3_eq_skeleton, k0_part4_eq_skeleton, k0_part5_eq_skeleton]
  have e4 : scaleRow i x4 = arg4.view.readAt (Elt F) (Rect.unit (s := S120x128) (k0_off3 i) S1x128.size (k0_off3_inb i)).toLoadRect (harg4.unread x4) := by
    rw [View.readAt_eq_ld, harg4.read_unread]
  have e5 : blockScales x5 = arg5.view.readAt (Elt F) (Rect.unit (s := S128x128) ![0, 0] S128x128.size inb_S128x128_S128x128_0_0).toLoadRect (harg5.unread x5) := by
    rw [View.readAt_eq_ld, harg5.read_unread]
  rw [e4, e5]
  unfold owns
  iintro ⟨⟨⟨%f3, %hf3, H3⟩, ⟨%f4, %hf4, H4⟩, ⟨%f5, %hf5, H5⟩, ⟨%d7, %f7, -, H7⟩, ⟨%d8, %f8, -, H8⟩, ⟨%d9, %f9, -, H9⟩⟩, Hk⟩
  obtain rfl := harg3.eq_unread hf3; obtain rfl := harg4.eq_unread hf4; obtain rfl := harg5.eq_unread hf5
  sl_exec
  sl_step
  iapply Hk
  have h8 : ∀ X, X = arg8.view.writes (Elt F) arg8.view.junk permL → arg8.view.read (Elt F) X = permC := by
    rintro X rfl; exact View.read_writes_junk_eq_canon arg8.view permL
  have h9 : ∀ X, X = arg9.view.writes (Elt F) arg9.view.junk expL → arg9.view.read (Elt F) X = expC := by
    rintro X rfl; exact View.read_writes_junk_eq_canon arg9.view expL
  have h7 : arg7.view.read (Elt F) f7L0 = filled x3 permC := by
    funext y
    have hy : (y 0).val < 15360 := (y 0).isLt
    have ht := trips_eq
    refine (hL0 y (by show (y 0).val < 1024 * k0_t1_loop.trips; rw [ht]; omega)).trans ?_
    exact congrArg₂ (fun X P => filled X P y) (harg3.read_unread x3) (h8 _ rfl)
  isplitl [H3 H4 H5 H8]
  · isplitl [H3]; · iapply (own_read arg3 (harg3.read_unread _)); iexact H3
    isplitl [H4]; · iapply (own_read arg4 (harg4.read_unread _)); iexact H4
    isplitl [H5]; · iapply (own_read arg5 (harg5.read_unread _)); iexact H5
    iapply (own_read arg8 (h8 _ rfl)); iexact H8
  isplitl [H7]; · iapply (own_read arg7 h7); iexact H7
  iapply (own_read arg9 (h9 _ rfl)); iexact H9

set_option maxHeartbeats 40000000 in
/-- The first part of the body at the first point of a later group: it expands the group's inputs. -/
theorem head_group (c : Dev nD) (i : grid0.Coords) (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg7 : Memref sig .tc .vmem S15360x128 .f32) (harg7 : arg7.IsWhole) (arg8 : Memref sig .tc .vmem S1024x1024 .bf16) (harg8 : arg8.IsWhole) (arg9 : Memref sig .tc .vmem S2x128x128 .fp8e4m3) (harg9 : arg9.IsWhole) (arg10 : Memref sig .tc .vmem S128x128 .f32) (harg10 : arg10.IsWhole) (h1 : ¬cond0_0 i) (h2 : k0_cond2 i = 1#1)
    (x3 : Vec F S1920x1024 .bf16) (x4 : Vec F S120x128 .f32) (x5 : Vec F S128x128 .fp8e4m3)  (Q : (Σ' (arg0 : BitVec 32) (arg1 : BitVec 32) (v12 : FVec F S128x128 .f32) (v35 : IVec S128x128 1) (v37 : FVec F S128x128 .f32), F .f32) → sProp 𝕄) :
    iprop((owns (c : Thread nD τ) arg3 fullShare x3 ∗ owns (c : Thread nD τ) arg4 fullShare x4 ∗ owns (c : Thread nD τ) arg5 fullShare x5 ∗ (∃ d, owns (c : Thread nD τ) arg7 fullShare d) ∗ owns (c : Thread nD τ) arg8 fullShare permC ∗ owns (c : Thread nD τ) arg9 fullShare expC) ∗ (iprop((owns (c : Thread nD τ) arg3 fullShare x3 ∗ owns (c : Thread nD τ) arg4 fullShare x4 ∗ owns (c : Thread nD τ) arg5 fullShare x5 ∗ owns (c : Thread nD τ) arg8 fullShare permC) ∗ owns (c : Thread nD τ) arg7 fullShare (filled x3 permC) ∗ owns (c : Thread nD τ) arg9 fullShare expC) -∗ Q (handed i (scaleRow i x4) (blockScales x5))))
      ⊢ wp frame (wpE (defs₀ (F := F)) Variants.none c none) Set.univ (k0_part8 (F := F) i tbM0_0 htbM0_0 arg3 harg3 arg4 harg4 arg5 harg5 arg6 harg6 arg7 harg7 arg8 harg8 arg9 harg9 arg10 harg10) Q := by
  simp only [k0_part8_eq_skeleton]; unfold k0_part8_skel
  simp only [dif_neg h1, dif_pos h2]
  have e4 : scaleRow i x4 = arg4.view.readAt (Elt F) (Rect.unit (s := S120x128) (k0_off3 i) S1x128.size (k0_off3_inb i)).toLoadRect (harg4.unread x4) := by
    rw [View.readAt_eq_ld, harg4.read_unread]
  have e5 : blockScales x5 = arg5.view.readAt (Elt F) (Rect.unit (s := S128x128) ![0, 0] S128x128.size inb_S128x128_S128x128_0_0).toLoadRect (harg5.unread x5) := by
    rw [View.readAt_eq_ld, harg5.read_unread]
  rw [e4, e5]
  unfold owns
  iintro ⟨⟨⟨%f3, %hf3, H3⟩, ⟨%f4, %hf4, H4⟩, ⟨%f5, %hf5, H5⟩, ⟨%d7, %f7, -, H7⟩, ⟨%f8, %hf8, H8⟩, ⟨%f9, %hf9, H9⟩⟩, Hk⟩
  obtain rfl := harg3.eq_unread hf3; obtain rfl := harg4.eq_unread hf4; obtain rfl := harg5.eq_unread hf5
  obtain rfl := harg8.eq_unread hf8; obtain rfl := harg9.eq_unread hf9
  sl_exec
  sl_step
  iapply Hk
  have h7 : arg7.view.read (Elt F) f7L0 = filled x3 permC := by
    funext y
    have hy : (y 0).val < 15360 := (y 0).isLt
    have ht := trips_eq
    refine (hL0 y (by show (y 0).val < 1024 * k0_t1_loop.trips; rw [ht]; omega)).trans ?_
    rw [harg3.read_unread, harg8.read_unread]
  isplitl [H3 H4 H5 H8]
  · isplitl [H3]; · iapply (own_read arg3 (harg3.read_unread _)); iexact H3
    isplitl [H4]; · iapply (own_read arg4 (harg4.read_unread _)); iexact H4
    isplitl [H5]; · iapply (own_read arg5 (harg5.read_unread _)); iexact H5
    iapply (own_read arg8 (harg8.read_unread _)); iexact H8
  isplitl [H7]; · iapply (own_read arg7 h7); iexact H7
  iapply (own_read arg9 (harg9.read_unread _)); iexact H9

set_option maxHeartbeats 40000000 in
/-- The first part of the body at every other point: the scratch is kept. -/
theorem head_rest (c : Dev nD) (i : grid0.Coords) (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg7 : Memref sig .tc .vmem S15360x128 .f32) (harg7 : arg7.IsWhole) (arg8 : Memref sig .tc .vmem S1024x1024 .bf16) (harg8 : arg8.IsWhole) (arg9 : Memref sig .tc .vmem S2x128x128 .fp8e4m3) (harg9 : arg9.IsWhole) (arg10 : Memref sig .tc .vmem S128x128 .f32) (harg10 : arg10.IsWhole) (h1 : ¬cond0_0 i) (h2 : ¬k0_cond2 i = 1#1)
    (x3 : Vec F S1920x1024 .bf16) (x4 : Vec F S120x128 .f32) (x5 : Vec F S128x128 .fp8e4m3) (xs0 : Vec F S15360x128 .f32) (Q : (Σ' (arg0 : BitVec 32) (arg1 : BitVec 32) (v12 : FVec F S128x128 .f32) (v35 : IVec S128x128 1) (v37 : FVec F S128x128 .f32), F .f32) → sProp 𝕄) :
    iprop((owns (c : Thread nD τ) arg3 fullShare x3 ∗ owns (c : Thread nD τ) arg4 fullShare x4 ∗ owns (c : Thread nD τ) arg5 fullShare x5 ∗ owns (c : Thread nD τ) arg7 fullShare xs0 ∗ owns (c : Thread nD τ) arg8 fullShare permC ∗ owns (c : Thread nD τ) arg9 fullShare expC) ∗ (iprop((owns (c : Thread nD τ) arg3 fullShare x3 ∗ owns (c : Thread nD τ) arg4 fullShare x4 ∗ owns (c : Thread nD τ) arg5 fullShare x5 ∗ owns (c : Thread nD τ) arg8 fullShare permC) ∗ owns (c : Thread nD τ) arg7 fullShare xs0 ∗ owns (c : Thread nD τ) arg9 fullShare expC) -∗ Q (handed i (scaleRow i x4) (blockScales x5))))
      ⊢ wp frame (wpE (defs₀ (F := F)) Variants.none c none) Set.univ (k0_part8 (F := F) i tbM0_0 htbM0_0 arg3 harg3 arg4 harg4 arg5 harg5 arg6 harg6 arg7 harg7 arg8 harg8 arg9 harg9 arg10 harg10) Q := by
  simp only [k0_part8_eq_skeleton]; unfold k0_part8_skel
  simp only [dif_neg h1, dif_neg h2]
  have e4 : scaleRow i x4 = arg4.view.readAt (Elt F) (Rect.unit (s := S120x128) (k0_off3 i) S1x128.size (k0_off3_inb i)).toLoadRect (harg4.unread x4) := by
    rw [View.readAt_eq_ld, harg4.read_unread]
  have e5 : blockScales x5 = arg5.view.readAt (Elt F) (Rect.unit (s := S128x128) ![0, 0] S128x128.size inb_S128x128_S128x128_0_0).toLoadRect (harg5.unread x5) := by
    rw [View.readAt_eq_ld, harg5.read_unread]
  rw [e4, e5]
  unfold owns
  iintro ⟨⟨⟨%f3, %hf3, H3⟩, ⟨%f4, %hf4, H4⟩, ⟨%f5, %hf5, H5⟩, ⟨%f7, %hf7, H7⟩, ⟨%f8, %hf8, H8⟩, ⟨%f9, %hf9, H9⟩⟩, Hk⟩
  obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec
  sl_step
  iapply Hk
  isplitl [H3 H4 H5 H8]
  · isplitl [H3]; · iapply (own_read arg3 (harg3.read_unread _)); iexact H3
    isplitl [H4]; · iapply (own_read arg4 (harg4.read_unread _)); iexact H4
    isplitl [H5]; · iapply (own_read arg5 (harg5.read_unread _)); iexact H5
    iapply (own_read arg8 (harg8.read_unread _)); iexact H8
  isplitl [H7]; · iapply (own_read arg7 (harg7.read_unread _)); iexact H7
  iapply (own_read arg9 (harg9.read_unread _)); iexact H9

end Cert.Codes.Gen

end
-- ==== Proof.CodesData.lean ====
/-
The proof data of the codes call: what each window's buffer holds at each grid point, what the scratch carries
between points, and the run of the whole pipeline from them.
-/
module

public import proofs.«01_k».proof.Proof.CodesHead
public import Idealize.ShloMosaic.Lib.Pipeline.ValueKit

@[expose] public section

-- membership in a rectangle of production extents (`View.cover_of_tiled`): the elaborator's structural look
-- recurses once per coordinate of the long axes
set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The prefetched table's words satisfy the body's side condition, at every place the body may load. -/
abbrev Hw : Prop := ∀ (c : Dev nD) off inb, k0_chk1 (srcAt (F := F) c (tbl m 0) off inb)

theorem N_eq (hO : Ok m) : (cfgM m hO).N = 840 := N_0

/-- The columns of the input array that point `t`'s group reads. -/
def x3At (hO : Ok m) (c : Dev nD) (t : Fin (cfgM m hO).N) : Vec F S1920x1024 .bf16 := fun y =>
  V m c main_arg1 (ValueIdx.ix2 (y 0) ⟨1024 * (t.val / 120) + (y 1).val, by
    have h0 : t.val < 840 := lt_of_lt_of_eq t.isLt (N_eq m hO)
    have h1 : (y 1).val < 1024 := (y 1).isLt
    omega⟩ : S1920x7168.Idx)

theorem coords0 (t : Fin grid0.N) : (grid0.coords t 0).val = t.val / 120 := by
  have h0 : t.val < 840 := lt_of_lt_of_eq t.isLt N_0
  have e0 : (grid0.coords t 0).val = t.val / 120 % 7 := Pipeline.Grid.coords_val t 0 (by decide) rfl
  exact e0.trans (Nat.mod_eq_of_lt (by omega))

theorem coords1 (t : Fin grid0.N) : (grid0.coords t 1).val = t.val % 120 := by
  have e0 : (grid0.coords t 1).val = t.val / 1 % 120 := Pipeline.Grid.coords_val t 1 (by decide) rfl
  exact e0.trans (by rw [Nat.div_one])

theorem coords0_lt (t : Fin grid0.N) : (grid0.coords t 0).val < 7 := (grid0.coords t 0).isLt
theorem coords1_lt (t : Fin grid0.N) : (grid0.coords t 1).val < 120 := (grid0.coords t 1).isLt

/-- Window 0 moves with the group. -/
theorem index0 (a : (pcfg0 (F := F)).Adm) (t : Fin grid0.N) : (pcfg0.win a 0).index t = ![0, t.val / 120] := by
  have h1 : t.val / 120 < 7 := coords0 t ▸ coords0_lt t
  show cc0_transform_0 (grid0.coords t) = _
  unfold cc0_transform_0
  simp only [coords0]
  rw [show (BitVec.ofNat 32 (t.val / 120)).toNat = t.val / 120 from by rw [BitVec.toNat_ofNat, Nat.mod_eq_of_lt (by omega)]]; rfl

/-- Window 1 stands. -/
theorem index1 (a : (pcfg0 (F := F)).Adm) (t : Fin grid0.N) : (pcfg0.win a 1).index t = ![0, 0] := rfl

/-- Window 2 moves with the tile and, every second group, by one block of columns. -/
theorem index2 (a : (pcfg0 (F := F)).Adm) (t : Fin grid0.N) : (pcfg0.win a 2).index t = ![t.val % 120, t.val / 120 / 2] := by
  have h1 : t.val / 120 < 7 := coords0 t ▸ coords0_lt t
  show cc0_transform_2 (grid0.coords t) = _
  unfold cc0_transform_2
  simp only [coords0, coords1]
  rw [BitVec.toNat_ofNat, Nat.mod_eq_of_lt (show t.val % 120 < 2 ^ 32 by omega)]
  generalize t.val / 120 = n at h1
  interval_cases n <;> rfl

/-- Window 3 moves with the tile and the group. -/
theorem index3 (a : (pcfg0 (F := F)).Adm) (t : Fin grid0.N) : (pcfg0.win a 3).index t = ![t.val % 120, t.val / 120] := by
  have h1 : t.val / 120 < 7 := coords0 t ▸ coords0_lt t
  show cc0_transform_3 (grid0.coords t) = _
  unfold cc0_transform_3
  simp only [coords0, coords1]
  rw [BitVec.toNat_ofNat, Nat.mod_eq_of_lt (show t.val % 120 < 2 ^ 32 by omega), BitVec.toNat_ofNat, Nat.mod_eq_of_lt (show t.val / 120 < 2 ^ 32 by omega)]

/-- What window 0's buffer holds after a fetch at point `t`. -/
theorem blk0 (hO : Ok m) (c : Dev nD) (t : Fin (cfgM m hO).N) : iblk m hO c 0 t = x3At m hO c t := by
  funext y
  unfold x3At
  blk_ext [iblk, V, index0 (adm m hO) t]

/-- Window 1's block is its whole array. -/
theorem blk1 (hO : Ok m) (c : Dev nD) (t : Fin (cfgM m hO).N) : iblk m hO c 1 t = V m c main_arg2 := by
  funext y
  blk_ext [iblk, V, index1 (adm m hO) t]

/-! ## The relational proof data -/

/-- The pieces that the body leaves in the output block at point `t`, from the block scales `x5` it is handed. -/
noncomputable def outL (hO : Ok m) (hW : Hw m) (c : Dev nD) (t : Fin (cfgM m hO).N) (x5 : Vec F S128x128 .fp8e4m3) : List (View.Piece (Elt F) S128x512 .i8) :=
  (bodyRun c (grid0.coords t) (ms0_0 m hO t) (hs0_0 m hO t) (ms0_1 m hO t) (hs0_1 m hO t) (ms0_2 m hO t) (hs0_2 m hO t) (ms0_3 m hO t) (hs0_3 m hO t)
    scM0_0 (Memref.isWhole_whole _) scM0_1 (Memref.isWhole_whole _) scM0_2 (Memref.isWhole_whole _) scM0_3 (Memref.isWhole_whole _)
    (scaleRow (grid0.coords t) (V m c main_arg2)) (blockScales x5) (filled (x3At m hO c t) permC) expC (tbl m 0) (hW c)).1

theorem outL_cover (hO : Ok m) (hW : Hw m) (c : Dev nD) (t : Fin (cfgM m hO).N) (x5 : Vec F S128x128 .fp8e4m3) :
    ∀ y : S128x512.Idx, ∃ p ∈ outL m hO hW c t x5, y ∈ p.1.set :=
  View.cover_of_tiledL _ S32x128.size (by rfl)

/-- The scratch that point `n + 1` finds, from point `n`'s group. -/
def carried (hO : Ok m) (c : Dev nD) (t : Fin (cfgM m hO).N) : sProp 𝕄 :=
  iprop(owns (c : Thread nD τ) scM0_0 fullShare (filled (x3At m hO c t) permC) ∗ owns (c : Thread nD τ) scM0_1 fullShare permC
    ∗ owns (c : Thread nD τ) scM0_2 fullShare expC ∗ (∃ d, owns (c : Thread nD τ) scM0_3 fullShare d))

/-- The invariant before point `n`: at the first point the scratch holds anything; later it holds the expanded inputs of
    the group of the point before. The generator register and the table's half ride along. -/
def PhiR (hO : Ok m) (c : Dev nD) : (n : ℕ) → n ≤ (cfgM m hO).N → sProp 𝕄
  | 0, _ => iprop(Pipeline.ΦA spec0 c ∗ Pipeline.ΦT pre0 (tbl m) c)
  | n + 1, h => iprop((carried m hO c ⟨n, h⟩ ∗ (∃ r, prngReg c r)) ∗ Pipeline.ΦT pre0 (tbl m) c)

/-- The proof data: an input's buffer is left as found; the output's holds the body's pieces, for some block scales that
    a fetch could have left in window 2's buffer. -/
def rdat (hO : Ok m) (hW : Hw m) (c : Dev nD) : Pipeline.RDat τ (Elt F) Unit ℕ (UR sig nD τ) ℕ ((Pipeline.pin pcfgs fun _ => adm m hO) 0) c where
  A w := V m c (Pipeline.arrRef spec0 w)
  after w t Y X := match w with
    | 0 => X = Y
    | 1 => X = Y
    | 2 => X = Y
    | 3 => ∃ d, X = View.canon (outL m hO hW c t (((cfgM m hO).win 2).fill ((cfgM m hO).grid.coords t) d (iblk m hO c 2 t)))
  Φ t := PhiR m hO c t.val (Nat.le_of_lt_succ t.isLt)
  q _ := fullShare
  owed _ := 0

/-- Block 0 of a group is the same at each of its points. -/
theorem x3At_congr (hO : Ok m) (c : Dev nD) (t t' : Fin (cfgM m hO).N) (h : t.val / 120 = t'.val / 120) : x3At m hO c t = x3At m hO c t' := by
  funext y; unfold x3At; simp only [h]

theorem finds0 (hO : Ok m) (hW : Hw m) (c : Dev nD) (t : Fin (cfgM m hO).N) (Y) (h : (rdat m hO hW c).Finds 0 t Y) : Y = x3At m hO c t := by
  obtain ⟨d, hd⟩ := (rdat m hO hW c).finds_in_eq_fetched 0 rfl (fun _ _ _ => rfl) (fun t Y X h => h) t Y h
  exact hd.trans (blk0 m hO c t)

theorem finds1 (hO : Ok m) (hW : Hw m) (c : Dev nD) (t : Fin (cfgM m hO).N) (Y) (h : (rdat m hO hW c).Finds 1 t Y) : Y = V m c main_arg2 := by
  obtain ⟨d, hd⟩ := (rdat m hO hW c).finds_in_eq_fetched 1 rfl (fun _ _ _ => rfl) (fun t Y X h => h) t Y h
  exact hd.trans (blk1 m hO c t)

theorem fetch2 (a : (pcfg0 (F := F)).Adm) : ∀ t : Fin (cfg0 a).N, ((cfg0 a).win 2).fetch t = true :=
  (by decide +kernel : ∀ t : Fin grid0.N, Pipeline.Window.fetchOf grid0 false cc0_transform_2 t = true)

theorem finds2 (hO : Ok m) (hW : Hw m) (c : Dev nD) (t : Fin (cfgM m hO).N) (Y) (h : (rdat m hO hW c).Finds 2 t Y) :
    ∃ d, Y = ((cfgM m hO).win 2).fill ((cfgM m hO).grid.coords t) d (iblk m hO c 2 t) :=
  ((rdat m hO hW c).finds_of_fetch (fetch2 (adm m hO) t) Y).mp h

/-- The body at point `t` from the scratch of the point before: `R` is what the first part is handed. -/
theorem sound_body (hO : Ok m) (hW : Hw m) (c : Dev nD) (t : Fin (cfgM m hO).N) (x5 : Vec F S128x128 .fp8e4m3) (K : PUnit → sProp 𝕄) :
    iprop(PhiR m hO c t.val (Nat.le_of_lt t.isLt)
      ∗ owns (c : Thread nD τ) (ms0_0 m hO t) fullShare (x3At m hO c t)
      ∗ owns (c : Thread nD τ) (ms0_1 m hO t) fullShare (V m c main_arg2)
      ∗ owns (c : Thread nD τ) (ms0_2 m hO t) fullShare x5
      ∗ (∃ d, owns (c : Thread nD τ) (ms0_3 m hO t) fullShare d)
      ∗ (iprop(PhiR m hO c (t.val + 1) t.isLt
        ∗ owns (c : Thread nD τ) (ms0_0 m hO t) fullShare (x3At m hO c t)
        ∗ owns (c : Thread nD τ) (ms0_1 m hO t) fullShare (V m c main_arg2)
        ∗ owns (c : Thread nD τ) (ms0_2 m hO t) fullShare x5
        ∗ owns (c : Thread nD τ) (ms0_3 m hO t) fullShare (View.canon (outL m hO hW c t x5))) -∗ K ⟨⟩))
      ⊢ wp frame (wpE (defs₀ (F := F)) Variants.none c none) Set.univ (bodyAt0 (adm m hO) t) K := by
  have hN : t.val < 840 := lt_of_lt_of_eq t.isLt (N_eq m hO)
  have run := fun R R' hp8 => (bodyRun c (grid0.coords t) (ms0_0 m hO t) (hs0_0 m hO t) (ms0_1 m hO t) (hs0_1 m hO t) (ms0_2 m hO t) (hs0_2 m hO t) (ms0_3 m hO t) (hs0_3 m hO t)
      scM0_0 (Memref.isWhole_whole _) scM0_1 (Memref.isWhole_whole _) scM0_2 (Memref.isWhole_whole _) scM0_3 (Memref.isWhole_whole _)
    (scaleRow (grid0.coords t) (V m c main_arg2)) (blockScales x5) (filled (x3At m hO c t) permC) expC (tbl m 0) (hW c)).2 Set.univ K R R' hp8
  have fin : ∀ f, (ms0_3 m hO t).view.read (Elt F) ((ms0_3 m hO t).view.writes (Elt F) f (outL m hO hW c t x5)) = View.canon (outL m hO hW c t x5) :=
    fun f => View.read_writes_eq_canon _ _ _ (outL_cover m hO hW c t x5)
  rw [show PhiR m hO c (t.val + 1) t.isLt = iprop((carried m hO c t ∗ (∃ r, prngReg c r)) ∗ Pipeline.ΦT pre0 (tbl m) c) from rfl]
  by_cases hz : t.val = 0
  · have hP : PhiR m hO c t.val (Nat.le_of_lt t.isLt) = iprop(Pipeline.ΦA spec0 c ∗ Pipeline.ΦT pre0 (tbl m) c) := by
      have : ∀ n (h : n ≤ (cfgM m hO).N), n = 0 → PhiR m hO c n h = iprop(Pipeline.ΦA spec0 c ∗ Pipeline.ΦT pre0 (tbl m) c) := by
        rintro n h rfl; rfl
      exact this _ _ hz
    rw [hP, PhiA0_eq, PhiT0_eq]
    iintro ⟨HΦ, H0, H1, H2, H3, Hk⟩
    icases HΦ with ⟨⟨⟨HS0, HS1, HS2, HS3⟩, Hg⟩, HT⟩
    iapply (run _ _ (fun Q => head_first c (grid0.coords t) (ms0_0 m hO t) (hs0_0 m hO t) (ms0_1 m hO t) (hs0_1 m hO t) (ms0_2 m hO t) (hs0_2 m hO t) (ms0_3 m hO t) (hs0_3 m hO t)
      scM0_0 (Memref.isWhole_whole _) scM0_1 (Memref.isWhole_whole _) scM0_2 (Memref.isWhole_whole _) scM0_3 (Memref.isWhole_whole _) ((hcond0_0 t).mpr (by omega)) ((hcond0_1 t).mpr (by omega)) (x3At m hO c t) (V m c main_arg2) x5 Q))
    isplitl [H0 H1 H2 HS0 HS1 HS2]
    · isplitl [H0]; · iexact H0
      isplitl [H1]; · iexact H1
      isplitl [H2]; · iexact H2
      isplitl [HS0]; · iexact HS0
      isplitl [HS1]; · iexact HS1
      iexact HS2
    isplitl [H3]; · iexact H3
    isplitl [HS3]; · iexact HS3
    isplitl [HT]; · iexact HT
    iintro ⟨⟨H0, H1, H2, HS1⟩, HS0, HS2, ⟨%f3, H3⟩, HS3, HT⟩
    iapply Hk
    isplitl [HS0 HS1 HS2 HS3 Hg HT]
    · isplitr [HT]
      · isplitr [Hg]
        · try unfold carried
          isplitl [HS0]; · iexact HS0
          isplitl [HS1]; · iexact HS1
          isplitl [HS2]; · iexact HS2
          iexact HS3
        · iexact Hg
      · iexact HT
    isplitl [H0]; · iexact H0
    isplitl [H1]; · iexact H1
    isplitl [H2]; · iexact H2
    unfold owns; iexists _; isplitr; swap; · iexact H3
    ipureintro; exact fin f3
  · obtain ⟨t', ht', hP⟩ : ∃ t' : Fin (cfgM m hO).N, t'.val + 1 = t.val ∧ PhiR m hO c t.val (Nat.le_of_lt t.isLt)
        = iprop((carried m hO c t' ∗ (∃ r, prngReg c r)) ∗ Pipeline.ΦT pre0 (tbl m) c) := by
      have : ∀ n (h : n ≤ (cfgM m hO).N), n ≠ 0 → ∃ t' : Fin (cfgM m hO).N, t'.val + 1 = n ∧ PhiR m hO c n h
          = iprop((carried m hO c t' ∗ (∃ r, prngReg c r)) ∗ Pipeline.ΦT pre0 (tbl m) c) := by
        rintro (_ | n) h h0
        · exact absurd rfl h0
        · exact ⟨⟨n, h⟩, rfl, rfl⟩
      exact this _ _ hz
    rw [hP, PhiT0_eq]
    by_cases hg : t.val % 120 = 0
    · unfold carried
      iintro ⟨HΦ, H0, H1, H2, H3, Hk⟩
      icases HΦ with ⟨⟨⟨HS0, HS1, HS2, HS3⟩, Hg⟩, HT⟩
      iapply (run _ _ (fun Q => head_group c (grid0.coords t) (ms0_0 m hO t) (hs0_0 m hO t) (ms0_1 m hO t) (hs0_1 m hO t) (ms0_2 m hO t) (hs0_2 m hO t) (ms0_3 m hO t) (hs0_3 m hO t)
        scM0_0 (Memref.isWhole_whole _) scM0_1 (Memref.isWhole_whole _) scM0_2 (Memref.isWhole_whole _) scM0_3 (Memref.isWhole_whole _) (fun h => absurd ((hcond0_0 t).mp h) (by omega)) ((hcond0_1 t).mpr hg) (x3At m hO c t) (V m c main_arg2) x5 Q))
      isplitl [H0 H1 H2 HS0 HS1 HS2]
      · isplitl [H0]; · iexact H0
        isplitl [H1]; · iexact H1
        isplitl [H2]; · iexact H2
        isplitl [HS0]; · iexists _; iexact HS0
        isplitl [HS1]; · iexact HS1
        iexact HS2
      isplitl [H3]; · iexact H3
      isplitl [HS3]; · iexact HS3
      isplitl [HT]; · iexact HT
      iintro ⟨⟨H0, H1, H2, HS1⟩, HS0, HS2, ⟨%f3, H3⟩, HS3, HT⟩
      iapply Hk
      isplitl [HS0 HS1 HS2 HS3 Hg HT]
      · isplitr [HT]
        · isplitr [Hg]
          · try unfold carried
            isplitl [HS0]; · iexact HS0
            isplitl [HS1]; · iexact HS1
            isplitl [HS2]; · iexact HS2
            iexact HS3
          · iexact Hg
        · iexact HT
      isplitl [H0]; · iexact H0
      isplitl [H1]; · iexact H1
      isplitl [H2]; · iexact H2
      unfold owns; iexists _; isplitr; swap; · iexact H3
      ipureintro; exact fin f3
    · rw [show carried m hO c t' = carried m hO c t by unfold carried; rw [x3At_congr m hO c t' t (by omega)]]
      unfold carried
      iintro ⟨HΦ, H0, H1, H2, H3, Hk⟩
      icases HΦ with ⟨⟨⟨HS0, HS1, HS2, HS3⟩, Hg⟩, HT⟩
      iapply (run _ _ (fun Q => head_rest c (grid0.coords t) (ms0_0 m hO t) (hs0_0 m hO t) (ms0_1 m hO t) (hs0_1 m hO t) (ms0_2 m hO t) (hs0_2 m hO t) (ms0_3 m hO t) (hs0_3 m hO t)
        scM0_0 (Memref.isWhole_whole _) scM0_1 (Memref.isWhole_whole _) scM0_2 (Memref.isWhole_whole _) scM0_3 (Memref.isWhole_whole _) (fun h => absurd ((hcond0_0 t).mp h) (by omega)) (fun h => hg ((hcond0_1 t).mp h)) (x3At m hO c t) (V m c main_arg2) x5 (filled (x3At m hO c t) permC) Q))
      isplitl [H0 H1 H2 HS0 HS1 HS2]
      · isplitl [H0]; · iexact H0
        isplitl [H1]; · iexact H1
        isplitl [H2]; · iexact H2
        isplitl [HS0]; · iexact HS0
        isplitl [HS1]; · iexact HS1
        iexact HS2
      isplitl [H3]; · iexact H3
      isplitl [HS3]; · iexact HS3
      isplitl [HT]; · iexact HT
      iintro ⟨⟨H0, H1, H2, HS1⟩, HS0, HS2, ⟨%f3, H3⟩, HS3, HT⟩
      iapply Hk
      isplitl [HS0 HS1 HS2 HS3 Hg HT]
      · isplitr [HT]
        · isplitr [Hg]
          · try unfold carried
            isplitl [HS0]; · iexact HS0
            isplitl [HS1]; · iexact HS1
            isplitl [HS2]; · iexact HS2
            iexact HS3
          · iexact Hg
        · iexact HT
      isplitl [H0]; · iexact H0
      isplitl [H1]; · iexact H1
      isplitl [H2]; · iexact H2
      unfold owns; iexists _; isplitr; swap; · iexact H3
      ipureintro; exact fin f3

attribute [irreducible] outL

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem Phi_eq (hO : Ok m) (hW : Hw m) (c : Dev nD) (t : Fin ((cfgM m hO).N + 1)) :
    (rdat m hO hW c).Φ t = PhiR m hO c t.val (Nat.le_of_lt_succ t.isLt) := rfl
theorem PhiR_congr (hO : Ok m) (c : Dev nD) (n n' : ℕ) (h : n ≤ (cfgM m hO).N) (h' : n' ≤ (cfgM m hO).N) (e : n = n') : PhiR m hO c n h = PhiR m hO c n' h' := by
  subst e; rfl
theorem Phi_succ (hO : Ok m) (hW : Hw m) (c : Dev nD) (t : Fin (cfgM m hO).N) :
    (rdat m hO hW c).Φ t.succ = PhiR m hO c (t.val + 1) t.isLt := (Phi_eq m hO hW c _).trans (PhiR_congr m hO c _ _ _ _ (Fin.val_succ t))
theorem Phi_castSucc (hO : Ok m) (hW : Hw m) (c : Dev nD) (t : Fin (cfgM m hO).N) :
    (rdat m hO hW c).Φ t.castSucc = PhiR m hO c t.val (le_of_lt t.isLt) := (Phi_eq m hO hW c _).trans (PhiR_congr m hO c _ _ _ _ (Fin.val_castSucc t))
theorem owes_succ (hO : Ok m) (hW : Hw m) (c : Dev nD) (t : Fin (cfgM m hO).N) :
    (rdat m hO hW c).owesAt () t.succ = (rdat m hO hW c).owesAt () t.castSucc := rfl

/-- The body at point `t`, from what the pipeline may hand it to what the relation allows it to leave. -/
theorem sound_point (hO : Ok m) (hW : Hw m) (c : Dev nD) (t : Fin (cfgM m hO).N)
    (Y0 : Vec F S1920x1024 .bf16) (Y1 : Vec F S120x128 .f32) (Y2 : Vec F S128x128 .fp8e4m3) (Y3 : Vec F S128x512 .i8)
    (h0 : (rdat m hO hW c).Finds 0 t Y0) (h1 : (rdat m hO hW c).Finds 1 t Y1) (h2 : (rdat m hO hW c).Finds 2 t Y2) :
    iprop((rdat m hO hW c).Φ t.castSucc ∗ (rdat m hO hW c).owesAt () t.castSucc
      ∗ owns (c : Thread nD τ) (ms0_0 m hO t) fullShare Y0 ∗ owns (c : Thread nD τ) (ms0_1 m hO t) fullShare Y1
      ∗ owns (c : Thread nD τ) (ms0_2 m hO t) fullShare Y2 ∗ owns (c : Thread nD τ) (ms0_3 m hO t) fullShare Y3)
    ⊢ wp frame (wpE (defs₀ (F := F)) Variants.none c none) Set.univ (bodyAt0 (adm m hO) t) (fun _ =>
      iprop((rdat m hO hW c).Φ t.succ ∗ (rdat m hO hW c).owesAt () t.succ
        ∗ (∃ X, ⌜(rdat m hO hW c).after 0 t Y0 X⌝ ∗ owns (c : Thread nD τ) (ms0_0 m hO t) fullShare X)
        ∗ (∃ X, ⌜(rdat m hO hW c).after 1 t Y1 X⌝ ∗ owns (c : Thread nD τ) (ms0_1 m hO t) fullShare X)
        ∗ (∃ X, ⌜(rdat m hO hW c).after 2 t Y2 X⌝ ∗ owns (c : Thread nD τ) (ms0_2 m hO t) fullShare X)
        ∗ (∃ X, ⌜(rdat m hO hW c).after 3 t Y3 X⌝ ∗ owns (c : Thread nD τ) (ms0_3 m hO t) fullShare X))) := by
  obtain rfl := finds0 m hO hW c t _ h0
  obtain rfl := finds1 m hO hW c t _ h1
  obtain ⟨d, rfl⟩ := finds2 m hO hW c t _ h2
  rw [owes_succ m hO hW c t, Phi_succ m hO hW c t, Phi_castSucc m hO hW c t]
  iintro ⟨HΦ, Ho, H0, H1, H2, H3⟩
  iapply (sound_body m hO hW c t _)
  isplitl [HΦ]; · iexact HΦ
  isplitl [H0]; · iexact H0
  isplitl [H1]; · iexact H1
  isplitl [H2]; · iexact H2
  isplitl [H3]; · iexists _; iexact H3
  iintro ⟨HΦ, H0, H1, H2, H3⟩
  isplitl [HΦ]; · iexact HΦ
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  iexists _; isplitr; swap; · iexact H3
  ipureintro; exact ⟨d, rfl⟩

/-- The library's body obligation, at every point. -/
theorem body_obligation (hO : Ok m) (hW : Hw m) (c : Dev nD) : (rdat m hO hW c).BodyObligation (defs₀ (F := F)) Variants.none () Set.univ := by
  intro t Y hY
  rw [bigSep_W0, bigSep_W0, defs₀_row m hO]
  exact triple_restated (sound_point m hO hW c t (Y 0) (Y 1) (Y 2) (Y 3) (hY 0) (hY 1) (hY 2)) rfl .rfl fun _ => .rfl

theorem hin (hO : Ok m) (hW : Hw m) (c : Dev nD) : iprop(Pipeline.ΦA spec0 c ∗ Pipeline.ΦT pre0 (tbl m) c) ⊢ (rdat m hO hW c).Φ 0 :=
  Idealize.SL.BI.Entails.refl _

theorem hout (hO : Ok m) (hW : Hw m) (c : Dev nD) : (rdat m hO hW c).Φ (Fin.last (cfgM m hO).N) ⊢ Pipeline.ΦA spec0 c := by
  have : ∀ n (h : n ≤ (cfgM m hO).N), n ≠ 0 → PhiR m hO c n h ⊢ Pipeline.ΦA spec0 c := by
    rintro (_ | n) h h0
    · exact absurd rfl h0
    · rw [show PhiR m hO c (n + 1) h = iprop((carried m hO c ⟨n, h⟩ ∗ (∃ r, prngReg c r)) ∗ Pipeline.ΦT pre0 (tbl m) c) from rfl, PhiA0_eq]
      unfold carried
      iintro ⟨⟨⟨HS0, HS1, HS2, HS3⟩, Hg⟩, -⟩
      isplitr [Hg]
      · isplitl [HS0]; · iexists _; iexact HS0
        isplitl [HS1]; · iexists _; iexact HS1
        isplitl [HS2]; · iexists _; iexact HS2
        iexact HS3
      iexact Hg
  exact this (cfgM m hO).N _ (by rw [N_eq]; omega)

-- the launch theorem's implicit arguments are found by unifying its conclusion with this one, which takes unfolding plain
-- definitions in a metavariable's type
set_option backward.isDefEq.respectTransparency.types false in
/-- The run of the whole program: it ends with the arrays in the data's relation, and every semaphore at zero. -/
theorem run_main (hO : Ok m) (hW : Hw m) : θ_run defs (onTc (τ := τ) (main (F := F))) (s₀ m ρ)
    (fun r => Pipeline.RDat.FramePost ((Pipeline.pin pcfgs fun _ => adm m hO) 0) (rdat m hO hW) (V m) r ∧ r.2.sem = fun _ => 0) :=
  Pipeline.RDat.θ_run_frameP_track (Q' := _) pcfgs (fun _ => adm m hO) (0 : Fin 1) launch0 defs₀ Variants.none (rdat m hO hW) m ρ main
    (hbody := body_obligation m hO hW) (hshare := fun c => (rdat m hO hW c).share_full fun _ => rfl)
    (howed := fun _ _ => rfl) (V := V m) (hmain := hmain m Variants.none) (hA := fun _ _ => rfl) (hpf := V_pre m) (hin := hin m hO hW) (hout := hout m hO hW)

/-- The frame: the program ends, its arguments as they were and every semaphore at zero. -/
theorem frame (hO : Ok m) (hW : Hw m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ hO (rdat m hO hW) (fun _ _ => rfl) ((θ_run defs _ _).mono (fun _ h => h.1) (run_main m ρ hO hW)))
    ((θ_run defs _ _).mono (fun _ h => h.2) (run_main m ρ hO hW))

end Cert.Codes.Gen

end
-- ==== Proof.CodesPre.lean ====
/- The precondition of the codes call (every word of the source table is the number of a token) gives the side condition
   that the body assumes of each word it loads: the eight rows of that token's expanded inputs lie inside the scratch buffer. -/
module

public import proofs.«01_k».proof.Defs
public import proofs.«01_k».proof.Proof.CodesData
public import proofs.«01_k».proof.Proof.Gen.Pre_src_in_range

@[expose] public section

namespace Cert.Codes.Gen

open Idealize.ShloMosaic Idealize.ShloMosaic.TcCoe

/-- A word below 1920 names eight rows, aligned at eight, of the 15360 rows of expanded inputs. -/
theorem chk1_of_lt (w : BitVec 32) (h : w.toNat < 1920) : k0_chk1 w := by
  have e : (w * 8#32).toNat = w.toNat * 8 := by
    rw [BitVec.toNat_mul]
    exact Nat.mod_eq_of_lt (by simp; omega)
  unfold k0_chk1 k0_mult1 k0_off6
  refine ⟨?_, fun a => ?_⟩
  · simp only [Scalar.muli, IntOp.muli]
    rw [e]
    exact Dvd.intro_left _ rfl
  · fin_cases a
    · simp [Scalar.indexCast, Scalar.muli, IntOp.muli]
      omega
    · simp

/-- Every word of the source table is the number of a token. -/
theorem src_lt (m : (ℓ : Loc nD τ sig) → Buf (Elt Bits) ℓ) (h : Cert.Pre_Codes m) (c : Dev nD) (y : S15360.Idx) :
    (m ((c : Thread nD τ).loc main_arg0) y).toNat < 1920 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun (h c) y
  simp only [Pre_src_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- The precondition gives the body's side condition. -/
theorem hw_of_pre (m : (ℓ : Loc nD τ sig) → Buf (Elt Bits) ℓ) (h : Cert.Pre_Codes m) : Hw m := by
  intro c off inb
  refine chk1_of_lt _ ?_
  have key : ∃ y : S15360.Idx, srcAt (F := Bits) c (tbl m 0) off inb = m (((0 : Dev nD) : Thread nD τ).loc main_arg0) y :=
    ⟨(Rect.unit (s := S15360) off S1.size inb).toLoadRect.idx (Shape.Idx.first (numel1_S1.symm ▸ Nat.one_pos)), rfl⟩
  obtain ⟨y, hy⟩ := key
  rw [hy]
  exact src_lt m h 0 y

end Cert.Codes.Gen
-- ==== Proof.CodesIdealKit.lean ====
/-
The launch facts about the codes call that its proof starts from: the arrays at the region's entry, the prefetched
table, the branch conditions in closed form, the staging memrefs, and how the frame claim follows from a run.
-/
module

public import proofs.«01_k».proof.Proof.Gen.CodesIdeal.Launch
public import proofs.«01_k».proof.Proof.Gen.CodesIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.CodesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S15360 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Codes`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 840 = 0 :=
  (fun t => by
    have ht : t.val < 840 := Nat.lt_of_lt_of_eq t.isLt N_0
    have e0 : (grid0.coords t 0).val = t.val / 120 % 7 := Pipeline.Grid.coords_val t 0 (by decide) rfl
    have e1 : (grid0.coords t 1).val = t.val / 1 % 120 := Pipeline.Grid.coords_val t 1 (by decide) rfl
    simp only [cond0_0, e0, e1]
    word_cmp
   : ∀ t : Fin grid0.N, cond0_0 (grid0.coords t) ↔ t.val % 840 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 120) — by arithmetic of the point. -/
theorem hcond0_1 : ∀ t : Fin grid0.N, cond0_1 (grid0.coords t) ↔ t.val % 120 = 0 :=
  (fun t => by
    have ht : t.val < 840 := Nat.lt_of_lt_of_eq t.isLt N_0
    have e0 : (grid0.coords t 0).val = t.val / 120 % 7 := Pipeline.Grid.coords_val t 0 (by decide) rfl
    have e1 : (grid0.coords t 1).val = t.val / 1 % 120 := Pipeline.Grid.coords_val t 1 (by decide) rfl
    simp only [cond0_1, e0, e1]
    word_cmp
   : ∀ t : Fin grid0.N, cond0_1 (grid0.coords t) ↔ t.val % 120 = 0)

/-! ## The staging memrefs and the scratch operands -/

abbrev ms0_0 (hO : Ok m) (t : Fin (cfgM m hO).N) : Memref sig .tc .vmem S1920x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S120x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S128x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S128x512 .i8 := spec0_3.stage ((cfgM m hO).slots t 3)
abbrev hs0_3 (hO : Ok m) (t : Fin (cfgM m hO).N) : (ms0_3 m hO t).IsWhole := hstage0_3 (((cfgM m hO).slots t 3).cast nbuf0_3)

/-- Window 3 (result 0 (%0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_codes (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _)

/-- The scratch operands: whole scoped buffers of the kernel's own, passed beside the windows. -/
abbrev scM0_0 : Memref sig .tc .vmem S15360x128 .f32 := Memref.whole cc0_scratch0
abbrev scM0_1 : Memref sig .tc .vmem S1024x1024 .bf16 := Memref.whole cc0_scratch1
abbrev scM0_2 : Memref sig .tc .vmem S2x128x128 .fp8e4m3 := Memref.whole cc0_scratch2
abbrev scM0_3 : Memref sig .tc .vmem S128x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.CodesIdeal.Gen

end
-- ==== Proof.CodesIdealRun.lean ====
/-
The run of one grid point of the codes call after its two conditionals: from the expanded inputs held in scratch,
the reciprocals of the row scales and then the sixteen stored pieces of the output block.
-/
module

public import proofs.«01_k».proof.Proof.CodesIdealKit

@[expose] public section

-- membership in a rectangle of production extents (`View.cover_of_tiled`): the elaborator's structural look
-- recurses once per coordinate of the long axes
set_option maxRecDepth 16384

noncomputable section

namespace Cert.CodesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the source table that the body loads through the rectangle at `off`. -/
abbrev srcAt (c : Dev nD) (xt0 : TbBuf0 (F := F) c tbM0_0) (off : Fin 1 → ℕ) (inb : ∀ a, off a + S1.size a ≤ S15360.size a) : BitVec 32 :=
  tbM0_0.view.readAt (Elt F) (Rect.unit (s := S15360) off S1.size inb).toLoadRect xt0 (Shape.Idx.first (numel1_S1.symm ▸ Nat.one_pos))

/-- What the first part of the body hands on: the grid coordinates and the vectors computed of the loaded row of
    scales `v9` and of the loaded block scales `v36`. -/
abbrev handed (i : grid0.Coords) (v9 : Vec F S1x128 .f32) (v36 : Vec F S128x128 .fp8e4m3) :
    Σ' (arg0 : BitVec 32) (arg1 : BitVec 32) (v12 : FVec F S128x128 .f32) (v35 : IVec S128x128 1) (v37 : FVec F S128x128 .f32), F .f32 :=
  ⟨BitVec.ofNat 32 (i 0).val, BitVec.ofNat 32 (i 1).val, k0_pay37 v9, k0_pay38 i, k0_pay39 v36, Scalar.ofBits .f32 0x00000000#32⟩

set_option maxHeartbeats 40000000 in
/-- The sixteen pieces that the body leaves in the output block, with the proof that the body runs to them: from any
    resource `R` under which the first part runs to `R'` with the expanded inputs `xs0` and the expansion matrices
    `xs2` in scratch (`hp8`), the whole body runs, `R'` and those two buffers kept. -/
noncomputable def bodyRun (c : Dev nD) (i : grid0.Coords) (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg7 : Memref sig .tc .vmem S15360x128 .f32) (harg7 : arg7.IsWhole) (arg8 : Memref sig .tc .vmem S1024x1024 .bf16) (harg8 : arg8.IsWhole) (arg9 : Memref sig .tc .vmem S2x128x128 .fp8e4m3) (harg9 : arg9.IsWhole) (arg10 : Memref sig .tc .vmem S128x128 .f32) (harg10 : arg10.IsWhole)
    (v9 : Vec F S1x128 .f32) (v36 : Vec F S128x128 .fp8e4m3) (xs0 : Vec F S15360x128 .f32) (xs2 : Vec F S2x128x128 .fp8e4m3)
    (xt0 : TbBuf0 (F := F) c tbM0_0) (hw : ∀ off inb, k0_chk1 (srcAt c xt0 off inb)) :
    { L3 : List (View.Piece (Elt F) S128x512 .i8) //
      ∀ (E : Set ℕ) (K : PUnit → sProp 𝕄) (R R' : sProp 𝕄)
        (hp8 : ∀ Q, iprop(R ∗ (iprop(R' ∗ owns (c : Thread nD τ) arg7 fullShare xs0 ∗ owns (c : Thread nD τ) arg9 fullShare xs2) -∗ Q (handed i v9 v36)))
          ⊢ wp frame (wpE (defs₀ (F := F)) Variants.none c none) E (k0_part8 (F := F) i tbM0_0 htbM0_0 arg3 harg3 arg4 harg4 arg5 harg5 arg6 harg6 arg7 harg7 arg8 harg8 arg9 harg9 arg10 harg10) Q),
        iprop(R ∗ (∃ d, owns (c : Thread nD τ) arg6 fullShare d) ∗ (∃ d, owns (c : Thread nD τ) arg10 fullShare d) ∗ tbPt0 c tbM0_0 xt0
            ∗ (iprop(R' ∗ owns (c : Thread nD τ) arg7 fullShare xs0 ∗ owns (c : Thread nD τ) arg9 fullShare xs2
                ∗ (∃ f, arg6.view.loc (c : Thread nD τ) ↦[arg6.view.set]{fullShare} arg6.view.writes (Elt F) f L3)
                ∗ (∃ d, owns (c : Thread nD τ) arg10 fullShare d) ∗ tbPt0 c tbM0_0 xt0) -∗ K ⟨⟩))
          ⊢ wp frame (wpE (defs₀ (F := F)) Variants.none c none) E (cc0_codes (F := F) i tbM0_0 htbM0_0 arg3 harg3 arg4 harg4 arg5 harg5 arg6 harg6 arg7 harg7 arg8 harg8 arg9 harg9 arg10 harg10) K } := by
  refine ⟨?L, fun E K R R' hp8 => ?run⟩
  case run =>
    simp only [cc0_codes_eq_skeleton]; unfold cc0_codes_skel
    simp only [k0_part90_eq_skeleton]; unfold k0_part90_skel
    simp only [bind_assoc]
    rw [wp_bind]
    iintro ⟨HR, H6, H10, HT0, Hk⟩
    iapply hp8
    isplitl [HR]; · iexact HR
    unfold owns
    iintro ⟨HR', ⟨%f7, %hf7, H7⟩, ⟨%f9, %hf9, H9⟩⟩
    icases H6 with ⟨%d6, %f6, -, H6⟩
    icases H10 with ⟨%d10, %f10, -, H10⟩
    obtain rfl := harg7.eq_unread hf7; obtain rfl := harg9.eq_unread hf9
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    sl_exec (disch := exact hw _ _)
    sl_step
    iapply Hk
    isplitl [HR']; · iexact HR'
    isplitl [H7]
    · iexists _; isplitr; · ipureintro; exact harg7.read_unread _
      iexact H7
    isplitl [H9]
    · iexists _; isplitr; · ipureintro; exact harg9.read_unread _
      iexact H9
    isplitl [H6]; · iexists _; iexact H6
    isplitl [H10]
    · iexists _, _; isplitr; swap; · iexact H10
      ipureintro; rfl
    iexact HT0

end Cert.CodesIdeal.Gen

end
-- ==== Proof.CodesIdealFill.lean ====
/-
The loop that expands a group of input channels into scratch: trip `k` multiplies 128 rows of the input block by the
selection matrix and stores the eight 128-column slices of the product at the rows `8 * row + slice`.
-/
module

public import proofs.«01_k».proof.Proof.CodesIdealKit
public import proofs.«01_k».proof.Proof.Gen.CodesIdeal.Loops
public import Idealize.ShloMosaic.Lib.ValueIdx
public import Idealize.ShloMosaic.Lib.ValueIdxCoords

@[expose] public section

-- membership in a rectangle of production extents (`View.cover_of_tiled`): the elaborator's structural look
-- recurses once per coordinate of the long axes
set_option maxRecDepth 16384

noncomputable section

namespace Cert.CodesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem trips_eq : k0_t1_loop.trips = 15 := by decide +kernel

theorem xTile_inb (k : Fin k0_t1_loop.trips) : ∀ a, (k0_off1 k) a + S128x1024.size a ≤ S1920x1024.size a := by
  have hk : k.val < 15 := trips_eq ▸ k.isLt
  rw [k0_off1_eq]
  intro a; fin_cases a
  · show 128 * k.val + 128 ≤ 1920; omega
  · show 0 + 1024 ≤ 1024; omega

/-- The eight slices that trip `k` stores, from the input block `x` and the selection matrix `P`: slice `r` is the
    product of the trip's rows with columns `128 r … 128 r + 127` of `P`. -/
def fillVal (x : Vec F S1920x1024 .bf16) (P : Vec F S1024x1024 .bf16) (k : Fin k0_t1_loop.trips) : Fin 8 → FVec F S128x128 .f32 :=
  let X := View.ld x (Rect.unit (s := S1920x1024) (k0_off1 k) S128x1024.size (xTile_inb k))
  let p0 := View.ld P (Rect.unit (s := S1024x1024) ![0, 0] S1024x256.size inb_S1024x1024_S1024x256_0_0)
  let p1 := View.ld P (Rect.unit (s := S1024x1024) ![0, 256] S1024x256.size inb_S1024x1024_S1024x256_0_256)
  let p2 := View.ld P (Rect.unit (s := S1024x1024) ![0, 512] S1024x256.size inb_S1024x1024_S1024x256_0_512)
  let p3 := View.ld P (Rect.unit (s := S1024x1024) ![0, 768] S1024x256.size inb_S1024x1024_S1024x256_0_768)
  ![k0_pay23 X p0, k0_pay24 X p0, k0_pay26 X p1, k0_pay28 (k0_pay27 X p1), k0_pay30 X p2, k0_pay31 X p2,
    k0_pay35 (k0_pay33 X p3), k0_pay36 (k0_pay32 X p3)]

/-- The expanded inputs: row `1024 k + 8 t + r` is row `t` of the slice `r` of trip `k`. -/
def filled (x : Vec F S1920x1024 .bf16) (P : Vec F S1024x1024 .bf16) : Vec F S15360x128 .f32 := fun y =>
  fillVal x P ⟨(y 0).val / 1024, by rw [trips_eq]; have : (y 0).val < 15360 := (y 0).isLt; omega⟩ ⟨(y 0).val % 8, Nat.mod_lt _ (by decide)⟩
    (ix2 ⟨(y 0).val % 1024 / 8, by omega⟩ (y 1))

theorem filled_at (x : Vec F S1920x1024 .bf16) (P : Vec F S1024x1024 .bf16) (k : Fin k0_t1_loop.trips) (r : Fin 8) (z : S128x128.Idx)
    (y : S15360x128.Idx) (h0 : (y 0).val = 1024 * k.val + r.val + 8 * (z 0).val) (h1 : (y 1).val = (z 1).val) :
    filled x P y = fillVal x P k r z := by
  have hz : (z 0).val < 128 := (z 0).isLt
  have hr := r.isLt
  unfold filled
  have e1 : (⟨(y 0).val / 1024, by rw [trips_eq]; have : (y 0).val < 15360 := (y 0).isLt; omega⟩ : Fin k0_t1_loop.trips) = k := Fin.ext (by show (y 0).val / 1024 = _; omega)
  have e2 : (⟨(y 0).val % 8, Nat.mod_lt _ (by decide)⟩ : Fin 8) = r := Fin.ext (by show (y 0).val % 8 = _; omega)
  have e3 : (ix2 ⟨(y 0).val % 1024 / 8, by omega⟩ (y 1) : S128x128.Idx) = z := by
    funext a; fin_cases a
    · exact Fin.ext (by show (y 0).val % 1024 / 8 = (z 0).val; omega)
    · exact Fin.ext h1
  rw [e1, e2, e3]

/-- The strided rectangle of slice `(a, b)` of trip `k`. -/
abbrev sliceRect (k : Fin k0_t1_loop.trips) (i : grid0.Coords) (h2 : k0_cond2 i = 1#1) (a : Fin 4) (b : Fin 2) : Rect S15360x128 :=
  ⟨⟨k0_off2 k (BitVec.ofNat 32 (2 * a.val)) (BitVec.ofNat 32 b.val), S128x128.size, ![8, 1], k0_off2_inb i k h2 a b⟩, spos_8_1⟩

theorem sliceRect_emb0 (k : Fin k0_t1_loop.trips) (i : grid0.Coords) (h2 : k0_cond2 i = 1#1) (a : Fin 4) (b : Fin 2) (z : S128x128.Idx) :
    (((sliceRect k i h2 a b).emb z) 0).val = 1024 * k.val + (2 * a.val + b.val) + 8 * (z 0).val := by
  show (k0_off2 k (BitVec.ofNat 32 (2 * a.val)) (BitVec.ofNat 32 b.val)) 0 + 8 * (z 0).val = _
  rw [k0_off2_eq]; show 1024 * k.val + 2 * a.val + b.val + 8 * (z 0).val = _; omega

theorem sliceRect_emb1 (k : Fin k0_t1_loop.trips) (i : grid0.Coords) (h2 : k0_cond2 i = 1#1) (a : Fin 4) (b : Fin 2) (z : S128x128.Idx) :
    (((sliceRect k i h2 a b).emb z) 1).val = (z 1).val := by
  show (k0_off2 k (BitVec.ofNat 32 (2 * a.val)) (BitVec.ofNat 32 b.val)) 1 + 1 * (z 1).val = _
  rw [k0_off2_eq]; show 0 + 1 * (z 1).val = _; omega

/-- The eight pieces of trip `k`, last stored first. -/
def tripPieces (x : Vec F S1920x1024 .bf16) (P : Vec F S1024x1024 .bf16) (k : Fin k0_t1_loop.trips) (i : grid0.Coords) (h2 : k0_cond2 i = 1#1) :
    List (View.Piece (Elt F) S15360x128 .f32) :=
  [⟨sliceRect k i h2 3 1, fillVal x P k 7⟩, ⟨sliceRect k i h2 3 0, fillVal x P k 6⟩,
   ⟨sliceRect k i h2 2 1, fillVal x P k 5⟩, ⟨sliceRect k i h2 2 0, fillVal x P k 4⟩,
   ⟨sliceRect k i h2 1 1, fillVal x P k 3⟩, ⟨sliceRect k i h2 1 0, fillVal x P k 2⟩,
   ⟨sliceRect k i h2 0 1, fillVal x P k 1⟩, ⟨sliceRect k i h2 0 0, fillVal x P k 0⟩]

/-- After trip `k`'s stores the rows below `1024 (k + 1)` hold the expanded inputs, if those below `1024 k` did. -/
theorem tripPieces_read (arg7 : Memref sig .tc .vmem S15360x128 .f32) (x : Vec F S1920x1024 .bf16) (P : Vec F S1024x1024 .bf16) (k : Fin k0_t1_loop.trips)
    (i : grid0.Coords) (h2 : k0_cond2 i = 1#1) (f : arg7.view.ty.Contents (Elt F))
    (hf : ∀ y : S15360x128.Idx, (y 0).val < 1024 * k.val → arg7.view.read (Elt F) f y = filled x P y) :
    ∀ y : S15360x128.Idx, (y 0).val < 1024 * (k.val + 1) →
      arg7.view.read (Elt F) (arg7.view.writes (Elt F) f (tripPieces x P k i h2)) y = filled x P y := by
  intro y hy
  by_cases hc : ∃ p ∈ tripPieces x P k i h2, y ∈ p.1.set
  · refine View.read_writes_apply_of_pieces (v := arg7.view) (f := f) (filled x P) (tripPieces x P k i h2) ?_ y hc
    intro p hp z
    simp only [tripPieces, List.mem_cons, List.mem_nil_iff, or_false] at hp
    rcases hp with rfl | rfl | rfl | rfl | rfl | rfl | rfl | rfl
    · exact (filled_at x P k 7 z _ (sliceRect_emb0 k i h2 3 1 z) (sliceRect_emb1 k i h2 3 1 z)).symm
    · exact (filled_at x P k 6 z _ (sliceRect_emb0 k i h2 3 0 z) (sliceRect_emb1 k i h2 3 0 z)).symm
    · exact (filled_at x P k 5 z _ (sliceRect_emb0 k i h2 2 1 z) (sliceRect_emb1 k i h2 2 1 z)).symm
    · exact (filled_at x P k 4 z _ (sliceRect_emb0 k i h2 2 0 z) (sliceRect_emb1 k i h2 2 0 z)).symm
    · exact (filled_at x P k 3 z _ (sliceRect_emb0 k i h2 1 1 z) (sliceRect_emb1 k i h2 1 1 z)).symm
    · exact (filled_at x P k 2 z _ (sliceRect_emb0 k i h2 1 0 z) (sliceRect_emb1 k i h2 1 0 z)).symm
    · exact (filled_at x P k 1 z _ (sliceRect_emb0 k i h2 0 1 z) (sliceRect_emb1 k i h2 0 1 z)).symm
    · exact (filled_at x P k 0 z _ (sliceRect_emb0 k i h2 0 0 z) (sliceRect_emb1 k i h2 0 0 z)).symm
  · rw [View.read_writes_apply_of_forall_not_mem (v := arg7.view) (f := f) y _ fun p hp h => hc ⟨p, hp, h⟩]
    by_cases hk : (y 0).val < 1024 * k.val
    · exact hf y hk
    · exfalso; apply hc
      obtain ⟨a, b, hab⟩ : ∃ (a : Fin 4) (b : Fin 2), (y 0).val % 8 = 2 * a.val + b.val :=
        ⟨⟨(y 0).val % 8 / 2, by omega⟩, ⟨(y 0).val % 2, by omega⟩, by show _ = 2 * ((y 0).val % 8 / 2) + (y 0).val % 2; omega⟩
      have key : y ∈ (sliceRect k i h2 a b).set := by
        rw [← Rect.map_emb_univ]
        refine Finset.mem_map.mpr ⟨(ix2 ⟨(y 0).val % 1024 / 8, by omega⟩ (y 1) : S128x128.Idx), Finset.mem_univ _, ?_⟩
        funext c; fin_cases c
        · exact Fin.ext ((sliceRect_emb0 ..).trans (by show 1024 * k.val + (2 * a.val + b.val) + 8 * ((y 0).val % 1024 / 8) = (y 0).val; omega))
        · exact Fin.ext (sliceRect_emb1 ..)
      have hm : ∃ w, (⟨sliceRect k i h2 a b, w⟩ : View.Piece (Elt F) S15360x128 .f32) ∈ tripPieces x P k i h2 := by
        clear key hab
        fin_cases a <;> fin_cases b
        · exact ⟨_, .tail _ (.tail _ (.tail _ (.tail _ (.tail _ (.tail _ (.tail _ (.head _)))))))⟩
        · exact ⟨_, .tail _ (.tail _ (.tail _ (.tail _ (.tail _ (.tail _ (.head _))))))⟩
        · exact ⟨_, .tail _ (.tail _ (.tail _ (.tail _ (.tail _ (.head _)))))⟩
        · exact ⟨_, .tail _ (.tail _ (.tail _ (.tail _ (.head _))))⟩
        · exact ⟨_, .tail _ (.tail _ (.tail _ (.head _)))⟩
        · exact ⟨_, .tail _ (.tail _ (.head _))⟩
        · exact ⟨_, .tail _ (.head _)⟩
        · exact ⟨_, .head _⟩
      obtain ⟨w, hw⟩ := hm
      exact ⟨_, hw, key⟩

set_option maxHeartbeats 4000000 in
/-- One trip's region, from the block `f3` and the selection matrix `f8` held whole: it writes the trip's pieces. -/
theorem trip_run (c : Dev nD) (i : grid0.Coords) (arg2 : Memref sig .tc .smem S15360 .i32) (harg2 : arg2.IsWhole) (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg7 : Memref sig .tc .vmem S15360x128 .f32) (harg7 : arg7.IsWhole) (arg8 : Memref sig .tc .vmem S1024x1024 .bf16) (harg8 : arg8.IsWhole) (arg9 : Memref sig .tc .vmem S2x128x128 .fp8e4m3) (harg9 : arg9.IsWhole) (arg10 : Memref sig .tc .vmem S128x128 .f32) (harg10 : arg10.IsWhole) (h2 : k0_cond2 i = 1#1)
    (f3 : arg3.view.ty.Contents (Elt F)) (f8 : arg8.view.ty.Contents (Elt F)) (f7 : arg7.view.ty.Contents (Elt F)) (k : Fin k0_t1_loop.trips) (acc : Unit) (E : Set ℕ) (Q : Unit → sProp 𝕄) :
    iprop((arg7.view.loc (c : Thread nD τ) ↦[arg7.view.set]{fullShare} f7) ∗ (arg3.view.loc (c : Thread nD τ) ↦[arg3.view.set]{fullShare} f3)
        ∗ (arg8.view.loc (c : Thread nD τ) ↦[arg8.view.set]{fullShare} f8)
        ∗ (iprop((arg7.view.loc (c : Thread nD τ) ↦[arg7.view.set]{fullShare} arg7.view.writes (Elt F) f7 (tripPieces (arg3.view.read (Elt F) f3) (arg8.view.read (Elt F) f8) k i h2))
            ∗ (arg3.view.loc (c : Thread nD τ) ↦[arg3.view.set]{fullShare} f3)
            ∗ (arg8.view.loc (c : Thread nD τ) ↦[arg8.view.set]{fullShare} f8)) -∗ Q ⟨⟩))
      ⊢ wp frame (wpE (defs₀ (F := F)) Variants.none c none) E (k0_t1_body (F := F) i arg2 harg2 arg3 harg3 arg4 harg4 arg5 harg5 arg6 harg6 arg7 harg7 arg8 harg8 arg9 harg9 arg10 harg10 h2 k acc) Q := by
  unfold k0_t1_body
  simp only [k0_part6_eq_skeleton, k0_part7_eq_skeleton]
  iintro ⟨H7, H3, H8, Hk⟩
  sl_exec
  sl_step
  iapply Hk
  isplitl [H7]; · iexact H7
  isplitl [H3]; · iexact H3
  iexact H8

/-- The loop's invariant: before trip `k` the rows below `1024 k` hold the expanded inputs. -/
@[sl_loop, instance_reducible] noncomputable def fillInv (c : Dev nD) (i : grid0.Coords) (arg2 : Memref sig .tc .smem S15360 .i32) (harg2 : arg2.IsWhole) (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg7 : Memref sig .tc .vmem S15360x128 .f32) (harg7 : arg7.IsWhole) (arg8 : Memref sig .tc .vmem S1024x1024 .bf16) (harg8 : arg8.IsWhole) (arg9 : Memref sig .tc .vmem S2x128x128 .fp8e4m3) (harg9 : arg9.IsWhole) (arg10 : Memref sig .tc .vmem S128x128 .f32) (harg10 : arg10.IsWhole) (h2 : k0_cond2 i = 1#1)
    (f3 : arg3.view.ty.Contents (Elt F)) (f8 : arg8.view.ty.Contents (Elt F)) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 h2 where
  inv k acc := iprop(∃ f7, ⌜∀ y : S15360x128.Idx, (y 0).val < 1024 * k → arg7.view.read (Elt F) f7 y = filled (arg3.view.read (Elt F) f3) (arg8.view.read (Elt F) f8) y⌝
    ∗ (arg7.view.loc (c : Thread nD τ) ↦[arg7.view.set]{fullShare} f7) ∗ (arg3.view.loc (c : Thread nD τ) ↦[arg3.view.set]{fullShare} f3)
    ∗ (arg8.view.loc (c : Thread nD τ) ↦[arg8.view.set]{fullShare} f8))
  step k acc := by
    iintro ⟨%f7, %hf, H7, H3, H8⟩
    iapply (trip_run c i arg2 harg2 arg3 harg3 arg4 harg4 arg5 harg5 arg6 harg6 arg7 harg7 arg8 harg8 arg9 harg9 arg10 harg10 h2 f3 f8 f7 k acc Set.univ _)
    isplitl [H7]; · iexact H7
    isplitl [H3]; · iexact H3
    isplitl [H8]; · iexact H8
    iintro ⟨H7, H3, H8⟩
    iexists _; isplitr
    · ipureintro; exact tripPieces_read arg7 _ _ k i h2 f7 hf
    isplitl [H7]; · iexact H7
    isplitl [H3]; · iexact H3
    iexact H8

end Cert.CodesIdeal.Gen

end
-- ==== Proof.CodesIdealHead.lean ====
/-
The first part of the body of the codes call, up to its two conditionals: the constant matrices of the scratch, and
the three ways it runs (at the grid's first point, at the first point of a later group, and elsewhere).
-/
module

public import proofs.«01_k».proof.Proof.CodesIdealRun
public import proofs.«01_k».proof.Proof.CodesIdealFill

@[expose] public section

-- membership in a rectangle of production extents (`View.cover_of_tiled`): the elaborator's structural look
-- recurses once per coordinate of the long axes
set_option maxRecDepth 16384

noncomputable section

namespace Cert.CodesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A whole buffer held with contents that read `X` is owned at `X`. -/
theorem own_read {sp : Space} {s : Shape} {e : EltTy} {c : Dev nD} (m : Memref sig .tc sp s e) {f : m.view.ty.Contents (Elt F)} {X : s.Idx → Elt F e}
    (h : m.view.read (Elt F) f = X) :
    (m.view.loc (c : Thread nD τ) ↦[m.view.set]{fullShare} f : sProp 𝕄) ⊢ iprop(∃ f, ⌜m.view.read (Elt F) f = X⌝ ∗ (m.view.loc (c : Thread nD τ) ↦[m.view.set]{fullShare} f)) := by
  iintro H; iexists f; isplitr; · ipureintro; exact h
  iexact H

/-- Row numbers of a column block of the selection matrix. -/
abbrev permRows : IVec S1024x128 32 := iota .tc S1024x128 32 [0] iota_S1024x128_d0_w32

/-- The channel, before the slice's offset, that each column of a block selects. -/
abbrev permCols : IVec S1024x128 32 := k0_pay6 (iota .tc S1024x128 32 [1] iota_S1024x128_d1_w32) k0_pay4 k0_pay5 (Scalar.select (Scalar.cmpi .eq 2#32 0#32) 1#32 2#32)

/-- The eight column blocks of the selection matrix, as stored. -/
abbrev permL : List (View.Piece (Elt F) S1024x1024 .bf16) :=
  [⟨Rect.unit (s := S1024x1024) ![0, 896] S1024x128.size inb_S1024x1024_S1024x128_0_896, k0_pay15 (F := F) permRows permCols⟩,
   ⟨Rect.unit (s := S1024x1024) ![0, 768] S1024x128.size inb_S1024x1024_S1024x128_0_768, k0_pay14 (F := F) permRows permCols⟩,
   ⟨Rect.unit (s := S1024x1024) ![0, 640] S1024x128.size inb_S1024x1024_S1024x128_0_640, k0_pay13 (F := F) permRows permCols⟩,
   ⟨Rect.unit (s := S1024x1024) ![0, 512] S1024x128.size inb_S1024x1024_S1024x128_0_512, k0_pay12 (k0_pay11 (F := F) permRows permCols)⟩,
   ⟨Rect.unit (s := S1024x1024) ![0, 384] S1024x128.size inb_S1024x1024_S1024x128_0_384, k0_pay10 (F := F) permRows permCols⟩,
   ⟨Rect.unit (s := S1024x1024) ![0, 256] S1024x128.size inb_S1024x1024_S1024x128_0_256, k0_pay9 (F := F) permRows permCols⟩,
   ⟨Rect.unit (s := S1024x1024) ![0, 128] S1024x128.size inb_S1024x1024_S1024x128_0_128, k0_pay8 (F := F) permRows permCols⟩,
   ⟨Rect.unit (s := S1024x1024) ![0, 0] S1024x128.size inb_S1024x1024_S1024x128_0_0, k0_pay7 (F := F) permRows permCols 0#32⟩]

/-- The selection matrix. -/
noncomputable def permC : Vec F S1024x1024 .bf16 := View.canon permL

theorem permL_cover : ∀ y : S1024x1024.Idx, ∃ p ∈ permL (F := F), y ∈ p.1.set :=
  View.cover_of_tiledL _ S1024x128.size (by rfl)

/-- The mask of the first expansion matrix's rows and columns, as the program computes it from the column numbers. -/
abbrev expRows : IVec S128x128 32 := iota .tc S128x128 32 [0] iota_S128x128_d0_w32
abbrev expCols : IVec S128x128 32 := iota .tc S128x128 32 [1] iota_S128x128_d1_w32
abbrev expFour : BitVec 32 := Scalar.select (Scalar.cmpi .eq 4#32 0#32) 1#32 4#32

/-- The two expansion matrices, as stored. -/
abbrev expL : List (View.Piece (Elt F) S2x128x128 .fp8e4m3) :=
  [⟨Rect.unit (s := S2x128x128) ![1, 0, 0] S1x128x128.size inb_S2x128x128_S1x128x128_1_0_0, k0_pay34 (F := F) (k0_pay21 expRows expCols expFour k0_pay16 k0_pay17 k0_pay18 (Scalar.cmpi .slt expFour 0#32))⟩,
   ⟨Rect.unit (s := S2x128x128) ![0, 0, 0] S1x128x128.size inb_S2x128x128_S1x128x128_0_0_0, k0_pay20 (F := F) expRows expCols expFour k0_pay16 k0_pay17 k0_pay18 (Scalar.cmpi .slt expFour 0#32)⟩]

/-- The expansion matrices. -/
noncomputable def expC : Vec F S2x128x128 .fp8e4m3 := View.canon expL

theorem expL_cover : ∀ y : S2x128x128.Idx, ∃ p ∈ expL (F := F), y ∈ p.1.set :=
  View.cover_of_tiledL _ S1x128x128.size (by rfl)

/-- The row of scales that a point loads. -/
abbrev scaleRow (i : grid0.Coords) (x4 : Vec F S120x128 .f32) : Vec F S1x128 .f32 :=
  View.ld x4 (Rect.unit (s := S120x128) (k0_off3 i) S1x128.size (k0_off3_inb i))

/-- The block scales that a point loads: the whole block. -/
abbrev blockScales (x5 : Vec F S128x128 .fp8e4m3) : Vec F S128x128 .fp8e4m3 :=
  View.ld x5 (Rect.unit (s := S128x128) ![0, 0] S128x128.size inb_S128x128_S128x128_0_0)

set_option maxHeartbeats 40000000 in
/-- The first part of the body at the grid's first point: it stores the selection and expansion matrices and expands the
    group's inputs. -/
theorem head_first (c : Dev nD) (i : grid0.Coords) (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg7 : Memref sig .tc .vmem S15360x128 .f32) (harg7 : arg7.IsWhole) (arg8 : Memref sig .tc .vmem S1024x1024 .bf16) (harg8 : arg8.IsWhole) (arg9 : Memref sig .tc .vmem S2x128x128 .fp8e4m3) (harg9 : arg9.IsWhole) (arg10 : Memref sig .tc .vmem S128x128 .f32) (harg10 : arg10.IsWhole) (h1 : cond0_0 i) (h2 : k0_cond2 i = 1#1)
    (x3 : Vec F S1920x1024 .bf16) (x4 : Vec F S120x128 .f32) (x5 : Vec F S128x128 .fp8e4m3)  (Q : (Σ' (arg0 : BitVec 32) (arg1 : BitVec 32) (v12 : FVec F S128x128 .f32) (v35 : IVec S128x128 1) (v37 : FVec F S128x128 .f32), F .f32) → sProp 𝕄) :
    iprop((owns (c : Thread nD τ) arg3 fullShare x3 ∗ owns (c : Thread nD τ) arg4 fullShare x4 ∗ owns (c : Thread nD τ) arg5 fullShare x5 ∗ (∃ d, owns (c : Thread nD τ) arg7 fullShare d) ∗ (∃ d, owns (c : Thread nD τ) arg8 fullShare d) ∗ (∃ d, owns (c : Thread nD τ) arg9 fullShare d)) ∗ (iprop((owns (c : Thread nD τ) arg3 fullShare x3 ∗ owns (c : Thread nD τ) arg4 fullShare x4 ∗ owns (c : Thread nD τ) arg5 fullShare x5 ∗ owns (c : Thread nD τ) arg8 fullShare permC) ∗ owns (c : Thread nD τ) arg7 fullShare (filled x3 permC) ∗ owns (c : Thread nD τ) arg9 fullShare expC) -∗ Q (handed i (scaleRow i x4) (blockScales x5))))
      ⊢ wp frame (wpE (defs₀ (F := F)) Variants.none c none) Set.univ (k0_part8 (F := F) i tbM0_0 htbM0_0 arg3 harg3 arg4 harg4 arg5 harg5 arg6 harg6 arg7 harg7 arg8 harg8 arg9 harg9 arg10 harg10) Q := by
  simp only [k0_part8_eq_skeleton]; unfold k0_part8_skel
  simp only [dif_pos h1, dif_pos h2, k0_part1_eq_skeleton, k0_part2_eq_skeleton, k0_part3_eq_skeleton, k0_part4_eq_skeleton, k0_part5_eq_skeleton]
  have e4 : scaleRow i x4 = arg4.view.readAt (Elt F) (Rect.unit (s := S120x128) (k0_off3 i) S1x128.size (k0_off3_inb i)).toLoadRect (harg4.unread x4) := by
    rw [View.readAt_eq_ld, harg4.read_unread]
  have e5 : blockScales x5 = arg5.view.readAt (Elt F) (Rect.unit (s := S128x128) ![0, 0] S128x128.size inb_S128x128_S128x128_0_0).toLoadRect (harg5.unread x5) := by
    rw [View.readAt_eq_ld, harg5.read_unread]
  rw [e4, e5]
  unfold owns
  iintro ⟨⟨⟨%f3, %hf3, H3⟩, ⟨%f4, %hf4, H4⟩, ⟨%f5, %hf5, H5⟩, ⟨%d7, %f7, -, H7⟩, ⟨%d8, %f8, -, H8⟩, ⟨%d9, %f9, -, H9⟩⟩, Hk⟩
  obtain rfl := harg3.eq_unread hf3; obtain rfl := harg4.eq_unread hf4; obtain rfl := harg5.eq_unread hf5
  sl_exec
  sl_step
  iapply Hk
  have h8 : ∀ X, X = arg8.view.writes (Elt F) arg8.view.junk permL → arg8.view.read (Elt F) X = permC := by
    rintro X rfl; exact View.read_writes_junk_eq_canon arg8.view permL
  have h9 : ∀ X, X = arg9.view.writes (Elt F) arg9.view.junk expL → arg9.view.read (Elt F) X = expC := by
    rintro X rfl; exact View.read_writes_junk_eq_canon arg9.view expL
  have h7 : arg7.view.read (Elt F) f7L0 = filled x3 permC := by
    funext y
    have hy : (y 0).val < 15360 := (y 0).isLt
    have ht := trips_eq
    refine (hL0 y (by show (y 0).val < 1024 * k0_t1_loop.trips; rw [ht]; omega)).trans ?_
    exact congrArg₂ (fun X P => filled X P y) (harg3.read_unread x3) (h8 _ rfl)
  isplitl [H3 H4 H5 H8]
  · isplitl [H3]; · iapply (own_read arg3 (harg3.read_unread _)); iexact H3
    isplitl [H4]; · iapply (own_read arg4 (harg4.read_unread _)); iexact H4
    isplitl [H5]; · iapply (own_read arg5 (harg5.read_unread _)); iexact H5
    iapply (own_read arg8 (h8 _ rfl)); iexact H8
  isplitl [H7]; · iapply (own_read arg7 h7); iexact H7
  iapply (own_read arg9 (h9 _ rfl)); iexact H9

set_option maxHeartbeats 40000000 in
/-- The first part of the body at the first point of a later group: it expands the group's inputs. -/
theorem head_group (c : Dev nD) (i : grid0.Coords) (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg7 : Memref sig .tc .vmem S15360x128 .f32) (harg7 : arg7.IsWhole) (arg8 : Memref sig .tc .vmem S1024x1024 .bf16) (harg8 : arg8.IsWhole) (arg9 : Memref sig .tc .vmem S2x128x128 .fp8e4m3) (harg9 : arg9.IsWhole) (arg10 : Memref sig .tc .vmem S128x128 .f32) (harg10 : arg10.IsWhole) (h1 : ¬cond0_0 i) (h2 : k0_cond2 i = 1#1)
    (x3 : Vec F S1920x1024 .bf16) (x4 : Vec F S120x128 .f32) (x5 : Vec F S128x128 .fp8e4m3)  (Q : (Σ' (arg0 : BitVec 32) (arg1 : BitVec 32) (v12 : FVec F S128x128 .f32) (v35 : IVec S128x128 1) (v37 : FVec F S128x128 .f32), F .f32) → sProp 𝕄) :
    iprop((owns (c : Thread nD τ) arg3 fullShare x3 ∗ owns (c : Thread nD τ) arg4 fullShare x4 ∗ owns (c : Thread nD τ) arg5 fullShare x5 ∗ (∃ d, owns (c : Thread nD τ) arg7 fullShare d) ∗ owns (c : Thread nD τ) arg8 fullShare permC ∗ owns (c : Thread nD τ) arg9 fullShare expC) ∗ (iprop((owns (c : Thread nD τ) arg3 fullShare x3 ∗ owns (c : Thread nD τ) arg4 fullShare x4 ∗ owns (c : Thread nD τ) arg5 fullShare x5 ∗ owns (c : Thread nD τ) arg8 fullShare permC) ∗ owns (c : Thread nD τ) arg7 fullShare (filled x3 permC) ∗ owns (c : Thread nD τ) arg9 fullShare expC) -∗ Q (handed i (scaleRow i x4) (blockScales x5))))
      ⊢ wp frame (wpE (defs₀ (F := F)) Variants.none c none) Set.univ (k0_part8 (F := F) i tbM0_0 htbM0_0 arg3 harg3 arg4 harg4 arg5 harg5 arg6 harg6 arg7 harg7 arg8 harg8 arg9 harg9 arg10 harg10) Q := by
  simp only [k0_part8_eq_skeleton]; unfold k0_part8_skel
  simp only [dif_neg h1, dif_pos h2]
  have e4 : scaleRow i x4 = arg4.view.readAt (Elt F) (Rect.unit (s := S120x128) (k0_off3 i) S1x128.size (k0_off3_inb i)).toLoadRect (harg4.unread x4) := by
    rw [View.readAt_eq_ld, harg4.read_unread]
  have e5 : blockScales x5 = arg5.view.readAt (Elt F) (Rect.unit (s := S128x128) ![0, 0] S128x128.size inb_S128x128_S128x128_0_0).toLoadRect (harg5.unread x5) := by
    rw [View.readAt_eq_ld, harg5.read_unread]
  rw [e4, e5]
  unfold owns
  iintro ⟨⟨⟨%f3, %hf3, H3⟩, ⟨%f4, %hf4, H4⟩, ⟨%f5, %hf5, H5⟩, ⟨%d7, %f7, -, H7⟩, ⟨%f8, %hf8, H8⟩, ⟨%f9, %hf9, H9⟩⟩, Hk⟩
  obtain rfl := harg3.eq_unread hf3; obtain rfl := harg4.eq_unread hf4; obtain rfl := harg5.eq_unread hf5
  obtain rfl := harg8.eq_unread hf8; obtain rfl := harg9.eq_unread hf9
  sl_exec
  sl_step
  iapply Hk
  have h7 : arg7.view.read (Elt F) f7L0 = filled x3 permC := by
    funext y
    have hy : (y 0).val < 15360 := (y 0).isLt
    have ht := trips_eq
    refine (hL0 y (by show (y 0).val < 1024 * k0_t1_loop.trips; rw [ht]; omega)).trans ?_
    rw [harg3.read_unread, harg8.read_unread]
  isplitl [H3 H4 H5 H8]
  · isplitl [H3]; · iapply (own_read arg3 (harg3.read_unread _)); iexact H3
    isplitl [H4]; · iapply (own_read arg4 (harg4.read_unread _)); iexact H4
    isplitl [H5]; · iapply (own_read arg5 (harg5.read_unread _)); iexact H5
    iapply (own_read arg8 (harg8.read_unread _)); iexact H8
  isplitl [H7]; · iapply (own_read arg7 h7); iexact H7
  iapply (own_read arg9 (harg9.read_unread _)); iexact H9

set_option maxHeartbeats 40000000 in
/-- The first part of the body at every other point: the scratch is kept. -/
theorem head_rest (c : Dev nD) (i : grid0.Coords) (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg7 : Memref sig .tc .vmem S15360x128 .f32) (harg7 : arg7.IsWhole) (arg8 : Memref sig .tc .vmem S1024x1024 .bf16) (harg8 : arg8.IsWhole) (arg9 : Memref sig .tc .vmem S2x128x128 .fp8e4m3) (harg9 : arg9.IsWhole) (arg10 : Memref sig .tc .vmem S128x128 .f32) (harg10 : arg10.IsWhole) (h1 : ¬cond0_0 i) (h2 : ¬k0_cond2 i = 1#1)
    (x3 : Vec F S1920x1024 .bf16) (x4 : Vec F S120x128 .f32) (x5 : Vec F S128x128 .fp8e4m3) (xs0 : Vec F S15360x128 .f32) (Q : (Σ' (arg0 : BitVec 32) (arg1 : BitVec 32) (v12 : FVec F S128x128 .f32) (v35 : IVec S128x128 1) (v37 : FVec F S128x128 .f32), F .f32) → sProp 𝕄) :
    iprop((owns (c : Thread nD τ) arg3 fullShare x3 ∗ owns (c : Thread nD τ) arg4 fullShare x4 ∗ owns (c : Thread nD τ) arg5 fullShare x5 ∗ owns (c : Thread nD τ) arg7 fullShare xs0 ∗ owns (c : Thread nD τ) arg8 fullShare permC ∗ owns (c : Thread nD τ) arg9 fullShare expC) ∗ (iprop((owns (c : Thread nD τ) arg3 fullShare x3 ∗ owns (c : Thread nD τ) arg4 fullShare x4 ∗ owns (c : Thread nD τ) arg5 fullShare x5 ∗ owns (c : Thread nD τ) arg8 fullShare permC) ∗ owns (c : Thread nD τ) arg7 fullShare xs0 ∗ owns (c : Thread nD τ) arg9 fullShare expC) -∗ Q (handed i (scaleRow i x4) (blockScales x5))))
      ⊢ wp frame (wpE (defs₀ (F := F)) Variants.none c none) Set.univ (k0_part8 (F := F) i tbM0_0 htbM0_0 arg3 harg3 arg4 harg4 arg5 harg5 arg6 harg6 arg7 harg7 arg8 harg8 arg9 harg9 arg10 harg10) Q := by
  simp only [k0_part8_eq_skeleton]; unfold k0_part8_skel
  simp only [dif_neg h1, dif_neg h2]
  have e4 : scaleRow i x4 = arg4.view.readAt (Elt F) (Rect.unit (s := S120x128) (k0_off3 i) S1x128.size (k0_off3_inb i)).toLoadRect (harg4.unread x4) := by
    rw [View.readAt_eq_ld, harg4.read_unread]
  have e5 : blockScales x5 = arg5.view.readAt (Elt F) (Rect.unit (s := S128x128) ![0, 0] S128x128.size inb_S128x128_S128x128_0_0).toLoadRect (harg5.unread x5) := by
    rw [View.readAt_eq_ld, harg5.read_unread]
  rw [e4, e5]
  unfold owns
  iintro ⟨⟨⟨%f3, %hf3, H3⟩, ⟨%f4, %hf4, H4⟩, ⟨%f5, %hf5, H5⟩, ⟨%f7, %hf7, H7⟩, ⟨%f8, %hf8, H8⟩, ⟨%f9, %hf9, H9⟩⟩, Hk⟩
  obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec
  sl_step
  iapply Hk
  isplitl [H3 H4 H5 H8]
  · isplitl [H3]; · iapply (own_read arg3 (harg3.read_unread _)); iexact H3
    isplitl [H4]; · iapply (own_read arg4 (harg4.read_unread _)); iexact H4
    isplitl [H5]; · iapply (own_read arg5 (harg5.read_unread _)); iexact H5
    iapply (own_read arg8 (harg8.read_unread _)); iexact H8
  isplitl [H7]; · iapply (own_read arg7 (harg7.read_unread _)); iexact H7
  iapply (own_read arg9 (harg9.read_unread _)); iexact H9

end Cert.CodesIdeal.Gen

end
-- ==== Proof.CodesIdealData.lean ====
/-
The proof data of the codes call: what each window's buffer holds at each grid point, what the scratch carries
between points, and the run of the whole pipeline from them.
-/
module

public import proofs.«01_k».proof.Proof.CodesIdealHead
public import Idealize.ShloMosaic.Lib.Pipeline.ValueKit

@[expose] public section

-- membership in a rectangle of production extents (`View.cover_of_tiled`): the elaborator's structural look
-- recurses once per coordinate of the long axes
set_option maxRecDepth 16384

noncomputable section

namespace Cert.CodesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The prefetched table's words satisfy the body's side condition, at every place the body may load. -/
abbrev Hw : Prop := ∀ (c : Dev nD) off inb, k0_chk1 (srcAt (F := F) c (tbl m 0) off inb)

theorem N_eq (hO : Ok m) : (cfgM m hO).N = 840 := N_0

/-- The columns of the input array that point `t`'s group reads. -/
def x3At (hO : Ok m) (c : Dev nD) (t : Fin (cfgM m hO).N) : Vec F S1920x1024 .bf16 := fun y =>
  V m c main_arg1 (ValueIdx.ix2 (y 0) ⟨1024 * (t.val / 120) + (y 1).val, by
    have h0 : t.val < 840 := lt_of_lt_of_eq t.isLt (N_eq m hO)
    have h1 : (y 1).val < 1024 := (y 1).isLt
    omega⟩ : S1920x7168.Idx)

theorem coords0 (t : Fin grid0.N) : (grid0.coords t 0).val = t.val / 120 := by
  have h0 : t.val < 840 := lt_of_lt_of_eq t.isLt N_0
  have e0 : (grid0.coords t 0).val = t.val / 120 % 7 := Pipeline.Grid.coords_val t 0 (by decide) rfl
  exact e0.trans (Nat.mod_eq_of_lt (by omega))

theorem coords1 (t : Fin grid0.N) : (grid0.coords t 1).val = t.val % 120 := by
  have e0 : (grid0.coords t 1).val = t.val / 1 % 120 := Pipeline.Grid.coords_val t 1 (by decide) rfl
  exact e0.trans (by rw [Nat.div_one])

theorem coords0_lt (t : Fin grid0.N) : (grid0.coords t 0).val < 7 := (grid0.coords t 0).isLt
theorem coords1_lt (t : Fin grid0.N) : (grid0.coords t 1).val < 120 := (grid0.coords t 1).isLt

/-- Window 0 moves with the group. -/
theorem index0 (a : (pcfg0 (F := F)).Adm) (t : Fin grid0.N) : (pcfg0.win a 0).index t = ![0, t.val / 120] := by
  have h1 : t.val / 120 < 7 := coords0 t ▸ coords0_lt t
  show cc0_transform_0 (grid0.coords t) = _
  unfold cc0_transform_0
  simp only [coords0]
  rw [show (BitVec.ofNat 32 (t.val / 120)).toNat = t.val / 120 from by rw [BitVec.toNat_ofNat, Nat.mod_eq_of_lt (by omega)]]; rfl

/-- Window 1 stands. -/
theorem index1 (a : (pcfg0 (F := F)).Adm) (t : Fin grid0.N) : (pcfg0.win a 1).index t = ![0, 0] := rfl

/-- Window 2 moves with the tile and, every second group, by one block of columns. -/
theorem index2 (a : (pcfg0 (F := F)).Adm) (t : Fin grid0.N) : (pcfg0.win a 2).index t = ![t.val % 120, t.val / 120 / 2] := by
  have h1 : t.val / 120 < 7 := coords0 t ▸ coords0_lt t
  show cc0_transform_2 (grid0.coords t) = _
  unfold cc0_transform_2
  simp only [coords0, coords1]
  rw [BitVec.toNat_ofNat, Nat.mod_eq_of_lt (show t.val % 120 < 2 ^ 32 by omega)]
  generalize t.val / 120 = n at h1
  interval_cases n <;> rfl

/-- Window 3 moves with the tile and the group. -/
theorem index3 (a : (pcfg0 (F := F)).Adm) (t : Fin grid0.N) : (pcfg0.win a 3).index t = ![t.val % 120, t.val / 120] := by
  have h1 : t.val / 120 < 7 := coords0 t ▸ coords0_lt t
  show cc0_transform_3 (grid0.coords t) = _
  unfold cc0_transform_3
  simp only [coords0, coords1]
  rw [BitVec.toNat_ofNat, Nat.mod_eq_of_lt (show t.val % 120 < 2 ^ 32 by omega), BitVec.toNat_ofNat, Nat.mod_eq_of_lt (show t.val / 120 < 2 ^ 32 by omega)]

/-- What window 0's buffer holds after a fetch at point `t`. -/
theorem blk0 (hO : Ok m) (c : Dev nD) (t : Fin (cfgM m hO).N) : iblk m hO c 0 t = x3At m hO c t := by
  funext y
  unfold x3At
  blk_ext [iblk, V, index0 (adm m hO) t]

/-- Window 1's block is its whole array. -/
theorem blk1 (hO : Ok m) (c : Dev nD) (t : Fin (cfgM m hO).N) : iblk m hO c 1 t = V m c main_arg2 := by
  funext y
  blk_ext [iblk, V, index1 (adm m hO) t]

/-! ## The relational proof data -/

/-- The pieces that the body leaves in the output block at point `t`, from the block scales `x5` it is handed. -/
noncomputable def outL (hO : Ok m) (hW : Hw m) (c : Dev nD) (t : Fin (cfgM m hO).N) (x5 : Vec F S128x128 .fp8e4m3) : List (View.Piece (Elt F) S128x512 .i8) :=
  (bodyRun c (grid0.coords t) (ms0_0 m hO t) (hs0_0 m hO t) (ms0_1 m hO t) (hs0_1 m hO t) (ms0_2 m hO t) (hs0_2 m hO t) (ms0_3 m hO t) (hs0_3 m hO t)
    scM0_0 (Memref.isWhole_whole _) scM0_1 (Memref.isWhole_whole _) scM0_2 (Memref.isWhole_whole _) scM0_3 (Memref.isWhole_whole _)
    (scaleRow (grid0.coords t) (V m c main_arg2)) (blockScales x5) (filled (x3At m hO c t) permC) expC (tbl m 0) (hW c)).1

theorem outL_cover (hO : Ok m) (hW : Hw m) (c : Dev nD) (t : Fin (cfgM m hO).N) (x5 : Vec F S128x128 .fp8e4m3) :
    ∀ y : S128x512.Idx, ∃ p ∈ outL m hO hW c t x5, y ∈ p.1.set :=
  View.cover_of_tiledL _ S32x128.size (by rfl)

/-- The scratch that point `n + 1` finds, from point `n`'s group. -/
def carried (hO : Ok m) (c : Dev nD) (t : Fin (cfgM m hO).N) : sProp 𝕄 :=
  iprop(owns (c : Thread nD τ) scM0_0 fullShare (filled (x3At m hO c t) permC) ∗ owns (c : Thread nD τ) scM0_1 fullShare permC
    ∗ owns (c : Thread nD τ) scM0_2 fullShare expC ∗ (∃ d, owns (c : Thread nD τ) scM0_3 fullShare d))

/-- The invariant before point `n`: at the first point the scratch holds anything; later it holds the expanded inputs of
    the group of the point before. The generator register and the table's half ride along. -/
def PhiR (hO : Ok m) (c : Dev nD) : (n : ℕ) → n ≤ (cfgM m hO).N → sProp 𝕄
  | 0, _ => iprop(Pipeline.ΦA spec0 c ∗ Pipeline.ΦT pre0 (tbl m) c)
  | n + 1, h => iprop((carried m hO c ⟨n, h⟩ ∗ (∃ r, prngReg c r)) ∗ Pipeline.ΦT pre0 (tbl m) c)

/-- The proof data: an input's buffer is left as found; the output's holds the body's pieces, for some block scales that
    a fetch could have left in window 2's buffer. -/
def rdat (hO : Ok m) (hW : Hw m) (c : Dev nD) : Pipeline.RDat τ (Elt F) Unit ℕ (UR sig nD τ) ℕ ((Pipeline.pin pcfgs fun _ => adm m hO) 0) c where
  A w := V m c (Pipeline.arrRef spec0 w)
  after w t Y X := match w with
    | 0 => X = Y
    | 1 => X = Y
    | 2 => X = Y
    | 3 => ∃ d, X = View.canon (outL m hO hW c t (((cfgM m hO).win 2).fill ((cfgM m hO).grid.coords t) d (iblk m hO c 2 t)))
  Φ t := PhiR m hO c t.val (Nat.le_of_lt_succ t.isLt)
  q _ := fullShare
  owed _ := 0

/-- Block 0 of a group is the same at each of its points. -/
theorem x3At_congr (hO : Ok m) (c : Dev nD) (t t' : Fin (cfgM m hO).N) (h : t.val / 120 = t'.val / 120) : x3At m hO c t = x3At m hO c t' := by
  funext y; unfold x3At; simp only [h]

theorem finds0 (hO : Ok m) (hW : Hw m) (c : Dev nD) (t : Fin (cfgM m hO).N) (Y) (h : (rdat m hO hW c).Finds 0 t Y) : Y = x3At m hO c t := by
  obtain ⟨d, hd⟩ := (rdat m hO hW c).finds_in_eq_fetched 0 rfl (fun _ _ _ => rfl) (fun t Y X h => h) t Y h
  exact hd.trans (blk0 m hO c t)

theorem finds1 (hO : Ok m) (hW : Hw m) (c : Dev nD) (t : Fin (cfgM m hO).N) (Y) (h : (rdat m hO hW c).Finds 1 t Y) : Y = V m c main_arg2 := by
  obtain ⟨d, hd⟩ := (rdat m hO hW c).finds_in_eq_fetched 1 rfl (fun _ _ _ => rfl) (fun t Y X h => h) t Y h
  exact hd.trans (blk1 m hO c t)

theorem fetch2 (a : (pcfg0 (F := F)).Adm) : ∀ t : Fin (cfg0 a).N, ((cfg0 a).win 2).fetch t = true :=
  (by decide +kernel : ∀ t : Fin grid0.N, Pipeline.Window.fetchOf grid0 false cc0_transform_2 t = true)

theorem finds2 (hO : Ok m) (hW : Hw m) (c : Dev nD) (t : Fin (cfgM m hO).N) (Y) (h : (rdat m hO hW c).Finds 2 t Y) :
    ∃ d, Y = ((cfgM m hO).win 2).fill ((cfgM m hO).grid.coords t) d (iblk m hO c 2 t) :=
  ((rdat m hO hW c).finds_of_fetch (fetch2 (adm m hO) t) Y).mp h

/-- The body at point `t` from the scratch of the point before: `R` is what the first part is handed. -/
theorem sound_body (hO : Ok m) (hW : Hw m) (c : Dev nD) (t : Fin (cfgM m hO).N) (x5 : Vec F S128x128 .fp8e4m3) (K : PUnit → sProp 𝕄) :
    iprop(PhiR m hO c t.val (Nat.le_of_lt t.isLt)
      ∗ owns (c : Thread nD τ) (ms0_0 m hO t) fullShare (x3At m hO c t)
      ∗ owns (c : Thread nD τ) (ms0_1 m hO t) fullShare (V m c main_arg2)
      ∗ owns (c : Thread nD τ) (ms0_2 m hO t) fullShare x5
      ∗ (∃ d, owns (c : Thread nD τ) (ms0_3 m hO t) fullShare d)
      ∗ (iprop(PhiR m hO c (t.val + 1) t.isLt
        ∗ owns (c : Thread nD τ) (ms0_0 m hO t) fullShare (x3At m hO c t)
        ∗ owns (c : Thread nD τ) (ms0_1 m hO t) fullShare (V m c main_arg2)
        ∗ owns (c : Thread nD τ) (ms0_2 m hO t) fullShare x5
        ∗ owns (c : Thread nD τ) (ms0_3 m hO t) fullShare (View.canon (outL m hO hW c t x5))) -∗ K ⟨⟩))
      ⊢ wp frame (wpE (defs₀ (F := F)) Variants.none c none) Set.univ (bodyAt0 (adm m hO) t) K := by
  have hN : t.val < 840 := lt_of_lt_of_eq t.isLt (N_eq m hO)
  have run := fun R R' hp8 => (bodyRun c (grid0.coords t) (ms0_0 m hO t) (hs0_0 m hO t) (ms0_1 m hO t) (hs0_1 m hO t) (ms0_2 m hO t) (hs0_2 m hO t) (ms0_3 m hO t) (hs0_3 m hO t)
      scM0_0 (Memref.isWhole_whole _) scM0_1 (Memref.isWhole_whole _) scM0_2 (Memref.isWhole_whole _) scM0_3 (Memref.isWhole_whole _)
    (scaleRow (grid0.coords t) (V m c main_arg2)) (blockScales x5) (filled (x3At m hO c t) permC) expC (tbl m 0) (hW c)).2 Set.univ K R R' hp8
  have fin : ∀ f, (ms0_3 m hO t).view.read (Elt F) ((ms0_3 m hO t).view.writes (Elt F) f (outL m hO hW c t x5)) = View.canon (outL m hO hW c t x5) :=
    fun f => View.read_writes_eq_canon _ _ _ (outL_cover m hO hW c t x5)
  rw [show PhiR m hO c (t.val + 1) t.isLt = iprop((carried m hO c t ∗ (∃ r, prngReg c r)) ∗ Pipeline.ΦT pre0 (tbl m) c) from rfl]
  by_cases hz : t.val = 0
  · have hP : PhiR m hO c t.val (Nat.le_of_lt t.isLt) = iprop(Pipeline.ΦA spec0 c ∗ Pipeline.ΦT pre0 (tbl m) c) := by
      have : ∀ n (h : n ≤ (cfgM m hO).N), n = 0 → PhiR m hO c n h = iprop(Pipeline.ΦA spec0 c ∗ Pipeline.ΦT pre0 (tbl m) c) := by
        rintro n h rfl; rfl
      exact this _ _ hz
    rw [hP, PhiA0_eq, PhiT0_eq]
    iintro ⟨HΦ, H0, H1, H2, H3, Hk⟩
    icases HΦ with ⟨⟨⟨HS0, HS1, HS2, HS3⟩, Hg⟩, HT⟩
    iapply (run _ _ (fun Q => head_first c (grid0.coords t) (ms0_0 m hO t) (hs0_0 m hO t) (ms0_1 m hO t) (hs0_1 m hO t) (ms0_2 m hO t) (hs0_2 m hO t) (ms0_3 m hO t) (hs0_3 m hO t)
      scM0_0 (Memref.isWhole_whole _) scM0_1 (Memref.isWhole_whole _) scM0_2 (Memref.isWhole_whole _) scM0_3 (Memref.isWhole_whole _) ((hcond0_0 t).mpr (by omega)) ((hcond0_1 t).mpr (by omega)) (x3At m hO c t) (V m c main_arg2) x5 Q))
    isplitl [H0 H1 H2 HS0 HS1 HS2]
    · isplitl [H0]; · iexact H0
      isplitl [H1]; · iexact H1
      isplitl [H2]; · iexact H2
      isplitl [HS0]; · iexact HS0
      isplitl [HS1]; · iexact HS1
      iexact HS2
    isplitl [H3]; · iexact H3
    isplitl [HS3]; · iexact HS3
    isplitl [HT]; · iexact HT
    iintro ⟨⟨H0, H1, H2, HS1⟩, HS0, HS2, ⟨%f3, H3⟩, HS3, HT⟩
    iapply Hk
    isplitl [HS0 HS1 HS2 HS3 Hg HT]
    · isplitr [HT]
      · isplitr [Hg]
        · try unfold carried
          isplitl [HS0]; · iexact HS0
          isplitl [HS1]; · iexact HS1
          isplitl [HS2]; · iexact HS2
          iexact HS3
        · iexact Hg
      · iexact HT
    isplitl [H0]; · iexact H0
    isplitl [H1]; · iexact H1
    isplitl [H2]; · iexact H2
    unfold owns; iexists _; isplitr; swap; · iexact H3
    ipureintro; exact fin f3
  · obtain ⟨t', ht', hP⟩ : ∃ t' : Fin (cfgM m hO).N, t'.val + 1 = t.val ∧ PhiR m hO c t.val (Nat.le_of_lt t.isLt)
        = iprop((carried m hO c t' ∗ (∃ r, prngReg c r)) ∗ Pipeline.ΦT pre0 (tbl m) c) := by
      have : ∀ n (h : n ≤ (cfgM m hO).N), n ≠ 0 → ∃ t' : Fin (cfgM m hO).N, t'.val + 1 = n ∧ PhiR m hO c n h
          = iprop((carried m hO c t' ∗ (∃ r, prngReg c r)) ∗ Pipeline.ΦT pre0 (tbl m) c) := by
        rintro (_ | n) h h0
        · exact absurd rfl h0
        · exact ⟨⟨n, h⟩, rfl, rfl⟩
      exact this _ _ hz
    rw [hP, PhiT0_eq]
    by_cases hg : t.val % 120 = 0
    · unfold carried
      iintro ⟨HΦ, H0, H1, H2, H3, Hk⟩
      icases HΦ with ⟨⟨⟨HS0, HS1, HS2, HS3⟩, Hg⟩, HT⟩
      iapply (run _ _ (fun Q => head_group c (grid0.coords t) (ms0_0 m hO t) (hs0_0 m hO t) (ms0_1 m hO t) (hs0_1 m hO t) (ms0_2 m hO t) (hs0_2 m hO t) (ms0_3 m hO t) (hs0_3 m hO t)
        scM0_0 (Memref.isWhole_whole _) scM0_1 (Memref.isWhole_whole _) scM0_2 (Memref.isWhole_whole _) scM0_3 (Memref.isWhole_whole _) (fun h => absurd ((hcond0_0 t).mp h) (by omega)) ((hcond0_1 t).mpr hg) (x3At m hO c t) (V m c main_arg2) x5 Q))
      isplitl [H0 H1 H2 HS0 HS1 HS2]
      · isplitl [H0]; · iexact H0
        isplitl [H1]; · iexact H1
        isplitl [H2]; · iexact H2
        isplitl [HS0]; · iexists _; iexact HS0
        isplitl [HS1]; · iexact HS1
        iexact HS2
      isplitl [H3]; · iexact H3
      isplitl [HS3]; · iexact HS3
      isplitl [HT]; · iexact HT
      iintro ⟨⟨H0, H1, H2, HS1⟩, HS0, HS2, ⟨%f3, H3⟩, HS3, HT⟩
      iapply Hk
      isplitl [HS0 HS1 HS2 HS3 Hg HT]
      · isplitr [HT]
        · isplitr [Hg]
          · try unfold carried
            isplitl [HS0]; · iexact HS0
            isplitl [HS1]; · iexact HS1
            isplitl [HS2]; · iexact HS2
            iexact HS3
          · iexact Hg
        · iexact HT
      isplitl [H0]; · iexact H0
      isplitl [H1]; · iexact H1
      isplitl [H2]; · iexact H2
      unfold owns; iexists _; isplitr; swap; · iexact H3
      ipureintro; exact fin f3
    · rw [show carried m hO c t' = carried m hO c t by unfold carried; rw [x3At_congr m hO c t' t (by omega)]]
      unfold carried
      iintro ⟨HΦ, H0, H1, H2, H3, Hk⟩
      icases HΦ with ⟨⟨⟨HS0, HS1, HS2, HS3⟩, Hg⟩, HT⟩
      iapply (run _ _ (fun Q => head_rest c (grid0.coords t) (ms0_0 m hO t) (hs0_0 m hO t) (ms0_1 m hO t) (hs0_1 m hO t) (ms0_2 m hO t) (hs0_2 m hO t) (ms0_3 m hO t) (hs0_3 m hO t)
        scM0_0 (Memref.isWhole_whole _) scM0_1 (Memref.isWhole_whole _) scM0_2 (Memref.isWhole_whole _) scM0_3 (Memref.isWhole_whole _) (fun h => absurd ((hcond0_0 t).mp h) (by omega)) (fun h => hg ((hcond0_1 t).mp h)) (x3At m hO c t) (V m c main_arg2) x5 (filled (x3At m hO c t) permC) Q))
      isplitl [H0 H1 H2 HS0 HS1 HS2]
      · isplitl [H0]; · iexact H0
        isplitl [H1]; · iexact H1
        isplitl [H2]; · iexact H2
        isplitl [HS0]; · iexact HS0
        isplitl [HS1]; · iexact HS1
        iexact HS2
      isplitl [H3]; · iexact H3
      isplitl [HS3]; · iexact HS3
      isplitl [HT]; · iexact HT
      iintro ⟨⟨H0, H1, H2, HS1⟩, HS0, HS2, ⟨%f3, H3⟩, HS3, HT⟩
      iapply Hk
      isplitl [HS0 HS1 HS2 HS3 Hg HT]
      · isplitr [HT]
        · isplitr [Hg]
          · try unfold carried
            isplitl [HS0]; · iexact HS0
            isplitl [HS1]; · iexact HS1
            isplitl [HS2]; · iexact HS2
            iexact HS3
          · iexact Hg
        · iexact HT
      isplitl [H0]; · iexact H0
      isplitl [H1]; · iexact H1
      isplitl [H2]; · iexact H2
      unfold owns; iexists _; isplitr; swap; · iexact H3
      ipureintro; exact fin f3

attribute [irreducible] outL

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem Phi_eq (hO : Ok m) (hW : Hw m) (c : Dev nD) (t : Fin ((cfgM m hO).N + 1)) :
    (rdat m hO hW c).Φ t = PhiR m hO c t.val (Nat.le_of_lt_succ t.isLt) := rfl
theorem PhiR_congr (hO : Ok m) (c : Dev nD) (n n' : ℕ) (h : n ≤ (cfgM m hO).N) (h' : n' ≤ (cfgM m hO).N) (e : n = n') : PhiR m hO c n h = PhiR m hO c n' h' := by
  subst e; rfl
theorem Phi_succ (hO : Ok m) (hW : Hw m) (c : Dev nD) (t : Fin (cfgM m hO).N) :
    (rdat m hO hW c).Φ t.succ = PhiR m hO c (t.val + 1) t.isLt := (Phi_eq m hO hW c _).trans (PhiR_congr m hO c _ _ _ _ (Fin.val_succ t))
theorem Phi_castSucc (hO : Ok m) (hW : Hw m) (c : Dev nD) (t : Fin (cfgM m hO).N) :
    (rdat m hO hW c).Φ t.castSucc = PhiR m hO c t.val (le_of_lt t.isLt) := (Phi_eq m hO hW c _).trans (PhiR_congr m hO c _ _ _ _ (Fin.val_castSucc t))
theorem owes_succ (hO : Ok m) (hW : Hw m) (c : Dev nD) (t : Fin (cfgM m hO).N) :
    (rdat m hO hW c).owesAt () t.succ = (rdat m hO hW c).owesAt () t.castSucc := rfl

/-- The body at point `t`, from what the pipeline may hand it to what the relation allows it to leave. -/
theorem sound_point (hO : Ok m) (hW : Hw m) (c : Dev nD) (t : Fin (cfgM m hO).N)
    (Y0 : Vec F S1920x1024 .bf16) (Y1 : Vec F S120x128 .f32) (Y2 : Vec F S128x128 .fp8e4m3) (Y3 : Vec F S128x512 .i8)
    (h0 : (rdat m hO hW c).Finds 0 t Y0) (h1 : (rdat m hO hW c).Finds 1 t Y1) (h2 : (rdat m hO hW c).Finds 2 t Y2) :
    iprop((rdat m hO hW c).Φ t.castSucc ∗ (rdat m hO hW c).owesAt () t.castSucc
      ∗ owns (c : Thread nD τ) (ms0_0 m hO t) fullShare Y0 ∗ owns (c : Thread nD τ) (ms0_1 m hO t) fullShare Y1
      ∗ owns (c : Thread nD τ) (ms0_2 m hO t) fullShare Y2 ∗ owns (c : Thread nD τ) (ms0_3 m hO t) fullShare Y3)
    ⊢ wp frame (wpE (defs₀ (F := F)) Variants.none c none) Set.univ (bodyAt0 (adm m hO) t) (fun _ =>
      iprop((rdat m hO hW c).Φ t.succ ∗ (rdat m hO hW c).owesAt () t.succ
        ∗ (∃ X, ⌜(rdat m hO hW c).after 0 t Y0 X⌝ ∗ owns (c : Thread nD τ) (ms0_0 m hO t) fullShare X)
        ∗ (∃ X, ⌜(rdat m hO hW c).after 1 t Y1 X⌝ ∗ owns (c : Thread nD τ) (ms0_1 m hO t) fullShare X)
        ∗ (∃ X, ⌜(rdat m hO hW c).after 2 t Y2 X⌝ ∗ owns (c : Thread nD τ) (ms0_2 m hO t) fullShare X)
        ∗ (∃ X, ⌜(rdat m hO hW c).after 3 t Y3 X⌝ ∗ owns (c : Thread nD τ) (ms0_3 m hO t) fullShare X))) := by
  obtain rfl := finds0 m hO hW c t _ h0
  obtain rfl := finds1 m hO hW c t _ h1
  obtain ⟨d, rfl⟩ := finds2 m hO hW c t _ h2
  rw [owes_succ m hO hW c t, Phi_succ m hO hW c t, Phi_castSucc m hO hW c t]
  iintro ⟨HΦ, Ho, H0, H1, H2, H3⟩
  iapply (sound_body m hO hW c t _)
  isplitl [HΦ]; · iexact HΦ
  isplitl [H0]; · iexact H0
  isplitl [H1]; · iexact H1
  isplitl [H2]; · iexact H2
  isplitl [H3]; · iexists _; iexact H3
  iintro ⟨HΦ, H0, H1, H2, H3⟩
  isplitl [HΦ]; · iexact HΦ
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  iexists _; isplitr; swap; · iexact H3
  ipureintro; exact ⟨d, rfl⟩

/-- The library's body obligation, at every point. -/
theorem body_obligation (hO : Ok m) (hW : Hw m) (c : Dev nD) : (rdat m hO hW c).BodyObligation (defs₀ (F := F)) Variants.none () Set.univ := by
  intro t Y hY
  rw [bigSep_W0, bigSep_W0, defs₀_row m hO]
  exact triple_restated (sound_point m hO hW c t (Y 0) (Y 1) (Y 2) (Y 3) (hY 0) (hY 1) (hY 2)) rfl .rfl fun _ => .rfl

theorem hin (hO : Ok m) (hW : Hw m) (c : Dev nD) : iprop(Pipeline.ΦA spec0 c ∗ Pipeline.ΦT pre0 (tbl m) c) ⊢ (rdat m hO hW c).Φ 0 :=
  Idealize.SL.BI.Entails.refl _

theorem hout (hO : Ok m) (hW : Hw m) (c : Dev nD) : (rdat m hO hW c).Φ (Fin.last (cfgM m hO).N) ⊢ Pipeline.ΦA spec0 c := by
  have : ∀ n (h : n ≤ (cfgM m hO).N), n ≠ 0 → PhiR m hO c n h ⊢ Pipeline.ΦA spec0 c := by
    rintro (_ | n) h h0
    · exact absurd rfl h0
    · rw [show PhiR m hO c (n + 1) h = iprop((carried m hO c ⟨n, h⟩ ∗ (∃ r, prngReg c r)) ∗ Pipeline.ΦT pre0 (tbl m) c) from rfl, PhiA0_eq]
      unfold carried
      iintro ⟨⟨⟨HS0, HS1, HS2, HS3⟩, Hg⟩, -⟩
      isplitr [Hg]
      · isplitl [HS0]; · iexists _; iexact HS0
        isplitl [HS1]; · iexists _; iexact HS1
        isplitl [HS2]; · iexists _; iexact HS2
        iexact HS3
      iexact Hg
  exact this (cfgM m hO).N _ (by rw [N_eq]; omega)

-- the launch theorem's implicit arguments are found by unifying its conclusion with this one, which takes unfolding plain
-- definitions in a metavariable's type
set_option backward.isDefEq.respectTransparency.types false in
/-- The run of the whole program: it ends with the arrays in the data's relation, and every semaphore at zero. -/
theorem run_main (hO : Ok m) (hW : Hw m) : θ_run defs (onTc (τ := τ) (main (F := F))) (s₀ m ρ)
    (fun r => Pipeline.RDat.FramePost ((Pipeline.pin pcfgs fun _ => adm m hO) 0) (rdat m hO hW) (V m) r ∧ r.2.sem = fun _ => 0) :=
  Pipeline.RDat.θ_run_frameP_track (Q' := _) pcfgs (fun _ => adm m hO) (0 : Fin 1) launch0 defs₀ Variants.none (rdat m hO hW) m ρ main
    (hbody := body_obligation m hO hW) (hshare := fun c => (rdat m hO hW c).share_full fun _ => rfl)
    (howed := fun _ _ => rfl) (V := V m) (hmain := hmain m Variants.none) (hA := fun _ _ => rfl) (hpf := V_pre m) (hin := hin m hO hW) (hout := hout m hO hW)

/-- The frame: the program ends, its arguments as they were and every semaphore at zero. -/
theorem frame (hO : Ok m) (hW : Hw m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ hO (rdat m hO hW) (fun _ _ => rfl) ((θ_run defs _ _).mono (fun _ h => h.1) (run_main m ρ hO hW)))
    ((θ_run defs _ _).mono (fun _ h => h.2) (run_main m ρ hO hW))

end Cert.CodesIdeal.Gen

end
-- ==== Proof.CodesIdealPre.lean ====
/- The precondition of the codes call (every word of the source table is the number of a token) gives the side condition
   that the body assumes of each word it loads: the eight rows of that token's expanded inputs lie inside the scratch buffer. -/
module

public import proofs.«01_k».proof.Defs
public import proofs.«01_k».proof.Proof.CodesIdealData
public import proofs.«01_k».proof.Proof.Gen.Pre_src_in_range

@[expose] public section

namespace Cert.CodesIdeal.Gen

open Idealize.ShloMosaic Idealize.ShloMosaic.TcCoe

/-- A word below 1920 names eight rows, aligned at eight, of the 15360 rows of expanded inputs. -/
theorem chk1_of_lt (w : BitVec 32) (h : w.toNat < 1920) : k0_chk1 w := by
  have e : (w * 8#32).toNat = w.toNat * 8 := by
    rw [BitVec.toNat_mul]
    exact Nat.mod_eq_of_lt (by simp; omega)
  unfold k0_chk1 k0_mult1 k0_off6
  refine ⟨?_, fun a => ?_⟩
  · simp only [Scalar.muli, IntOp.muli]
    rw [e]
    exact Dvd.intro_left _ rfl
  · fin_cases a
    · simp [Scalar.indexCast, Scalar.muli, IntOp.muli]
      omega
    · simp

/-- Every word of the source table is the number of a token. -/
theorem src_lt (m : (ℓ : Loc nD τ sig) → Buf (Elt Ideal) ℓ) (h : Cert.Pre_CodesIdeal m) (c : Dev nD) (y : S15360.Idx) :
    (m ((c : Thread nD τ).loc main_arg0) y).toNat < 1920 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun (h c) y
  simp only [Pre_src_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- The precondition gives the body's side condition. -/
theorem hw_of_pre (m : (ℓ : Loc nD τ sig) → Buf (Elt Ideal) ℓ) (h : Cert.Pre_CodesIdeal m) : Hw m := by
  intro c off inb
  refine chk1_of_lt _ ?_
  have key : ∃ y : S15360.Idx, srcAt (F := Ideal) c (tbl m 0) off inb = m (((0 : Dev nD) : Thread nD τ).loc main_arg0) y :=
    ⟨(Rect.unit (s := S15360) off S1.size inb).toLoadRect.idx (Shape.Idx.first (numel1_S1.symm ▸ Nat.one_pos)), rfl⟩
  obtain ⟨y, hy⟩ := key
  rw [hy]
  exact src_lt m h 0 y

end Cert.CodesIdeal.Gen
-- ==== Proof.CodesIdealTile.lean ====
/- What the body stores in its output block, in the body's own vector operations, stated once for every tile: a tile is
   32 rows; each row is eight vectors' worth of expanded inputs times its row of reciprocal scales, clipped; eight rows
   make one word vector; four word vectors are transposed by bytes and by lanes into the four stored column blocks. -/
module

public import proofs.«01_k».proof.Proof.CodesIdealData

@[expose] public section

set_option maxRecDepth 16384

noncomputable section

namespace Cert.CodesIdeal.Gen

open Idealize.ShloMosaic Idealize.ShloMosaic.TcCoe

variable {F : FTy → Type} [FloatOps F]

/-- Eight sublanes of expanded inputs times a row of reciprocal scales, clipped at six. -/
def clipped (x : Vec F S8x128 .f32) (r : Vec F S1x128 .f32) : FVec F S8x128 .f32 :=
  minimumf (broadcast S8x128 (Scalar.ofBits .f32 0x40C00000#32)) (maximumf (broadcast S8x128 (Scalar.ofBits .f32 0xC0C00000#32))
    (addf (mulf x (broadcastTo S8x128 r broadcasts_S1x128_S8x128)) (broadcast S8x128 (Scalar.ofBits .f32 0x00000000#32))))

/-- Eight rows under one another. -/
def stacked (v : Fin 8 → FVec F S8x128 .f32) : FVec F S64x128 .f32 :=
  concatenate S64x128 0 [⟨S8x128, v 0⟩, ⟨S8x128, v 1⟩, ⟨S8x128, v 2⟩, ⟨S8x128, v 3⟩, ⟨S8x128, v 4⟩, ⟨S8x128, v 5⟩, ⟨S8x128, v 6⟩, ⟨S8x128, v 7⟩]
    concatenates_S8x128_S8x128_S8x128_S8x128_S8x128_S8x128_S8x128_S8x128_S64x128_d0

/-- The fp4 magnitude of each element, by its thresholds. -/
def magOf (v : FVec F S64x128 .f32) : IVec S64x128 32 :=
  addi (addi (addi (addi (addi (addi
    (extui 32 (cmpf .ogt (absf v) (broadcast S64x128 (Scalar.ofBits .f32 0x3E800000#32))) natLt_1_32)
    (extui 32 (cmpf .oge (absf v) (broadcast S64x128 (Scalar.ofBits .f32 0x3F400000#32))) natLt_1_32))
    (extui 32 (cmpf .ogt (absf v) (broadcast S64x128 (Scalar.ofBits .f32 0x3FA00000#32))) natLt_1_32))
    (extui 32 (cmpf .oge (absf v) (broadcast S64x128 (Scalar.ofBits .f32 0x3FE00000#32))) natLt_1_32))
    (extui 32 (cmpf .ogt (absf v) (broadcast S64x128 (Scalar.ofBits .f32 0x40200000#32))) natLt_1_32))
    (extui 32 (cmpf .oge (absf v) (broadcast S64x128 (Scalar.ofBits .f32 0x40600000#32))) natLt_1_32))
    (extui 32 (cmpf .ogt (absf v) (broadcast S64x128 (Scalar.ofBits .f32 0x40A00000#32))) natLt_1_32)

/-- The fp4 code of each element: magnitude and sign. -/
def nibOf (v : FVec F S64x128 .f32) : IVec S64x128 32 :=
  ori (magOf v) (select (cmpf .olt v (broadcast S64x128 (Scalar.ofBits .f32 0x00000000#32))) (broadcast S64x128 8#32) (broadcast S64x128 0#32))

/-- Eight codes, of eight consecutive sublanes, in one word. -/
def wordOf (v : FVec F S64x128 .f32) : IVec S8x128 32 :=
  multiReductionI .add [1] S8x128
    (shli (shapeCast S8x8x128 (nibOf v) shapeCasts_S64x128_S8x8x128)
      (muli (broadcast S8x8x128 4#32) (iota .tc S8x8x128 32 [1] iota_S8x8x128_d1_w32)))
    0#32 reduces_S8x8x128_S8x128 rfl

/-- The low halves of two words. -/
def lo16 (a b : IVec S8x128 32) : IVec S8x128 32 := ori (andi a (broadcast S8x128 65535#32)) (shli b (broadcast S8x128 16#32))
/-- The high halves of two words. -/
def hi16 (a b : IVec S8x128 32) : IVec S8x128 32 :=
  ori (shrui a (broadcast S8x128 16#32)) (andi b (broadcast S8x128 (Scalar.xori 65535#32 4294967295#32)))
/-- The even bytes of two words. -/
def lo8 (a b : IVec S8x128 32) : IVec S8x128 32 :=
  ori (andi a (broadcast S8x128 16711935#32)) (shli (andi b (broadcast S8x128 16711935#32)) (broadcast S8x128 8#32))
/-- The odd bytes of two words. -/
def hi8 (a b : IVec S8x128 32) : IVec S8x128 32 :=
  ori (andi (shrui a (broadcast S8x128 8#32)) (broadcast S8x128 16711935#32)) (andi b (broadcast S8x128 (Scalar.xori 16711935#32 4294967295#32)))

/-- The four words transposed by bytes: word `q` holds byte `q` of each. -/
def bytesOf (w : Fin 4 → IVec S8x128 32) : Fin 4 → IVec S8x128 32
  | 0 => lo8 (lo16 (w 0) (w 2)) (lo16 (w 1) (w 3))
  | 1 => hi8 (lo16 (w 0) (w 2)) (lo16 (w 1) (w 3))
  | 2 => lo8 (hi16 (w 0) (w 2)) (hi16 (w 1) (w 3))
  | 3 => hi8 (hi16 (w 0) (w 2)) (hi16 (w 1) (w 3))

/-- Whether bit `d` of the lane's number is set. -/
def oddLane (d : BitVec 32) : IVec S8x128 1 :=
  cmpi .ne (andi (iota .tc S8x128 32 [1] iota_S8x128_d1_w32) (broadcast S8x128 d)) (broadcast S8x128 0#32)

/-- The lower of two vectors after lanes at distance `d` are exchanged. -/
def swapLo (d : BitVec 32) (lo hi : IVec S8x128 32) : IVec S8x128 32 :=
  select (oddLane d) (dynamicRotate 1 d none hi rotates_S8x128_d1) lo
/-- The upper of two vectors after lanes at distance `d` are exchanged; `d'` is `128 - d`. -/
def swapHi (d d' : BitVec 32) (lo hi : IVec S8x128 32) : IVec S8x128 32 :=
  select (oddLane d) hi (dynamicRotate 1 d' none lo rotates_S8x128_d1)

/-- Four vectors after the lanes of every group of four are transposed with them. -/
def lanesOf (b : Fin 4 → IVec S8x128 32) : Fin 4 → IVec S8x128 32
  | 0 => swapLo 2#32 (swapLo 1#32 (b 0) (b 1)) (swapLo 1#32 (b 2) (b 3))
  | 1 => swapLo 2#32 (swapHi 1#32 127#32 (b 0) (b 1)) (swapHi 1#32 127#32 (b 2) (b 3))
  | 2 => swapHi 2#32 126#32 (swapLo 1#32 (b 0) (b 1)) (swapLo 1#32 (b 2) (b 3))
  | 3 => swapHi 2#32 126#32 (swapHi 1#32 127#32 (b 0) (b 1)) (swapHi 1#32 127#32 (b 2) (b 3))

/-- The column block `t` that a tile stores, of the tile's four word vectors. -/
def tileOut (w : Fin 4 → IVec S8x128 32) (t : Fin 4) : IVec S32x128 8 :=
  bitcast S32x128 8 (lanesOf (bytesOf w) t) bitcasts_S8x128_w32_S32x128_w8

/-- The place of the source word of row `n` of the point's rows. -/
def tblOff (i : grid0.Coords) (n : BitVec 32) : Fin 1 → Nat :=
  ![(Scalar.indexCast (Scalar.addi (Scalar.muli (BitVec.ofNat 32 (i 1).val) 128#32) n)).toNat]

theorem tblOff_val (i : grid0.Coords) (n : Fin 128) : tblOff i (BitVec.ofNat 32 n.val) = ![128 * (i 1).val + n.val] := by
  have h1 : (i 1).val < 120 := (i 1).isLt
  have hn := n.isLt
  unfold tblOff
  congr 1
  simp [Scalar.indexCast, Scalar.addi, Scalar.muli, IntOp.addi, IntOp.muli]
  omega

theorem tblOff_inb (i : grid0.Coords) (n : Fin 128) : ∀ a, tblOff i (BitVec.ofNat 32 n.val) a + S1.size a ≤ S15360.size a := by
  intro a
  have h1 : (i 1).val < 120 := (i 1).isLt
  have hn := n.isLt
  rw [tblOff_val]
  fin_cases a
  simp
  omega

variable (c : Dev nD) (i : grid0.Coords) (arg7 : Memref sig .tc .vmem S15360x128 .f32) (harg7 : arg7.IsWhole) (arg9 : Memref sig .tc .vmem S2x128x128 .fp8e4m3) (harg9 : arg9.IsWhole) (arg10 : Memref sig .tc .vmem S128x128 .f32)
    (v9 : Vec F S1x128 .f32) (v36 : Vec F S128x128 .fp8e4m3) (xs0 : Vec F S15360x128 .f32) (xs2 : Vec F S2x128x128 .fp8e4m3)
    (xt0 : TbBuf0 (F := F) c tbM0_0) (hw : ∀ off inb, k0_chk1 (srcAt c xt0 off inb))

/-- The source word of row `n` of the point's rows. -/
def srcRow (n : Fin 128) : BitVec 32 := srcAt c xt0 (tblOff i (BitVec.ofNat 32 n.val)) (tblOff_inb i n)

/-- The expanded inputs that row `n` loads. -/
def xRow (n : Fin 128) : Vec F S8x128 .f32 :=
  View.readAt (Elt F) arg7.view (Rect.unit (s := S15360x128) (k0_off6 (srcRow c i xt0 n)) S8x128.size (hw _ _).2).toLoadRect (harg7.unread xs0)

theorem row_inb (n : Fin 128) : ∀ a, (![n.val, 0] : Fin 2 → Nat) a + S1x128.size a ≤ S128x128.size a := by
  intro a
  have hn := n.isLt
  match a with
  | 0 => show n.val + 1 ≤ 128; omega
  | 1 => exact Nat.le_refl _

/-- The point's reciprocal scales, row by row. -/
def recips : FVec F S128x128 .f32 :=
  k0_pay40 (k0_pay37 v9) (k0_pay38 i) (k0_pay39 v36) (FloatOps.ofBits FTy.f32 0#32)
    (View.readAt (Elt F) arg9.view (Rect.unit (s := S2x128x128) (k0_off4 i) S1x128x128.size (k0_off4_inb i)).toLoadRect (harg9.unread xs2))

/-- The row of reciprocal scales that row `n` loads. -/
def rRow (n : Fin 128) : Vec F S1x128 .f32 :=
  arg10.view.readCov [⟨Rect.unit (s := S128x128) ![0, 0] S128x128.size inb_S128x128_S128x128_0_0, recips i arg9 harg9 v9 v36 xs2⟩]
    (Rect.unit (s := S128x128) ![n.val, 0] S1x128.size (row_inb n)).toLoadRect

/-- Word vector `q` of tile `T`. -/
def wordAt (T : Fin 4) (q : Fin 4) : IVec S8x128 32 :=
  wordOf (stacked fun k => clipped (xRow c i arg7 harg7 xs0 xt0 hw ⟨32 * T.val + 4 * k.val + q.val, by omega⟩)
    (rRow i arg9 harg9 arg10 v9 v36 xs2 ⟨32 * T.val + 4 * k.val + q.val, by omega⟩))

theorem piece_inb (T t : Fin 4) : ∀ a, (![32 * T.val, 128 * t.val] : Fin 2 → Nat) a + S32x128.size a ≤ S128x512.size a := by
  intro a
  match a with
  | 0 => show 32 * T.val + 32 ≤ 128; omega
  | 1 => show 128 * t.val + 128 ≤ 512; omega

/-- Column block `t` of tile `T`, where the body stores it. -/
def pieceAt (T t : Fin 4) : View.Piece (Elt F) S128x512 .i8 :=
  ⟨Rect.unit (s := S128x512) ![32 * T.val, 128 * t.val] S32x128.size (piece_inb T t),
    tileOut (wordAt c i arg7 harg7 arg9 harg9 arg10 v9 v36 xs0 xs2 xt0 hw T) t⟩

/-- The body stores the sixteen pieces, the last one first. -/
theorem bodyRun_pieces (arg3 : Memref sig .tc .vmem S1920x1024 .bf16) (harg3 : arg3.IsWhole) (arg4 : Memref sig .tc .vmem S120x128 .f32) (harg4 : arg4.IsWhole) (arg5 : Memref sig .tc .vmem S128x128 .fp8e4m3) (harg5 : arg5.IsWhole) (arg6 : Memref sig .tc .vmem S128x512 .i8) (harg6 : arg6.IsWhole) (arg8 : Memref sig .tc .vmem S1024x1024 .bf16) (harg8 : arg8.IsWhole) (harg10 : arg10.IsWhole) :
    (bodyRun c i arg3 harg3 arg4 harg4 arg5 harg5 arg6 harg6 arg7 harg7 arg8 harg8 arg9 harg9 arg10 harg10 v9 v36 xs0 xs2 xt0 hw).1 = [
      pieceAt c i arg7 harg7 arg9 harg9 arg10 v9 v36 xs0 xs2 xt0 hw 3 3,
      pieceAt c i arg7 harg7 arg9 harg9 arg10 v9 v36 xs0 xs2 xt0 hw 3 2,
      pieceAt c i arg7 harg7 arg9 harg9 arg10 v9 v36 xs0 xs2 xt0 hw 3 1,
      pieceAt c i arg7 harg7 arg9 harg9 arg10 v9 v36 xs0 xs2 xt0 hw 3 0,
      pieceAt c i arg7 harg7 arg9 harg9 arg10 v9 v36 xs0 xs2 xt0 hw 2 3,
      pieceAt c i arg7 harg7 arg9 harg9 arg10 v9 v36 xs0 xs2 xt0 hw 2 2,
      pieceAt c i arg7 harg7 arg9 harg9 arg10 v9 v36 xs0 xs2 xt0 hw 2 1,
      pieceAt c i arg7 harg7 arg9 harg9 arg10 v9 v36 xs0 xs2 xt0 hw 2 0,
      pieceAt c i arg7 harg7 arg9 harg9 arg10 v9 v36 xs0 xs2 xt0 hw 1 3,
      pieceAt c i arg7 harg7 arg9 harg9 arg10 v9 v36 xs0 xs2 xt0 hw 1 2,
      pieceAt c i arg7 harg7 arg9 harg9 arg10 v9 v36 xs0 xs2 xt0 hw 1 1,
      pieceAt c i arg7 harg7 arg9 harg9 arg10 v9 v36 xs0 xs2 xt0 hw 1 0,
      pieceAt c i arg7 harg7 arg9 harg9 arg10 v9 v36 xs0 xs2 xt0 hw 0 3,
      pieceAt c i arg7 harg7 arg9 harg9 arg10 v9 v36 xs0 xs2 xt0 hw 0 2,
      pieceAt c i arg7 harg7 arg9 harg9 arg10 v9 v36 xs0 xs2 xt0 hw 0 1,
      pieceAt c i arg7 harg7 arg9 harg9 arg10 v9 v36 xs0 xs2 xt0 hw 0 0] := rfl

variable (m : (ℓ : Loc nD τ sig) → Buf (Elt F) ℓ)

/-- The pieces of a grid point. -/
def pieceOf (hO : Ok m) (hW : Hw m) (c : Dev nD) (t : Fin (cfgM m hO).N) (x5 : Vec F S128x128 .fp8e4m3) (T q : Fin 4) : View.Piece (Elt F) S128x512 .i8 :=
  pieceAt c (grid0.coords t) scM0_0 (Memref.isWhole_whole _) scM0_2 (Memref.isWhole_whole _) scM0_3
    (scaleRow (grid0.coords t) (V m c main_arg2)) (blockScales x5) (filled (x3At m hO c t) permC) expC (tbl m 0) (hW c) T q

theorem outL_pieces (hO : Ok m) (hW : Hw m) (c : Dev nD) (t : Fin (cfgM m hO).N) (x5 : Vec F S128x128 .fp8e4m3) :
    outL m hO hW c t x5 = [pieceOf m hO hW c t x5 3 3, pieceOf m hO hW c t x5 3 2, pieceOf m hO hW c t x5 3 1, pieceOf m hO hW c t x5 3 0, pieceOf m hO hW c t x5 2 3, pieceOf m hO hW c t x5 2 2, pieceOf m hO hW c t x5 2 1, pieceOf m hO hW c t x5 2 0, pieceOf m hO hW c t x5 1 3, pieceOf m hO hW c t x5 1 2, pieceOf m hO hW c t x5 1 1, pieceOf m hO hW c t x5 1 0, pieceOf m hO hW c t x5 0 3, pieceOf m hO hW c t x5 0 2, pieceOf m hO hW c t x5 0 1, pieceOf m hO hW c t x5 0 0] := by
  unfold outL
  exact bodyRun_pieces ..

end Cert.CodesIdeal.Gen

end
-- ==== Proof.CodesNibble.lean ====
/- One fp4 code over the extended reals. The kernel clips the scaled value at six, counts the thresholds that the
   magnitude passes and sets the sign bit; the reference clips the magnitude, rounds it half to even on the fp4 grid and
   reads the magnitude bits off the rounded value. The two codes are equal. -/
module

public import Idealize.ShloMosaic.PureOps.Ideal
public import Mathlib.Tactic.Linarith
public import Mathlib.Tactic.IntervalCases

@[expose] public section

noncomputable section

namespace Cert.Codes

open Idealize.ShloMosaic

/-- The kernel's code of a clipped value. -/
def kerNib (u : EReal) : BitVec 32 :=
  IntOp.ori
    (IntOp.addi (IntOp.addi (IntOp.addi (IntOp.addi (IntOp.addi (IntOp.addi
      (BitVec.setWidth 32 (Ideal.cmp .ogt (max u (-u)) (Ideal.ofBits .f32 0x3E800000#32)))
      (BitVec.setWidth 32 (Ideal.cmp .oge (max u (-u)) (Ideal.ofBits .f32 0x3F400000#32))))
      (BitVec.setWidth 32 (Ideal.cmp .ogt (max u (-u)) (Ideal.ofBits .f32 0x3FA00000#32))))
      (BitVec.setWidth 32 (Ideal.cmp .oge (max u (-u)) (Ideal.ofBits .f32 0x3FE00000#32))))
      (BitVec.setWidth 32 (Ideal.cmp .ogt (max u (-u)) (Ideal.ofBits .f32 0x40200000#32))))
      (BitVec.setWidth 32 (Ideal.cmp .oge (max u (-u)) (Ideal.ofBits .f32 0x40600000#32))))
      (BitVec.setWidth 32 (Ideal.cmp .ogt (max u (-u)) (Ideal.ofBits .f32 0x40A00000#32))))
    (Scalar.select (Ideal.cmp .olt u (Ideal.ofBits .f32 0x00000000#32)) 8#32 0#32)

/-- The reference's magnitude, rounded on the fp4 grid. -/
def refQ (a : EReal) : EReal :=
  Scalar.select (Ideal.cmp .olt a (Ideal.ofBits .f32 0x40000000#32))
    (Ideal.liftRound Ideal.roundHalfEven (Ideal.ofBits .f32 0x40000000#32 * a) * Ideal.ofBits .f32 0x3F000000#32)
    (Scalar.select (Ideal.cmp .olt a (Ideal.ofBits .f32 0x40800000#32)) (Ideal.liftRound Ideal.roundHalfEven a)
      (Ideal.ofBits .f32 0x40000000#32 * Ideal.liftRound Ideal.roundHalfEven (a * Ideal.ofBits .f32 0x3F000000#32)))

/-- The reference's magnitude bits of a rounded magnitude. -/
def refMag (q : EReal) : BitVec 32 :=
  Ideal.fptosi 32 (Scalar.select (Ideal.cmp .olt q (Ideal.ofBits .f32 0x40000000#32)) (Ideal.ofBits .f32 0x40000000#32 * q)
    (Scalar.select (Ideal.cmp .olt q (Ideal.ofBits .f32 0x40800000#32)) (q + Ideal.ofBits .f32 0x40000000#32)
      (q * Ideal.ofBits .f32 0x3F000000#32 + Ideal.ofBits .f32 0x40800000#32)))

/-- The reference's code of a scaled value. -/
def refNib (v : EReal) : BitVec 32 :=
  IntOp.ori (refMag (refQ (min (max v (-v)) (Ideal.ofBits .f32 0x40C00000#32))))
    (Scalar.select (Ideal.cmp .olt v (Ideal.ofBits .f32 0x00000000#32)) 8#32 0#32)

/-- The reference's scaled value of an input and its scale: their quotient, or zero where the scale is not positive. -/
def scaled (x e : EReal) : EReal :=
  Scalar.select (Ideal.cmp .ogt e (Ideal.ofBits .f32 0x00000000#32))
    (Ideal.div x (Scalar.select (Ideal.cmp .ogt e (Ideal.ofBits .f32 0x00000000#32)) e (Ideal.ofBits .f32 0x3F800000#32)))
    (Ideal.ofBits .f32 0x00000000#32)

/-- The kernel's reciprocal of a scale, or zero where the scale is not positive. -/
def recip (e : EReal) : EReal :=
  Scalar.select (Ideal.cmp .ogt e (Ideal.ofBits .f32 0x00000000#32))
    (Ideal.div (Ideal.ofBits .f32 0x3F800000#32)
      (Scalar.select (Ideal.cmp .ogt e (Ideal.ofBits .f32 0x00000000#32)) e (Ideal.ofBits .f32 0x3F800000#32)))
    (Ideal.ofBits .f32 0x00000000#32)

/-- The kernel's clipped value of an input and a reciprocal. -/
def clip6 (x r : EReal) : EReal :=
  min (Ideal.ofBits .f32 0x40C00000#32) (max (Ideal.ofBits .f32 0xC0C00000#32) (x * r + Ideal.ofBits .f32 0x00000000#32))

theorem c0 : Ideal.ofBits .f32 0x00000000#32 = 0 := by simp [Ideal.ofBits, Ideal.ieee]
theorem c1 : Ideal.ofBits .f32 0x3F800000#32 = 1 := by simp [Ideal.ofBits, Ideal.ieee, -EReal.coe_mul]; norm_num
theorem chalf : Ideal.ofBits .f32 0x3F000000#32 = ((1 / 2 : ℝ) : EReal) := by simp [Ideal.ofBits, Ideal.ieee, -EReal.coe_mul]; norm_num
theorem c2 : Ideal.ofBits .f32 0x40000000#32 = ((2 : ℝ) : EReal) := by simp [Ideal.ofBits, Ideal.ieee, -EReal.coe_mul]; norm_num
theorem c4 : Ideal.ofBits .f32 0x40800000#32 = ((4 : ℝ) : EReal) := by simp [Ideal.ofBits, Ideal.ieee, -EReal.coe_mul]; norm_num
theorem c6 : Ideal.ofBits .f32 0x40C00000#32 = ((6 : ℝ) : EReal) := by simp [Ideal.ofBits, Ideal.ieee, -EReal.coe_mul]; norm_num
theorem cm6 : Ideal.ofBits .f32 0xC0C00000#32 = ((-6 : ℝ) : EReal) := by simp [Ideal.ofBits, Ideal.ieee, -EReal.coe_mul]; norm_num
theorem t1 : Ideal.ofBits .f32 0x3E800000#32 = ((1 / 4 : ℝ) : EReal) := by simp [Ideal.ofBits, Ideal.ieee, -EReal.coe_mul]; norm_num
theorem t2 : Ideal.ofBits .f32 0x3F400000#32 = ((3 / 4 : ℝ) : EReal) := by simp [Ideal.ofBits, Ideal.ieee, -EReal.coe_mul]; norm_num
theorem t3 : Ideal.ofBits .f32 0x3FA00000#32 = ((5 / 4 : ℝ) : EReal) := by simp [Ideal.ofBits, Ideal.ieee, -EReal.coe_mul]; norm_num
theorem t4 : Ideal.ofBits .f32 0x3FE00000#32 = ((7 / 4 : ℝ) : EReal) := by simp [Ideal.ofBits, Ideal.ieee, -EReal.coe_mul]; norm_num
theorem t5 : Ideal.ofBits .f32 0x40200000#32 = ((5 / 2 : ℝ) : EReal) := by simp [Ideal.ofBits, Ideal.ieee, -EReal.coe_mul]; norm_num
theorem t6 : Ideal.ofBits .f32 0x40600000#32 = ((7 / 2 : ℝ) : EReal) := by simp [Ideal.ofBits, Ideal.ieee, -EReal.coe_mul]; norm_num
theorem t7 : Ideal.ofBits .f32 0x40A00000#32 = ((5 : ℝ) : EReal) := by simp [Ideal.ofBits, Ideal.ieee, -EReal.coe_mul]; norm_num

theorem cmp_ogt (a b : EReal) : Ideal.cmp .ogt a b = if b < a then 1#1 else 0#1 := by
  by_cases h : b < a <;> simp [Ideal.cmp, h]
theorem cmp_oge (a b : EReal) : Ideal.cmp .oge a b = if b ≤ a then 1#1 else 0#1 := by
  by_cases h : b ≤ a <;> simp [Ideal.cmp, h]
theorem cmp_olt (a b : EReal) : Ideal.cmp .olt a b = if a < b then 1#1 else 0#1 := by
  by_cases h : a < b <;> simp [Ideal.cmp, h]

theorem select_ite {α : Type} (p : Prop) [Decidable p] (x y : α) : Scalar.select (if p then 1#1 else 0#1) x y = if p then x else y := by
  by_cases h : p <;> simp [Scalar.select, h]

/-- Rounding half to even to a given integer. -/
theorem roundHalfEven_eq (r : ℝ) (n : ℤ) (h1 : (n : ℝ) - 1 / 2 ≤ r) (h2 : r ≤ n + 1 / 2)
    (h : Even n ∨ ((n : ℝ) - 1 / 2 < r ∧ r < n + 1 / 2)) : Ideal.roundHalfEven r = n := by
  unfold Ideal.roundHalfEven
  by_cases hn : (n : ℝ) ≤ r
  · have hf : ⌊r⌋ = n := Int.floor_eq_iff.mpr ⟨hn, by linarith⟩
    simp only [hf]
    by_cases h3 : r - n < 1 / 2
    · exact if_pos h3
    · rw [if_neg h3, if_neg (by linarith)]
      rcases h with h | h
      · rw [if_pos h]
      · exact absurd (by linarith [h.2]) h3
  · have hn' : r < n := not_le.mp hn
    have hf : ⌊r⌋ = n - 1 := Int.floor_eq_iff.mpr ⟨by push_cast; linarith, by push_cast; linarith⟩
    simp only [hf]
    push_cast
    rw [if_neg (by linarith)]
    by_cases h3 : 1 / 2 < r - ((n : ℝ) - 1)
    · rw [if_pos h3]; ring
    · rw [if_neg h3]
      rcases h with h | h
      · rw [if_neg (by rw [Int.even_sub_one]; exact not_not.mpr h)]; ring
      · exact absurd (by linarith [h.1]) h3

/-- The magnitude as a count of thresholds, of a real. -/
def count (a : ℝ) : BitVec 32 :=
  IntOp.addi (IntOp.addi (IntOp.addi (IntOp.addi (IntOp.addi (IntOp.addi
    (BitVec.setWidth 32 (if (1 / 4 : ℝ) < a then 1#1 else 0#1))
    (BitVec.setWidth 32 (if (3 / 4 : ℝ) ≤ a then 1#1 else 0#1)))
    (BitVec.setWidth 32 (if (5 / 4 : ℝ) < a then 1#1 else 0#1)))
    (BitVec.setWidth 32 (if (7 / 4 : ℝ) ≤ a then 1#1 else 0#1)))
    (BitVec.setWidth 32 (if (5 / 2 : ℝ) < a then 1#1 else 0#1)))
    (BitVec.setWidth 32 (if (7 / 2 : ℝ) ≤ a then 1#1 else 0#1)))
    (BitVec.setWidth 32 (if (5 : ℝ) < a then 1#1 else 0#1))

theorem kerNib_eq (u : EReal) (a : ℝ) (h : max u (-u) = a) :
    kerNib u = IntOp.ori (count a) (if u < 0 then 8#32 else 0#32) := by
  unfold kerNib count
  simp only [h, t1, t2, t3, t4, t5, t6, t7, c0, cmp_ogt, cmp_oge, cmp_olt, select_ite, EReal.coe_lt_coe_iff, EReal.coe_le_coe_iff]

theorem refQ_lt2 (a : ℝ) (n : ℤ) (h : a < 2) (hr : Ideal.roundHalfEven (2 * a) = n) : refQ a = ((n / 2 : ℝ) : EReal) := by
  unfold refQ
  rw [cmp_olt, select_ite, c2, if_pos (by exact_mod_cast h), chalf, ← EReal.coe_mul]
  show ((Ideal.roundHalfEven (2 * a) : ℝ) : EReal) * _ = _
  rw [hr, ← EReal.coe_mul]; congr 1; ring

theorem refQ_lt4 (a : ℝ) (n : ℤ) (h : 2 ≤ a) (h4 : a < 4) (hr : Ideal.roundHalfEven a = n) : refQ a = ((n : ℝ) : EReal) := by
  unfold refQ
  rw [cmp_olt, select_ite, c2, if_neg (not_lt.mpr (by exact_mod_cast h)), cmp_olt, select_ite, c4, if_pos (by exact_mod_cast h4)]
  show ((Ideal.roundHalfEven a : ℝ) : EReal) = _
  rw [hr]

theorem refQ_ge4 (a : ℝ) (n : ℤ) (h4 : 4 ≤ a) (hr : Ideal.roundHalfEven (a / 2) = n) : refQ a = ((2 * n : ℝ) : EReal) := by
  unfold refQ
  rw [cmp_olt, select_ite, c2, if_neg (not_lt.mpr (EReal.coe_le_coe_iff.mpr (by linarith))), cmp_olt, select_ite, c4,
    if_neg (not_lt.mpr (by exact_mod_cast h4)), chalf, ← EReal.coe_mul, show a * (1 / 2) = a / 2 by ring]
  show _ * ((Ideal.roundHalfEven (a / 2) : ℝ) : EReal) = _
  rw [hr, ← EReal.coe_mul]

theorem refMag_eq (q : ℝ) (n : ℕ) (h : (if q < 2 then 2 * q else if q < 4 then q + 2 else q * (1 / 2) + 4) = (n : ℝ)) (hn : n < 8) :
    refMag q = BitVec.ofNat 32 n := by
  have e : Scalar.select (Ideal.cmp .olt (q : EReal) (Ideal.ofBits .f32 0x40000000#32)) (Ideal.ofBits .f32 0x40000000#32 * (q : EReal))
    (Scalar.select (Ideal.cmp .olt (q : EReal) (Ideal.ofBits .f32 0x40800000#32)) ((q : EReal) + Ideal.ofBits .f32 0x40000000#32)
      ((q : EReal) * Ideal.ofBits .f32 0x3F000000#32 + Ideal.ofBits .f32 0x40800000#32)) = (((n : ℕ) : ℝ) : EReal) := by
    rw [← h]
    simp only [cmp_olt, select_ite, c2, c4, chalf, EReal.coe_lt_coe_iff, ← EReal.coe_mul, ← EReal.coe_add]
    split_ifs <;> rfl
  unfold refMag
  rw [e, Ideal.fptosi, Ideal.toIntClamped_coe, if_pos (Nat.cast_nonneg n), Int.floor_natCast]
  interval_cases n <;> rfl

/-- The magnitude bits of the rounded magnitude count the thresholds passed. -/
theorem refMag_count (a : ℝ) (h0 : 0 ≤ a) (h6 : a ≤ 6) : refMag (refQ a) = count a := by
  have key : ∀ (q : ℝ) (n : ℕ), refQ a = (q : EReal) → (if q < 2 then 2 * q else if q < 4 then q + 2 else q * (1 / 2) + 4) = (n : ℝ) →
      n < 8 → count a = BitVec.ofNat 32 n → refMag (refQ a) = count a := fun q n h1 h2 h3 h4 => by
    rw [h1, refMag_eq q n h2 h3, h4]
  by_cases s1 : a ≤ 1 / 4
  · refine key _ 0 (refQ_lt2 a 0 (by linarith) (roundHalfEven_eq _ 0 (by norm_num; linarith) (by norm_num; linarith) (Or.inl (by decide)))) (by norm_num) (by norm_num) ?_
    unfold count
    rw [if_neg (by linarith), if_neg (by linarith), if_neg (by linarith), if_neg (by linarith), if_neg (by linarith), if_neg (by linarith), if_neg (by linarith)]; rfl
  by_cases s2 : a < 3 / 4
  · refine key _ 1 (refQ_lt2 a 1 (by linarith) (roundHalfEven_eq _ 1 (by norm_num; linarith) (by norm_num; linarith) (Or.inr ⟨by norm_num; linarith, by norm_num; linarith⟩))) (by norm_num) (by norm_num) ?_
    unfold count
    rw [if_pos (by linarith), if_neg (by linarith), if_neg (by linarith), if_neg (by linarith), if_neg (by linarith), if_neg (by linarith), if_neg (by linarith)]; rfl
  by_cases s3 : a ≤ 5 / 4
  · refine key _ 2 (refQ_lt2 a 2 (by linarith) (roundHalfEven_eq _ 2 (by norm_num; linarith) (by norm_num; linarith) (Or.inl (by decide)))) (by norm_num) (by norm_num) ?_
    unfold count
    rw [if_pos (by linarith), if_pos (by linarith), if_neg (by linarith), if_neg (by linarith), if_neg (by linarith), if_neg (by linarith), if_neg (by linarith)]; rfl
  by_cases s4 : a < 7 / 4
  · refine key _ 3 (refQ_lt2 a 3 (by linarith) (roundHalfEven_eq _ 3 (by norm_num; linarith) (by norm_num; linarith) (Or.inr ⟨by norm_num; linarith, by norm_num; linarith⟩))) (by norm_num) (by norm_num) ?_
    unfold count
    rw [if_pos (by linarith), if_pos (by linarith), if_pos (by linarith), if_neg (by linarith), if_neg (by linarith), if_neg (by linarith), if_neg (by linarith)]; rfl
  by_cases s5 : a ≤ 5 / 2
  · have hc : count a = BitVec.ofNat 32 4 := by
      unfold count
      rw [if_pos (by linarith), if_pos (by linarith), if_pos (by linarith), if_pos (by linarith), if_neg (by linarith), if_neg (by linarith), if_neg (by linarith)]; rfl
    by_cases s : a < 2
    · exact key _ 4 (refQ_lt2 a 4 s (roundHalfEven_eq _ 4 (by norm_num; linarith) (by norm_num; linarith) (Or.inl (by decide)))) (by norm_num) (by norm_num) hc
    · exact key _ 4 (refQ_lt4 a 2 (by linarith) (by linarith) (roundHalfEven_eq _ 2 (by norm_num; linarith) (by norm_num; linarith) (Or.inl (by decide)))) (by norm_num) (by norm_num) hc
  by_cases s6 : a < 7 / 2
  · refine key _ 5 (refQ_lt4 a 3 (by linarith) (by linarith) (roundHalfEven_eq _ 3 (by norm_num; linarith) (by norm_num; linarith) (Or.inr ⟨by norm_num; linarith, by norm_num; linarith⟩))) (by norm_num) (by norm_num) ?_
    unfold count
    rw [if_pos (by linarith), if_pos (by linarith), if_pos (by linarith), if_pos (by linarith), if_pos (by linarith), if_neg (by linarith), if_neg (by linarith)]; rfl
  by_cases s7 : a ≤ 5
  · have hc : count a = BitVec.ofNat 32 6 := by
      unfold count
      rw [if_pos (by linarith), if_pos (by linarith), if_pos (by linarith), if_pos (by linarith), if_pos (by linarith), if_pos (by linarith), if_neg (by linarith)]; rfl
    by_cases s : a < 4
    · exact key _ 6 (refQ_lt4 a 4 (by linarith) s (roundHalfEven_eq _ 4 (by norm_num; linarith) (by norm_num; linarith) (Or.inl (by decide)))) (by norm_num) (by norm_num) hc
    · exact key _ 6 (refQ_ge4 a 2 (by linarith) (roundHalfEven_eq _ 2 (by norm_num; linarith) (by norm_num; linarith) (Or.inl (by decide)))) (by norm_num) (by norm_num) hc
  · refine key _ 7 (refQ_ge4 a 3 (by linarith) (roundHalfEven_eq _ 3 (by norm_num; linarith) (by norm_num; linarith) (Or.inr ⟨by norm_num; linarith, by norm_num; linarith⟩))) (by norm_num) (by norm_num) ?_
    unfold count
    rw [if_pos (by linarith), if_pos (by linarith), if_pos (by linarith), if_pos (by linarith), if_pos (by linarith), if_pos (by linarith), if_pos (by linarith)]; rfl

theorem count_lt (a : ℝ) : (count a).toNat < 8 := by
  unfold count
  split_ifs <;> decide

theorem coe_max' (a b : ℝ) : ((max a b : ℝ) : EReal) = max (a : EReal) b := EReal.coe_strictMono.monotone.map_max
theorem coe_min' (a b : ℝ) : ((min a b : ℝ) : EReal) = min (a : EReal) b := EReal.coe_strictMono.monotone.map_min

/-- The clipped magnitude is a real between zero and six. -/
theorem clipped_mag (v : EReal) : ∃ a : ℝ, min (max v (-v)) ((6 : ℝ) : EReal) = a ∧ 0 ≤ a ∧ a ≤ 6 := by
  induction v using EReal.rec with
  | bot => exact ⟨6, by simp, by norm_num, le_refl _⟩
  | top => exact ⟨6, by simp, by norm_num, le_refl _⟩
  | coe r =>
    refine ⟨min (max r (-r)) 6, ?_, ?_, min_le_right _ _⟩
    · rw [coe_min', coe_max', EReal.coe_neg]
    · exact le_min (by rcases le_total 0 r with h | h
                       · exact le_max_of_le_left h
                       · exact le_max_of_le_right (by linarith)) (by norm_num)

theorem clip_mag (v : EReal) :
    max (min ((6 : ℝ) : EReal) (max ((-6 : ℝ) : EReal) v)) (-(min ((6 : ℝ) : EReal) (max ((-6 : ℝ) : EReal) v))) = min (max v (-v)) ((6 : ℝ) : EReal) := by
  induction v using EReal.rec with
  | bot =>
    rw [EReal.neg_bot, max_eq_left (show (⊥ : EReal) ≤ ((-6 : ℝ) : EReal) from bot_le), max_eq_right (show (⊥ : EReal) ≤ ⊤ from bot_le),
      min_eq_right (show ((-6 : ℝ) : EReal) ≤ ((6 : ℝ) : EReal) from EReal.coe_le_coe_iff.mpr (by norm_num)), min_eq_right le_top, ← EReal.coe_neg, ← coe_max']
    norm_num
  | top =>
    rw [EReal.neg_top, max_eq_right (show ((-6 : ℝ) : EReal) ≤ ⊤ from le_top), max_eq_left (show (⊥ : EReal) ≤ ⊤ from bot_le),
      min_eq_left (show ((6 : ℝ) : EReal) ≤ ⊤ from le_top), min_eq_right le_top, ← EReal.coe_neg, ← coe_max']
    norm_num
  | coe r =>
    rw [← EReal.coe_neg, ← coe_max', ← coe_max', ← coe_min', ← EReal.coe_neg, ← coe_max', ← coe_min']
    congr 1
    rcases le_total r (-6) with h | h
    · rw [max_eq_left h, min_eq_right (by norm_num), max_eq_right (by norm_num), max_eq_right (by linarith), min_eq_right (by linarith)]; norm_num
    · rw [max_eq_right h]
      rcases le_total 6 r with h' | h'
      · rw [min_eq_left h', max_eq_left (by norm_num), max_eq_left (by linarith), min_eq_right h']
      · rw [min_eq_right h', min_eq_left (max_le h' (by linarith))]

theorem clip_neg (v : EReal) : min ((6 : ℝ) : EReal) (max ((-6 : ℝ) : EReal) v) < 0 ↔ v < 0 := by
  rw [min_lt_iff, max_lt_iff]
  constructor
  · rintro (h | h)
    · exact absurd h (by norm_num)
    · exact h.2
  · intro h; exact Or.inr ⟨by norm_num, h⟩

/-- A product with the reciprocal is the quotient. -/
theorem mul_recip (x e : EReal) : x * recip e + 0 = scaled x e := by
  unfold recip scaled
  simp only [cmp_ogt, select_ite, c0, c1, add_zero]
  by_cases h : 0 < e
  · simp only [if_pos h, Ideal.div, if_neg h.ne', one_mul]
  · simp only [if_neg h, mul_zero]

/-- The reference's code, of the real its magnitude clips to. -/
theorem refNib_eq (v : EReal) (a : ℝ) (h : min (max v (-v)) ((6 : ℝ) : EReal) = a) (h0 : 0 ≤ a) (h6 : a ≤ 6) :
    refNib v = IntOp.ori (count a) (if v < 0 then 8#32 else 0#32) := by
  unfold refNib
  rw [c6, h, refMag_count a h0 h6, cmp_olt, select_ite, c0]

/-- The kernel's code is the reference's. -/
theorem kerNib_clip6 (x e : EReal) : kerNib (clip6 x (recip e)) = refNib (scaled x e) := by
  obtain ⟨a, ha, h0, h6⟩ := clipped_mag (scaled x e)
  rw [refNib_eq _ a ha h0 h6]
  unfold clip6
  rw [c6, cm6, c0, mul_recip, kerNib_eq _ a ((clip_mag _).trans ha)]
  simp only [clip_neg]

theorem refNib_lt (v : EReal) : (refNib v).toNat < 16 := by
  obtain ⟨a, ha, h0, h6⟩ := clipped_mag v
  rw [refNib_eq _ a ha h0 h6]
  have := count_lt a
  show (count a ||| _).toNat < 2 ^ 4
  rw [BitVec.toNat_or]
  exact Nat.or_lt_two_pow (by omega) (by split_ifs <;> decide)

end Cert.Codes

end
-- ==== Proof.CodesSel.lean ====
/- The two constant matrices of the kernel and what they do over the extended reals: a product with the selection
   matrix puts the channels of a group on the lanes that the kernel wants them on, and a product with an expansion
   matrix repeats a block's scale on the lanes of its channels.  Both matrices hold ones and zeros only, one 1 per
   column, so each product is a single entry of its other factor. -/
module

public import proofs.«01_k».proof.Proof.CodesIdealTile
public import proofs.«01_k».proof.Proof.CodesNibble
public import Idealize.ShloMosaic.Lib.MatmulPlain
public import Idealize.ShloMosaic.Lib.Pipeline.ValueKit
public import Mathlib.Tactic.IntervalCases
public import Mathlib.Tactic.FinCases

@[expose] public section

set_option maxRecDepth 16384

noncomputable section

namespace Cert.CodesIdeal.Gen

open Idealize.ShloMosaic Idealize.ShloMosaic.TcCoe

/-- The channel of the group that lane `l` holds in its first nibble slot. -/
def chan (l : ℕ) : ℕ := 256 * (l % 4) + 16 * (l / 8) + 8 * ((l / 4) % 2)

/-- The scale block that lane `l`'s channels belong to. -/
def blkOf (l : ℕ) : ℕ := 16 * (l % 4) + l / 8

theorem chan_lt (l : Fin 128) (r : Fin 8) : chan l.val + r.val < 1024 := by
  unfold chan; omega

theorem blkOf_lt (l : Fin 128) : blkOf l.val < 64 := by
  unfold blkOf; omega

theorem permCols_zero : ∀ l : Fin 128, permCols (ValueIdx.ix2 (0 : Fin 1024) l) = BitVec.ofNat 32 (chan l.val) := by
  decide +kernel

theorem permCols_apply (k : Fin 1024) (l : Fin 128) : permCols (ValueIdx.ix2 k l) = BitVec.ofNat 32 (chan l.val) :=
  (show permCols (ValueIdx.ix2 k l) = permCols (ValueIdx.ix2 (0 : Fin 1024) l) from rfl).trans (permCols_zero l)

theorem permRows_apply (k : Fin 1024) (l : Fin 128) : permRows (ValueIdx.ix2 k l) = BitVec.ofNat 32 k.val := by
  unfold permRows; rw [iota_single_apply]

/-- A comparison made a number: one where the two words are equal and zero elsewhere. -/
theorem sel01 (a b : BitVec 32) :
    (FloatOps.sitofp .f32 ((IntOp.cmpi .eq a b).setWidth 32) : Ideal .f32) = if a = b then (1 : EReal) else 0 := by
  by_cases h : a = b
  · subst h; rw [if_pos rfl]
    have : (IntOp.cmpi .eq a a).setWidth 32 = 1#32 := by simp [IntOp.cmpi]
    rw [this]
    show ((((1#32 : BitVec 32).toInt : ℤ) : ℝ) : EReal) = 1
    have : (1#32 : BitVec 32).toInt = 1 := by decide
    rw [this]; norm_num
  · rw [if_neg h]
    have : (IntOp.cmpi .eq a b).setWidth 32 = 0#32 := by
      show (BitVec.ofBool (a == b)).setWidth 32 = 0#32
      rw [show (a == b) = false from by simpa using h]; rfl
    rw [this]
    show ((((0#32 : BitVec 32).toInt : ℤ) : ℝ) : EReal) = 0
    have : (0#32 : BitVec 32).toInt = 0 := by decide
    rw [this]; norm_num

theorem ofNat_inj {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat] at this
    omega
  · rintro rfl; rfl

/-- Column block `res` of the selection matrix. -/
def permBlock (res : BitVec 32) : FVec Ideal S1024x128 .bf16 :=
  truncf .bf16 (sitofp .f32 (extui 32 (cmpi .eq permRows (addi permCols (broadcast S1024x128 res))) natLt_1_32)) bitsLt_bf16_f32

theorem permBlock_apply (res : Fin 8) (k : Fin 1024) (l : Fin 128) :
    permBlock (BitVec.ofNat 32 res.val) (ValueIdx.ix2 k l) = if k.val = chan l.val + res.val then (1 : EReal) else 0 := by
  have hc := chan_lt l res
  have e : permBlock (BitVec.ofNat 32 res.val) (ValueIdx.ix2 k l)
      = (FloatOps.sitofp .f32 ((IntOp.cmpi .eq (permRows (ValueIdx.ix2 k l))
          (IntOp.addi (permCols (ValueIdx.ix2 k l)) (BitVec.ofNat 32 res.val))).setWidth 32) : Ideal .f32) := rfl
  rw [e, sel01, permRows_apply, permCols_apply]
  have e2 : IntOp.addi (BitVec.ofNat 32 (chan l.val)) (BitVec.ofNat 32 res.val) = BitVec.ofNat 32 (chan l.val + res.val) := by
    show BitVec.ofNat 32 (chan l.val) + BitVec.ofNat 32 res.val = _
    rw [BitVec.ofNat_add]
  rw [e2]
  simp only [ofNat_inj (show k.val < 2 ^ 32 by omega) (show chan l.val + res.val < 2 ^ 32 by omega)]

theorem permL_eq : permL (F := Ideal) =
    [⟨Rect.unit (s := S1024x1024) ![0, 896] S1024x128.size inb_S1024x1024_S1024x128_0_896, permBlock 7#32⟩,
     ⟨Rect.unit (s := S1024x1024) ![0, 768] S1024x128.size inb_S1024x1024_S1024x128_0_768, permBlock 6#32⟩,
     ⟨Rect.unit (s := S1024x1024) ![0, 640] S1024x128.size inb_S1024x1024_S1024x128_0_640, permBlock 5#32⟩,
     ⟨Rect.unit (s := S1024x1024) ![0, 512] S1024x128.size inb_S1024x1024_S1024x128_0_512, permBlock 4#32⟩,
     ⟨Rect.unit (s := S1024x1024) ![0, 384] S1024x128.size inb_S1024x1024_S1024x128_0_384, permBlock 3#32⟩,
     ⟨Rect.unit (s := S1024x1024) ![0, 256] S1024x128.size inb_S1024x1024_S1024x128_0_256, permBlock 2#32⟩,
     ⟨Rect.unit (s := S1024x1024) ![0, 128] S1024x128.size inb_S1024x1024_S1024x128_0_128, permBlock 1#32⟩,
     ⟨Rect.unit (s := S1024x1024) ![0, 0] S1024x128.size inb_S1024x1024_S1024x128_0_0, permBlock 0#32⟩] := by
  simp only [permL, k0_pay7, k0_pay8, k0_pay9, k0_pay10, k0_pay11, k0_pay12, k0_pay13, k0_pay14, k0_pay15, shapeCast_self]
  rfl

/-- The selection matrix at an entry. -/
def permG (y : S1024x1024.Idx) : EReal :=
  if (y 0).val = chan ((y 1).val % 128) + (y 1).val / 128 then 1 else 0

theorem permPiece (res : Fin 8) (off : Fin 2 → ℕ) (h : off = ![0, 128 * res.val]) (inb : ∀ a, off a + S1024x128.size a ≤ S1024x1024.size a)
    (x : (Rect.unit (s := S1024x1024) off S1024x128.size inb).shape.Idx) :
    permBlock (BitVec.ofNat 32 res.val) x = permG ((Rect.unit (s := S1024x1024) off S1024x128.size inb).emb x) := by
  subst h
  have h1 : (x 1).val < 128 := (x 1).isLt
  have e := permBlock_apply res (x 0) (x 1)
  rw [show (ValueIdx.ix2 (x 0) (x 1) : S1024x128.Idx) = x from by funext a; match a with | 0 => rfl | 1 => rfl] at e
  refine e.trans ?_
  unfold permG
  have a0 : (((Rect.unit (s := S1024x1024) ![0, 128 * res.val] S1024x128.size inb).emb x) 0).val = (x 0).val := by
    show 0 + 1 * (x 0).val = _; omega
  have a1 : (((Rect.unit (s := S1024x1024) ![0, 128 * res.val] S1024x128.size inb).emb x) 1).val = 128 * res.val + (x 1).val := by
    show 128 * res.val + 1 * (x 1).val = _; omega
  rw [a0, a1, show (128 * res.val + (x 1).val) % 128 = (x 1).val by omega, show (128 * res.val + (x 1).val) / 128 = res.val by omega]

theorem permC_apply (y : S1024x1024.Idx) : permC (F := Ideal) y = permG y := by
  refine View.canon_apply_of_pieces (Val := Elt Ideal) (e := .bf16) permG permL ?_ y (permL_cover y)
  rw [permL_eq]
  intro p hp x
  simp only [List.mem_cons, List.not_mem_nil, or_false] at hp
  rcases hp with rfl | rfl | rfl | rfl | rfl | rfl | rfl | rfl
  · exact permPiece 7 _ rfl inb_S1024x1024_S1024x128_0_896 x
  · exact permPiece 6 _ rfl inb_S1024x1024_S1024x128_0_768 x
  · exact permPiece 5 _ rfl inb_S1024x1024_S1024x128_0_640 x
  · exact permPiece 4 _ rfl inb_S1024x1024_S1024x128_0_512 x
  · exact permPiece 3 _ rfl inb_S1024x1024_S1024x128_0_384 x
  · exact permPiece 2 _ rfl inb_S1024x1024_S1024x128_0_256 x
  · exact permPiece 1 _ rfl inb_S1024x1024_S1024x128_0_128 x
  · exact permPiece 0 _ rfl inb_S1024x1024_S1024x128_0_0 x

/-- The scale block of each lane, as the program computes it. -/
abbrev expBlk : IVec S128x128 32 := k0_pay19 expCols expFour k0_pay16 k0_pay17 k0_pay18 (Scalar.cmpi .slt expFour 0#32)

theorem expBlk_zero : ∀ l : Fin 128, expBlk (ValueIdx.ix2 (0 : Fin 128) l) = BitVec.ofNat 32 (blkOf l.val) := by
  decide +kernel

theorem expBlk_apply (k l : Fin 128) : expBlk (ValueIdx.ix2 k l) = BitVec.ofNat 32 (blkOf l.val) :=
  (show expBlk (ValueIdx.ix2 k l) = expBlk (ValueIdx.ix2 (0 : Fin 128) l) from rfl).trans (expBlk_zero l)

theorem expRows_apply (k l : Fin 128) : expRows (ValueIdx.ix2 k l) = BitVec.ofNat 32 k.val := by
  unfold expRows; rw [iota_single_apply]

/-- One expansion matrix. -/
def expBlock (off : BitVec 32) : FVec Ideal S128x128 .fp8e4m3 :=
  truncf .fp8e4m3 (sitofp .f32 (extui 32 (cmpi .eq expRows (addi expBlk (broadcast S128x128 off))) natLt_1_32)) bitsLt_fp8e4m3_f32

theorem expBlock_apply (half : Fin 2) (k l : Fin 128) :
    expBlock (BitVec.ofNat 32 (64 * half.val)) (ValueIdx.ix2 k l) = if k.val = blkOf l.val + 64 * half.val then (1 : EReal) else 0 := by
  have hc := blkOf_lt l
  have e : expBlock (BitVec.ofNat 32 (64 * half.val)) (ValueIdx.ix2 k l)
      = (FloatOps.sitofp .f32 ((IntOp.cmpi .eq (expRows (ValueIdx.ix2 k l))
          (IntOp.addi (expBlk (ValueIdx.ix2 k l)) (BitVec.ofNat 32 (64 * half.val)))).setWidth 32) : Ideal .f32) := rfl
  rw [e, sel01, expRows_apply, expBlk_apply]
  have e2 : IntOp.addi (BitVec.ofNat 32 (blkOf l.val)) (BitVec.ofNat 32 (64 * half.val)) = BitVec.ofNat 32 (blkOf l.val + 64 * half.val) := by
    show BitVec.ofNat 32 (blkOf l.val) + BitVec.ofNat 32 (64 * half.val) = _
    rw [BitVec.ofNat_add]
  rw [e2]
  simp only [ofNat_inj (show k.val < 2 ^ 32 by omega) (show blkOf l.val + 64 * half.val < 2 ^ 32 by omega)]

theorem expL_eq : expL (F := Ideal) =
    [⟨Rect.unit (s := S2x128x128) ![1, 0, 0] S1x128x128.size inb_S2x128x128_S1x128x128_1_0_0,
        shapeCast S1x128x128 (expBlock 64#32) shapeCasts_S128x128_S1x128x128⟩,
     ⟨Rect.unit (s := S2x128x128) ![0, 0, 0] S1x128x128.size inb_S2x128x128_S1x128x128_0_0_0,
        shapeCast S1x128x128 (expBlock 0#32) shapeCasts_S128x128_S1x128x128⟩] := rfl

/-- The expansion matrices at an entry. -/
def expG (y : S2x128x128.Idx) : EReal := if (y 1).val = blkOf (y 2).val + 64 * (y 0).val then 1 else 0

theorem expPiece (half : Fin 2) (off : Fin 3 → ℕ) (h : off = ![half.val, 0, 0]) (inb : ∀ a, off a + S1x128x128.size a ≤ S2x128x128.size a)
    (x : (Rect.unit (s := S2x128x128) off S1x128x128.size inb).shape.Idx) :
    (shapeCast S1x128x128 (expBlock (BitVec.ofNat 32 (64 * half.val))) shapeCasts_S128x128_S1x128x128 : FVec Ideal S1x128x128 .fp8e4m3) x
      = expG ((Rect.unit (s := S2x128x128) off S1x128x128.size inb).emb x) := by
  subst h
  have h0 : (x 0).val < 1 := (x 0).isLt
  refine (shapeCast_apply (s := S128x128) (t := S1x128x128) _ _ x (ValueIdx.ix2 (x 1) (x 2)) (by
    refine (Shape.rowMajor_val_two (d := S128x128.size) _).trans (((Shape.rowMajor_val_three (d := S1x128x128.size) x).trans ?_).symm)
    show ((x 0).val * 128 + (x 1).val) * 128 + (x 2).val = (x 1).val * 128 + (x 2).val
    omega)).trans ?_
  refine (expBlock_apply half (x 1) (x 2)).trans ?_
  unfold expG
  have a0 : (((Rect.unit (s := S2x128x128) ![half.val, 0, 0] S1x128x128.size inb).emb x) 0).val = half.val := by
    show half.val + 1 * (x 0).val = _; omega
  have a1 : (((Rect.unit (s := S2x128x128) ![half.val, 0, 0] S1x128x128.size inb).emb x) 1).val = (x 1).val := by
    show 0 + 1 * (x 1).val = _; omega
  have a2 : (((Rect.unit (s := S2x128x128) ![half.val, 0, 0] S1x128x128.size inb).emb x) 2).val = (x 2).val := by
    show 0 + 1 * (x 2).val = _; omega
  rw [a0, a1, a2]

theorem expC_apply (y : S2x128x128.Idx) : expC (F := Ideal) y = expG y := by
  refine View.canon_apply_of_pieces (Val := Elt Ideal) (e := .fp8e4m3) expG expL ?_ y (expL_cover y)
  rw [expL_eq]
  intro p hp x
  simp only [List.mem_cons, List.not_mem_nil, or_false] at hp
  rcases hp with rfl | rfl
  · exact expPiece 1 _ rfl inb_S2x128x128_S1x128x128_1_0_0 x
  · exact expPiece 0 _ rfl inb_S2x128x128_S1x128x128_0_0_0 x

/-! ## The expanded inputs -/

theorem dotPerm : dot_S128x1024_S1024x256_S128x256_1_0_0_1_n_n = DotDims.plain 128 1024 256 := rfl
theorem dotExp : dot_S128x128_S128x128_S128x128_1_0_0_1_n_n = DotDims.plain 128 128 128 := rfl

/-- Half a column block of a product with the selection matrix, at an element. -/
theorem sliceMm (X : FVec Ideal S128x1024 .bf16) (p : FVec Ideal S1024x256 .bf16) (h : Fin 2) (off : Fin 2 → ℕ) (hoff : off = ![0, 128 * h.val])
    (hs : S128x256.Slices off S128x128) (a l : Fin 128) :
    extractStridedSlice S128x128 off (matmul dot_S128x1024_S1024x256_S128x256_1_0_0_1_n_n none X p (constant S128x256 .f32 0x00000000#32)) hs (ValueIdx.ix2 a l)
      = ∑ c : Fin 1024, X (ValueIdx.ix2 a c) * p (ValueIdx.ix2 c ⟨128 * h.val + l.val, by omega⟩) := by
  subst hoff
  rw [extractStridedSlice_apply _ _ _ _ (ValueIdx.ix2 a ⟨128 * h.val + l.val, by omega⟩) (by
    intro b
    match b with
    | 0 => show a.val = 0 + a.val; omega
    | 1 => show 128 * h.val + l.val = 128 * h.val + l.val; rfl)]
  simp only [matmul]
  rw [dotPerm]
  refine (Ideal.matmul_plain_apply none X p _ _ _).trans ?_
  rw [show (constant S128x256 .f32 0x00000000#32 : FVec Ideal S128x256 .f32) (ValueIdx.ix2 a ⟨128 * h.val + l.val, by omega⟩) = (0 : EReal) from Cert.Codes.c0, zero_add]

theorem off1_val : ∀ k : Fin k0_t1_loop.trips, k0_off1 k = ![128 * k.val, 0] := by decide +kernel

theorem ldX (x : Vec Ideal S1920x1024 .bf16) (k : Fin k0_t1_loop.trips) (a : Fin 128) (c : Fin 1024) (n : Fin 1920) (hn : n.val = 128 * k.val + a.val) :
    View.ld x (Rect.unit (s := S1920x1024) (k0_off1 k) S128x1024.size (xTile_inb k)) (ValueIdx.ix2 a c) = x (ValueIdx.ix2 n c) := by
  refine congrArg x (funext fun b => Fin.ext ?_)
  match b with
  | 0 => show k0_off1 k 0 + 1 * a.val = n.val; rw [off1_val]; show 128 * k.val + 1 * a.val = n.val; omega
  | 1 => show k0_off1 k 1 + 1 * c.val = c.val; rw [off1_val]; show 0 + 1 * c.val = c.val; omega

theorem ldP (P : Vec Ideal S1024x1024 .bf16) (n : Fin 4) (off : Fin 2 → ℕ) (hoff : off = ![0, 256 * n.val]) (inb : ∀ a, off a + S1024x256.size a ≤ S1024x1024.size a)
    (c : Fin 1024) (l : Fin 256) :
    View.ld P (Rect.unit (s := S1024x1024) off S1024x256.size inb) (ValueIdx.ix2 c l) = P (ValueIdx.ix2 c ⟨256 * n.val + l.val, by omega⟩) := by
  subst hoff
  refine congrArg P (funext fun b => Fin.ext ?_)
  match b with
  | 0 => show 0 + 1 * c.val = c.val; omega
  | 1 => show 256 * n.val + 1 * l.val = 256 * n.val + l.val; omega

theorem fillPart (x : Vec Ideal S1920x1024 .bf16) (P : Vec Ideal S1024x1024 .bf16) (k : Fin k0_t1_loop.trips) (n : Fin 4) (h : Fin 2)
    (offp : Fin 2 → ℕ) (hoffp : offp = ![0, 256 * n.val]) (inb : ∀ a, offp a + S1024x256.size a ≤ S1024x1024.size a)
    (off : Fin 2 → ℕ) (hoff : off = ![0, 128 * h.val]) (hs : S128x256.Slices off S128x128) (a l : Fin 128)
    (m : Fin 1920) (hm : m.val = 128 * k.val + a.val) (j : Fin 1024) (hj : j.val = 256 * n.val + 128 * h.val + l.val) :
    extractStridedSlice S128x128 off (matmul (F := Ideal) (φ₁ := .bf16) (φ₂ := .bf16) dot_S128x1024_S1024x256_S128x256_1_0_0_1_n_n none
        (View.ld x (Rect.unit (s := S1920x1024) (k0_off1 k) S128x1024.size (xTile_inb k)))
        (View.ld P (Rect.unit (s := S1024x1024) offp S1024x256.size inb)) (constant S128x256 .f32 0x00000000#32)) hs (ValueIdx.ix2 a l)
      = ∑ c : Fin 1024, (x (ValueIdx.ix2 m c) : EReal) * P (ValueIdx.ix2 c j) := by
  refine (sliceMm _ _ h off hoff hs a l).trans (Finset.sum_congr rfl fun c _ => ?_)
  rw [ldX x k a c m hm, ldP P n offp hoffp inb]
  congr 3
  exact Fin.ext (by show 256 * n.val + (128 * h.val + l.val) = j.val; omega)

theorem fillVal_apply (x : Vec Ideal S1920x1024 .bf16) (P : Vec Ideal S1024x1024 .bf16) (k : Fin k0_t1_loop.trips) (r : Fin 8) (a l : Fin 128)
    (m : Fin 1920) (hm : m.val = 128 * k.val + a.val) (j : Fin 1024) (hj : j.val = 128 * r.val + l.val) :
    fillVal x P k r (ValueIdx.ix2 a l) = ∑ c : Fin 1024, (x (ValueIdx.ix2 m c) : EReal) * P (ValueIdx.ix2 c j) := by
  unfold fillVal
  simp only [k0_pay22, k0_pay23, k0_pay24, k0_pay25, k0_pay26, k0_pay27, k0_pay28, k0_pay29, k0_pay30, k0_pay31, k0_pay32, k0_pay33, k0_pay35, k0_pay36, shapeCast_self]
  match r, hj with
  | 0, hj => exact fillPart x P k 0 0 _ rfl inb_S1024x1024_S1024x256_0_0 _ rfl slices_S128x256_o0_0_S128x128 a l m hm j (by simpa using hj)
  | 1, hj => exact fillPart x P k 0 1 _ rfl inb_S1024x1024_S1024x256_0_0 _ rfl slices_S128x256_o0_128_S128x128 a l m hm j (by simpa using hj)
  | 2, hj => exact fillPart x P k 1 0 _ rfl inb_S1024x1024_S1024x256_0_256 _ rfl slices_S128x256_o0_0_S128x128 a l m hm j (by simpa using hj)
  | 3, hj => exact fillPart x P k 1 1 _ rfl inb_S1024x1024_S1024x256_0_256 _ rfl slices_S128x256_o0_128_S128x128 a l m hm j (by simpa using hj)
  | 4, hj => exact fillPart x P k 2 0 _ rfl inb_S1024x1024_S1024x256_0_512 _ rfl slices_S128x256_o0_0_S128x128 a l m hm j (by simpa using hj)
  | 5, hj => exact fillPart x P k 2 1 _ rfl inb_S1024x1024_S1024x256_0_512 _ rfl slices_S128x256_o0_128_S128x128 a l m hm j (by simpa using hj)
  | 6, hj => exact fillPart x P k 3 0 _ rfl inb_S1024x1024_S1024x256_0_768 _ rfl slices_S128x256_o0_0_S128x128 a l m hm j (by simpa using hj)
  | 7, hj => exact fillPart x P k 3 1 _ rfl inb_S1024x1024_S1024x256_0_768 _ rfl slices_S128x256_o0_128_S128x128 a l m hm j (by simpa using hj)

/-- The expanded inputs of a group: sublane `r` of row `s` holds, on lane `l`, channel `chan l + r`. -/
theorem filled_apply (x : Vec Ideal S1920x1024 .bf16) (s : Fin 1920) (r : Fin 8) (l : Fin 128) (y : S15360x128.Idx)
    (h0 : (y 0).val = 8 * s.val + r.val) (h1 : (y 1).val = l.val) :
    filled x (permC (F := Ideal)) y = x (ValueIdx.ix2 s ⟨chan l.val + r.val, chan_lt l r⟩) := by
  have hs := s.isLt
  have hr := r.isLt
  rw [filled_at x permC ⟨s.val / 128, by rw [trips_eq]; omega⟩ r (ValueIdx.ix2 ⟨s.val % 128, by omega⟩ l) y
    (by show (y 0).val = 1024 * (s.val / 128) + r.val + 8 * (s.val % 128); omega) h1]
  rw [fillVal_apply x permC _ r _ l s (by show s.val = 128 * (s.val / 128) + s.val % 128; omega) ⟨128 * r.val + l.val, by omega⟩ rfl]
  have hc := chan_lt l r
  rw [Finset.sum_eq_single (⟨chan l.val + r.val, hc⟩ : Fin 1024)]
  · rw [permC_apply]
    have : permG (ValueIdx.ix2 (⟨chan l.val + r.val, hc⟩ : Fin 1024) (⟨128 * r.val + l.val, by omega⟩ : Fin 1024)) = 1 := by
      unfold permG
      rw [if_pos]
      show chan l.val + r.val = chan ((128 * r.val + l.val) % 128) + (128 * r.val + l.val) / 128
      rw [show (128 * r.val + l.val) % 128 = l.val by omega, show (128 * r.val + l.val) / 128 = r.val by omega]
    rw [this, mul_one]
  · intro c _ hne
    rw [permC_apply]
    have : permG (ValueIdx.ix2 c (⟨128 * r.val + l.val, by omega⟩ : Fin 1024)) = 0 := by
      unfold permG
      rw [if_neg]
      show ¬ c.val = chan ((128 * r.val + l.val) % 128) + (128 * r.val + l.val) / 128
      rw [show (128 * r.val + l.val) % 128 = l.val by omega, show (128 * r.val + l.val) / 128 = r.val by omega]
      exact fun h => hne (Fin.ext h)
    rw [this, mul_zero]
  · exact fun h => absurd (Finset.mem_univ _) h

/-! ## The reciprocal scales -/

/-- A grid point of channel group `g`. -/
def gridAt (g : Fin 7) : grid0.Coords := fun a => match a with
  | 0 => g
  | 1 => (0 : Fin 120)

theorem mask_zero : ∀ (g : Fin 7) (l : Fin 128), 128 * (g.val / 2) + l.val < 448 →
    k0_pay38 (gridAt g) (ValueIdx.ix2 (0 : Fin 128) l) = 1#1 := by
  decide +kernel

theorem mask_apply (i : grid0.Coords) (n l : Fin 128) (h : 128 * ((i 0).val / 2) + l.val < 448) :
    k0_pay38 i (ValueIdx.ix2 n l) = 1#1 :=
  (show k0_pay38 i (ValueIdx.ix2 n l) = k0_pay38 (gridAt (i 0)) (ValueIdx.ix2 (0 : Fin 128) l) from rfl).trans (mask_zero (i 0) l h)

theorem off4_zero : ∀ g : Fin 7, k0_off4 (gridAt g) = ![g.val % 2, 0, 0] := by
  decide +kernel

theorem off4_val (i : grid0.Coords) : k0_off4 i = ![(i 0).val % 2, 0, 0] :=
  (show k0_off4 i = k0_off4 (gridAt (i 0)) from rfl).trans (off4_zero (i 0))

theorem pay37_apply (v9 : Vec Ideal S1x128 .f32) (n l : Fin 128) :
    k0_pay37 v9 (ValueIdx.ix2 n l) = v9 (ValueIdx.ix2 (0 : Fin 1) n) := by
  unfold k0_pay37
  simp only [shapeCast_self]
  rw [transpose_apply _ _ _ _ (ValueIdx.ix2 l n) (by intro b; match b with | 0 => rfl | 1 => rfl)]
  exact broadcastTo_apply _ _ _ _ (by intro a; match a with | 0 => rfl | 1 => rfl)

/-- The reciprocal scales of a point: row `n`, lane `l` holds the reciprocal of the lane's block scale times the row's scale. -/
theorem recips_apply (i : grid0.Coords) (arg9 : Memref sig .tc .vmem S2x128x128 .fp8e4m3) (harg9 : arg9.IsWhole) (v9 : Vec Ideal S1x128 .f32)
    (v36 : Vec Ideal S128x128 .fp8e4m3) (n l : Fin 128) (k : Fin 128) (hk : k.val = blkOf l.val + 64 * ((i 0).val % 2)) :
    recips i arg9 harg9 v9 v36 (expC (F := Ideal)) (ValueIdx.ix2 n l)
      = Cert.Codes.recip ((v36 (ValueIdx.ix2 n k) : EReal) * v9 (ValueIdx.ix2 (0 : Fin 1) n)) := by
  have hl := blkOf_lt l
  have hg : (i 0).val < 7 := (i 0).isLt
  let V : Vec Ideal S1x128x128 .fp8e4m3 :=
    View.readAt (Elt Ideal) arg9.view (Rect.unit (s := S2x128x128) (k0_off4 i) S1x128x128.size (k0_off4_inb i)).toLoadRect (harg9.unread expC)
  have hV : ∀ (k' : Fin 128), (V (ValueIdx.ix3 (0 : Fin 1) k' l) : EReal) = if k' = k then 1 else 0 := by
    intro k'
    have e : V (ValueIdx.ix3 (0 : Fin 1) k' l) = expC (F := Ideal) (ValueIdx.ix3 (⟨(i 0).val % 2, by omega⟩ : Fin 2) k' l) := by
      show (View.readAt (Elt Ideal) arg9.view _ (harg9.unread expC)) _ = _
      rw [View.readAt_eq_ld, harg9.read_unread]
      refine congrArg (expC (F := Ideal)) (funext fun b => Fin.ext ?_)
      match b with
      | 0 => show k0_off4 i 0 + 1 * 0 = (i 0).val % 2; rw [off4_val]; rfl
      | 1 => show k0_off4 i 1 + 1 * k'.val = k'.val; rw [off4_val]; show 0 + 1 * k'.val = k'.val; omega
      | 2 => show k0_off4 i 2 + 1 * l.val = l.val; rw [off4_val]; show 0 + 1 * l.val = l.val; omega
    rw [e, expC_apply]
    unfold expG
    refine if_congr ?_ rfl rfl
    show k'.val = blkOf l.val + 64 * ((i 0).val % 2) ↔ k' = k
    rw [← hk]; exact Fin.ext_iff.symm
  let W : FVec Ideal S128x128 .fp8e4m3 := truncf .fp8e4m3 (select (k0_pay38 i) (k0_pay39 v36) (broadcast S128x128 (FloatOps.ofBits FTy.f32 0#32))) bitsLt_fp8e4m3_f32
  have hm : (matmul (φ₁ := .fp8e4m3) (φ₂ := .fp8e4m3) dot_S128x128_S128x128_S128x128_1_0_0_1_n_n none W (shapeCast S128x128 V shapeCasts_S1x128x128_S128x128) (constant S128x128 .f32 0x00000000#32) : FVec Ideal S128x128 .f32)
      (ValueIdx.ix2 n l) = (v36 (ValueIdx.ix2 n k) : EReal) := by
    simp only [matmul]
    rw [dotExp]
    refine (Ideal.matmul_plain_apply none W (shapeCast S128x128 V shapeCasts_S1x128x128_S128x128) _ _ _).trans ?_
    rw [show (constant S128x128 .f32 0x00000000#32 : FVec Ideal S128x128 .f32) (ValueIdx.ix2 n l) = (0 : EReal) from Cert.Codes.c0, zero_add]
    have hs : ∀ k' : Fin 128, (shapeCast S128x128 V shapeCasts_S1x128x128_S128x128 (ValueIdx.ix2 k' l) : EReal) = if k' = k then 1 else 0 := by
      intro k'
      rw [shapeCast_apply (s := S1x128x128) (t := S128x128) V _ _ (ValueIdx.ix3 (0 : Fin 1) k' l) (by
        refine (Shape.rowMajor_val_three (d := S1x128x128.size) _).trans ((Shape.rowMajor_val_two (d := S128x128.size) _).trans ?_).symm
        show k'.val * 128 + l.val = (0 * 128 + k'.val) * 128 + l.val
        omega)]
      exact hV k'
    rw [Finset.sum_eq_single k]
    · rw [hs k, if_pos rfl, mul_one]
      show Scalar.select (k0_pay38 i (ValueIdx.ix2 n k)) (v36 (ValueIdx.ix2 n k)) _ = _
      rw [mask_apply i n k (by omega)]
      rfl
    · intro k' _ hne
      rw [hs k', if_neg hne, mul_zero]
    · exact fun h => absurd (Finset.mem_univ _) h
  unfold recips k0_pay40
  simp only [shapeCast_self]
  have h37 := pay37_apply v9 n l
  rw [← hm, ← h37]
  rfl

end Cert.CodesIdeal.Gen
-- ==== Proof.CodesWord.lean ====
/- Bytes and lanes of words: a word that packs eight four-bit codes, the transposition of four words by bytes, the
   transposition of four vectors by lanes, and the byte that a stored column block holds at an index. -/
module

public import proofs.«01_k».proof.Proof.CodesIdealTile
public import Idealize.ShloMosaic.Lib.BitcastPair
public import Idealize.ShloMosaic.Lib.ValueIdxCore
public import Idealize.ShloMosaic.Lib.WordSum
public import Idealize.ShloMosaic.PureOps.Reduce
public import Mathlib.Tactic.IntervalCases

@[expose] public section

noncomputable section

namespace Cert.CodesIdeal.Gen

open Idealize.ShloMosaic Idealize.ShloMosaic.TcCoe

/-- Byte `q` of a word. -/
def byteOf (w : BitVec 32) (q : Nat) : BitVec 8 := w.extractLsb' (8 * q) 8

theorem byteOf_getLsbD (w : BitVec 32) (q i : Nat) (hi : i < 8) : (byteOf w q).getLsbD i = w.getLsbD (8 * q + i) := by
  simp [byteOf, BitVec.getLsbD_extractLsb', hi]

/-- The transposition by bytes, at an index: byte `m` of word `q` is byte `q` of word `m`. -/
theorem bytesOf_byte (w : Fin 4 → IVec S8x128 32) (q m : Fin 4) (y : S8x128.Idx) :
    byteOf (bytesOf w q y) m.val = byteOf (w m y) q.val := by
  apply BitVec.eq_of_getLsbD_eq
  intro i hi
  rw [byteOf_getLsbD _ _ _ hi, byteOf_getLsbD _ _ _ hi]
  fin_cases q <;> fin_cases m <;>
    (simp only [bytesOf, lo8, hi8, lo16, hi16, ori, andi, shli, shrui, broadcast, IntOp.ori, IntOp.andi, IntOp.shli, IntOp.shrui,
      Scalar.xori, IntOp.xori]
     interval_cases i <;> simp)

/-! ## Lanes -/

theorem rot_apply (n : BitVec 32) (x : IVec S8x128 32) (h : S8x128.Rotates 1 none) (k : Fin 8) (l : Fin 128) :
    dynamicRotate 1 n none x h (ValueIdx.ix2 k l) = x (ValueIdx.ix2 k ⟨(l.val + 128 - n.toNat % 128) % 128, Nat.mod_lt _ (by decide)⟩) := by
  refine congrArg x (funext fun a => ?_)
  match a with
  | 0 => rfl
  | 1 => rfl

theorem oddLane1 (k : Fin 8) (l : Fin 128) : oddLane 1#32 (ValueIdx.ix2 k l) = if l.val % 2 = 1 then 1#1 else 0#1 := by
  have : ∀ l : Fin 128, IntOp.cmpi .ne (IntOp.andi (BitVec.ofNat 32 l.val) 1#32) 0#32 = if l.val % 2 = 1 then 1#1 else 0#1 := by decide
  rw [← this l]
  unfold oddLane cmpi andi
  rw [iota_single_apply]; rfl

theorem oddLane2 (k : Fin 8) (l : Fin 128) : oddLane 2#32 (ValueIdx.ix2 k l) = if l.val / 2 % 2 = 1 then 1#1 else 0#1 := by
  have : ∀ l : Fin 128, IntOp.cmpi .ne (IntOp.andi (BitVec.ofNat 32 l.val) 2#32) 0#32 = if l.val / 2 % 2 = 1 then 1#1 else 0#1 := by decide
  rw [← this l]
  unfold oddLane cmpi andi
  rw [iota_single_apply]; rfl

theorem sel_ite {α : Type} (p : Prop) [Decidable p] (x y : α) : Scalar.select (if p then 1#1 else 0#1) x y = if p then x else y := by
  by_cases h : p <;> simp [Scalar.select, h]

theorem swapLo1 (lo hi : IVec S8x128 32) (k : Fin 8) (l : Fin 128) : swapLo 1#32 lo hi (ValueIdx.ix2 k l)
    = if l.val % 2 = 1 then hi (ValueIdx.ix2 k ⟨(l.val + 127) % 128, Nat.mod_lt _ (by decide)⟩) else lo (ValueIdx.ix2 k l) := by
  unfold swapLo
  show Scalar.select (oddLane 1#32 (ValueIdx.ix2 k l)) (dynamicRotate 1 1#32 none hi rotates_S8x128_d1 (ValueIdx.ix2 k l)) _ = _
  rw [rot_apply, oddLane1, sel_ite]; rfl

theorem swapHi1 (lo hi : IVec S8x128 32) (k : Fin 8) (l : Fin 128) : swapHi 1#32 127#32 lo hi (ValueIdx.ix2 k l)
    = if l.val % 2 = 1 then hi (ValueIdx.ix2 k l) else lo (ValueIdx.ix2 k ⟨(l.val + 1) % 128, Nat.mod_lt _ (by decide)⟩) := by
  unfold swapHi
  show Scalar.select (oddLane 1#32 (ValueIdx.ix2 k l)) _ (dynamicRotate 1 127#32 none lo rotates_S8x128_d1 (ValueIdx.ix2 k l)) = _
  rw [rot_apply, oddLane1, sel_ite]; rfl

theorem swapLo2 (lo hi : IVec S8x128 32) (k : Fin 8) (l : Fin 128) : swapLo 2#32 lo hi (ValueIdx.ix2 k l)
    = if l.val / 2 % 2 = 1 then hi (ValueIdx.ix2 k ⟨(l.val + 126) % 128, Nat.mod_lt _ (by decide)⟩) else lo (ValueIdx.ix2 k l) := by
  unfold swapLo
  show Scalar.select (oddLane 2#32 (ValueIdx.ix2 k l)) (dynamicRotate 1 2#32 none hi rotates_S8x128_d1 (ValueIdx.ix2 k l)) _ = _
  rw [rot_apply, oddLane2, sel_ite]; rfl

theorem swapHi2 (lo hi : IVec S8x128 32) (k : Fin 8) (l : Fin 128) : swapHi 2#32 126#32 lo hi (ValueIdx.ix2 k l)
    = if l.val / 2 % 2 = 1 then hi (ValueIdx.ix2 k l) else lo (ValueIdx.ix2 k ⟨(l.val + 2) % 128, Nat.mod_lt _ (by decide)⟩) := by
  unfold swapHi
  show Scalar.select (oddLane 2#32 (ValueIdx.ix2 k l)) _ (dynamicRotate 1 126#32 none lo rotates_S8x128_d1 (ValueIdx.ix2 k l)) = _
  rw [rot_apply, oddLane2, sel_ite]; rfl

theorem at_congr (b : Fin 4 → IVec S8x128 32) (k : Fin 8) {q q' : Fin 4} {l l' : Fin 128} (h : q.val = q'.val) (h' : l.val = l'.val) :
    b q (ValueIdx.ix2 k l) = b q' (ValueIdx.ix2 k l') := by
  rw [Fin.ext h, Fin.ext h']

/-- The transposition by lanes, at an index: lane `l` of vector `t` is lane `t` of the group of four of vector `l % 4`. -/
theorem lanesOf_apply (b : Fin 4 → IVec S8x128 32) (t : Fin 4) (k : Fin 8) (l : Fin 128) :
    lanesOf b t (ValueIdx.ix2 k l) = b ⟨l.val % 4, Nat.mod_lt _ (by decide)⟩ (ValueIdx.ix2 k ⟨4 * (l.val / 4) + t.val, by omega⟩) := by
  have hl := l.isLt
  match t with
  | 0 =>
    simp only [lanesOf, swapLo1, swapLo2]
    split_ifs <;> exact at_congr b k (by simp only [Fin.val_zero, Fin.val_one, Fin.val_two, Fin.isValue]; first | omega | (show 3 = _; omega)) (by simp; omega)
  | 1 =>
    simp only [lanesOf, swapHi1, swapLo2]
    split_ifs <;> exact at_congr b k (by simp only [Fin.val_zero, Fin.val_one, Fin.val_two, Fin.isValue]; first | omega | (show 3 = _; omega)) (by simp; omega)
  | 2 =>
    simp only [lanesOf, swapLo1, swapHi2]
    split_ifs <;> exact at_congr b k (by simp only [Fin.val_zero, Fin.val_one, Fin.val_two, Fin.isValue]; first | omega | (show 3 = _; omega)) (by simp; omega)
  | 3 =>
    simp only [lanesOf, swapHi1, swapHi2]
    split_ifs <;> exact at_congr b k (by simp only [Fin.val_zero, Fin.val_one, Fin.val_two, Fin.isValue]; first | omega | (show 3 = _; omega)) (by simp; omega)

/-- The stored column block, at row `4 k + m` and lane `l`: byte `l % 4` of word vector `m`. -/
theorem tileOut_apply (w : Fin 4 → IVec S8x128 32) (t : Fin 4) (p : Fin 32) (l : Fin 128) :
    tileOut w t (ValueIdx.ix2 p l)
      = byteOf (w ⟨p.val % 4, Nat.mod_lt _ (by decide)⟩ (ValueIdx.ix2 ⟨p.val / 4, by omega⟩ ⟨4 * (l.val / 4) + t.val, by omega⟩)) (l.val % 4) := by
  have hl := l.isLt
  have hb := bytesOf_byte w ⟨l.val % 4, Nat.mod_lt _ (by decide)⟩ ⟨p.val % 4, Nat.mod_lt _ (by decide)⟩ (ValueIdx.ix2 ⟨p.val / 4, by omega⟩ ⟨4 * (l.val / 4) + t.val, by omega⟩)
  dsimp only at hb
  rw [← hb, ← lanesOf_apply (bytesOf w) t ⟨p.val / 4, by omega⟩ l]
  apply BitVec.eq_of_getLsbD_eq
  intro i hi
  rw [byteOf_getLsbD _ _ _ hi]
  unfold tileOut
  rw [bitcast_getLsbD _ _ _ i hi (by decide)]
  have hr : S32x128.row (ValueIdx.ix2 p l) = p.val := rfl
  congr 1
  · congr 1
    funext c
    match c with
    | ⟨0, _⟩ => exact Fin.ext ((Shape.Bitcasts.srcIdx_row _ _ _ _ ⟨0, Nat.zero_lt_two⟩ rfl).trans (by rw [hr]; show _ = p.val / 4; omega))
    | ⟨1, _⟩ => exact Fin.ext (Shape.Bitcasts.srcIdx_other _ _ _ _ ⟨1, Nat.one_lt_two⟩ (by show ¬ 1 + 2 = 2; omega))
  · rw [hr]; omega

/-! ## Eight codes in a word -/

/-- Two codes in a byte, the first one low. -/
def packByte (a b : BitVec 32) : BitVec 8 := BitVec.setWidth 8 (IntOp.ori a (IntOp.shli .vector b 4#32))

theorem packByte_toNat (a b : BitVec 32) (ha : a.toNat < 16) (hb : b.toNat < 16) : (packByte a b).toNat = a.toNat + 16 * b.toNat := by
  have key : ∀ a b : Fin 16, (packByte (BitVec.ofNat 32 a.val) (BitVec.ofNat 32 b.val)).toNat = a.val + 16 * b.val := by decide
  have := key ⟨a.toNat, ha⟩ ⟨b.toNat, hb⟩
  simpa using this

variable {F : FTy → Type} [FloatOps F]

theorem wordOf_toNat (v : FVec F S64x128 .f32) (hv : ∀ y, (nibOf v y).toNat < 16) (k : Fin 8) (l : Fin 128) :
    (wordOf v (ValueIdx.ix2 k l)).toNat = ∑ r : Fin 8, (nibOf v (ValueIdx.ix2 ⟨8 * k.val + r.val, by omega⟩ l)).toNat * 16 ^ r.val := by
  have hs : ∀ r : Fin 8, ((shli (shapeCast S8x8x128 (nibOf v) shapeCasts_S64x128_S8x8x128)
      (muli (broadcast S8x8x128 4#32) (iota .tc S8x8x128 32 [1] iota_S8x8x128_d1_w32)))
        (Shape.Reduces.lift reduces_S8x8x128_S8x128 (ValueIdx.ix2 k l) r)).toNat
      = (nibOf v (ValueIdx.ix2 ⟨8 * k.val + r.val, by omega⟩ l)).toNat * 16 ^ r.val := by
    intro r
    have e1 : shapeCast S8x8x128 (nibOf v) shapeCasts_S64x128_S8x8x128 (Shape.Reduces.lift reduces_S8x8x128_S8x128 (ValueIdx.ix2 k l) r)
        = nibOf v (ValueIdx.ix2 ⟨8 * k.val + r.val, by omega⟩ l) := by
      refine shapeCast_apply _ _ _ _ ?_
      rw [Shape.rowMajor_val_two, Shape.rowMajor_val_three]
      show (8 * k.val + r.val) * 128 + l.val = (k.val * 8 + r.val) * 128 + l.val
      omega
    have e2 : (muli (broadcast S8x8x128 4#32) (iota .tc S8x8x128 32 [1] iota_S8x8x128_d1_w32)) (Shape.Reduces.lift reduces_S8x8x128_S8x128 (ValueIdx.ix2 k l) r)
        = BitVec.ofNat 32 (4 * r.val) := by
      show IntOp.muli 4#32 (iota .tc S8x8x128 32 [1] iota_S8x8x128_d1_w32 _) = _
      rw [iota_single_apply]
      have : ∀ r : Fin 8, IntOp.muli 4#32 (BitVec.ofNat 32 r.val) = BitVec.ofNat 32 (4 * r.val) := by decide
      exact this r
    show (IntOp.shli .vector _ _).toNat = _
    rw [e1, e2]
    have hn := hv (ValueIdx.ix2 ⟨8 * k.val + r.val, by omega⟩ l)
    generalize nibOf v (ValueIdx.ix2 ⟨8 * k.val + r.val, by omega⟩ l) = n at hn ⊢
    have key : ∀ (n : Fin 16) (r : Fin 8), (IntOp.shli .vector (BitVec.ofNat 32 n.val) (BitVec.ofNat 32 (4 * r.val))).toNat = n.val * 16 ^ r.val := by decide
    have := key ⟨n.toNat, hn⟩ r
    simpa using this
  have hb : ∀ r : Fin 8, (nibOf v (ValueIdx.ix2 ⟨8 * k.val + r.val, by omega⟩ l)).toNat < 16 := fun r => hv _
  have hsum : ∑ i ∈ Finset.univ.filter (fun i => Shape.Reduces.drop reduces_S8x8x128_S8x128 i = ValueIdx.ix2 k l),
      ((shli (shapeCast S8x8x128 (nibOf v) shapeCasts_S64x128_S8x8x128)
        (muli (broadcast S8x8x128 4#32) (iota .tc S8x8x128 32 [1] iota_S8x8x128_d1_w32))) i).toNat
      = ∑ r : Fin 8, (nibOf v (ValueIdx.ix2 ⟨8 * k.val + r.val, by omega⟩ l)).toNat * 16 ^ r.val :=
    (Shape.Reduces.sum_filter_drop_single _ _ _).trans (Finset.sum_congr rfl fun r _ => hs r)
  refine (WordSum.toNat_multiReductionI_add _ _ _ _ ?_).trans hsum
  rw [hsum]
  have := hb 0; have := hb 1; have := hb 2; have := hb 3; have := hb 4; have := hb 5; have := hb 6; have := hb 7
  simp only [Fin.sum_univ_eight]
  simp at *
  omega

/-- Byte `j` of a word of eight codes: codes `2 j` and `2 j + 1`. -/
theorem wordOf_byte (v : FVec F S64x128 .f32) (hv : ∀ y, (nibOf v y).toNat < 16) (k : Fin 8) (l : Fin 128) (j : Fin 4) :
    byteOf (wordOf v (ValueIdx.ix2 k l)) j.val
      = packByte (nibOf v (ValueIdx.ix2 ⟨8 * k.val + 2 * j.val, by omega⟩ l)) (nibOf v (ValueIdx.ix2 ⟨8 * k.val + (2 * j.val + 1), by omega⟩ l)) := by
  apply BitVec.eq_of_toNat_eq
  rw [packByte_toNat _ _ (hv _) (hv _), byteOf, BitVec.extractLsb'_toNat, wordOf_toNat v hv, Nat.shiftRight_eq_div_pow]
  have hb : ∀ r : Fin 8, (nibOf v (ValueIdx.ix2 ⟨8 * k.val + r.val, by omega⟩ l)).toNat < 16 := fun r => hv _
  have h0 := hb 0; have h1 := hb 1; have h2 := hb 2; have h3 := hb 3; have h4 := hb 4; have h5 := hb 5; have h6 := hb 6; have h7 := hb 7
  simp only [Fin.sum_univ_eight]
  fin_cases j <;> simp at * <;> omega

end Cert.CodesIdeal.Gen

end
-- ==== Proof.CodesVal.lean ====
/- What a grid point stores, over the extended reals: every byte of the output block is the packed pair of fp4 codes of
   two neighbouring channels of one gathered row, scaled by that row's scale and the channels' block scale. -/
module

public import proofs.«01_k».proof.Proof.CodesSel
public import proofs.«01_k».proof.Proof.CodesWord

@[expose] public section

set_option maxRecDepth 16384

noncomputable section

namespace Cert.CodesIdeal.Gen

open Idealize.ShloMosaic Idealize.ShloMosaic.TcCoe

/-- The byte of two neighbouring inputs under one scale: the first one's code in the low half. -/
def codeOf (x x' e : EReal) : BitVec 8 :=
  packByte (Cert.Codes.refNib (Cert.Codes.scaled x e)) (Cert.Codes.refNib (Cert.Codes.scaled x' e))

theorem clipped_apply (x : Vec Ideal S8x128 .f32) (r : Vec Ideal S1x128 .f32) (a : Fin 8) (l : Fin 128) :
    clipped x r (ValueIdx.ix2 a l) = Cert.Codes.clip6 (x (ValueIdx.ix2 a l)) (r (ValueIdx.ix2 (0 : Fin 1) l)) := by
  have h : broadcastTo S8x128 r broadcasts_S1x128_S8x128 (ValueIdx.ix2 a l) = r (ValueIdx.ix2 (0 : Fin 1) l) :=
    broadcastTo_apply _ _ _ _ (by intro b; match b with | 0 => rfl | 1 => rfl)
  rw [← h]
  rfl

theorem stacked_apply (v : Fin 8 → FVec Ideal S8x128 .f32) (k r : Fin 8) (l : Fin 128) (y : Fin 64) (hy : y.val = 8 * k.val + r.val) :
    stacked v (ValueIdx.ix2 y l) = v k (ValueIdx.ix2 r l) := by
  have hr := r.isLt
  have e : stacked v = concatenate S64x128 0 (List.ofFn fun n : Fin 8 => (⟨S8x128, v n⟩ : (s : Shape) × (s.Idx → Ideal .f32)))
      concatenates_S8x128_S8x128_S8x128_S8x128_S8x128_S8x128_S8x128_S8x128_S64x128_d0 := rfl
  rw [e]
  refine concatenate_ofFn_apply (t := S64x128) (s₁ := S8x128) 0 v _ rfl 8 rfl (ValueIdx.ix2 y l) k ?_ (ValueIdx.ix2 r l) ?_ ?_
  · show y.val / 8 = k.val; omega
  · show r.val = y.val % 8; omega
  · intro b hb
    match b with
    | 0 => exact absurd rfl hb
    | 1 => rfl

/-- The block and the channels of the lane that output column `128 t + l` comes from. -/
theorem laneBlk (l : ℕ) (hl : l < 128) (t : Fin 4) : blkOf (4 * (l / 4) + t.val) = (128 * t.val + l) / 8 := by
  have ht := t.isLt
  unfold blkOf
  rw [show (4 * (l / 4) + t.val) % 4 = t.val by omega, show (4 * (l / 4) + t.val) / 8 = l / 8 by omega]
  omega

theorem laneChan (l : ℕ) (hl : l < 128) (t : Fin 4) : chan (4 * (l / 4) + t.val) + 2 * (l % 4) = 2 * (128 * t.val + l) := by
  have ht := t.isLt
  unfold chan
  rw [show (4 * (l / 4) + t.val) % 4 = t.val by omega, show (4 * (l / 4) + t.val) / 8 = l / 8 by omega,
    show (4 * (l / 4) + t.val) / 4 = l / 4 by omega]
  omega

theorem nibOf_apply (v : FVec Ideal S64x128 .f32) (y : S64x128.Idx) : nibOf v y = Cert.Codes.kerNib (v y) := rfl

/-- A row loaded of one whole store. -/
theorem storedRow (arg10 : Memref sig .tc .vmem S128x128 .f32) (R : Vec Ideal S128x128 .f32) (n l : Fin 128) :
    arg10.view.readCov [(⟨Rect.unit (s := S128x128) ![0, 0] S128x128.size inb_S128x128_S128x128_0_0, R⟩ : View.Piece (Elt Ideal) S128x128 .f32)]
      (Rect.unit (s := S128x128) ![n.val, 0] S1x128.size (row_inb n)).toLoadRect (ValueIdx.ix2 (0 : Fin 1) l) = R (ValueIdx.ix2 n l) := by
  have hcover : ∀ y : S128x128.Idx, ∃ p ∈ [(⟨Rect.unit (s := S128x128) ![0, 0] S128x128.size inb_S128x128_S128x128_0_0, R⟩ : View.Piece (Elt Ideal) S128x128 .f32)],
      y ∈ p.1.set := fun y =>
    ⟨_, List.mem_singleton_self _, show y ∈ (Rect.unit (s := S128x128) ![0, 0] S128x128.size inb_S128x128_S128x128_0_0).set from Rect.mem_set_unit.mpr (fun a => by
      have h0 : (y 0).val < 128 := (y 0).isLt
      have h1 : (y 1).val < 128 := (y 1).isLt
      match a with
      | 0 => exact ⟨Nat.zero_le _, by show (y 0).val < 0 + 128; omega⟩
      | 1 => exact ⟨Nat.zero_le _, by show (y 1).val < 0 + 128; omega⟩)⟩
  have hcan : View.canon [(⟨Rect.unit (s := S128x128) ![0, 0] S128x128.size inb_S128x128_S128x128_0_0, R⟩ : View.Piece (Elt Ideal) S128x128 .f32)] = R :=
    View.canon_unit_zero (by funext a; match a with | 0 => rfl | 1 => rfl) _ _
  rw [View.readCov_eq_canon_ld _ _ _ hcover, hcan]
  refine congrArg R (funext fun a => Fin.ext ?_)
  match a with
  | 0 => show n.val + 1 * 0 = n.val; omega
  | 1 => show 0 + 1 * l.val = l.val; omega

section
variable (c : Dev nD) (i : grid0.Coords) (arg7 : Memref sig .tc .vmem S15360x128 .f32) (harg7 : arg7.IsWhole) (arg9 : Memref sig .tc .vmem S2x128x128 .fp8e4m3) (harg9 : arg9.IsWhole) (arg10 : Memref sig .tc .vmem S128x128 .f32)
    (v9 : Vec Ideal S1x128 .f32) (v36 : Vec Ideal S128x128 .fp8e4m3) (X : Vec Ideal S1920x1024 .bf16)
    (xt0 : TbBuf0 (F := Ideal) c tbM0_0) (hw : ∀ off inb, k0_chk1 (srcAt c xt0 off inb))
    (s : Fin 128 → Fin 1920) (hs : ∀ n, (srcRow c i xt0 n).toNat = (s n).val)

include hs in
/-- The expanded inputs of row `n`: sublane `r` holds on lane `l` channel `chan l + r` of the row's source. -/
theorem xRow_apply (n : Fin 128) (r : Fin 8) (l : Fin 128) :
    xRow c i arg7 harg7 (filled X (permC (F := Ideal))) xt0 hw n (ValueIdx.ix2 r l) = X (ValueIdx.ix2 (s n) ⟨chan l.val + r.val, chan_lt l r⟩) := by
  have hn := hs n
  have hlt := (s n).isLt
  unfold xRow
  rw [View.readAt_eq_ld, harg7.read_unread]
  have e6 : k0_off6 (srcRow c i xt0 n) = ![8 * (s n).val, 0] := by
    unfold k0_off6
    have : (Scalar.indexCast (Scalar.muli (srcRow c i xt0 n) 8#32)).toNat = 8 * (s n).val := by
      show ((srcRow c i xt0 n) * 8#32).toNat = _
      rw [BitVec.toNat_mul, hn]
      show (s n).val * 8 % 2 ^ 32 = _
      omega
    simp only [this]
  refine filled_apply X (s n) r l _ ?_ ?_
  · show k0_off6 (srcRow c i xt0 n) 0 + 1 * r.val = _
    rw [e6]; show 8 * (s n).val + 1 * r.val = _; omega
  · show k0_off6 (srcRow c i xt0 n) 1 + 1 * l.val = _
    rw [e6]; show 0 + 1 * l.val = _; omega

/-- The row of reciprocal scales that row `n` loads. -/
theorem rRow_apply (n l : Fin 128) :
    rRow i arg9 harg9 arg10 v9 v36 (expC (F := Ideal)) n (ValueIdx.ix2 (0 : Fin 1) l) = recips i arg9 harg9 v9 v36 (expC (F := Ideal)) (ValueIdx.ix2 n l) :=
  storedRow arg10 _ n l

include hs in
/-- One clipped element. -/
theorem clippedRow_apply (n : Fin 128) (r : Fin 8) (l : Fin 128) (k : Fin 128) (hk : k.val = blkOf l.val + 64 * ((i 0).val % 2)) :
    clipped (xRow c i arg7 harg7 (filled X (permC (F := Ideal))) xt0 hw n) (rRow i arg9 harg9 arg10 v9 v36 (expC (F := Ideal)) n) (ValueIdx.ix2 r l)
      = Cert.Codes.clip6 (X (ValueIdx.ix2 (s n) ⟨chan l.val + r.val, chan_lt l r⟩))
          (Cert.Codes.recip ((v36 (ValueIdx.ix2 n k) : EReal) * v9 (ValueIdx.ix2 (0 : Fin 1) n))) := by
  rw [clipped_apply, rRow_apply, recips_apply i arg9 harg9 v9 v36 n l k hk, xRow_apply c i arg7 harg7 X xt0 hw s hs n r l]

/-- The scale of row `n` on output column `q` (and so on channels `2 q` and `2 q + 1`). -/
def effAt (n : Fin 128) (q : ℕ) (hq : q < 512) : EReal :=
  (v36 (ValueIdx.ix2 n ⟨q / 8 + 64 * ((i 0).val % 2), by omega⟩) : EReal) * v9 (ValueIdx.ix2 (0 : Fin 1) n)

/-- The output block at an element. -/
def blockG (y : S128x512.Idx) : BitVec 8 :=
  codeOf (X (ValueIdx.ix2 (s (y 0)) ⟨2 * (y 1).val, by have : (y 1).val < 512 := (y 1).isLt; omega⟩))
    (X (ValueIdx.ix2 (s (y 0)) ⟨2 * (y 1).val + 1, by have : (y 1).val < 512 := (y 1).isLt; omega⟩))
    (effAt i v9 v36 (y 0) (y 1).val (y 1).isLt)

include hs in
/-- One piece of the output block. -/
theorem pieceAt_apply (T t : Fin 4) (x : (pieceAt c i arg7 harg7 arg9 harg9 arg10 v9 v36 (filled X (permC (F := Ideal))) (expC (F := Ideal)) xt0 hw T t).1.shape.Idx) :
    (pieceAt c i arg7 harg7 arg9 harg9 arg10 v9 v36 (filled X (permC (F := Ideal))) (expC (F := Ideal)) xt0 hw T t).2 x
      = blockG i v9 v36 X s ((pieceAt c i arg7 harg7 arg9 harg9 arg10 v9 v36 (filled X (permC (F := Ideal))) (expC (F := Ideal)) xt0 hw T t).1.emb x) := by
  have hp : (x 0).val < 32 := (x 0).isLt
  have hl : (x 1).val < 128 := (x 1).isLt
  have hg : (i 0).val < 7 := (i 0).isLt
  let L : Fin 128 := ⟨4 * ((x 1).val / 4) + t.val, by omega⟩
  let n : Fin 128 := ⟨32 * T.val + (x 0).val, by omega⟩
  let y : S128x512.Idx := (pieceAt c i arg7 harg7 arg9 harg9 arg10 v9 v36 (filled X (permC (F := Ideal))) (expC (F := Ideal)) xt0 hw T t).1.emb x
  have y0 : y 0 = n := Fin.ext (by show 32 * T.val + 1 * (x 0).val = 32 * T.val + (x 0).val; omega)
  have y1 : (y 1).val = 128 * t.val + (x 1).val := by show 128 * t.val + 1 * (x 1).val = _; omega
  have hL : L.val = 4 * ((x 1).val / 4) + t.val := rfl
  -- the clipped element of row `n` on the lane, at sublane `r`
  have hclip : ∀ (m : Fin 128) (r : Fin 8) (l : Fin 128), ∃ (a e : EReal),
      clipped (xRow c i arg7 harg7 (filled X (permC (F := Ideal))) xt0 hw m) (rRow i arg9 harg9 arg10 v9 v36 (expC (F := Ideal)) m) (ValueIdx.ix2 r l)
        = Cert.Codes.clip6 a (Cert.Codes.recip e) := fun m r l =>
    ⟨_, _, clippedRow_apply c i arg7 harg7 arg9 harg9 arg10 v9 v36 X xt0 hw s hs m r l ⟨blkOf l.val + 64 * ((i 0).val % 2), by have := blkOf_lt l; omega⟩ rfl⟩
  let v : FVec Ideal S64x128 .f32 := stacked fun k => clipped (xRow c i arg7 harg7 (filled X (permC (F := Ideal))) xt0 hw ⟨32 * T.val + 4 * k.val + (x 0).val % 4, by omega⟩)
    (rRow i arg9 harg9 arg10 v9 v36 (expC (F := Ideal)) ⟨32 * T.val + 4 * k.val + (x 0).val % 4, by omega⟩)
  have hv : ∀ z, (nibOf v z).toNat < 16 := by
    intro z
    have hz : (z 0).val < 64 := (z 0).isLt
    have e := stacked_apply (fun k => clipped (xRow c i arg7 harg7 (filled X (permC (F := Ideal))) xt0 hw ⟨32 * T.val + 4 * k.val + (x 0).val % 4, by omega⟩)
      (rRow i arg9 harg9 arg10 v9 v36 (expC (F := Ideal)) ⟨32 * T.val + 4 * k.val + (x 0).val % 4, by omega⟩))
      ⟨(z 0).val / 8, by omega⟩ ⟨(z 0).val % 8, by omega⟩ (z 1) (z 0) (by show (z 0).val = 8 * ((z 0).val / 8) + (z 0).val % 8; omega)
    rw [show (ValueIdx.ix2 (z 0) (z 1) : S64x128.Idx) = z from by funext a; match a with | 0 => rfl | 1 => rfl] at e
    obtain ⟨a, ee, h⟩ := hclip ⟨32 * T.val + 4 * ((z 0).val / 8) + (x 0).val % 4, by omega⟩ ⟨(z 0).val % 8, by omega⟩ (z 1)
    rw [nibOf_apply, show v z = _ from e.trans h, Cert.Codes.kerNib_clip6]
    exact Cert.Codes.refNib_lt _
  have hnib : ∀ (r : Fin 8) (z : Fin 64) (hz : z.val = 8 * ((x 0).val / 4) + r.val) (q : Fin 1024) (hq : q.val = chan L.val + r.val),
      nibOf v (ValueIdx.ix2 z L) = Cert.Codes.refNib (Cert.Codes.scaled (X (ValueIdx.ix2 (s n) q)) (effAt i v9 v36 n (y 1).val (y 1).isLt)) := by
    intro r z hz q hq
    have e := stacked_apply (fun k => clipped (xRow c i arg7 harg7 (filled X (permC (F := Ideal))) xt0 hw ⟨32 * T.val + 4 * k.val + (x 0).val % 4, by omega⟩)
      (rRow i arg9 harg9 arg10 v9 v36 (expC (F := Ideal)) ⟨32 * T.val + 4 * k.val + (x 0).val % 4, by omega⟩))
      ⟨(x 0).val / 4, by omega⟩ r L z hz
    have hn : (⟨32 * T.val + 4 * ((x 0).val / 4) + (x 0).val % 4, by omega⟩ : Fin 128) = n := Fin.ext (by
      show 32 * T.val + 4 * ((x 0).val / 4) + (x 0).val % 4 = 32 * T.val + (x 0).val; omega)
    have hk : (y 1).val / 8 + 64 * ((i 0).val % 2) = blkOf L.val + 64 * ((i 0).val % 2) := by
      rw [y1, hL, laneBlk _ hl]
    have h := clippedRow_apply c i arg7 harg7 arg9 harg9 arg10 v9 v36 X xt0 hw s hs n r L
      ⟨(y 1).val / 8 + 64 * ((i 0).val % 2), by have := (y 1).isLt; have h512 : (y 1).val < 512 := this; omega⟩ hk
    have e' : v (ValueIdx.ix2 z L) = clipped (xRow c i arg7 harg7 (filled X (permC (F := Ideal))) xt0 hw n) (rRow i arg9 harg9 arg10 v9 v36 (expC (F := Ideal)) n) (ValueIdx.ix2 r L) := by
      rw [← hn]; exact e
    rw [nibOf_apply, e', h, Cert.Codes.kerNib_clip6]
    rw [show (⟨chan L.val + r.val, chan_lt L r⟩ : Fin 1024) = q from Fin.ext hq.symm]
    rfl
  have hb := wordOf_byte v hv ⟨(x 0).val / 4, by omega⟩ L ⟨(x 1).val % 4, by omega⟩
  have ht := tileOut_apply (wordAt c i arg7 harg7 arg9 harg9 arg10 v9 v36 (filled X (permC (F := Ideal))) (expC (F := Ideal)) xt0 hw T) t (x 0) (x 1)
  have hc : chan L.val + 2 * ((x 1).val % 4) = 2 * (y 1).val := by
    rw [y1, hL, laneChan _ hl]
  show tileOut _ t x = blockG i v9 v36 X s y
  rw [show (ValueIdx.ix2 (x 0) (x 1) : S32x128.Idx) = x from by funext a; match a with | 0 => rfl | 1 => rfl] at ht
  refine ht.trans (hb.trans ?_)
  unfold blockG codeOf
  rw [y0]
  have h512 : (y 1).val < 512 := (y 1).isLt
  rw [hnib ⟨2 * ((x 1).val % 4), by omega⟩ _ rfl ⟨2 * (y 1).val, by omega⟩ hc.symm,
    hnib ⟨2 * ((x 1).val % 4) + 1, by omega⟩ _ rfl ⟨2 * (y 1).val + 1, by omega⟩ (by show 2 * (y 1).val + 1 = chan L.val + (2 * ((x 1).val % 4) + 1); omega)]

end

end Cert.CodesIdeal.Gen
-- ==== Proof.CodesGoal.lean ====
/- The packed codes as a function of the call's four arguments, and that the kernel over the extended reals computes
   them. -/
module

public import proofs.«01_k».proof.Proof.CodesVal
public import proofs.«01_k».proof.Proof.CodesIdealPre
public import Idealize.ShloMosaic.Lib.Pipeline.ArrRel
public import Idealize.ShloMosaic.Lib.Pipeline.ValueKit

@[expose] public section

set_option maxRecDepth 16384

noncomputable section

namespace Cert.CodesIdeal.Gen

open Idealize.ShloMosaic Idealize.ShloMosaic.TcCoe

/-- The token that a source word names. -/
def tok (w : BitVec 32) : Fin 1920 := ⟨w.toNat % 1920, Nat.mod_lt _ (by decide)⟩

theorem tok_val (w : BitVec 32) (h : w.toNat < 1920) : (tok w).val = w.toNat := Nat.mod_eq_of_lt h

/-- The packed codes: byte `(i, j)` holds the fp4 codes of channels `2 j` (low half) and `2 j + 1` of the token that row `i`
    names, scaled by the row's scale and the scale of the channels' block of sixteen. -/
def codesG (src : S15360.Idx → BitVec 32) (xt : S1920x7168.Idx → EReal) (srow : S120x128.Idx → EReal) (sb : S15360x448.Idx → EReal)
    (y : S15360x3584.Idx) : BitVec 8 :=
  have h0 : (y 0).val < 15360 := (y 0).isLt
  have h1 : (y 1).val < 3584 := (y 1).isLt
  codeOf (xt (ValueIdx.ix2 (tok (src (ValueIdx.ix1 (y 0)))) ⟨2 * (y 1).val, by omega⟩))
    (xt (ValueIdx.ix2 (tok (src (ValueIdx.ix1 (y 0)))) ⟨2 * (y 1).val + 1, by omega⟩))
    (sb (ValueIdx.ix2 (y 0) ⟨(y 1).val / 8, by omega⟩) * srow (ValueIdx.ix2 ⟨(y 0).val / 128, by omega⟩ ⟨(y 0).val % 128, by omega⟩))

variable (m : (ℓ : Loc nD τ sig) → Buf (Elt Ideal) ℓ)

/-- The source word of row `n` of point `i`. -/
theorem srcRow_eq (c : Dev nD) (i : grid0.Coords) (n : Fin 128) (k : Fin 15360) (hk : k.val = 128 * (i 1).val + n.val) :
    srcRow (F := Ideal) c i (tbl m 0) n = m (((0 : Dev nD) : Thread nD τ).loc main_arg0) (ValueIdx.ix1 k) := by
  refine Eq.trans (b := m (((0 : Dev nD) : Thread nD τ).loc main_arg0)
    ((Rect.unit (s := S15360) (tblOff i (BitVec.ofNat 32 n.val)) S1.size (tblOff_inb i n)).toLoadRect.idx (Shape.Idx.first (numel1_S1.symm ▸ Nat.one_pos)))) rfl ?_
  refine congrArg (m (((0 : Dev nD) : Thread nD τ).loc main_arg0)) (funext fun a => Fin.ext ?_)
  match a with
  | 0 =>
    show tblOff i (BitVec.ofNat 32 n.val) 0 + 1 * 0 = k.val
    rw [tblOff_val]
    show 128 * (i 1).val + n.val + 1 * 0 = k.val
    omega

/-- The row of scales of a point. -/
theorem scaleRow_apply (i : grid0.Coords) (x4 : Vec Ideal S120x128 .f32) (n : Fin 128) (k : Fin 120) (hk : k.val = (i 1).val) :
    scaleRow i x4 (ValueIdx.ix2 (0 : Fin 1) n) = x4 (ValueIdx.ix2 k n) := by
  have h1 : (i 1).val < 120 := (i 1).isLt
  have e3 : k0_off3 i = ![(i 1).val, 0] := by
    unfold k0_off3
    have : (Scalar.indexCast (BitVec.ofNat 32 (i 1).val)).toNat = (i 1).val := by
      show (BitVec.ofNat 32 (i 1).val).toNat = _
      rw [BitVec.toNat_ofNat]; omega
    simp only [this]
  refine congrArg x4 (funext fun a => Fin.ext ?_)
  match a with
  | 0 => show k0_off3 i 0 + 1 * 0 = k.val; rw [e3]; show (i 1).val + 1 * 0 = k.val; omega
  | 1 => show k0_off3 i 1 + 1 * n.val = n.val; rw [e3]; show 0 + 1 * n.val = n.val; omega

theorem blockScales_eq (x5 : Vec Ideal S128x128 .fp8e4m3) : blockScales x5 = x5 := by
  unfold blockScales
  exact View.ld_unit_zero (by funext a; match a with | 0 => rfl | 1 => rfl) _ x5

theorem tr2 (t : Fin grid0.N) : cc0_transform_2 (grid0.coords t) = ![t.val % 120, t.val / 120 / 2] := by
  have h1 : t.val / 120 < 7 := coords0 t ▸ coords0_lt t
  unfold cc0_transform_2
  simp only [coords0, coords1]
  rw [BitVec.toNat_ofNat, Nat.mod_eq_of_lt (show t.val % 120 < 2 ^ 32 by omega)]
  generalize t.val / 120 = n at h1
  interval_cases n <;> rfl

/-- How much of window 2's block a fetch moves. -/
theorem xsize2 (a : (pcfg0 (F := Ideal)).Adm) (t : Fin grid0.N) : (pcfg0.win a 2).xsize (grid0.coords t)
    = fun x : Fin 2 => (Pipeline.Clip.of (cc0_transform_2 (grid0.coords t) x) (S128x128.size x) (S15360x448.size x)).extent (S128x128.size x) := rfl

theorem moved2 (a : (pcfg0 (F := Ideal)).Adm) (t : Fin grid0.N) (n k : Fin 128) (h0 : 128 * (t.val % 120) + n.val < 15360) (h1 : 128 * (t.val / 120 / 2) + k.val < 448) :
    (pcfg0.win a 2).moved (grid0.coords t) (ValueIdx.ix2 n k : S128x128.Idx) = true := by
  refine (Pipeline.Window.moved_iff _ _ _).mpr ?_
  rw [xsize2, tr2]
  have hn : n.val < 128 := n.isLt
  have hk : k.val < 128 := k.isLt
  intro x
  match x with
  | (0 : Fin 2) =>
    show n.val < (Pipeline.Clip.of (t.val % 120) 128 15360).extent 128
    unfold Pipeline.Clip.of
    split
    · exact hn
    · show n.val < 15360 - t.val % 120 * 128
      omega
  | (1 : Fin 2) =>
    show k.val < (Pipeline.Clip.of (t.val / 120 / 2) 128 448).extent 128
    unfold Pipeline.Clip.of
    split
    · exact hk
    · show k.val < 448 - t.val / 120 / 2 * 128
      omega

/-- The block of scales that a point is handed, as a vector. -/
def sbBlk (hO : Ok m) (c : Dev nD) (t : Fin (cfgM m hO).N) (d : ((cfgM m hO).win 2).block.Idx → Elt Ideal ((cfgM m hO).win 2).elt) : Vec Ideal S128x128 .fp8e4m3 :=
  ((cfgM m hO).win 2).fill ((cfgM m hO).grid.coords t) d (iblk m hO c 2 t)

/-- It, inside the array. -/
theorem sbBlk_apply (hO : Ok m) (c : Dev nD) (t : Fin (cfgM m hO).N) (d) (n k : Fin 128) (a : Fin 15360) (b : Fin 448)
    (ha : a.val = 128 * (t.val % 120) + n.val) (hb : b.val = 128 * (t.val / 120 / 2) + k.val) :
    sbBlk m hO c t d (ValueIdx.ix2 n k) = V m c main_arg3 (ValueIdx.ix2 a b : S15360x448.Idx) := by
  have ha' : a.val < 15360 := a.isLt
  have hb' : b.val < 448 := b.isLt
  have hm := moved2 (adm m hO) t n k (by omega) (by omega)
  unfold sbBlk Pipeline.Window.fill
  refine (dif_pos hm).trans ?_
  unfold iblk
  rw [View.read_apply]
  refine congrArg (V m c main_arg3) (show ((_ : S15360x448.Idx) = _) from funext ?_)
  have e0 : cc0_transform_2 (grid0.coords t) (0 : Fin 2) = t.val % 120 := congrFun (tr2 t) 0
  have e1 : cc0_transform_2 (grid0.coords t) (1 : Fin 2) = t.val / 120 / 2 := congrFun (tr2 t) 1
  intro x
  refine Fin.ext ?_
  match x with
  | (0 : Fin 2) =>
    show cc0_transform_2 (grid0.coords t) (0 : Fin 2) * 128 + 1 * n.val = a.val
    omega
  | (1 : Fin 2) =>
    show cc0_transform_2 (grid0.coords t) (1 : Fin 2) * 128 + 1 * k.val = b.val
    omega

/-- What the body leaves in a point's block of codes. -/
theorem canon_outL (hO : Ok m) (hW : Hw m) (c : Dev nD) (t : Fin (cfgM m hO).N) (x5 : Vec Ideal S128x128 .fp8e4m3)
    (s : Fin 128 → Fin 1920) (hs : ∀ n, (srcRow (F := Ideal) c (grid0.coords t) (tbl m 0) n).toNat = (s n).val) (y : S128x512.Idx) :
    View.canon (outL m hO hW c t x5) y
      = blockG (grid0.coords t) (scaleRow (grid0.coords t) (V m c main_arg2)) (blockScales x5) (x3At m hO c t) s y := by
  refine View.canon_apply_of_pieces (Val := Elt Ideal) (e := .i8)
    (blockG (grid0.coords t) (scaleRow (grid0.coords t) (V m c main_arg2)) (blockScales x5) (x3At m hO c t) s) (outL m hO hW c t x5) ?_ y (outL_cover m hO hW c t x5 y)
  have key : ∀ T q : Fin 4, ∀ x : (pieceOf m hO hW c t x5 T q).1.shape.Idx, (pieceOf m hO hW c t x5 T q).2 x
      = blockG (grid0.coords t) (scaleRow (grid0.coords t) (V m c main_arg2)) (blockScales x5) (x3At m hO c t) s ((pieceOf m hO hW c t x5 T q).1.emb x) :=
    fun T q x => pieceAt_apply c (grid0.coords t) scM0_0 (Memref.isWhole_whole _) scM0_2 (Memref.isWhole_whole _) scM0_3
      (scaleRow (grid0.coords t) (V m c main_arg2)) (blockScales x5) (x3At m hO c t) (tbl m 0) (hW c) s hs T q x
  rw [outL_pieces]
  intro p hp
  simp only [List.mem_cons, List.not_mem_nil, or_false] at hp
  rcases hp with rfl | rfl | rfl | rfl | rfl | rfl | rfl | rfl | rfl | rfl | rfl | rfl | rfl | rfl | rfl | rfl <;> exact key _ _

/-- A point's block of codes is its part of the whole array. -/
theorem block_codes (hO : Ok m) (hW : Hw m) (c : Dev nD) (t : Fin (cfgM m hO).N) (d)
    (hlt : ∀ y : S15360.Idx, (m (((0 : Dev nD) : Thread nD τ).loc main_arg0) y).toNat < 1920)
    (y : S128x512.Idx) (z : S15360x3584.Idx) (hz0 : (z 0).val = 128 * (t.val % 120) + (y 0).val) (hz1 : (z 1).val = 512 * (t.val / 120) + (y 1).val) :
    View.canon (outL m hO hW c t (sbBlk m hO c t d)) y
      = codesG (m (((0 : Dev nD) : Thread nD τ).loc main_arg0)) (V m c main_arg1) (V m c main_arg2) (V m c main_arg3) z := by
  have hN : t.val < 840 := lt_of_lt_of_eq t.isLt (N_eq m hO)
  have hc0 : (grid0.coords t 0).val = t.val / 120 := coords0 t
  have hc1 : (grid0.coords t 1).val = t.val % 120 := coords1 t
  have hy0 : (y 0).val < 128 := (y 0).isLt
  have hy1 : (y 1).val < 512 := (y 1).isLt
  have hz0' : (z 0).val < 15360 := (z 0).isLt
  have hz1' : (z 1).val < 3584 := (z 1).isLt
  have hs : ∀ n : Fin 128, srcRow (F := Ideal) c (grid0.coords t) (tbl m 0) n
      = m (((0 : Dev nD) : Thread nD τ).loc main_arg0) (ValueIdx.ix1 (⟨128 * (t.val % 120) + n.val, by omega⟩ : Fin 15360)) :=
    fun n => srcRow_eq m c (grid0.coords t) n _ (by rw [hc1])
  rw [canon_outL m hO hW c t _
    (fun n => tok (m (((0 : Dev nD) : Thread nD τ).loc main_arg0) (ValueIdx.ix1 (⟨128 * (t.val % 120) + n.val, by omega⟩ : Fin 15360))))
    (fun n => by rw [hs n, tok_val _ (hlt _)])]
  rw [blockScales_eq]
  unfold blockG codesG effAt
  have ez : (⟨128 * (t.val % 120) + (y 0).val, by omega⟩ : Fin 15360) = z 0 := Fin.ext hz0.symm
  have es : scaleRow (grid0.coords t) (V m c main_arg2) (ValueIdx.ix2 (0 : Fin 1) (y 0)) = V m c main_arg2 (ValueIdx.ix2 (⟨(z 0).val / 128, by omega⟩ : Fin 120) ⟨(z 0).val % 128, by omega⟩) := by
    rw [scaleRow_apply (grid0.coords t) (V m c main_arg2) (y 0) ⟨(z 0).val / 128, by omega⟩ (by show (z 0).val / 128 = _; rw [hc1]; omega)]
    refine congrArg (V m c main_arg2) ?_
    refine congrArg (ValueIdx.ix2 _) (Fin.ext ?_)
    show (y 0).val = (z 0).val % 128
    omega
  have eb := sbBlk_apply m hO c t d (y 0) ⟨(y 1).val / 8 + 64 * ((grid0.coords t 0).val % 2), by omega⟩ (z 0) ⟨(z 1).val / 8, by omega⟩ hz0
    (by show (z 1).val / 8 = 128 * (t.val / 120 / 2) + ((y 1).val / 8 + 64 * ((grid0.coords t 0).val % 2)); rw [hc0]; omega)
  have ex : ∀ (a b : Nat) (ha : a < 1024) (hb : b < 7168) (h : b = 1024 * (t.val / 120) + a) (r : Fin 1920),
      x3At m hO c t (ValueIdx.ix2 r (⟨a, ha⟩ : Fin 1024)) = V m c main_arg1 (ValueIdx.ix2 r (⟨b, hb⟩ : Fin 7168)) := by
    intro a b ha hb h r
    subst h
    rfl
  dsimp only
  rw [ez, eb, es, ex (2 * (y 1).val) (2 * (z 1).val) (by omega) (by omega) (by omega), ex (2 * (y 1).val + 1) (2 * (z 1).val + 1) (by omega) (by omega) (by omega)]

theorem tr3 (t : Fin grid0.N) : cc0_transform_3 (grid0.coords t) = ![t.val % 120, t.val / 120] := by
  have h1 : t.val / 120 < 7 := coords0 t ▸ coords0_lt t
  unfold cc0_transform_3
  simp only [coords0, coords1]
  rw [BitVec.toNat_ofNat, Nat.mod_eq_of_lt (show t.val % 120 < 2 ^ 32 by omega), BitVec.toNat_ofNat, Nat.mod_eq_of_lt (show t.val / 120 < 2 ^ 32 by omega)]

theorem flush3 (a : (pcfg0 (F := Ideal)).Adm) : ∀ t : Fin (cfg0 a).N, ((cfg0 a).win 3).flush t = true :=
  (by decide +kernel : ∀ t : Fin grid0.N, Pipeline.Window.flushOf grid0 true cc0_transform_3 t = true)

/-- Every block of the codes is written back at some point. -/
theorem covers3 (a : (pcfg0 (F := Ideal)).Adm) : (pcfg0.win a 3).Covers := by
  refine ⟨(show ∀ x : Fin 2, 0 < S128x512.size x from by decide), fun β => ?_⟩
  have h0 : (β (0 : Fin 2)).val < 120 := lt_of_lt_of_eq (b := (15360 + 128 - 1) / 128) (β (0 : Fin 2)).isLt (by decide)
  have h1 : (β (1 : Fin 2)).val < 7 := lt_of_lt_of_eq (b := (3584 + 512 - 1) / 512) (β (1 : Fin 2)).isLt (by decide)
  have hN : grid0.N = 840 := N_0
  refine ⟨⟨120 * (β (1 : Fin 2)).val + (β (0 : Fin 2)).val, lt_of_lt_of_eq (by omega) N_0.symm⟩, flush3 a _, fun x => ⟨?_, Or.inl rfl⟩⟩
  have e0 := congrFun (tr3 ⟨120 * (β (1 : Fin 2)).val + (β (0 : Fin 2)).val, by omega⟩) 0
  have e1 := congrFun (tr3 ⟨120 * (β (1 : Fin 2)).val + (β (0 : Fin 2)).val, by omega⟩) 1
  match x with
  | (0 : Fin 2) => exact e0.trans (by show (120 * (β (1 : Fin 2)).val + (β (0 : Fin 2)).val) % 120 = _; omega)
  | (1 : Fin 2) => exact e1.trans (by show (120 * (β (1 : Fin 2)).val + (β (0 : Fin 2)).val) / 120 = _; omega)

/-- The array of codes after the run. -/
theorem arr_codes (hO : Ok m) (hW : Hw m) (c : Dev nD)
    (hlt : ∀ y : S15360.Idx, (m (((0 : Dev nD) : Thread nD τ).loc main_arg0) y).toNat < 1920)
    (after) (ha : ∀ w u, ((cfgM m hO).win w).flush u = true → (rdat m hO hW c).Leaves w u (after w u)) :
    ((rdat m hO hW c).withAfter after).arrAt 3 (cfgM m hO).N
      = codesG (m (((0 : Dev nD) : Thread nD τ).loc main_arg0)) (V m c main_arg1) (V m c main_arg2) (V m c main_arg3) := by
  refine Pipeline.Dat.arrAt_eq_of_covers _ 3 _ (covers3 (adm m hO)) (fun t hf y => ?_) (Memref.isWhole_whole _)
  obtain ⟨Y, hY, d, hX⟩ := ha 3 t hf
  have hX' : after 3 t = View.canon (outL m hO hW c t (sbBlk m hO c t d)) := hX
  have e0 : cc0_transform_3 (grid0.coords t) (0 : Fin 2) = t.val % 120 := congrFun (tr3 t) 0
  have e1 : cc0_transform_3 (grid0.coords t) (1 : Fin 2) = t.val / 120 := congrFun (tr3 t) 1
  refine Eq.trans ?_ (block_codes m hO hW c t d hlt y _ ?_ ?_)
  · show after 3 t y = _
    rw [hX']
  · show cc0_transform_3 (grid0.coords t) (0 : Fin 2) * 128 + 1 * (y (0 : Fin 2)).val = _
    rw [e0]; omega
  · show cc0_transform_3 (grid0.coords t) (1 : Fin 2) * 512 + 1 * (y (1 : Fin 2)).val = _
    rw [e1]; omega

/-- The run of the call: it ends with the array of codes at `codesG` of its arguments, and these as they were. -/
theorem run_codes (ρ : Dev nD → PrngReg) (hO : Ok m) (hW : Hw m)
    (hlt : ∀ y : S15360.Idx, (m (((0 : Dev nD) : Thread nD τ).loc main_arg0) y).toNat < 1920) :
    θ_run defs (onTc (τ := τ) (main (F := Ideal))) ⟨m, fun _ => 0, ρ⟩ (fun r => ∀ c : Dev nD,
      r.2.mem ((c.tc : Thread nD τ).loc main_v0) = codesG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨by
      obtain ⟨after, ha, he⟩ := h.1.1.exists_exact c
      obtain rfl : c = 0 := Subsingleton.elim _ _
      exact (he 3).trans (arr_codes m hO hW 0 hlt after ha), h.2.1 c⟩)
    (θ_run_and (run_main m ρ hO hW) (frame m ρ hO hW))

end Cert.CodesIdeal.Gen
-- ==== Proof.CodesRef.lean ====
/- What the reference computes over the extended reals: its whole-array quantiser, at an index, and its gather of the
   source rows. -/
module

public import proofs.«01_k».proof.Proof.CodesGoal
public import proofs.«01_k».proof.Proof.Gen.ReferenceIdeal.Value
public import Idealize.ShloMosaic.Lib.Pipeline.ValueKit
public import Idealize.ShloMosaic.Lib.Routing.Ops

@[expose] public section

set_option maxRecDepth 16384

noncomputable section

namespace Cert.ReferenceIdeal.Gen

open Idealize.ShloMosaic Idealize.ShloMosaic.TcCoe Cert.ReferenceIdeal Cert.Codes

/-- The scaled values, at channel `16 k + b` of row `r`. -/
theorem pay2_apply (v0 : Vec Ideal S15360x7168 .bf16) (v4 : Vec Ideal S15360x448 .fp8e4m3) (v6 : Vec Ideal S15360x1 .f32)
    (r : Fin 15360) (k : Fin 448) (b : Fin 16) (j : Fin 7168) (hj : j.val = 16 * k.val + b.val) :
    k0_pay2 v0 v4 v6 (ValueIdx.ix3 r k b)
      = scaled (v0 (ValueIdx.ix2 r j)) (v4 (ValueIdx.ix2 r k) * v6 (ValueIdx.ix2 r (0 : Fin 1))) := by
  have hr := r.isLt
  have hk := k.isLt
  have hb := b.isLt
  have h8 : ∀ v : FVec Ideal S15360x1 .f32, broadcastTo S15360x448 v broadcasts_S15360x1_S15360x448 (ValueIdx.ix2 r k) = v (ValueIdx.ix2 r (0 : Fin 1)) :=
    fun v => broadcastTo_apply _ _ _ _ (by intro b; match b with | 0 => rfl | 1 => rfl)
  have h16 : ∀ {α : Type} (v : S15360x448x1.Idx → α), broadcastTo S15360x448x16 v broadcasts_S15360x448x1_S15360x448x16 (ValueIdx.ix3 r k b) = v (ValueIdx.ix3 r k (0 : Fin 1)) :=
    fun v => broadcastTo_apply _ _ _ _ (by intro b; match b with | 0 => rfl | 1 => rfl | 2 => rfl)
  have h15 : ∀ {α : Type} (v : S15360x448.Idx → α), shapeCast S15360x448x1 v shapeCasts_S15360x448_S15360x448x1 (ValueIdx.ix3 r k (0 : Fin 1)) = v (ValueIdx.ix2 r k) :=
    fun v => shapeCast_apply (s := S15360x448) (t := S15360x448x1) v _ _ _ (by
      rw [Shape.rowMajor_val_two (d := S15360x448.size), Shape.rowMajor_val_three (d := S15360x448x1.size)]
      show r.val * 448 + k.val = (r.val * 448 + k.val) * 1 + 0
      omega)
  have h3 : ∀ {α : Type} (v : S15360x7168.Idx → α), shapeCast S15360x448x16 v shapeCasts_S15360x7168_S15360x448x16 (ValueIdx.ix3 r k b) = v (ValueIdx.ix2 r j) :=
    fun v => shapeCast_apply (s := S15360x7168) (t := S15360x448x16) v _ _ _ (by
      rw [Shape.rowMajor_val_two (d := S15360x7168.size), Shape.rowMajor_val_three (d := S15360x448x16.size)]
      show r.val * 7168 + j.val = (r.val * 448 + k.val) * 16 + b.val
      omega)
  unfold k0_pay2
  simp only [shapeCast_self]
  show Scalar.select (broadcastTo S15360x448x16 _ broadcasts_S15360x448x1_S15360x448x16 (ValueIdx.ix3 r k b))
    (Ideal.div (shapeCast S15360x448x16 _ shapeCasts_S15360x7168_S15360x448x16 (ValueIdx.ix3 r k b))
      (broadcastTo S15360x448x16 _ broadcasts_S15360x448x1_S15360x448x16 (ValueIdx.ix3 r k b))) _ = _
  rw [h3, h16, h16, h15, h15]
  unfold scaled
  rw [← h8 v6]
  rfl

/-- Every second channel's value, in the order of the bytes. -/
theorem half_apply (N : IVec S15360x448x16 32) (y : S15360x3584.Idx) (o : Nat) (ho : o < 2) (k : Fin 448) (b : Fin 16)
    (hb : 2 * (y 1).val + o = 16 * k.val + b.val) (hs : S15360x3584x2.Slices ![0, 0, o] S15360x3584x1) :
    shapeCast S15360x3584 (extractStridedSlice S15360x3584x1 ![0, 0, o] (shapeCast S15360x3584x2 N shapeCasts_S15360x448x16_S15360x3584x2) hs)
      shapeCasts_S15360x3584x1_S15360x3584 y = N (ValueIdx.ix3 (y 0) k b) := by
  have h0 : (y 0).val < 15360 := (y 0).isLt
  have h1 : (y 1).val < 3584 := (y 1).isLt
  have hk := k.isLt
  have hb16 := b.isLt
  refine (shapeCast_apply (s := S15360x3584x1) (t := S15360x3584) _ _ y (ValueIdx.ix3 (y 0) (y 1) (0 : Fin 1)) ?_).trans ?_
  · rw [Shape.rowMajor_val_two (d := S15360x3584.size), Shape.rowMajor_val_three (d := S15360x3584x1.size)]
    show ((y 0).val * 3584 + (y 1).val) * 1 + 0 = (y 0).val * 3584 + (y 1).val
    omega
  refine (extractStridedSlice_apply _ _ _ _ (ValueIdx.ix3 (y 0) (y 1) (⟨o, ho⟩ : Fin 2)) ?_).trans ?_
  · intro a
    match a with
    | 0 => show (y 0).val = 0 + (y 0).val; omega
    | 1 => show (y 1).val = 0 + (y 1).val; omega
    | 2 => show o = o + 0; omega
  refine shapeCast_apply (s := S15360x448x16) (t := S15360x3584x2) _ _ _ (ValueIdx.ix3 (y 0) k b) ?_
  refine (Shape.rowMajor_val_three (d := S15360x448x16.size) _).trans (Eq.trans ?_ (Shape.rowMajor_val_three (d := S15360x3584x2.size) _).symm)
  show ((y 0).val * 448 + k.val) * 16 + b.val = ((y 0).val * 3584 + (y 1).val) * 2 + o
  omega

/-- The codes' bytes, at an index. -/
theorem pay1_apply (v21 v41 : FVec Ideal S15360x448x16 .f32) (y : S15360x3584.Idx) (k : Fin 448) (b b' : Fin 16)
    (hb : 2 * (y 1).val = 16 * k.val + b.val) (hb' : b'.val = b.val + 1)
    (h41 : ∀ z, v41 z = refQ (min (max (v21 z) (-(v21 z))) (Ideal.ofBits .f32 0x40C00000#32))) :
    k0_pay1 v21 v41 (k0_pay4 (F := Ideal)) y
      = Cert.CodesIdeal.Gen.packByte (refNib (v21 (ValueIdx.ix3 (y 0) k b))) (refNib (v21 (ValueIdx.ix3 (y 0) k b'))) := by
  unfold k0_pay1
  show BitVec.setWidth 8 (IntOp.ori (shapeCast S15360x3584 _ shapeCasts_S15360x3584x1_S15360x3584 y)
    (IntOp.shli .vector (shapeCast S15360x3584 _ shapeCasts_S15360x3584x1_S15360x3584 y) 4#32)) = _
  rw [half_apply _ y 0 (by decide) k b (by omega), half_apply _ y 1 (by decide) k b' (by omega)]
  unfold refNib
  rw [← h41, ← h41]
  rfl

/-- What the reference's call stores, from its three whole arrays. -/
theorem out_apply (v0 : Vec Ideal S15360x7168 .bf16) (v4 : Vec Ideal S15360x448 .fp8e4m3) (v6 : Vec Ideal S15360x1 .f32) (y : S15360x3584.Idx)
    (k : Fin 448) (j j' : Fin 7168) (hk : k.val = (y 1).val / 8) (hj : j.val = 2 * (y 1).val) (hj' : j'.val = 2 * (y 1).val + 1) :
    out0_3 v0 v6 v4 y = Cert.CodesIdeal.Gen.codeOf (v0 (ValueIdx.ix2 (y 0) j)) (v0 (ValueIdx.ix2 (y 0) j')) (v4 (ValueIdx.ix2 (y 0) k) * v6 (ValueIdx.ix2 (y 0) (0 : Fin 1))) := by
  have h1 : (y 1).val < 3584 := (y 1).isLt
  unfold out0_3
  rw [View.canon_unit_zero (by funext a; match a with | 0 => rfl | 1 => rfl)]
  rw [View.ld_unit_zero (by funext a; match a with | 0 => rfl | 1 => rfl), View.ld_unit_zero (by funext a; match a with | 0 => rfl | 1 => rfl),
    View.ld_unit_zero (by funext a; match a with | 0 => rfl | 1 => rfl)]
  refine (pay1_apply _ _ y k ⟨2 * ((y 1).val % 8), by omega⟩ ⟨2 * ((y 1).val % 8) + 1, by omega⟩ (by show 2 * (y 1).val = 16 * k.val + 2 * ((y 1).val % 8); omega) rfl (fun z => rfl)).trans ?_
  rw [pay2_apply v0 v4 v6 (y 0) k _ j (by show j.val = 16 * k.val + 2 * ((y 1).val % 8); omega),
    pay2_apply v0 v4 v6 (y 0) k _ j' (by show j'.val = 16 * k.val + (2 * ((y 1).val % 8) + 1); omega)]
  rfl

/-- The reference's gather of the source rows. -/
theorem take_apply (xt : S1920x7168.Idx → Ideal .bf16) (src : S15360.Idx → BitVec 32) (r : Fin 15360) (j : Fin 7168)
    (h : (src (ValueIdx.ix1 r)).toNat < 1920) :
    Host.gather gather_S1920x7168_S15360x1_S15360x7168_1_0_n_n_0_1_17168 xt (broadcastInDim S15360x1 ![0] bcast_S15360_S15360x1_0 src) (ValueIdx.ix2 r j)
      = xt (ValueIdx.ix2 (Cert.CodesIdeal.Gen.tok (src (ValueIdx.ix1 r))) j) := by
  have e := Cert.CodesIdeal.Gen.tok_val _ h
  refine Routing.gather_row _ rfl rfl rfl rfl rfl xt _ r j (Cert.CodesIdeal.Gen.tok (src (ValueIdx.ix1 r))) ?_ (by decide)
  rw [e, BitVec.ofNat_toNat, BitVec.setWidth_eq]
  refine congrArg src (funext fun a => Fin.ext ?_)
  match a with
  | 0 => rfl

variable (m : (ℓ : Loc nD τ sig) → Buf (Elt Ideal) ℓ)

/-- The gathered rows that the call is handed. -/
theorem V_rows (c : Dev nD) : V m c main_v0
    = Host.gather gather_S1920x7168_S15360x1_S15360x7168_1_0_n_n_0_1_17168 (m ((c : Thread nD τ).loc main_arg1))
        (broadcastInDim S15360x1 ![0] bcast_S15360_S15360x1_0 (m ((c : Thread nD τ).loc main_arg0))) := by
  rfl

/-- The column of row scales that the call is handed. -/
theorem V_scale (c : Dev nD) (r : Fin 15360) : V m c main_v2 (ValueIdx.ix2 r (0 : Fin 1) : S15360x1.Idx)
    = m ((c : Thread nD τ).loc main_arg2) (ValueIdx.ix2 (⟨r.val / 128, by omega⟩ : Fin 120) (⟨r.val % 128, by omega⟩ : Fin 128)) := by
  have e : V m c main_v2 = broadcastInDim S15360x1 ![0] bcast_S15360_S15360x1_0 (shapeCast S15360 (m ((c : Thread nD τ).loc main_arg2)) shapeCasts_S120x128_S15360) := by
    rfl
  rw [e]
  have hr := r.isLt
  refine (broadcastInDim_apply (s := S15360) _ _ _ _ (ValueIdx.ix1 r) (fun a => by match a with | 0 => rfl)).trans ?_
  refine shapeCast_apply (s := S120x128) (t := S15360) _ _ _ _ ?_
  refine (Shape.rowMajor_val_two (d := S120x128.size) _).trans (Eq.trans ?_ (Shape.rowMajor_val_one (d := S15360.size) _).symm)
  show r.val / 128 * 128 + r.val % 128 = r.val
  omega

theorem whole0 (t : Fin cfg0.N) (a : Fin 2) : win0_0.index t a = 0 := rfl
theorem whole1 (t : Fin cfg0.N) (a : Fin 2) : win0_1.index t a = 0 := rfl
theorem whole2 (t : Fin cfg0.N) (a : Fin 2) : win0_2.index t a = 0 := rfl
theorem whole3 (t : Fin cfg0.N) (a : Fin 2) : win0_3.index t a = 0 := rfl

/-- Each window of the call is its whole array. -/
theorem blk0 (c : Dev nD) (t : Fin cfg0.N) : iblk m c 0 t = V m c main_v0 := by
  funext y
  blk_ext [iblk]
  all_goals simp only [whole0]
  all_goals omega

theorem blk1 (c : Dev nD) (t : Fin cfg0.N) : iblk m c 1 t = V m c main_v2 := by
  funext y
  blk_ext [iblk]
  all_goals simp only [whole1]
  all_goals omega

theorem blk2 (c : Dev nD) (t : Fin cfg0.N) : iblk m c 2 t = V m c main_arg3 := by
  funext y
  blk_ext [iblk]
  all_goals simp only [whole2]
  all_goals omega

/-- What the call stores, from the arrays it is handed. -/
def stored (c : Dev nD) : S15360x3584.Idx → BitVec 8 := out0_3 (V m c main_v0) (V m c main_v2) (V m c main_arg3)

theorem after_stored (c : Dev nD) (t : Fin cfg0.N) : (dats m 0 c).after 3 t = stored m c := by
  rw [after0_3, blk0, blk1, blk2]
  rfl

theorem stored_apply (c : Dev nD) (hlt : ∀ y : S15360.Idx, (m ((c : Thread nD τ).loc main_arg0) y).toNat < 1920) (z : S15360x3584.Idx) :
    stored m c z = Cert.CodesIdeal.Gen.codesG (m ((c : Thread nD τ).loc main_arg0)) (m ((c : Thread nD τ).loc main_arg1)) (m ((c : Thread nD τ).loc main_arg2)) (m ((c : Thread nD τ).loc main_arg3)) z := by
  have h0 : (z 0).val < 15360 := (z 0).isLt
  have h1 : (z 1).val < 3584 := (z 1).isLt
  refine (out_apply (V m c main_v0) (V m c main_arg3) (V m c main_v2) z ⟨(z 1).val / 8, by omega⟩ ⟨2 * (z 1).val, by omega⟩ ⟨2 * (z 1).val + 1, by omega⟩ rfl rfl rfl).trans ?_
  unfold Cert.CodesIdeal.Gen.codesG
  have eA : V m c main_v0 (ValueIdx.ix2 (z 0) (⟨2 * (z 1).val, by omega⟩ : Fin 7168) : S15360x7168.Idx) = _ := (congrFun (V_rows m c) _).trans (take_apply _ _ (z 0) _ (hlt _))
  have eB : V m c main_v0 (ValueIdx.ix2 (z 0) (⟨2 * (z 1).val + 1, by omega⟩ : Fin 7168) : S15360x7168.Idx) = _ := (congrFun (V_rows m c) _).trans (take_apply _ _ (z 0) _ (hlt _))
  exact congrArg₂ (fun f e => f e) (congrArg₂ (fun a b e => Cert.CodesIdeal.Gen.codeOf a b e) eA eB)
    (congrArg₂ (fun a b : EReal => a * b) (congrFun (V_main_arg3 m c) _) (V_scale m c (z 0)))

attribute [irreducible] stored

theorem covers3 : (cfg0.win 3).Covers := by decide +kernel

/-- The reference's result. -/
theorem arr_ref (c : Dev nD) (hlt : ∀ y : S15360.Idx, (m ((c : Thread nD τ).loc main_arg0) y).toNat < 1920) :
    (dats m 0 c).arrAt 3 cfg0.N
      = Cert.CodesIdeal.Gen.codesG (m ((c : Thread nD τ).loc main_arg0)) (m ((c : Thread nD τ).loc main_arg1)) (m ((c : Thread nD τ).loc main_arg2)) (m ((c : Thread nD τ).loc main_arg3)) := by
  refine Pipeline.Dat.arrAt_eq_of_covers _ 3 _ covers3 (fun t hf y => ?_) (Memref.isWhole_whole _)
  rw [after_stored]
  refine Eq.trans ?_ (stored_apply m c hlt _)
  show stored m c (y : S15360x3584.Idx) = _
  refine congrArg (stored m c) (show ((_ : S15360x3584.Idx) = _) from funext fun a => Fin.ext ?_)
  match a with
  | (0 : Fin 2) => show (y (0 : Fin 2)).val = 0 * 15360 + 1 * (y (0 : Fin 2)).val; omega
  | (1 : Fin 2) => show (y (1 : Fin 2)).val = 0 * 3584 + 1 * (y (1 : Fin 2)).val; omega

end Cert.ReferenceIdeal.Gen
-- ==== Proof.ScalesPre.lean ====
/- The precondition of the scales call (every word of the source table is the number of a token) gives the side conditions
   that the body assumes of the words it loads: the token's row lies inside the table of block maxima. -/
module

public import proofs.«01_k».proof.Defs
public import proofs.«01_k».proof.Proof.Gen.Scales.Frame.Runs
public import proofs.«01_k».proof.Proof.Gen.Pre_scales_src_in_range

@[expose] public section

namespace Cert.Scales.Gen

open Idealize.ShloMosaic Idealize.ShloMosaic.TcCoe

/-- A word below 1920 names a row of the table. -/
theorem chk_of_lt (w : BitVec 32) (h : w.toNat < 1920) : k0_chk1 w := by
  unfold k0_chk1 k0_off2
  intro a
  match a with
  | 0 => show w.toNat + 1 ≤ 1920; omega
  | 1 => show 0 + 512 ≤ 512; omega

/-- Every word of the source table is the number of a token. -/
theorem src_lt (m : (ℓ : Loc nD τ sig) → Buf (Elt Bits) ℓ) (h : Cert.Pre_Scales m) (c : Dev nD) (y : S15360.Idx) :
    (m ((c : Thread nD τ).loc main_arg0) y).toNat < 1920 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun (h c) y
  simp only [Pre_scales_src_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- A word that the body loads of the table is the number of a token. -/
theorem word_lt (m : (ℓ : Loc nD τ sig) → Buf (Elt Bits) ℓ) (h : Cert.Pre_Scales m) (off : Fin 1 → Nat)
    (inb : ∀ a, off a + S1.size a ≤ S15360.size a) :
    (tbM0_0.view.readAt (Elt Bits) (Rect.unit (s := S15360) off S1.size inb).toLoadRect (tbl m 0)
      (Shape.Idx.first (numel1_S1.symm ▸ Nat.one_pos)) : BitVec 32).toNat < 1920 :=
  src_lt m h 0 ((Rect.unit (s := S15360) off S1.size inb).toLoadRect.idx (Shape.Idx.first (numel1_S1.symm ▸ Nat.one_pos)))

/-- The precondition gives the body's side conditions. -/
theorem hyps_of_pre (m : (ℓ : Loc nD τ sig) → Buf (Elt Bits) ℓ) (h : Cert.Pre_Scales m) : Hyps m trivial := by
  intro c t
  and_intros
  all_goals exact chk_of_lt _ (word_lt m h _ _)

end Cert.Scales.Gen
-- ==== Proof.ScalesFn.lean ====
/- The block scales as a function of the scales call's three arguments. -/
module

public import proofs.«01_k».proof.ScalesIdeal
public import Idealize.ShloMosaic.Lib.Pipeline.ValueKit

@[expose] public section

noncomputable section

namespace Cert.ScalesFn

open Idealize.ShloMosaic Cert.ScalesIdeal

/-- The token that a source word names. -/
def tok (w : BitVec 32) : Fin 1920 := ⟨w.toNat % 1920, Nat.mod_lt _ (by decide)⟩

theorem tok_val (w : BitVec 32) (h : w.toNat < 1920) : (tok w).val = w.toNat := Nat.mod_eq_of_lt h

/-- The scale of a block of sixteen channels, of the block's greatest magnitude `b` and the row's scale `s`:
    `b / (6 s)`, at most 448. -/
def scaleOf (b s : Ideal .f32) : Ideal .fp8e4m3 :=
  FloatOps.truncf .fp8e4m3 (by decide) (FloatOps.minimumf
    (FloatOps.divf b (FloatOps.mulf (Scalar.ofBits (F := Ideal) .f32 0x40C00000#32) s)) (Scalar.ofBits (F := Ideal) .f32 0x43E00000#32))

/-- The block scales: entry `(i, k)` is the scale of block `k` of the token that row `i` names, at the row's scale. -/
def scalesG (src : S15360.Idx → BitVec 32) (bmax : S1920x512.Idx → Ideal .f32) (srow : S120x128.Idx → Ideal .f32)
    (y : S15360x448.Idx) : Ideal .fp8e4m3 :=
  have h0 : (y 0).val < 15360 := (y 0).isLt
  have h1 : (y 1).val < 448 := (y 1).isLt
  scaleOf (bmax (ValueIdx.ix2 (tok (src (ValueIdx.ix1 (y 0)))) ⟨(y 1).val, by omega⟩))
    (srow (ValueIdx.ix2 ⟨(y 0).val / 128, by omega⟩ ⟨(y 0).val % 128, by omega⟩))

end Cert.ScalesFn
-- ==== Proof.ScalesIdealPre.lean ====
/- The precondition of the scales call (every word of the source table is the number of a token) gives the side conditions
   that the body assumes of the words it loads: the token's row lies inside the table of block maxima. -/
module

public import proofs.«01_k».proof.Defs
public import proofs.«01_k».proof.Proof.Gen.ScalesIdeal.Frame.Runs
public import proofs.«01_k».proof.Proof.Gen.Pre_scales_src_in_range

@[expose] public section

namespace Cert.ScalesIdeal.Gen

open Idealize.ShloMosaic Idealize.ShloMosaic.TcCoe

/-- A word below 1920 names a row of the table. -/
theorem chk_of_lt (w : BitVec 32) (h : w.toNat < 1920) : k0_chk1 w := by
  unfold k0_chk1 k0_off2
  intro a
  match a with
  | 0 => show w.toNat + 1 ≤ 1920; omega
  | 1 => show 0 + 512 ≤ 512; omega

/-- Every word of the source table is the number of a token. -/
theorem src_lt (m : (ℓ : Loc nD τ sig) → Buf (Elt Ideal) ℓ) (h : Cert.Pre_ScalesIdeal m) (c : Dev nD) (y : S15360.Idx) :
    (m ((c : Thread nD τ).loc main_arg0) y).toNat < 1920 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun (h c) y
  simp only [Pre_scales_src_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- A word that the body loads of the table is the number of a token. -/
theorem word_lt (m : (ℓ : Loc nD τ sig) → Buf (Elt Ideal) ℓ) (h : Cert.Pre_ScalesIdeal m) (off : Fin 1 → Nat)
    (inb : ∀ a, off a + S1.size a ≤ S15360.size a) :
    (tbM0_0.view.readAt (Elt Ideal) (Rect.unit (s := S15360) off S1.size inb).toLoadRect (tbl m 0)
      (Shape.Idx.first (numel1_S1.symm ▸ Nat.one_pos)) : BitVec 32).toNat < 1920 :=
  src_lt m h 0 ((Rect.unit (s := S15360) off S1.size inb).toLoadRect.idx (Shape.Idx.first (numel1_S1.symm ▸ Nat.one_pos)))

/-- The precondition gives the body's side conditions. -/
theorem hyps_of_pre (m : (ℓ : Loc nD τ sig) → Buf (Elt Ideal) ℓ) (h : Cert.Pre_ScalesIdeal m) : Hyps m trivial := by
  intro c t
  and_intros
  all_goals exact chk_of_lt _ (word_lt m h _ _)

end Cert.ScalesIdeal.Gen
-- ==== Proof.ScalesIdealVal.lean ====
/- What the scales call computes at one grid point over the extended reals: 128 rows of the block maxima are copied into the
   scratch buffer, each from its token's row, and divided by six times the row's scale. -/
module

public import proofs.«01_k».proof.Proof.ScalesFn
public import proofs.«01_k».proof.Proof.ScalesIdealPre
public import proofs.«01_k».proof.Proof.Gen.ScalesIdeal.Frame
public import Idealize.ShloMosaic.Lib.Pipeline.ValueKit

@[expose] public section

set_option maxRecDepth 65536

noncomputable section

namespace Cert.ScalesIdeal.Gen

open Idealize.ShloMosaic Idealize.ShloMosaic.TcCoe Cert.ScalesFn

/-- The number, as the kernel computes it, of the table word for row `n` of a point. -/
theorem tblOff_val (i : grid0.Coords) (n : ℕ) (hn : n < 128) :
    (![(Scalar.indexCast (Scalar.addi (Scalar.muli (BitVec.ofNat 32 (i 0).val) 128#32) (BitVec.ofNat 32 n))).toNat] : Fin 1 → ℕ) 0
      = 128 * (i 0).val + n := by
  have h0 : (i 0).val < 120 := (i 0).isLt
  show (BitVec.ofNat 32 (i 0).val * 128#32 + BitVec.ofNat 32 n).toNat = _
  rw [BitVec.toNat_add, BitVec.toNat_mul, BitVec.toNat_ofNat, BitVec.toNat_ofNat, BitVec.toNat_ofNat]
  omega

section
variable (c : Dev nD) (i : grid0.Coords) (arg2 : Memref sig .tc .vmem S1920x512 .f32) (harg2 : arg2.IsWhole)
    (x0 : Vec Ideal S1920x512 .f32) (xt0 : TbBuf0 (F := Ideal) c tbM0_0)

/-- The table word for row `n` of a point. -/
def wordAt (n : Fin 128) : BitVec 32 := xt0 (ValueIdx.ix1 (⟨128 * (i 0).val + n.val, by have h0 : (i 0).val < 120 := (i 0).isLt; omega⟩ : Fin 15360) : S15360.Idx)

/-- What the scratch buffer holds: row `n` is the row of block maxima of the token that row names. -/
def rows : S128x512.Idx → Ideal .f32 := fun y => x0 (ValueIdx.ix2 (tok (wordAt c i xt0 (y 0))) (y 1))

/-- One row's store agrees with `rows`. -/
theorem row_piece (hlt : ∀ y : S15360.Idx, (xt0 y : BitVec 32).toNat < 1920) (n : ℕ) (hn : n < 128)
    (inb' : ∀ a, (![n, 0] : Fin 2 → ℕ) a + S1x512.size a ≤ S128x512.size a)
    (v : S1x512.Idx → Ideal .f32) (off2 : Fin 2 → ℕ) (inb2 : ∀ a, off2 a + S1x512.size a ≤ S1920x512.size a)
    (hv : v = arg2.view.readAt (Elt Ideal) (Rect.unit (s := S1920x512) off2 S1x512.size inb2).toLoadRect (harg2.unread x0))
    (w : BitVec 32) (hoff2 : off2 = ![w.toNat, 0])
    (off : Fin 1 → ℕ) (inb : ∀ a, off a + S1.size a ≤ S15360.size a)
    (hw : w = tbM0_0.view.readAt (Elt Ideal) (Rect.unit (s := S15360) off S1.size inb).toLoadRect xt0 (Shape.Idx.first (numel1_S1.symm ▸ Nat.one_pos)))
    (hoff : off 0 = 128 * (i 0).val + n) (x : S1x512.Idx) :
    v x = rows c i x0 xt0 ((Rect.unit (s := S128x512) ![n, 0] S1x512.size inb').emb x) := by
  have hx0 : (x 0).val < 1 := (x 0).isLt
  have hw' : w = wordAt c i xt0 ⟨n, hn⟩ := by
    rw [hw]
    refine congrArg xt0 (show ((_ : S15360.Idx) = _) from funext fun a => Fin.ext ?_)
    match a with
    | (0 : Fin 1) => show off 0 + 1 * 0 = 128 * (i 0).val + n; omega
  have hwl : w.toNat < 1920 := by rw [hw']; exact hlt _
  rw [hv, View.readAt_eq_ld, harg2.read_unread]
  subst hoff2
  have en : (Rect.unit (s := S128x512) ![n, 0] S1x512.size inb').emb x 0 = (⟨n, hn⟩ : Fin 128) := Fin.ext (by show n + 1 * (x 0).val = n; omega)
  unfold rows
  rw [en, ← hw']
  refine congrArg x0 (show ((_ : S1920x512.Idx) = _) from funext fun a => Fin.ext ?_)
  match a with
  | (0 : Fin 2) => show w.toNat + 1 * (x 0).val = w.toNat % 1920; omega
  | (1 : Fin 2) => rfl

/-- The same of a list of stores that begins with such a store. -/
theorem row_cons (hlt : ∀ y : S15360.Idx, (xt0 y : BitVec 32).toNat < 1920) (n : ℕ) (hn : n < 128)
    (inb' : ∀ a, (![n, 0] : Fin 2 → ℕ) a + S1x512.size a ≤ S128x512.size a)
    (v : S1x512.Idx → Ideal .f32) (off2 : Fin 2 → ℕ) (inb2 : ∀ a, off2 a + S1x512.size a ≤ S1920x512.size a)
    (hv : v = arg2.view.readAt (Elt Ideal) (Rect.unit (s := S1920x512) off2 S1x512.size inb2).toLoadRect (harg2.unread x0))
    (w : BitVec 32) (hoff2 : off2 = ![w.toNat, 0])
    (off : Fin 1 → ℕ) (inb : ∀ a, off a + S1.size a ≤ S15360.size a)
    (hw : w = tbM0_0.view.readAt (Elt Ideal) (Rect.unit (s := S15360) off S1.size inb).toLoadRect xt0 (Shape.Idx.first (numel1_S1.symm ▸ Nat.one_pos)))
    (hoff : off 0 = 128 * (i 0).val + n) (L : List (View.Piece (Elt Ideal) S128x512 .f32))
    (hL : ∀ p ∈ L, ∀ x : p.1.shape.Idx, p.2 x = rows c i x0 xt0 (p.1.emb x)) :
    ∀ p ∈ ((⟨Rect.unit (s := S128x512) ![n, 0] S1x512.size inb', v⟩ : View.Piece (Elt Ideal) S128x512 .f32) :: L),
      ∀ x : p.1.shape.Idx, p.2 x = rows c i x0 xt0 (p.1.emb x) :=
  List.forall_mem_cons.2 ⟨row_piece c i arg2 harg2 x0 xt0 hlt n hn inb' v off2 inb2 hv w hoff2 off inb hw hoff, hL⟩

/-- A square of the scratch buffer, loaded after stores that agree with `rows` and cover it. -/
theorem scratch_read (arg5 : Memref sig .tc .vmem S128x512 .f32) (L : List (View.Piece (Elt Ideal) S128x512 .f32))
    (hL : ∀ p ∈ L, ∀ x : p.1.shape.Idx, p.2 x = rows c i x0 xt0 (p.1.emb x)) (hc : ∀ y, ∃ p ∈ L, y ∈ p.1.set)
    (o : ℕ) (inb : ∀ a, (![0, o] : Fin 2 → ℕ) a + S128x128.size a ≤ S128x512.size a) (n l : Fin 128) (k : Fin 512) (hk : k.val = o + l.val) :
    arg5.view.readCov L (Rect.unit (s := S128x512) ![0, o] S128x128.size inb).toLoadRect (ValueIdx.ix2 n l : S128x128.Idx)
      = x0 (ValueIdx.ix2 (tok (wordAt c i xt0 n)) k) := by
  rw [View.readCov_eq_canon_ld _ _ _ hc]
  refine (View.canon_apply_of_pieces (rows c i x0 xt0) L hL _ (hc _)).trans ?_
  show rows c i x0 xt0 ((Rect.unit (s := S128x512) ![0, o] S128x128.size inb).emb (ValueIdx.ix2 n l : S128x128.Idx)) = _
  have e0 : (Rect.unit (s := S128x512) ![0, o] S128x128.size inb).emb (ValueIdx.ix2 n l : S128x128.Idx) 0 = n := Fin.ext (by show 0 + 1 * n.val = n.val; omega)
  have e1 : (Rect.unit (s := S128x512) ![0, o] S128x128.size inb).emb (ValueIdx.ix2 n l : S128x128.Idx) 1 = k := Fin.ext (by show o + 1 * l.val = k.val; omega)
  unfold rows
  rw [e0, e1]

end

/-- The row scales, spread over the columns. -/
theorem spread_apply (v : Vec Ideal S1x128 .f32) (n l : Fin 128) : k0_pay130 v (ValueIdx.ix2 n l) = v (ValueIdx.ix2 (0 : Fin 1) n) := by
  unfold k0_pay130
  simp only [shapeCast_self]
  refine (transpose_apply _ _ _ _ (ValueIdx.ix2 l n) ?_).trans ?_
  · intro a
    match a with
    | 0 => rfl
    | 1 => rfl
  · exact broadcastTo_apply _ _ _ _ (by intro b; match b with | 0 => rfl | 1 => rfl)

/-- The row of scales that a point loads. -/
theorem scaleRow_apply (i : grid0.Coords) (arg3 : Memref sig .tc .vmem S120x128 .f32) (harg3 : arg3.IsWhole) (x1 : Vec Ideal S120x128 .f32)
    (inb : ∀ a, k0_off257 i a + S1x128.size a ≤ S120x128.size a) (n : Fin 128) (k : Fin 120) (hk : k.val = (i 0).val) :
    arg3.view.readAt (Elt Ideal) (Rect.unit (s := S120x128) (k0_off257 i) S1x128.size inb).toLoadRect (harg3.unread x1) (ValueIdx.ix2 (0 : Fin 1) n : S1x128.Idx)
      = x1 (ValueIdx.ix2 k n) := by
  have h0 : (i 0).val < 120 := (i 0).isLt
  have e : k0_off257 i = ![(i 0).val, 0] := by
    unfold k0_off257
    have : (Scalar.indexCast (BitVec.ofNat 32 (i 0).val)).toNat = (i 0).val := by
      show (BitVec.ofNat 32 (i 0).val).toNat = _
      rw [BitVec.toNat_ofNat]; omega
    simp only [this]
  rw [View.readAt_eq_ld, harg3.read_unread]
  refine congrArg x1 (show ((_ : S120x128.Idx) = _) from funext fun a => Fin.ext ?_)
  match a with
  | (0 : Fin 2) => show k0_off257 i 0 + 1 * 0 = k.val; rw [e]; show (i 0).val + 1 * 0 = k.val; omega
  | (1 : Fin 2) => show k0_off257 i 1 + 1 * n.val = n.val; rw [e]; show 0 + 1 * n.val = n.val; omega

/-- One element of what a point stores of a square. -/
theorem pay_apply (v : Vec Ideal S1x128 .f32) (u : Vec Ideal S128x128 .f32) (n l : Fin 128) :
    k0_pay131 v u (ValueIdx.ix2 n l) = scaleOf (u (ValueIdx.ix2 n l)) (v (ValueIdx.ix2 (0 : Fin 1) n)) := by
  rw [← spread_apply v n l]
  rfl

/-- The same of the last store, which keeps half of its square. -/
theorem pay_half_apply (v : Vec Ideal S1x128 .f32) (u : Vec Ideal S128x128 .f32) (n : Fin 128) (l : Fin 64) (l' : Fin 128) (hl : l'.val = l.val) :
    k0_pay1 (k0_pay130 v) u (ValueIdx.ix2 n l) = scaleOf (u (ValueIdx.ix2 n l')) (v (ValueIdx.ix2 (0 : Fin 1) n)) := by
  rw [← pay_apply]
  show extractStridedSlice S128x64 ![0, 0] (k0_pay131 v u) slices_S128x128_o0_0_S128x64 (ValueIdx.ix2 n l) = _
  refine extractStridedSlice_apply _ _ _ _ (ValueIdx.ix2 n l') ?_
  intro a
  match a with
  | 0 => show n.val = 0 + n.val; omega
  | 1 => show l'.val = 0 + l.val; omega

variable (m : (ℓ : Loc nD τ sig) → Buf (Elt Ideal) ℓ)

set_option maxHeartbeats 3200000 in
/-- The body's run at a point: its stores into the block of scales and into the scratch buffer. -/
def runAt (hO : Ok m) (hH : Hyps m hO) (c : Dev nD) (t : Fin (cfgM m hO).N) :=
  kernelRun0_A (F := Ideal) c (grid0.coords t) (ms0_0 m hO t) (hs0_0 m hO t) (ms0_1 m hO t) (hs0_1 m hO t) (ms0_2 m hO t) (hs0_2 m hO t) scM0_0 (Memref.isWhole_whole _) (iblk m hO c 0 t) (iblk m hO c 1 t) (tbl m 0)
    (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) (Hyps.c48 hH c t) (Hyps.c49 hH c t) (Hyps.c50 hH c t) (Hyps.c51 hH c t) (Hyps.c52 hH c t) (Hyps.c53 hH c t) (Hyps.c54 hH c t) (Hyps.c55 hH c t) (Hyps.c56 hH c t) (Hyps.c57 hH c t) (Hyps.c58 hH c t) (Hyps.c59 hH c t) (Hyps.c60 hH c t) (Hyps.c61 hH c t) (Hyps.c62 hH c t) (Hyps.c63 hH c t) (Hyps.c64 hH c t) (Hyps.c65 hH c t) (Hyps.c66 hH c t) (Hyps.c67 hH c t) (Hyps.c68 hH c t) (Hyps.c69 hH c t) (Hyps.c70 hH c t) (Hyps.c71 hH c t) (Hyps.c72 hH c t) (Hyps.c73 hH c t) (Hyps.c74 hH c t) (Hyps.c75 hH c t) (Hyps.c76 hH c t) (Hyps.c77 hH c t) (Hyps.c78 hH c t) (Hyps.c79 hH c t) (Hyps.c80 hH c t) (Hyps.c81 hH c t) (Hyps.c82 hH c t) (Hyps.c83 hH c t) (Hyps.c84 hH c t) (Hyps.c85 hH c t) (Hyps.c86 hH c t) (Hyps.c87 hH c t) (Hyps.c88 hH c t) (Hyps.c89 hH c t) (Hyps.c90 hH c t) (Hyps.c91 hH c t) (Hyps.c92 hH c t) (Hyps.c93 hH c t) (Hyps.c94 hH c t) (Hyps.c95 hH c t) (Hyps.c96 hH c t) (Hyps.c97 hH c t) (Hyps.c98 hH c t) (Hyps.c99 hH c t) (Hyps.c100 hH c t) (Hyps.c101 hH c t) (Hyps.c102 hH c t) (Hyps.c103 hH c t) (Hyps.c104 hH c t) (Hyps.c105 hH c t) (Hyps.c106 hH c t) (Hyps.c107 hH c t) (Hyps.c108 hH c t) (Hyps.c109 hH c t) (Hyps.c110 hH c t) (Hyps.c111 hH c t) (Hyps.c112 hH c t) (Hyps.c113 hH c t) (Hyps.c114 hH c t) (Hyps.c115 hH c t) (Hyps.c116 hH c t) (Hyps.c117 hH c t) (Hyps.c118 hH c t) (Hyps.c119 hH c t) (Hyps.c120 hH c t) (Hyps.c121 hH c t) (Hyps.c122 hH c t) (Hyps.c123 hH c t) (Hyps.c124 hH c t) (Hyps.c125 hH c t) (Hyps.c126 hH c t) (Hyps.c127 hH c t)

section
attribute [local irreducible] shapeCast

set_option maxHeartbeats 3200000 in
/-- The 128 stores into the scratch buffer. -/
theorem scratch_pieces (hO : Ok m) (hH : Hyps m hO) (c : Dev nD) (t : Fin (cfgM m hO).N)
    (hlt : ∀ y : S15360.Idx, (tbl m 0 y : BitVec 32).toNat < 1920) :
    ∀ p ∈ (runAt m hO hH c t).2.1, ∀ x : p.1.shape.Idx, p.2 x = rows c (grid0.coords t) (iblk m hO c 0 t) (tbl m 0) (p.1.emb x) := by
  unfold runAt kernelRun0_A
  dsimp only
  unfold kernelRun0_A.sl.HS0_128
  iterate 128
    apply row_cons c (grid0.coords t) (ms0_0 m hO t) (hs0_0 m hO t) (iblk m hO c 0 t) (tbl m 0) hlt
    case hn => decide
    case hv => exact shapeCast_self _ _
    case hoff2 => exact rfl
    case hw => exact rfl
    case hoff => refine tblOff_val _ _ ?_; decide
  exact fun _ h => absurd h List.not_mem_nil

end

set_option maxHeartbeats 3200000 in
/-- They fill it. -/
theorem scratch_cover (hO : Ok m) (hH : Hyps m hO) (c : Dev nD) (t : Fin (cfgM m hO).N) (y : S128x512.Idx) :
    ∃ p ∈ (runAt m hO hH c t).2.1, y ∈ p.1.set :=
  View.cover_of_tiledBy (runAt m hO hH c t).2.1 ![1, 512] (by sl_kernel_rfl) y

end Cert.ScalesIdeal.Gen
-- ==== Proof.ScalesIdealGoal.lean ====
/- The scales call over the extended reals stores the block scales `scalesG` of its arguments. -/
module

public import proofs.«01_k».proof.Proof.ScalesIdealVal

@[expose] public section

set_option maxRecDepth 65536

noncomputable section

namespace Cert.ScalesIdeal.Gen

open Idealize.ShloMosaic Idealize.ShloMosaic.TcCoe Cert.ScalesFn

section
variable (c : Dev nD) (i : grid0.Coords) (x0 : Vec Ideal S1920x512 .f32) (x1 : Vec Ideal S120x128 .f32) (xt0 : TbBuf0 (F := Ideal) c tbM0_0)

/-- What a point stores: entry `(n, k)` is the scale of block `k` of row `n`'s token, at the row's scale. -/
def outs : S128x448.Idx → Ideal .fp8e4m3 := fun y =>
  have h1 : (y 1).val < 448 := (y 1).isLt
  scaleOf (x0 (ValueIdx.ix2 (tok (wordAt c i xt0 (y 0))) ⟨(y 1).val, by omega⟩)) (x1 (ValueIdx.ix2 (i 0) (y 0)))

/-- A store of a square agrees with `outs`. -/
theorem square_cons (arg3 : Memref sig .tc .vmem S120x128 .f32) (harg3 : arg3.IsWhole) (arg5 : Memref sig .tc .vmem S128x512 .f32)
    (Ls : List (View.Piece (Elt Ideal) S128x512 .f32))
    (hL : ∀ p ∈ Ls, ∀ x : p.1.shape.Idx, p.2 x = rows c i x0 xt0 (p.1.emb x)) (hc : ∀ y, ∃ p ∈ Ls, y ∈ p.1.set)
    (o : ℕ) (inb : ∀ a, (![0, o] : Fin 2 → ℕ) a + S128x128.size a ≤ S128x512.size a)
    (inb' : ∀ a, (![0, o] : Fin 2 → ℕ) a + S128x128.size a ≤ S128x448.size a)
    (inb3 : ∀ a, k0_off257 i a + S1x128.size a ≤ S120x128.size a)
    (w : S128x128.Idx → Ideal .fp8e4m3)
    (hw : w = k0_pay131 (arg3.view.readAt (Elt Ideal) (Rect.unit (s := S120x128) (k0_off257 i) S1x128.size inb3).toLoadRect (harg3.unread x1))
      (arg5.view.readCov Ls (Rect.unit (s := S128x512) ![0, o] S128x128.size inb).toLoadRect))
    (L : List (View.Piece (Elt Ideal) S128x448 .fp8e4m3)) (hrest : ∀ p ∈ L, ∀ x : p.1.shape.Idx, p.2 x = outs c i x0 x1 xt0 (p.1.emb x)) :
    ∀ p ∈ ((⟨Rect.unit (s := S128x448) ![0, o] S128x128.size inb', w⟩ : View.Piece (Elt Ideal) S128x448 .fp8e4m3) :: L),
      ∀ x : p.1.shape.Idx, p.2 x = outs c i x0 x1 xt0 (p.1.emb x) := by
  refine List.forall_mem_cons.2 ⟨fun x => ?_, hrest⟩
  have hx : ∀ x : S128x128.Idx, w x = outs c i x0 x1 xt0 ((Rect.unit (s := S128x448) ![0, o] S128x128.size inb').emb x) := by
    intro x
    have ho : o + 128 ≤ 448 := inb' 1
    have hx1 : (x 1).val < 128 := (x 1).isLt
    have ex : x = ValueIdx.ix2 (x 0) (x 1) := funext fun a => by match a with | (0 : Fin 2) => rfl | (1 : Fin 2) => rfl
    have e0 : (Rect.unit (s := S128x448) ![0, o] S128x128.size inb').emb x 0 = x 0 := Fin.ext (by show 0 + 1 * (x 0).val = (x 0).val; omega)
    have e1 : ((Rect.unit (s := S128x448) ![0, o] S128x128.size inb').emb x 1).val = o + (x 1).val := by show o + 1 * (x 1).val = _; omega
    rw [hw]
    conv_lhs => rw [ex]
    refine (pay_apply _ _ (x 0) (x 1)).trans ?_
    rw [scratch_read c i x0 xt0 arg5 Ls hL hc o inb (x 0) (x 1) ⟨o + (x 1).val, by omega⟩ rfl,
      scaleRow_apply i arg3 harg3 x1 inb3 (x 0) (i 0) rfl]
    unfold outs
    simp only [e0, e1]
  exact hx x

/-- So does the store of half a square. -/
theorem half_cons (arg3 : Memref sig .tc .vmem S120x128 .f32) (harg3 : arg3.IsWhole) (arg5 : Memref sig .tc .vmem S128x512 .f32)
    (Ls : List (View.Piece (Elt Ideal) S128x512 .f32))
    (hL : ∀ p ∈ Ls, ∀ x : p.1.shape.Idx, p.2 x = rows c i x0 xt0 (p.1.emb x)) (hc : ∀ y, ∃ p ∈ Ls, y ∈ p.1.set)
    (o : ℕ) (inb : ∀ a, (![0, o] : Fin 2 → ℕ) a + S128x128.size a ≤ S128x512.size a)
    (inb' : ∀ a, (![0, o] : Fin 2 → ℕ) a + S128x64.size a ≤ S128x448.size a)
    (inb3 : ∀ a, k0_off257 i a + S1x128.size a ≤ S120x128.size a)
    (w : S128x64.Idx → Ideal .fp8e4m3)
    (hw : w = k0_pay1 (k0_pay130 (arg3.view.readAt (Elt Ideal) (Rect.unit (s := S120x128) (k0_off257 i) S1x128.size inb3).toLoadRect (harg3.unread x1)))
      (arg5.view.readCov Ls (Rect.unit (s := S128x512) ![0, o] S128x128.size inb).toLoadRect))
    (L : List (View.Piece (Elt Ideal) S128x448 .fp8e4m3)) (hrest : ∀ p ∈ L, ∀ x : p.1.shape.Idx, p.2 x = outs c i x0 x1 xt0 (p.1.emb x)) :
    ∀ p ∈ ((⟨Rect.unit (s := S128x448) ![0, o] S128x64.size inb', w⟩ : View.Piece (Elt Ideal) S128x448 .fp8e4m3) :: L),
      ∀ x : p.1.shape.Idx, p.2 x = outs c i x0 x1 xt0 (p.1.emb x) := by
  refine List.forall_mem_cons.2 ⟨fun x => ?_, hrest⟩
  have hx : ∀ x : S128x64.Idx, w x = outs c i x0 x1 xt0 ((Rect.unit (s := S128x448) ![0, o] S128x64.size inb').emb x) := by
    intro x
    have ho : o + 64 ≤ 448 := inb' 1
    have hx1 : (x 1).val < 64 := (x 1).isLt
    have ex : x = ValueIdx.ix2 (x 0) (x 1) := funext fun a => by match a with | (0 : Fin 2) => rfl | (1 : Fin 2) => rfl
    have e0 : (Rect.unit (s := S128x448) ![0, o] S128x64.size inb').emb x 0 = x 0 := Fin.ext (by show 0 + 1 * (x 0).val = (x 0).val; omega)
    have e1 : ((Rect.unit (s := S128x448) ![0, o] S128x64.size inb').emb x 1).val = o + (x 1).val := by show o + 1 * (x 1).val = _; omega
    rw [hw]
    conv_lhs => rw [ex]
    refine (pay_half_apply _ _ (x 0) (x 1) ⟨(x 1).val, by omega⟩ rfl).trans ?_
    rw [scratch_read c i x0 xt0 arg5 Ls hL hc o inb (x 0) ⟨(x 1).val, by omega⟩ ⟨o + (x 1).val, by omega⟩ rfl,
      scaleRow_apply i arg3 harg3 x1 inb3 (x 0) (i 0) rfl]
    unfold outs
    simp only [e0, e1]
  exact hx x

end

variable (m : (ℓ : Loc nD τ sig) → Buf (Elt Ideal) ℓ)

section
attribute [local irreducible] kernelRun0_A.sl.HS0_128 View.readCov

set_option maxHeartbeats 3200000 in
/-- The four stores into a point's block of scales. -/
theorem out_pieces (hO : Ok m) (hH : Hyps m hO) (c : Dev nD) (t : Fin (cfgM m hO).N)
    (hlt : ∀ y : S15360.Idx, (tbl m 0 y : BitVec 32).toNat < 1920) :
    ∀ p ∈ (runAt m hO hH c t).1, ∀ x : p.1.shape.Idx,
      p.2 x = outs c (grid0.coords t) (iblk m hO c 0 t) (iblk m hO c 1 t) (tbl m 0) (p.1.emb x) := by
  have hp := scratch_pieces m hO hH c t hlt
  have hc := scratch_cover m hO hH c t
  unfold runAt kernelRun0_A at hp hc ⊢
  dsimp only at hp hc ⊢
  unfold kernelRun0_A.sl.v1157 kernelRun0_A.sl.v1165 kernelRun0_A.sl.v1173 kernelRun0_A.sl.v1181
  refine half_cons c (grid0.coords t) _ _ _ (ms0_1 m hO t) (hs0_1 m hO t) scM0_0 _ hp hc 384 (by decide) (by decide) (k0_off257_inb _) _ rfl _ ?_
  refine square_cons c (grid0.coords t) _ _ _ (ms0_1 m hO t) (hs0_1 m hO t) scM0_0 _ hp hc 256 (by decide) (by decide) (k0_off257_inb _) _ rfl _ ?_
  refine square_cons c (grid0.coords t) _ _ _ (ms0_1 m hO t) (hs0_1 m hO t) scM0_0 _ hp hc 128 (by decide) (by decide) (k0_off257_inb _) _ rfl _ ?_
  refine square_cons c (grid0.coords t) _ _ _ (ms0_1 m hO t) (hs0_1 m hO t) scM0_0 _ hp hc 0 (by decide) (by decide) (k0_off257_inb _) _ rfl _ ?_
  exact fun _ h => absurd h List.not_mem_nil

end

set_option maxHeartbeats 3200000 in
/-- They fill it. -/
theorem out_cover (hO : Ok m) (hH : Hyps m hO) (c : Dev nD) (t : Fin (cfgM m hO).N) (y : S128x448.Idx) :
    ∃ p ∈ (runAt m hO hH c t).1, y ∈ p.1.set :=
  View.cover_of_tiledBy (runAt m hO hH c t).1 ![128, 64] (by sl_kernel_rfl) y

set_option maxHeartbeats 3200000 in
/-- What the block of scales holds after a point. -/
theorem outsAt_eq (hO : Ok m) (hH : Hyps m hO) (c : Dev nD) (t : Fin (cfgM m hO).N)
    (hlt : ∀ y : S15360.Idx, (tbl m 0 y : BitVec 32).toNat < 1920) (y : S128x448.Idx) :
    outsAt0 m hO hH c t y = outs c (grid0.coords t) (iblk m hO c 0 t) (iblk m hO c 1 t) (tbl m 0) y := by
  show VO0_2.read (Elt Ideal) (VO0_2.writes (Elt Ideal) VO0_2.junk (runAt m hO hH c t).1) y = _
  rw [View.read_writes_junk_apply_eq_canon]
  exact View.canon_apply_of_pieces _ _ (out_pieces m hO hH c t hlt) y (out_cover m hO hH c t y)

theorem coords0 (t : Fin grid0.N) : (grid0.coords t 0).val = t.val := by
  have h0 : t.val < 120 := lt_of_lt_of_eq t.isLt N_0
  have e0 : (grid0.coords t 0).val = t.val / 1 % 120 := Pipeline.Grid.coords_val t 0 (by decide) rfl
  exact e0.trans (by rw [Nat.div_one]; omega)

/-- The blocks of maxima and of row scales are the whole arrays. -/
theorem blk0 (hO : Ok m) (c : Dev nD) (t : Fin (cfgM m hO).N) : iblk m hO c 0 t = V m c main_arg1 := by
  funext y
  blk_ext [iblk, V]
  · show 0 * 1920 + (y (0 : Fin 2)).val = (y (0 : Fin 2)).val
    omega
  · show 0 * 512 + (y (1 : Fin 2)).val = (y (1 : Fin 2)).val
    omega

theorem blk1 (hO : Ok m) (c : Dev nD) (t : Fin (cfgM m hO).N) : iblk m hO c 1 t = V m c main_arg2 := by
  funext y
  blk_ext [iblk, V]
  · show 0 * 120 + (y (0 : Fin 2)).val = (y (0 : Fin 2)).val
    omega
  · show 0 * 128 + (y (1 : Fin 2)).val = (y (1 : Fin 2)).val
    omega

/-- The scales are stored in blocks of 128 rows. -/
theorem tr2 (t : Fin grid0.N) : cc0_transform_2 (grid0.coords t) = ![t.val, 0] := by
  have h0 : t.val < 120 := lt_of_lt_of_eq t.isLt N_0
  unfold cc0_transform_2
  simp only [coords0]
  rw [BitVec.toNat_ofNat, Nat.mod_eq_of_lt (show t.val < 2 ^ 32 by omega)]
  rfl

theorem flush2 (a : (pcfg0 (F := Ideal)).Adm) : ∀ t : Fin (cfg0 a).N, ((cfg0 a).win 2).flush t = true :=
  (by decide +kernel : ∀ t : Fin grid0.N, Pipeline.Window.flushOf grid0 true cc0_transform_2 t = true)

/-- Every block of the scales is written back at some point. -/
theorem covers2 (a : (pcfg0 (F := Ideal)).Adm) : (pcfg0.win a 2).Covers := by
  refine ⟨(show ∀ x : Fin 2, 0 < S128x448.size x from by decide), fun β => ?_⟩
  have h0 : (β (0 : Fin 2)).val < 120 := lt_of_lt_of_eq (b := (15360 + 128 - 1) / 128) (β (0 : Fin 2)).isLt (by decide)
  have h1 : (β (1 : Fin 2)).val < 1 := lt_of_lt_of_eq (b := (448 + 448 - 1) / 448) (β (1 : Fin 2)).isLt (by decide)
  have hN : grid0.N = 120 := N_0
  refine ⟨⟨(β (0 : Fin 2)).val, lt_of_lt_of_eq h0 N_0.symm⟩, flush2 a _, fun x => ⟨?_, Or.inl rfl⟩⟩
  have e0 := congrFun (tr2 ⟨(β (0 : Fin 2)).val, by omega⟩) 0
  have e1 := congrFun (tr2 ⟨(β (0 : Fin 2)).val, by omega⟩) 1
  match x with
  | (0 : Fin 2) => exact e0
  | (1 : Fin 2) => exact e1.trans (by show 0 = (β (1 : Fin 2)).val; omega)

/-- A point's block of scales is its part of the whole array. -/
theorem block_scales (hO : Ok m) (c : Dev nD) (t : Fin (cfgM m hO).N) (y : S128x448.Idx) (z : S15360x448.Idx)
    (hz0 : (z 0).val = 128 * t.val + (y 0).val) (hz1 : (z 1).val = (y 1).val) :
    outs c (grid0.coords t) (V m c main_arg1) (V m c main_arg2) (tbl m 0) y
      = scalesG (m (((0 : Dev nD) : Thread nD τ).loc main_arg0)) (V m c main_arg1) (V m c main_arg2) z := by
  have hy0 : (y 0).val < 128 := (y 0).isLt
  have hz0' : (z 0).val < 15360 := (z 0).isLt
  have hz1' : (z 1).val < 448 := (z 1).isLt
  have hc0 : (grid0.coords t 0).val = t.val := coords0 t
  unfold outs scalesG
  have ew : wordAt c (grid0.coords t) (tbl m 0) (y 0) = m (((0 : Dev nD) : Thread nD τ).loc main_arg0) (ValueIdx.ix1 (z 0)) := by
    unfold wordAt
    refine congrArg (m (((0 : Dev nD) : Thread nD τ).loc main_arg0)) (congrArg ValueIdx.ix1 (Fin.ext ?_))
    show 128 * (grid0.coords t 0).val + (y 0).val = (z 0).val
    rw [hc0, hz0]
  dsimp only
  rw [ew]
  refine congrArg₂ scaleOf (congrArg (V m c main_arg1) (congrArg (ValueIdx.ix2 _) (Fin.ext hz1.symm)))
    (congrArg (V m c main_arg2) (congrArg₂ ValueIdx.ix2 (Fin.ext ?_) (Fin.ext ?_)))
  · show (grid0.coords t 0).val = (z 0).val / 128
    rw [hc0]; omega
  · show (y 0).val = (z 0).val % 128
    omega

/-- The array of scales after the run. -/
theorem arr_scales (hO : Ok m) (hH : Hyps m hO) (c : Dev nD)
    (hlt : ∀ y : S15360.Idx, (m (((0 : Dev nD) : Thread nD τ).loc main_arg0) y).toNat < 1920) :
    (dats m hO hH 0 c).arrAt 2 (cfgM m hO).N
      = scalesG (m (((0 : Dev nD) : Thread nD τ).loc main_arg0)) (V m c main_arg1) (V m c main_arg2) := by
  refine Pipeline.Dat.arrAt_eq_of_covers _ 2 _ (covers2 (adm m hO)) (fun t hf y => ?_) (Memref.isWhole_whole _)
  have hX : (dats m hO hH 0 c).after 2 t = outsAt0 m hO hH c t := after0_2 m hO hH c t
  have e0 : cc0_transform_2 (grid0.coords t) (0 : Fin 2) = t.val := congrFun (tr2 t) 0
  have e1 : cc0_transform_2 (grid0.coords t) (1 : Fin 2) = 0 := congrFun (tr2 t) 1
  refine Eq.trans ?_ (block_scales m hO c t y _ ?_ ?_)
  · rw [hX]
    refine (outsAt_eq m hO hH c t hlt y).trans ?_
    rw [blk0, blk1]
  · show cc0_transform_2 (grid0.coords t) (0 : Fin 2) * 128 + 1 * (y (0 : Fin 2)).val = _
    rw [e0]; omega
  · show cc0_transform_2 (grid0.coords t) (1 : Fin 2) * 448 + 1 * (y (1 : Fin 2)).val = _
    rw [e1]; omega

/-- The run of the call: it ends with the array of scales at `scalesG` of its arguments, and these as they were. -/
theorem run_scales (ρ : Dev nD → PrngReg) (hO : Ok m) (hH : Hyps m hO)
    (hlt : ∀ y : S15360.Idx, (m (((0 : Dev nD) : Thread nD τ).loc main_arg0) y).toNat < 1920) :
    θ_run defs (onTc (τ := τ) (main (F := Ideal))) ⟨m, fun _ => 0, ρ⟩ (fun r => ∀ c : Dev nD,
      r.2.mem ((c.tc : Thread nD τ).loc main_v0) = scalesG (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨by
      obtain rfl : c = 0 := Subsingleton.elim _ _
      exact ((h.1 0).1 2).trans (arr_scales m hO hH 0 hlt), h.2.1 c⟩)
    (θ_run_and (run_main m ρ hO hH) (frame m ρ hO hH))

end Cert.ScalesIdeal.Gen
-- ==== Proof.ScalesRef.lean ====
/- What the reference of the scales call computes over the extended reals. -/
module

public import proofs.«01_k».proof.Proof.ScalesFn
public import proofs.«01_k».proof.Proof.Gen.ScalesReferenceIdeal.Value
public import Idealize.ShloMosaic.Lib.Pipeline.ValueKit
public import Idealize.ShloMosaic.Lib.Routing.Ops

@[expose] public section

set_option maxRecDepth 16384

noncomputable section

namespace Cert.ScalesReferenceIdeal.Gen

open Idealize.ShloMosaic Idealize.ShloMosaic.TcCoe Cert.ScalesReferenceIdeal Cert.ScalesFn

/-- The reference's gather of the source rows. -/
theorem take_apply (b : S1920x448.Idx → Ideal .f32) (src : S15360.Idx → BitVec 32) (r : Fin 15360) (j : Fin 448)
    (h : (src (ValueIdx.ix1 r)).toNat < 1920) :
    Host.gather gather_S1920x448_S15360x1_S15360x448_1_0_n_n_0_1_1448 b (broadcastInDim S15360x1 ![0] bcast_S15360_S15360x1_0 src) (ValueIdx.ix2 r j)
      = b (ValueIdx.ix2 (tok (src (ValueIdx.ix1 r))) j) := by
  have e := tok_val _ h
  refine Routing.gather_row _ rfl rfl rfl rfl rfl b _ r j (tok (src (ValueIdx.ix1 r))) ?_ (by decide)
  rw [e, BitVec.ofNat_toNat, BitVec.setWidth_eq]
  refine congrArg src (funext fun a => Fin.ext ?_)
  match a with
  | 0 => rfl

variable (m : (ℓ : Loc nD τ sig) → Buf (Elt Ideal) ℓ)

/-- The gathered rows that the call is handed. -/
theorem V_rows (c : Dev nD) : V m c main_v1
    = Host.gather gather_S1920x448_S15360x1_S15360x448_1_0_n_n_0_1_1448
        (extractStridedSlice S1920x448 ![0, 0] (m ((c : Thread nD τ).loc main_arg1)) slices_S1920x512_S1920x448_0_0)
        (broadcastInDim S15360x1 ![0] bcast_S15360_S15360x1_0 (m ((c : Thread nD τ).loc main_arg0))) := by
  rfl

/-- The first 448 of the 512 columns. -/
theorem cols_apply (b : S1920x512.Idx → Ideal .f32) (r : Fin 1920) (j : Fin 448) (j' : Fin 512) (hj : j'.val = j.val) :
    extractStridedSlice S1920x448 ![0, 0] b slices_S1920x512_S1920x448_0_0 (ValueIdx.ix2 r j) = b (ValueIdx.ix2 r j') := by
  refine extractStridedSlice_apply _ _ _ _ (ValueIdx.ix2 r j') ?_
  intro a
  match a with
  | 0 => show r.val = 0 + r.val; omega
  | 1 => show j'.val = 0 + j.val; omega

/-- The column of row scales that the call is handed. -/
theorem V_scale (c : Dev nD) (r : Fin 15360) : V m c main_v3 (ValueIdx.ix2 r (0 : Fin 1) : S15360x1.Idx)
    = m ((c : Thread nD τ).loc main_arg2) (ValueIdx.ix2 (⟨r.val / 128, by omega⟩ : Fin 120) (⟨r.val % 128, by omega⟩ : Fin 128)) := by
  have e : V m c main_v3 = broadcastInDim S15360x1 ![0] bcast_S15360_S15360x1_0 (shapeCast S15360 (m ((c : Thread nD τ).loc main_arg2)) shapeCasts_S120x128_S15360) := by
    rfl
  rw [e]
  have hr := r.isLt
  refine (broadcastInDim_apply (s := S15360) _ _ _ _ (ValueIdx.ix1 r) (fun a => by match a with | 0 => rfl)).trans ?_
  refine shapeCast_apply (s := S120x128) (t := S15360) _ _ _ _ ?_
  refine (Shape.rowMajor_val_two (d := S120x128.size) _).trans (Eq.trans ?_ (Shape.rowMajor_val_one (d := S15360.size) _).symm)
  show r.val / 128 * 128 + r.val % 128 = r.val
  omega

theorem whole0 (t : Fin cfg0.N) (a : Fin 2) : win0_0.index t a = 0 := rfl
theorem whole1 (t : Fin cfg0.N) (a : Fin 2) : win0_1.index t a = 0 := rfl

/-- Each window of the call is its whole array. -/
theorem blk0 (c : Dev nD) (t : Fin cfg0.N) : iblk m c 0 t = V m c main_v1 := by
  funext y
  blk_ext [iblk]
  all_goals simp only [whole0]
  all_goals omega

theorem blk1 (c : Dev nD) (t : Fin cfg0.N) : iblk m c 1 t = V m c main_v3 := by
  funext y
  blk_ext [iblk]
  all_goals simp only [whole1]
  all_goals omega

/-- What the call stores, from the arrays it is handed. -/
def stored (c : Dev nD) : S15360x448.Idx → Ideal .fp8e4m3 := out0_2 (V m c main_v1) (V m c main_v3)

theorem after_stored (c : Dev nD) (t : Fin cfg0.N) : (dats m 0 c).after 2 t = stored m c := by
  rw [after0_2, blk0, blk1]
  rfl

theorem out_apply (v0 : Vec Ideal S15360x448 .f32) (v1 : Vec Ideal S15360x1 .f32) (z : S15360x448.Idx) :
    out0_2 v0 v1 z = scaleOf (v0 (ValueIdx.ix2 (z 0) (z 1))) (v1 (ValueIdx.ix2 (z 0) (0 : Fin 1))) := by
  unfold out0_2
  rw [View.ld_unit_zero (by funext a; match a with | 0 => rfl | 1 => rfl), View.ld_unit_zero (by funext a; match a with | 0 => rfl | 1 => rfl)]
  refine (Value.canon2_eq v0 v1 z).trans ?_
  show scaleOf (v0 (Value.ix2_0 z)) (v1 (Value.ix2_1 z)) = _
  refine congrArg₂ scaleOf (congrArg v0 (funext fun a => Fin.ext ?_)) (congrArg v1 (funext fun a => Fin.ext ?_))
  · match a with
    | (0 : Fin 2) => rfl
    | (1 : Fin 2) => rfl
  · match a with
    | (0 : Fin 2) => rfl
    | (1 : Fin 2) => rfl

theorem stored_apply (c : Dev nD) (hlt : ∀ y : S15360.Idx, (m ((c : Thread nD τ).loc main_arg0) y).toNat < 1920) (z : S15360x448.Idx) :
    stored m c z = scalesG (m ((c : Thread nD τ).loc main_arg0)) (m ((c : Thread nD τ).loc main_arg1)) (m ((c : Thread nD τ).loc main_arg2)) z := by
  have h0 : (z 0).val < 15360 := (z 0).isLt
  have h1 : (z 1).val < 448 := (z 1).isLt
  refine (out_apply (V m c main_v1) (V m c main_v3) z).trans ?_
  unfold scalesG
  have eA : V m c main_v1 (ValueIdx.ix2 (z 0) (z 1) : S15360x448.Idx) = _ :=
    ((congrFun (V_rows m c) _).trans (take_apply _ _ (z 0) (z 1) (hlt _))).trans (cols_apply _ _ (z 1) ⟨(z 1).val, by omega⟩ rfl)
  exact congrArg₂ scaleOf eA (V_scale m c (z 0))

attribute [irreducible] stored

theorem covers2 : (cfg0.win 2).Covers := by decide +kernel

/-- The reference's result. -/
theorem arr_ref (c : Dev nD) (hlt : ∀ y : S15360.Idx, (m ((c : Thread nD τ).loc main_arg0) y).toNat < 1920) :
    (dats m 0 c).arrAt 2 cfg0.N
      = scalesG (m ((c : Thread nD τ).loc main_arg0)) (m ((c : Thread nD τ).loc main_arg1)) (m ((c : Thread nD τ).loc main_arg2)) := by
  refine Pipeline.Dat.arrAt_eq_of_covers _ 2 _ covers2 (fun t hf y => ?_) (Memref.isWhole_whole _)
  rw [after_stored]
  refine Eq.trans ?_ (stored_apply m c hlt _)
  show stored m c (y : S15360x448.Idx) = _
  refine congrArg (stored m c) (show ((_ : S15360x448.Idx) = _) from funext fun a => Fin.ext ?_)
  match a with
  | (0 : Fin 2) => show (y (0 : Fin 2)).val = 0 * 15360 + 1 * (y (0 : Fin 2)).val; omega
  | (1 : Fin 2) => show (y (1 : Fin 2)).val = 0 * 448 + 1 * (y (1 : Fin 2)).val; omega

end Cert.ScalesReferenceIdeal.Gen
-- ==== Proof.lean ====
module

public import proofs.«01_k».proof.Defs
public import proofs.«01_k».proof.Proof.Gen.Codes
public import proofs.«01_k».proof.Proof.Gen.CodesIdeal
public import proofs.«01_k».proof.Proof.Gen.Pre_src_in_range
public import proofs.«01_k».proof.Proof.CodesPre
public import proofs.«01_k».proof.Proof.CodesIdealPre
public import proofs.«01_k».proof.Proof.CodesGoal
public import proofs.«01_k».proof.Proof.CodesRef
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Frame
public import proofs.«01_k».proof.Proof.Gen.ReferenceIdeal.Value
public import proofs.«01_k».proof.Proof.ScalesPre
public import proofs.«01_k».proof.Proof.ScalesIdealGoal
public import proofs.«01_k».proof.Proof.ScalesRef
public import proofs.«01_k».proof.Proof.Gen.ScalesReferenceIdeal
public import proofs.«01_k».proof.Proof.Gen.ScalesReferenceIdeal.Frame
public import proofs.«01_k».proof.Proof.Gen.ScalesReferenceIdeal.Value
public import proofs.«01_k».proof.Proof.Gen.Pre_scales_src_in_range
public import proofs.«01_k».proof.Proof.Gen.Scales
public import proofs.«01_k».proof.Proof.Gen.Scales.Frame
public import proofs.«01_k».proof.Proof.Gen.ScalesIdeal
public import proofs.«01_k».proof.Proof.Gen.ScalesIdeal.Frame
public import Idealize.ShloMosaic.Adequacy
public import Idealize.ShloMosaic.Init

@[expose] public section

noncomputable section

namespace Cert.Proof

open Idealize.ShloMosaic Idealize.SL.Sem

/-- The kernel and the reference both compute `codesG` of the four arguments. -/
theorem values : @Cert.algebraic_CodesIdeal_ReferenceIdeal Cert.CodesIdeal.Gen.facts Cert.ReferenceIdeal.Gen.facts Cert.Pre_src_in_range.Gen.facts := by
  intro m g m' g' h hagree
  have hlt := Cert.CodesIdeal.Gen.src_lt m h
  refine ⟨fun c => Cert.CodesIdeal.Gen.codesG (m (c.tc.loc Cert.CodesIdeal.main_arg0)) (m (c.tc.loc Cert.CodesIdeal.main_arg1))
    (m (c.tc.loc Cert.CodesIdeal.main_arg2)) (m (c.tc.loc Cert.CodesIdeal.main_arg3)),
    Cert.CodesIdeal.Gen.run_codes m g trivial (Cert.CodesIdeal.Gen.hw_of_pre m h) (hlt 0), ?_⟩
  refine (θ_run _ _ _).mono (fun r hr c => ⟨?_, (hr c).2⟩) (Cert.ReferenceIdeal.Value.run_blocks m' g')
  refine (hr c).1.trans ((Cert.ReferenceIdeal.Gen.arr_ref m' c (fun y => ?_)).trans ?_)
  · rw [(hagree c).1]
    exact hlt c y
  · rw [(hagree c).1, (hagree c).2.1, (hagree c).2.2.1, (hagree c).2.2.2]

/-- The scales call and its reference both compute `scalesG` of the three arguments. -/
theorem values_scales : @Cert.algebraic_ScalesIdeal_ScalesReferenceIdeal Cert.ScalesIdeal.Gen.facts Cert.ScalesReferenceIdeal.Gen.facts Cert.Pre_scales_src_in_range.Gen.facts := by
  intro m g m' g' h hagree
  have hlt := Cert.ScalesIdeal.Gen.src_lt m h
  refine ⟨fun c => Cert.ScalesFn.scalesG (m (c.tc.loc Cert.ScalesIdeal.main_arg0)) (m (c.tc.loc Cert.ScalesIdeal.main_arg1))
    (m (c.tc.loc Cert.ScalesIdeal.main_arg2)),
    Cert.ScalesIdeal.Gen.run_scales m g trivial (Cert.ScalesIdeal.Gen.hyps_of_pre m h) (hlt 0), ?_⟩
  refine (θ_run _ _ _).mono (fun r hr c => ⟨?_, (hr c).2⟩) (Cert.ScalesReferenceIdeal.Value.run_blocks m' g')
  refine (hr c).1.trans ((Cert.ScalesReferenceIdeal.Gen.arr_ref m' c (fun y => ?_)).trans ?_)
  · rw [(hagree c).1]
    exact hlt c y
  · rw [(hagree c).1, (hagree c).2.1, (hagree c).2.2]

/-- The whole claim. -/
theorem claim : Cert.Claim := ⟨Cert.Codes.Gen.facts, Cert.CodesIdeal.Gen.facts, Cert.ReferenceIdeal.Gen.facts,
  Cert.Scales.Gen.facts, Cert.ScalesIdeal.Gen.facts, Cert.ScalesReferenceIdeal.Gen.facts,
  Cert.Pre_src_in_range.Gen.facts, Cert.Pre_scales_src_in_range.Gen.facts,
  fun m ρ h => Cert.Codes.Gen.frame m ρ trivial (Cert.Codes.Gen.hw_of_pre m h),
  fun m ρ h => Cert.CodesIdeal.Gen.frame m ρ trivial (Cert.CodesIdeal.Gen.hw_of_pre m h),
  fun m ρ _ => Cert.ReferenceIdeal.Gen.frame m ρ,
  fun m ρ _ => Cert.ReferenceIdeal.Gen.frame m ρ,
  fun m ρ h => Cert.Scales.Gen.frame m ρ trivial (Cert.Scales.Gen.hyps_of_pre m h),
  fun m ρ h => Cert.ScalesIdeal.Gen.frame m ρ trivial (Cert.ScalesIdeal.Gen.hyps_of_pre m h),
  fun m ρ _ => Cert.ScalesReferenceIdeal.Gen.frame m ρ,
  fun m ρ _ => Cert.ScalesReferenceIdeal.Gen.frame m ρ,
  trivial, values, trivial, values_scales⟩

end Cert.Proof

end
